-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_rows_in_table : Cert.Pre_rows_in_table.Facts] (m : (ℓ : Loc Cert.Kernel2.nD Cert.Kernel2.τ Cert.Kernel2.sig) → Buf (Elt Bits) ℓ) : Prop :=
  ∀ c : Dev Cert.Kernel2.nD,
    (Cert.Pre_rows_in_table.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))) = (fun _ => 1#1)

def Pre_Kernel2Ideal [hPre_rows_in_table : Cert.Pre_rows_in_table.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_in_table.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal [hPre_rows_in_table : Cert.Pre_rows_in_table.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_in_table.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_rows_in_table : Cert.Pre_rows_in_table.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_rows_in_table : Cert.Pre_rows_in_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] [hPre_rows_in_table : Cert.Pre_rows_in_table.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_rows_in_table : Cert.Pre_rows_in_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_rows_in_table : Cert.Pre_rows_in_table.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_rows_in_table := hPre_rows_in_table)
    ∧ quiescent_Kernel2Ideal (hKernel2Ideal := hKernel2Ideal) (hPre_rows_in_table := hPre_rows_in_table)
    ∧ quiescent_Reference2Ideal (hReference2Ideal := hReference2Ideal) (hPre_rows_in_table := hPre_rows_in_table)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_rows_in_table := hPre_rows_in_table)
-- ==== Pre_rows_in_table.lean ====
abbrev S53125x256 : Shape := ⟨2, ![53125, 256]⟩
abbrev S1000x392 : Shape := ⟨2, ![1000, 392]⟩
abbrev S1000x49x16 : Shape := ⟨3, ![1000, 49, 16]⟩
abbrev S_ : Shape := ⟨0, ![]⟩

class Facts : Prop where
  bcast_S_S1000x392 : S_.BroadcastsInDim S1000x392 (![] : Fin 0 → Fin S1000x392.rank)
  reducesTo_S1000x392_S_d0_1 : S1000x392.ReducesTo [0, 1] S_
  h_S_ : 0 < S_.numel

variable [Facts]

def fn {F : FTy → Type} [FloatOps F] (main_arg0 : FVec F S53125x256 .f32) (main_arg1 : IVec S1000x392 32) (main_arg2 : FVec F S1000x49x16 .f32) : IVec S_ 1 :=
  let main_c : IVec S_ 32 := constantI S_ 32 0#32
  let main_v0 : IVec S1000x392 32 := broadcastInDim S1000x392 ![] bcast_S_S1000x392 main_c
  let main_v1 : IVec S1000x392 1 := cmpi .sge main_arg1 main_v0
  let main_c_0 : IVec S_ 32 := constantI S_ 32 53123#32
  let main_v2 : IVec S1000x392 32 := broadcastInDim S1000x392 ![] bcast_S_S1000x392 main_c_0
  let main_v3 : IVec S1000x392 1 := cmpi .sle main_arg1 main_v2
  let main_v4 : IVec S1000x392 1 := andi main_v1 main_v3
  let main_c_1 : IVec S_ 1 := constantI S_ 1 1#1
  let main_v5 : IVec S_ 1 := (fun x v => Host.reduce IntOp.andi x v reducesTo_S1000x392_S_d0_1 h_S_) main_v4 main_c_1
  main_v5
-- ==== Kernel.lean ====
abbrev S49x1008x256 : Shape := ⟨3, ![49, 1008, 256]⟩
abbrev S1000x5 : Shape := ⟨2, ![1000, 5]⟩
abbrev S12544x1024 : Shape := ⟨2, ![12544, 1024]⟩
abbrev S1024 : Shape := ⟨1, ![1024]⟩
abbrev S1024x1024 : Shape := ⟨2, ![1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S256x49x1024 : Shape := ⟨3, ![256, 49, 1024]⟩
abbrev S49x256x1024 : Shape := ⟨3, ![49, 256, 1024]⟩
abbrev S_ : Shape := ⟨0, ![]⟩
abbrev S1024x128 : Shape := ⟨2, ![1024, 128]⟩
abbrev S1024x384 : Shape := ⟨2, ![1024, 384]⟩
abbrev S1024x512 : Shape := ⟨2, ![1024, 512]⟩
abbrev S128 : Shape := ⟨1, ![128]⟩
abbrev S384 : Shape := ⟨1, ![384]⟩
abbrev S512 : Shape := ⟨1, ![512]⟩
abbrev S1x512 : Shape := ⟨2, ![1, 512]⟩
abbrev S1x1024 : Shape := ⟨2, ![1, 1024]⟩
abbrev S1008x512 : Shape := ⟨2, ![1008, 512]⟩
abbrev S1x1008x256 : Shape := ⟨3, ![1, 1008, 256]⟩
abbrev S256x1024 : Shape := ⟨2, ![256, 1024]⟩
abbrev S1008x1024 : Shape := ⟨2, ![1008, 1024]⟩
abbrev S1008x256 : Shape := ⟨2, ![1008, 256]⟩
abbrev S1008x128 : Shape := ⟨2, ![1008, 128]⟩
abbrev S1008 : Shape := ⟨1, ![1008]⟩
abbrev S1008x1 : Shape := ⟨2, ![1008, 1]⟩
abbrev S1008x384 : Shape := ⟨2, ![1008, 384]⟩
abbrev S1000x81 : Shape := ⟨2, ![1000, 81]⟩
abbrev S1x1000x81 : Shape := ⟨3, ![1, 1000, 81]⟩
abbrev S1000x324 : Shape := ⟨2, ![1000, 324]⟩
abbrev S1x1000x324 : Shape := ⟨3, ![1, 1000, 324]⟩
abbrev S1x1000x5 : Shape := ⟨3, ![1, 1000, 5]⟩

abbrev nBuf : Space → Nat
  | .hbm => 36
  | .vmem => 11
  | .smem => 0
  | _ => 0

abbrev bufTy : (tb : Table) → Fin (tcTables nBuf tb) → BufTy
  | .hbm, ⟨0, _⟩ => ⟨S49x1008x256, .f32⟩
  | .hbm, ⟨1, _⟩ => ⟨S1000x5, .f32⟩
  | .hbm, ⟨2, _⟩ => ⟨S12544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x81, .f32⟩
  | .hbm, ⟨7, _⟩ => ⟨S81, .f32⟩
  | .hbm, ⟨8, _⟩ => ⟨S1024x324, .f32⟩
  | .hbm, ⟨9, _⟩ => ⟨S324, .f32⟩
  | .hbm, ⟨10, _⟩ => ⟨S256x49x1024, .f32⟩
  | .hbm, ⟨11, _⟩ => ⟨S49x256x1024, .f32⟩
  | .hbm, ⟨12, _⟩ => ⟨S12544x1024, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S_, .f32⟩
  | .hbm, ⟨18, _⟩ => ⟨S1024x384, .f32⟩
  | .hbm, ⟨19, _⟩ => ⟨S1024x512, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S_, .i32⟩
  | .hbm, ⟨24, _⟩ => ⟨S_, .f32⟩
  | .hbm, ⟨25, _⟩ => ⟨S384, .f32⟩
  | .hbm, ⟨26, _⟩ => ⟨S512, .f32⟩
  | .hbm, ⟨27, _⟩ => ⟨S1x512, .f32⟩
  | .hbm, ⟨28, _⟩ => ⟨S1x1024, .f32⟩
  | .hbm, ⟨29, _⟩ => ⟨S1x1024, .f32⟩
  | .hbm, ⟨30, _⟩ => ⟨S1008x512, .f32⟩
  | .hbm, ⟨31, _⟩ => ⟨S1000x81, .f32⟩
  | .hbm, ⟨32, _⟩ => ⟨S1x1000x81, .f32⟩
  | .hbm, ⟨33, _⟩ => ⟨S1000x324, .f32⟩
  | .hbm, ⟨34, _⟩ => ⟨S1x1000x324, .f32⟩
  | .hbm, ⟨35, _⟩ => ⟨S1x1000x5, .f32⟩
  | .local _ .vmem, ⟨0, _⟩ => ⟨S1x1008x256, .f32⟩
  | .local _ .vmem, ⟨1, _⟩ => ⟨S1x1008x256, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x512, .f32⟩
  | .local _ .vmem, ⟨8, _⟩ => ⟨S1x512, .f32⟩
  | .local _ .vmem, ⟨9, _⟩ => ⟨S1008x512, .f32⟩
  | .local _ .vmem, ⟨10, _⟩ => ⟨S1008x1024, .f32⟩
  | _, _ => ⟨S49x1008x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_call2_v0 : Ref sig .tc := ⟨.hbm, 21, rfl⟩
abbrev main_v6 : Ref sig .tc := ⟨.hbm, 22, rfl⟩
abbrev main_c_2 : Ref sig .tc := ⟨.hbm, 23, rfl⟩
abbrev main_call3_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v13 : BitVec 1 := Scalar.cmpi .eq arg0 c48_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1008x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1008x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S49x1008x256 : Shape := ⟨3, ![49, 1008, 256]⟩
abbrev S1000x5 : Shape := ⟨2, ![1000, 5]⟩
abbrev S12544x1024 : Shape := ⟨2, ![12544, 1024]⟩
abbrev S1024 : Shape := ⟨1, ![1024]⟩
abbrev S1024x1024 : Shape := ⟨2, ![1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S49x1000x256 : Shape := ⟨3, ![49, 1000, 256]⟩
abbrev S1000x256x49 : Shape := ⟨3, ![1000, 256, 49]⟩
abbrev S1000x12544 : Shape := ⟨2, ![1000, 12544]⟩
abbrev S1000x1024 : Shape := ⟨2, ![1000, 1024]⟩
abbrev S1x1024 : Shape := ⟨2, ![1, 1024]⟩
abbrev S_ : Shape := ⟨0, ![]⟩
abbrev S1000x324 : Shape := ⟨2, ![1000, 324]⟩
abbrev S1x324 : Shape := ⟨2, ![1, 324]⟩
abbrev S1000x81 : Shape := ⟨2, ![1000, 81]⟩
abbrev S1x81 : Shape := ⟨2, ![1, 81]⟩
abbrev S1000 : Shape := ⟨1, ![1000]⟩
abbrev S1000x1 : Shape := ⟨2, ![1000, 1]⟩
abbrev S1x1000x5 : Shape := ⟨3, ![1, 1000, 5]⟩
abbrev S1x1000x81 : Shape := ⟨3, ![1, 1000, 81]⟩
abbrev S1x1000x324 : Shape := ⟨3, ![1, 1000, 324]⟩

abbrev nBuf : Space → Nat
  | .hbm => 52
  | .vmem => 0
  | .smem => 0
  | _ => 0

abbrev bufTy : (tb : Table) → Fin (tcTables nBuf tb) → BufTy
  | .hbm, ⟨0, _⟩ => ⟨S49x1008x256, .f32⟩
  | .hbm, ⟨1, _⟩ => ⟨S1000x5, .f32⟩
  | .hbm, ⟨2, _⟩ => ⟨S12544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x81, .f32⟩
  | .hbm, ⟨7, _⟩ => ⟨S81, .f32⟩
  | .hbm, ⟨8, _⟩ => ⟨S1024x324, .f32⟩
  | .hbm, ⟨9, _⟩ => ⟨S324, .f32⟩
  | .hbm, ⟨10, _⟩ => ⟨S49x1000x256, .f32⟩
  | .hbm, ⟨11, _⟩ => ⟨S1000x256x49, .f32⟩
  | .hbm, ⟨12, _⟩ => ⟨S1000x12544, .f32⟩
  | .hbm, ⟨13, _⟩ => ⟨S1000x1024, .f32⟩
  | .hbm, ⟨14, _⟩ => ⟨S1x1024, .f32⟩
  | .hbm, ⟨15, _⟩ => ⟨S1000x1024, .f32⟩
  | .hbm, ⟨16, _⟩ => ⟨S1000x1024, .f32⟩
  | .hbm, ⟨17, _⟩ => ⟨S_, .f32⟩
  | .hbm, ⟨18, _⟩ => ⟨S1000x1024, .f32⟩
  | .hbm, ⟨19, _⟩ => ⟨S1000x1024, .f32⟩
  | .hbm, ⟨20, _⟩ => ⟨S1000x1024, .f32⟩
  | .hbm, ⟨21, _⟩ => ⟨S1x1024, .f32⟩
  | .hbm, ⟨22, _⟩ => ⟨S1000x1024, .f32⟩
  | .hbm, ⟨23, _⟩ => ⟨S1000x1024, .f32⟩
  | .hbm, ⟨24, _⟩ => ⟨S_, .f32⟩
  | .hbm, ⟨25, _⟩ => ⟨S1000x1024, .f32⟩
  | .hbm, ⟨26, _⟩ => ⟨S1000x1024, .f32⟩
  | .hbm, ⟨27, _⟩ => ⟨S1000x324, .f32⟩
  | .hbm, ⟨28, _⟩ => ⟨S1x324, .f32⟩
  | .hbm, ⟨29, _⟩ => ⟨S1000x324, .f32⟩
  | .hbm, ⟨30, _⟩ => ⟨S1000x324, .f32⟩
  | .hbm, ⟨31, _⟩ => ⟨S1000x81, .f32⟩
  | .hbm, ⟨32, _⟩ => ⟨S1x81, .f32⟩
  | .hbm, ⟨33, _⟩ => ⟨S1000x81, .f32⟩
  | .hbm, ⟨34, _⟩ => ⟨S1000x81, .f32⟩
  | .hbm, ⟨35, _⟩ => ⟨S_, .f32⟩
  | .hbm, ⟨36, _⟩ => ⟨S1000, .f32⟩
  | .hbm, ⟨37, _⟩ => ⟨S_, .f32⟩
  | .hbm, ⟨38, _⟩ => ⟨S1000, .f32⟩
  | .hbm, ⟨39, _⟩ => ⟨S1000, .f32⟩
  | .hbm, ⟨40, _⟩ => ⟨S1000x1, .f32⟩
  | .hbm, ⟨41, _⟩ => ⟨S1000x81, .f32⟩
  | .hbm, ⟨42, _⟩ => ⟨S1000x81, .f32⟩
  | .hbm, ⟨43, _⟩ => ⟨S1000x81, .f32⟩
  | .hbm, ⟨44, _⟩ => ⟨S_, .f32⟩
  | .hbm, ⟨45, _⟩ => ⟨S1000, .f32⟩
  | .hbm, ⟨46, _⟩ => ⟨S1000x1, .f32⟩
  | .hbm, ⟨47, _⟩ => ⟨S1000x81, .f32⟩
  | .hbm, ⟨48, _⟩ => ⟨S1000x81, .f32⟩
  | .hbm, ⟨49, _⟩ => ⟨S1x1000x5, .f32⟩
  | .hbm, ⟨50, _⟩ => ⟨S1x1000x81, .f32⟩
  | .hbm, ⟨51, _⟩ => ⟨S1x1000x324, .f32⟩
  | _, _ => ⟨S49x1008x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel2.lean ====
abbrev S53125x256 : Shape := ⟨2, ![53125, 256]⟩
abbrev S1000x392 : Shape := ⟨2, ![1000, 392]⟩
abbrev S1000x49x16 : Shape := ⟨3, ![1000, 49, 16]⟩
abbrev S_ : Shape := ⟨0, ![]⟩
abbrev S106250x128 : Shape := ⟨2, ![106250, 128]⟩
abbrev S106256x128 : Shape := ⟨2, ![106256, 128]⟩
abbrev S1008x392 : Shape := ⟨2, ![1008, 392]⟩
abbrev S1008x49x16 : Shape := ⟨3, ![1008, 49, 16]⟩
abbrev S126x8x49x16 : Shape := ⟨4, ![126, 8, 49, 16]⟩
abbrev S126x49x8x16 : Shape := ⟨4, ![126, 49, 8, 16]⟩
abbrev S126x49x128 : Shape := ⟨3, ![126, 49, 128]⟩
abbrev S126x49x128x1 : Shape := ⟨4, ![126, 49, 128, 1]⟩
abbrev S126x49x128x2 : Shape := ⟨4, ![126, 49, 128, 2]⟩
abbrev S126x49x256 : Shape := ⟨3, ![126, 49, 256]⟩
abbrev S126x49x512 : Shape := ⟨3, ![126, 49, 512]⟩
abbrev S6174x1x512 : Shape := ⟨3, ![6174, 1, 512]⟩
abbrev S49x1008x256 : Shape := ⟨3, ![49, 1008, 256]⟩
abbrev S8x392 : Shape := ⟨2, ![8, 392]⟩
abbrev S49x1x512 : Shape := ⟨3, ![49, 1, 512]⟩
abbrev S49x8x256 : Shape := ⟨3, ![49, 8, 256]⟩
abbrev S256x128 : Shape := ⟨2, ![256, 128]⟩
abbrev S8x256 : Shape := ⟨2, ![8, 256]⟩
abbrev S1x1 : Shape := ⟨2, ![1, 1]⟩
abbrev S2x128 : Shape := ⟨2, ![2, 128]⟩
abbrev S1x1x512 : Shape := ⟨3, ![1, 1, 512]⟩
abbrev S1x512 : Shape := ⟨2, ![1, 512]⟩
abbrev S1x256 : Shape := ⟨2, ![1, 256]⟩
abbrev S8x128 : Shape := ⟨2, ![8, 128]⟩
abbrev S1x8x256 : Shape := ⟨3, ![1, 8, 256]⟩

abbrev nBuf : Space → Nat
  | .hbm => 32
  | .vmem => 7
  | .smem => 2
  | _ => 0

abbrev bufTy : (tb : Table) → Fin (tcTables nBuf tb) → BufTy
  | .hbm, ⟨0, _⟩ => ⟨S53125x256, .f32⟩
  | .hbm, ⟨1, _⟩ => ⟨S1000x392, .i32⟩
  | .hbm, ⟨2, _⟩ => ⟨S1000x49x16, .f32⟩
  | .hbm, ⟨3, _⟩ => ⟨S_, .i32⟩
  | .hbm, ⟨4, _⟩ => ⟨S1000x392, .i32⟩
  | .hbm, ⟨5, _⟩ => ⟨S1000x392, .i32⟩
  | .hbm, ⟨6, _⟩ => ⟨S106250x128, .f32⟩
  | .hbm, ⟨7, _⟩ => ⟨S_, .i32⟩
  | .hbm, ⟨8, _⟩ => ⟨S_, .f32⟩
  | .hbm, ⟨9, _⟩ => ⟨S106256x128, .f32⟩
  | .hbm, ⟨10, _⟩ => ⟨S_, .i32⟩
  | .hbm, ⟨11, _⟩ => ⟨S_, .i32⟩
  | .hbm, ⟨12, _⟩ => ⟨S1008x392, .i32⟩
  | .hbm, ⟨13, _⟩ => ⟨S_, .i32⟩
  | .hbm, ⟨14, _⟩ => ⟨S_, .f32⟩
  | .hbm, ⟨15, _⟩ => ⟨S1008x49x16, .f32⟩
  | .hbm, ⟨16, _⟩ => ⟨S126x8x49x16, .f32⟩
  | .hbm, ⟨17, _⟩ => ⟨S126x49x8x16, .f32⟩
  | .hbm, ⟨18, _⟩ => ⟨S126x49x128, .f32⟩
  | .hbm, ⟨19, _⟩ => ⟨S_, .f32⟩
  | .hbm, ⟨20, _⟩ => ⟨S126x49x128, .f32⟩
  | .hbm, ⟨21, _⟩ => ⟨S126x49x128x1, .f32⟩
  | .hbm, ⟨22, _⟩ => ⟨S126x49x128x1, .f32⟩
  | .hbm, ⟨23, _⟩ => ⟨S126x49x128x2, .f32⟩
  | .hbm, ⟨24, _⟩ => ⟨S126x49x256, .f32⟩
  | .hbm, ⟨25, _⟩ => ⟨S126x49x128x1, .f32⟩
  | .hbm, ⟨26, _⟩ => ⟨S126x49x128x1, .f32⟩
  | .hbm, ⟨27, _⟩ => ⟨S126x49x128x2, .f32⟩
  | .hbm, ⟨28, _⟩ => ⟨S126x49x256, .f32⟩
  | .hbm, ⟨29, _⟩ => ⟨S126x49x512, .f32⟩
  | .hbm, ⟨30, _⟩ => ⟨S6174x1x512, .f32⟩
  | .hbm, ⟨31, _⟩ => ⟨S49x1008x256, .f32⟩
  | .local _ .vmem, ⟨0, _⟩ => ⟨S49x1x512, .f32⟩
  | .local _ .vmem, ⟨1, _⟩ => ⟨S49x1x512, .f32⟩
  | .local _ .vmem, ⟨2, _⟩ => ⟨S106256x128, .f32⟩
  | .local _ .vmem, ⟨3, _⟩ => ⟨S49x8x256, .f32⟩
  | .local _ .vmem, ⟨4, _⟩ => ⟨S49x8x256, .f32⟩
  | .local _ .vmem, ⟨5, _⟩ => ⟨S256x128, .f32⟩
  | .local _ .vmem, ⟨6, _⟩ => ⟨S256x128, .f32⟩
  | .local _ .smem, ⟨0, _⟩ => ⟨S8x392, .i32⟩
  | .local _ .smem, ⟨1, _⟩ => ⟨S8x392, .i32⟩
  | _, _ => ⟨S53125x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_v3 : Ref sig .tc := ⟨.hbm, 9, rfl⟩
abbrev main_c_1 : Ref sig .tc := ⟨.hbm, 10, rfl⟩
abbrev main_call1_v0 : Ref sig .tc := ⟨.hbm, 11, rfl⟩
abbrev main_v4 : Ref sig .tc := ⟨.hbm, 12, rfl⟩
abbrev main_c_2 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![126], ![false]⟩

@[reducible] def k0_t1_loop : Scf.Loop 32 :=
  let c0_i32_20 : BitVec 32 := 0#32
  let c24_i32 : BitVec 32 := 24#32
  let v71 : BitVec 32 := Scalar.addi c0_i32_20 c24_i32
  let c1_i32_21 : BitVec 32 := 1#32
  ⟨c0_i32_20, v71, c1_i32_21⟩
def k0_off1 (k0_t1 : Fin k0_t1_loop.trips) : Fin 2 → Nat :=
  let c0_471 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_470 : BitVec 32 := 0#32
  let v1115 : BitVec 32 := Scalar.addi v1114 c0_i32_470
  let v1116 : Index := Scalar.indexCast v1115
  ![0, v1116.toNat]
def k0_off2 (k0_t1 : Fin k0_t1_loop.trips) : Fin 2 → Nat :=
  let c0_474 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_472 : BitVec 32 := 0#32
  let v1118 : BitVec 32 := Scalar.addi v1114 c0_i32_472
  let c1_i32_473 : BitVec 32 := 1#32
  let v1119 : BitVec 32 := Scalar.addi v1118 c1_i32_473
  let v1120 : Index := Scalar.indexCast v1119
  ![0, v1120.toNat]
def k0_mult1 (v1117 : BitVec 32) : BitVec 32 :=
  v1117

def k0_mult2 (v1117 : BitVec 32) : BitVec 32 :=
  let c2_i32_475 : BitVec 32 := 2#32
  let v1123 : BitVec 32 := Scalar.addi v1117 c2_i32_475
  v1123
def k0_mult3 (v1121 : BitVec 32) : BitVec 32 :=
  v1121

def k0_mult4 (v1121 : BitVec 32) : BitVec 32 :=
  let c2_i32_476 : BitVec 32 := 2#32
  let v1126 : BitVec 32 := Scalar.addi v1121 c2_i32_476
  v1126
def k0_off3 (v1117 : BitVec 32) : Fin 2 → Nat :=
  let v1122 : BitVec 32 := v1117
  let v1128 : Index := Scalar.indexCast v1122
  let c0_477 : Index := 0#32
  ![v1128.toNat, 0]
def k0_off4 (v1117 : BitVec 32) : Fin 2 → Nat :=
  let c2_i32_475 : BitVec 32 := 2#32
  let v1123 : BitVec 32 := Scalar.addi v1117 c2_i32_475
  let v1124 : BitVec 32 := v1123
  let v1134 : Index := Scalar.indexCast v1124
  let c0_480 : Index := 0#32
  ![v1134.toNat, 0]

def k0_chk1 (v1117 : BitVec 32) : Prop :=
  (2 ∣ (k0_mult1 v1117).toNat) ∧
  (2 ∣ (k0_mult2 v1117).toNat) ∧
  (∀ a, (k0_off3 v1117) a + S2x128.size a ≤ S106256x128.size a) ∧
  (∀ a, (k0_off4 v1117) a + S2x128.size a ≤ S106256x128.size a)
theorem k0_mult1_dvd : ∀ (v1117 : BitVec 32) (k0_hw1 : k0_chk1 v1117), 2 ∣ (k0_mult1 v1117).toNat := fun v1117 k0_hw1 => k0_hw1.1
theorem k0_mult2_dvd : ∀ (v1117 : BitVec 32) (k0_hw1 : k0_chk1 v1117), 2 ∣ (k0_mult2 v1117).toNat := fun v1117 k0_hw1 => k0_hw1.2.1
theorem k0_off3_inb : ∀ (v1117 : BitVec 32) (k0_hw1 : k0_chk1 v1117), ∀ a, (k0_off3 v1117) a + S2x128.size a ≤ S106256x128.size a := fun v1117 k0_hw1 => k0_hw1.2.2.1
theorem k0_off4_inb : ∀ (v1117 : BitVec 32) (k0_hw1 : k0_chk1 v1117), ∀ a, (k0_off4 v1117) a + S2x128.size a ≤ S106256x128.size a := fun v1117 k0_hw1 => k0_hw1.2.2.2

def k0_off5 (v1121 : BitVec 32) : Fin 2 → Nat :=
  let v1125 : BitVec 32 := v1121
  let v1140 : Index := Scalar.indexCast v1125
  let c0_483 : Index := 0#32
  ![v1140.toNat, 0]
def k0_off6 (v1121 : BitVec 32) : Fin 2 → Nat :=
  let c2_i32_476 : BitVec 32 := 2#32
  let v1126 : BitVec 32 := Scalar.addi v1121 c2_i32_476
  let v1127 : BitVec 32 := v1126
  let v1146 : Index := Scalar.indexCast v1127
  let c0_486 : Index := 0#32
  ![v1146.toNat, 0]

def k0_chk2 (v1121 : BitVec 32) : Prop :=
  (2 ∣ (k0_mult3 v1121).toNat) ∧
  (2 ∣ (k0_mult4 v1121).toNat) ∧
  (∀ a, (k0_off5 v1121) a + S2x128.size a ≤ S106256x128.size a) ∧
  (∀ a, (k0_off6 v1121) a + S2x128.size a ≤ S106256x128.size a)
theorem k0_mult3_dvd : ∀ (v1121 : BitVec 32) (k0_hw2 : k0_chk2 v1121), 2 ∣ (k0_mult3 v1121).toNat := fun v1121 k0_hw2 => k0_hw2.1
theorem k0_mult4_dvd : ∀ (v1121 : BitVec 32) (k0_hw2 : k0_chk2 v1121), 2 ∣ (k0_mult4 v1121).toNat := fun v1121 k0_hw2 => k0_hw2.2.1
theorem k0_off5_inb : ∀ (v1121 : BitVec 32) (k0_hw2 : k0_chk2 v1121), ∀ a, (k0_off5 v1121) a + S2x128.size a ≤ S106256x128.size a := fun v1121 k0_hw2 => k0_hw2.2.2.1
theorem k0_off6_inb : ∀ (v1121 : BitVec 32) (k0_hw2 : k0_chk2 v1121), ∀ a, (k0_off6 v1121) a + S2x128.size a ≤ S106256x128.size a := fun v1121 k0_hw2 => k0_hw2.2.2.2

def k0_off7 (k0_t1 : Fin k0_t1_loop.trips) : Fin 2 → Nat :=
  let c0_490 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_489 : BitVec 32 := 2#32
  let v1152 : BitVec 32 := Scalar.addi v1114 c2_i32_489
  let v1153 : Index := Scalar.indexCast v1152
  ![0, v1153.toNat]
def k0_off8 (k0_t1 : Fin k0_t1_loop.trips) : Fin 2 → Nat :=
  let c0_493 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_491 : BitVec 32 := 2#32
  let v1155 : BitVec 32 := Scalar.addi v1114 c2_i32_491
  let c1_i32_492 : BitVec 32 := 1#32
  let v1156 : BitVec 32 := Scalar.addi v1155 c1_i32_492
  let v1157 : Index := Scalar.indexCast v1156
  ![0, v1157.toNat]
def k0_mult5 (v1154 : BitVec 32) : BitVec 32 :=
  v1154

def k0_mult6 (v1154 : BitVec 32) : BitVec 32 :=
  let c2_i32_494 : BitVec 32 := 2#32
  let v1160 : BitVec 32 := Scalar.addi v1154 c2_i32_494
  v1160
def k0_mult7 (v1158 : BitVec 32) : BitVec 32 :=
  v1158

def k0_mult8 (v1158 : BitVec 32) : BitVec 32 :=
  let c2_i32_495 : BitVec 32 := 2#32
  let v1163 : BitVec 32 := Scalar.addi v1158 c2_i32_495
  v1163
def k0_off9 (v1154 : BitVec 32) : Fin 2 → Nat :=
  let v1159 : BitVec 32 := v1154
  let v1165 : Index := Scalar.indexCast v1159
  let c0_496 : Index := 0#32
  ![v1165.toNat, 0]
def k0_off10 (v1154 : BitVec 32) : Fin 2 → Nat :=
  let c2_i32_494 : BitVec 32 := 2#32
  let v1160 : BitVec 32 := Scalar.addi v1154 c2_i32_494
  let v1161 : BitVec 32 := v1160
  let v1171 : Index := Scalar.indexCast v1161
  let c0_499 : Index := 0#32
  ![v1171.toNat, 0]

def k0_chk3 (v1154 : BitVec 32) : Prop :=
  (2 ∣ (k0_mult5 v1154).toNat) ∧
  (2 ∣ (k0_mult6 v1154).toNat) ∧
  (∀ a, (k0_off9 v1154) a + S2x128.size a ≤ S106256x128.size a) ∧
  (∀ a, (k0_off10 v1154) a + S2x128.size a ≤ S106256x128.size a)
theorem k0_mult5_dvd : ∀ (v1154 : BitVec 32) (k0_hw3 : k0_chk3 v1154), 2 ∣ (k0_mult5 v1154).toNat := fun v1154 k0_hw3 => k0_hw3.1
theorem k0_mult6_dvd : ∀ (v1154 : BitVec 32) (k0_hw3 : k0_chk3 v1154), 2 ∣ (k0_mult6 v1154).toNat := fun v1154 k0_hw3 => k0_hw3.2.1
theorem k0_off9_inb : ∀ (v1154 : BitVec 32) (k0_hw3 : k0_chk3 v1154), ∀ a, (k0_off9 v1154) a + S2x128.size a ≤ S106256x128.size a := fun v1154 k0_hw3 => k0_hw3.2.2.1
theorem k0_off10_inb : ∀ (v1154 : BitVec 32) (k0_hw3 : k0_chk3 v1154), ∀ a, (k0_off10 v1154) a + S2x128.size a ≤ S106256x128.size a := fun v1154 k0_hw3 => k0_hw3.2.2.2

def k0_off11 (v1158 : BitVec 32) : Fin 2 → Nat :=
  let v1162 : BitVec 32 := v1158
  let v1177 : Index := Scalar.indexCast v1162
  let c0_502 : Index := 0#32
  ![v1177.toNat, 0]
def k0_off12 (v1158 : BitVec 32) : Fin 2 → Nat :=
  let c2_i32_495 : BitVec 32 := 2#32
  let v1163 : BitVec 32 := Scalar.addi v1158 c2_i32_495
  let v1164 : BitVec 32 := v1163
  let v1183 : Index := Scalar.indexCast v1164
  let c0_505 : Index := 0#32
  ![v1183.toNat, 0]

def k0_chk4 (v1158 : BitVec 32) : Prop :=
  (2 ∣ (k0_mult7 v1158).toNat) ∧
  (2 ∣ (k0_mult8 v1158).toNat) ∧
  (∀ a, (k0_off11 v1158) a + S2x128.size a ≤ S106256x128.size a) ∧
  (∀ a, (k0_off12 v1158) a + S2x128.size a ≤ S106256x128.size a)
theorem k0_mult7_dvd : ∀ (v1158 : BitVec 32) (k0_hw4 : k0_chk4 v1158), 2 ∣ (k0_mult7 v1158).toNat := fun v1158 k0_hw4 => k0_hw4.1
theorem k0_mult8_dvd : ∀ (v1158 : BitVec 32) (k0_hw4 : k0_chk4 v1158), 2 ∣ (k0_mult8 v1158).toNat := fun v1158 k0_hw4 => k0_hw4.2.1
theorem k0_off11_inb : ∀ (v1158 : BitVec 32) (k0_hw4 : k0_chk4 v1158), ∀ a, (k0_off11 v1158) a + S2x128.size a ≤ S106256x128.size a := fun v1158 k0_hw4 => k0_hw4.2.2.1
theorem k0_off12_inb : ∀ (v1158 : BitVec 32) (k0_hw4 : k0_chk4 v1158), ∀ a, (k0_off12 v1158) a + S2x128.size a ≤ S106256x128.size a := fun v1158 k0_hw4 => k0_hw4.2.2.2

def k0_off13 (k0_t1 : Fin k0_t1_loop.trips) : Fin 2 → Nat :=
  let c0_508 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32 : BitVec 32 := 4#32
  let v1189 : BitVec 32 := Scalar.addi v1114 c4_i32
  let v1190 : Index := Scalar.indexCast v1189
  ![0, v1190.toNat]
def k0_off14 (k0_t1 : Fin k0_t1_loop.trips) : Fin 2 → Nat :=
  let c0_511 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_509 : BitVec 32 := 4#32
  let v1192 : BitVec 32 := Scalar.addi v1114 c4_i32_509
  let c1_i32_510 : BitVec 32 := 1#32
  let v1193 : BitVec 32 := Scalar.addi v1192 c1_i32_510
  let v1194 : Index := Scalar.indexCast v1193
  ![0, v1194.toNat]
def k0_mult9 (v1191 : BitVec 32) : BitVec 32 :=
  v1191

def k0_mult10 (v1191 : BitVec 32) : BitVec 32 :=
  let c2_i32_512 : BitVec 32 := 2#32
  let v1197 : BitVec 32 := Scalar.addi v1191 c2_i32_512
  v1197
def k0_mult11 (v1195 : BitVec 32) : BitVec 32 :=
  v1195

def k0_mult12 (v1195 : BitVec 32) : BitVec 32 :=
  let c2_i32_513 : BitVec 32 := 2#32
  let v1200 : BitVec 32 := Scalar.addi v1195 c2_i32_513
  v1200
def k0_off15 (v1191 : BitVec 32) : Fin 2 → Nat :=
  let v1196 : BitVec 32 := v1191
  let v1202 : Index := Scalar.indexCast v1196
  let c0_514 : Index := 0#32
  ![v1202.toNat, 0]
def k0_off16 (v1191 : BitVec 32) : Fin 2 → Nat :=
  let c2_i32_512 : BitVec 32 := 2#32
  let v1197 : BitVec 32 := Scalar.addi v1191 c2_i32_512
  let v1198 : BitVec 32 := v1197
  let v1208 : Index := Scalar.indexCast v1198
  let c0_517 : Index := 0#32
  ![v1208.toNat, 0]

def k0_chk5 (v1191 : BitVec 32) : Prop :=
  (2 ∣ (k0_mult9 v1191).toNat) ∧
  (2 ∣ (k0_mult10 v1191).toNat) ∧
  (∀ a, (k0_off15 v1191) a + S2x128.size a ≤ S106256x128.size a) ∧
  (∀ a, (k0_off16 v1191) a + S2x128.size a ≤ S106256x128.size a)
theorem k0_mult9_dvd : ∀ (v1191 : BitVec 32) (k0_hw5 : k0_chk5 v1191), 2 ∣ (k0_mult9 v1191).toNat := fun v1191 k0_hw5 => k0_hw5.1
theorem k0_mult10_dvd : ∀ (v1191 : BitVec 32) (k0_hw5 : k0_chk5 v1191), 2 ∣ (k0_mult10 v1191).toNat := fun v1191 k0_hw5 => k0_hw5.2.1
theorem k0_off15_inb : ∀ (v1191 : BitVec 32) (k0_hw5 : k0_chk5 v1191), ∀ a, (k0_off15 v1191) a + S2x128.size a ≤ S106256x128.size a := fun v1191 k0_hw5 => k0_hw5.2.2.1
theorem k0_off16_inb : ∀ (v1191 : BitVec 32) (k0_hw5 : k0_chk5 v1191), ∀ a, (k0_off16 v1191) a + S2x128.size a ≤ S106256x128.size a := fun v1191 k0_hw5 => k0_hw5.2.2.2

def k0_off17 (v1195 : BitVec 32) : Fin 2 → Nat :=
  let v1199 : BitVec 32 := v1195
  let v1214 : Index := Scalar.indexCast v1199
  let c0_520 : Index := 0#32
  ![v1214.toNat, 0]
def k0_off18 (v1195 : BitVec 32) : Fin 2 → Nat :=
  let c2_i32_513 : BitVec 32 := 2#32
  let v1200 : BitVec 32 := Scalar.addi v1195 c2_i32_513
  let v1201 : BitVec 32 := v1200
  let v1220 : Index := Scalar.indexCast v1201
  let c0_523 : Index := 0#32
  ![v1220.toNat, 0]

def k0_chk6 (v1195 : BitVec 32) : Prop :=
  (2 ∣ (k0_mult11 v1195).toNat) ∧
  (2 ∣ (k0_mult12 v1195).toNat) ∧
  (∀ a, (k0_off17 v1195) a + S2x128.size a ≤ S106256x128.size a) ∧
  (∀ a, (k0_off18 v1195) a + S2x128.size a ≤ S106256x128.size a)
theorem k0_mult11_dvd : ∀ (v1195 : BitVec 32) (k0_hw6 : k0_chk6 v1195), 2 ∣ (k0_mult11 v1195).toNat := fun v1195 k0_hw6 => k0_hw6.1
theorem k0_mult12_dvd : ∀ (v1195 : BitVec 32) (k0_hw6 : k0_chk6 v1195), 2 ∣ (k0_mult12 v1195).toNat := fun v1195 k0_hw6 => k0_hw6.2.1
theorem k0_off17_inb : ∀ (v1195 : BitVec 32) (k0_hw6 : k0_chk6 v1195), ∀ a, (k0_off17 v1195) a + S2x128.size a ≤ S106256x128.size a := fun v1195 k0_hw6 => k0_hw6.2.2.1
theorem k0_off18_inb : ∀ (v1195 : BitVec 32) (k0_hw6 : k0_chk6 v1195), ∀ a, (k0_off18 v1195) a + S2x128.size a ≤ S106256x128.size a := fun v1195 k0_hw6 => k0_hw6.2.2.2

def k0_off19 (k0_t1 : Fin k0_t1_loop.trips) : Fin 2 → Nat :=
  let c0_526 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32 : BitVec 32 := 6#32
  let v1226 : BitVec 32 := Scalar.addi v1114 c6_i32
  let v1227 : Index := Scalar.indexCast v1226
  ![0, v1227.toNat]
def k0_off20 (k0_t1 : Fin k0_t1_loop.trips) : Fin 2 → Nat :=
  let c0_529 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_527 : BitVec 32 := 6#32
  let v1229 : BitVec 32 := Scalar.addi v1114 c6_i32_527
  let c1_i32_528 : BitVec 32 := 1#32
  let v1230 : BitVec 32 := Scalar.addi v1229 c1_i32_528
  let v1231 : Index := Scalar.indexCast v1230
  ![0, v1231.toNat]
def k0_mult13 (v1228 : BitVec 32) : BitVec 32 :=
  v1228

def k0_mult14 (v1228 : BitVec 32) : BitVec 32 :=
  let c2_i32_530 : BitVec 32 := 2#32
  let v1234 : BitVec 32 := Scalar.addi v1228 c2_i32_530
  v1234
def k0_mult15 (v1232 : BitVec 32) : BitVec 32 :=
  v1232

def k0_mult16 (v1232 : BitVec 32) : BitVec 32 :=
  let c2_i32_531 : BitVec 32 := 2#32
  let v1237 : BitVec 32 := Scalar.addi v1232 c2_i32_531
  v1237
def k0_off21 (v1228 : BitVec 32) : Fin 2 → Nat :=
  let v1233 : BitVec 32 := v1228
  let v1239 : Index := Scalar.indexCast v1233
  let c0_532 : Index := 0#32
  ![v1239.toNat, 0]
def k0_off22 (v1228 : BitVec 32) : Fin 2 → Nat :=
  let c2_i32_530 : BitVec 32 := 2#32
  let v1234 : BitVec 32 := Scalar.addi v1228 c2_i32_530
  let v1235 : BitVec 32 := v1234
  let v1245 : Index := Scalar.indexCast v1235
  let c0_535 : Index := 0#32
  ![v1245.toNat, 0]

def k0_chk7 (v1228 : BitVec 32) : Prop :=
  (2 ∣ (k0_mult13 v1228).toNat) ∧
  (2 ∣ (k0_mult14 v1228).toNat) ∧
  (∀ a, (k0_off21 v1228) a + S2x128.size a ≤ S106256x128.size a) ∧
  (∀ a, (k0_off22 v1228) a + S2x128.size a ≤ S106256x128.size a)
theorem k0_mult13_dvd : ∀ (v1228 : BitVec 32) (k0_hw7 : k0_chk7 v1228), 2 ∣ (k0_mult13 v1228).toNat := fun v1228 k0_hw7 => k0_hw7.1
theorem k0_mult14_dvd : ∀ (v1228 : BitVec 32) (k0_hw7 : k0_chk7 v1228), 2 ∣ (k0_mult14 v1228).toNat := fun v1228 k0_hw7 => k0_hw7.2.1
theorem k0_off21_inb : ∀ (v1228 : BitVec 32) (k0_hw7 : k0_chk7 v1228), ∀ a, (k0_off21 v1228) a + S2x128.size a ≤ S106256x128.size a := fun v1228 k0_hw7 => k0_hw7.2.2.1
theorem k0_off22_inb : ∀ (v1228 : BitVec 32) (k0_hw7 : k0_chk7 v1228), ∀ a, (k0_off22 v1228) a + S2x128.size a ≤ S106256x128.size a := fun v1228 k0_hw7 => k0_hw7.2.2.2

def k0_off23 (v1232 : BitVec 32) : Fin 2 → Nat :=
  let v1236 : BitVec 32 := v1232
  let v1251 : Index := Scalar.indexCast v1236
  let c0_538 : Index := 0#32
  ![v1251.toNat, 0]
def k0_off24 (v1232 : BitVec 32) : Fin 2 → Nat :=
  let c2_i32_531 : BitVec 32 := 2#32
  let v1237 : BitVec 32 := Scalar.addi v1232 c2_i32_531
  let v1238 : BitVec 32 := v1237
  let v1257 : Index := Scalar.indexCast v1238
  let c0_541 : Index := 0#32
  ![v1257.toNat, 0]

def k0_chk8 (v1232 : BitVec 32) : Prop :=
  (2 ∣ (k0_mult15 v1232).toNat) ∧
  (2 ∣ (k0_mult16 v1232).toNat) ∧
  (∀ a, (k0_off23 v1232) a + S2x128.size a ≤ S106256x128.size a) ∧
  (∀ a, (k0_off24 v1232) a + S2x128.size a ≤ S106256x128.size a)
theorem k0_mult15_dvd : ∀ (v1232 : BitVec 32) (k0_hw8 : k0_chk8 v1232), 2 ∣ (k0_mult15 v1232).toNat := fun v1232 k0_hw8 => k0_hw8.1
theorem k0_mult16_dvd : ∀ (v1232 : BitVec 32) (k0_hw8 : k0_chk8 v1232), 2 ∣ (k0_mult16 v1232).toNat := fun v1232 k0_hw8 => k0_hw8.2.1
theorem k0_off23_inb : ∀ (v1232 : BitVec 32) (k0_hw8 : k0_chk8 v1232), ∀ a, (k0_off23 v1232) a + S2x128.size a ≤ S106256x128.size a := fun v1232 k0_hw8 => k0_hw8.2.2.1
theorem k0_off24_inb : ∀ (v1232 : BitVec 32) (k0_hw8 : k0_chk8 v1232), ∀ a, (k0_off24 v1232) a + S2x128.size a ≤ S106256x128.size a := fun v1232 k0_hw8 => k0_hw8.2.2.2

def k0_off25 (k0_t1 : Fin k0_t1_loop.trips) : Fin 2 → Nat :=
  let c1_545 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_544 : BitVec 32 := 0#32
  let v1263 : BitVec 32 := Scalar.addi v1114 c0_i32_544
  let v1264 : Index := Scalar.indexCast v1263
  ![1, v1264.toNat]
def k0_off26 (k0_t1 : Fin k0_t1_loop.trips) : Fin 2 → Nat :=
  let c1_548 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_546 : BitVec 32 := 0#32
  let v1266 : BitVec 32 := Scalar.addi v1114 c0_i32_546
  let c1_i32_547 : BitVec 32 := 1#32
  let v1267 : BitVec 32 := Scalar.addi v1266 c1_i32_547
  let v1268 : Index := Scalar.indexCast v1267
  ![1, v1268.toNat]
def k0_mult17 (v1265 : BitVec 32) : BitVec 32 :=
  v1265

def k0_mult18 (v1265 : BitVec 32) : BitVec 32 :=
  let c2_i32_549 : BitVec 32 := 2#32
  let v1271 : BitVec 32 := Scalar.addi v1265 c2_i32_549
  v1271
def k0_mult19 (v1269 : BitVec 32) : BitVec 32 :=
  v1269

def k0_mult20 (v1269 : BitVec 32) : BitVec 32 :=
  let c2_i32_550 : BitVec 32 := 2#32
  let v1274 : BitVec 32 := Scalar.addi v1269 c2_i32_550
  v1274
def k0_off27 (v1265 : BitVec 32) : Fin 2 → Nat :=
  let v1270 : BitVec 32 := v1265
  let v1276 : Index := Scalar.indexCast v1270
  let c0_551 : Index := 0#32
  ![v1276.toNat, 0]
def k0_off28 (v1265 : BitVec 32) : Fin 2 → Nat :=
  let c2_i32_549 : BitVec 32 := 2#32
  let v1271 : BitVec 32 := Scalar.addi v1265 c2_i32_549
  let v1272 : BitVec 32 := v1271
  let v1282 : Index := Scalar.indexCast v1272
  let c0_554 : Index := 0#32
  ![v1282.toNat, 0]

def k0_chk9 (v1265 : BitVec 32) : Prop :=
  (2 ∣ (k0_mult17 v1265).toNat) ∧
  (2 ∣ (k0_mult18 v1265).toNat) ∧
  (∀ a, (k0_off27 v1265) a + S2x128.size a ≤ S106256x128.size a) ∧
  (∀ a, (k0_off28 v1265) a + S2x128.size a ≤ S106256x128.size a)
theorem k0_mult17_dvd : ∀ (v1265 : BitVec 32) (k0_hw9 : k0_chk9 v1265), 2 ∣ (k0_mult17 v1265).toNat := fun v1265 k0_hw9 => k0_hw9.1
theorem k0_mult18_dvd : ∀ (v1265 : BitVec 32) (k0_hw9 : k0_chk9 v1265), 2 ∣ (k0_mult18 v1265).toNat := fun v1265 k0_hw9 => k0_hw9.2.1
theorem k0_off27_inb : ∀ (v1265 : BitVec 32) (k0_hw9 : k0_chk9 v1265), ∀ a, (k0_off27 v1265) a + S2x128.size a ≤ S106256x128.size a := fun v1265 k0_hw9 => k0_hw9.2.2.1
theorem k0_off28_inb : ∀ (v1265 : BitVec 32) (k0_hw9 : k0_chk9 v1265), ∀ a, (k0_off28 v1265) a + S2x128.size a ≤ S106256x128.size a := fun v1265 k0_hw9 => k0_hw9.2.2.2

def k0_off29 (v1269 : BitVec 32) : Fin 2 → Nat :=
  let v1273 : BitVec 32 := v1269
  let v1288 : Index := Scalar.indexCast v1273
  let c0_557 : Index := 0#32
  ![v1288.toNat, 0]
def k0_off30 (v1269 : BitVec 32) : Fin 2 → Nat :=
  let c2_i32_550 : BitVec 32 := 2#32
  let v1274 : BitVec 32 := Scalar.addi v1269 c2_i32_550
  let v1275 : BitVec 32 := v1274
  let v1294 : Index := Scalar.indexCast v1275
  let c0_560 : Index := 0#32
  ![v1294.toNat, 0]

def k0_chk10 (v1269 : BitVec 32) : Prop :=
  (2 ∣ (k0_mult19 v1269).toNat) ∧
  (2 ∣ (k0_mult20 v1269).toNat) ∧
  (∀ a, (k0_off29 v1269) a + S2x128.size a ≤ S106256x128.size a) ∧
  (∀ a, (k0_off30 v1269) a + S2x128.size a ≤ S106256x128.size a)
theorem k0_mult19_dvd : ∀ (v1269 : BitVec 32) (k0_hw10 : k0_chk10 v1269), 2 ∣ (k0_mult19 v1269).toNat := fun v1269 k0_hw10 => k0_hw10.1
theorem k0_mult20_dvd : ∀ (v1269 : BitVec 32) (k0_hw10 : k0_chk10 v1269), 2 ∣ (k0_mult20 v1269).toNat := fun v1269 k0_hw10 => k0_hw10.2.1
theorem k0_off29_inb : ∀ (v1269 : BitVec 32) (k0_hw10 : k0_chk10 v1269), ∀ a, (k0_off29 v1269) a + S2x128.size a ≤ S106256x128.size a := fun v1269 k0_hw10 => k0_hw10.2.2.1
theorem k0_off30_inb : ∀ (v1269 : BitVec 32) (k0_hw10 : k0_chk10 v1269), ∀ a, (k0_off30 v1269) a + S2x128.size a ≤ S106256x128.size a := fun v1269 k0_hw10 => k0_hw10.2.2.2

def k0_off31 (k0_t1 : Fin k0_t1_loop.trips) : Fin 2 → Nat :=
  let c1_564 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_563 : BitVec 32 := 2#32
  let v1300 : BitVec 32 := Scalar.addi v1114 c2_i32_563
  let v1301 : Index := Scalar.indexCast v1300
  ![1, v1301.toNat]
def k0_off32 (k0_t1 : Fin k0_t1_loop.trips) : Fin 2 → Nat :=
  let c1_567 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_565 : BitVec 32 := 2#32
  let v1303 : BitVec 32 := Scalar.addi v1114 c2_i32_565
  let c1_i32_566 : BitVec 32 := 1#32
  let v1304 : BitVec 32 := Scalar.addi v1303 c1_i32_566
  let v1305 : Index := Scalar.indexCast v1304
  ![1, v1305.toNat]
def k0_mult21 (v1302 : BitVec 32) : BitVec 32 :=
  v1302

def k0_mult22 (v1302 : BitVec 32) : BitVec 32 :=
  let c2_i32_568 : BitVec 32 := 2#32
  let v1308 : BitVec 32 := Scalar.addi v1302 c2_i32_568
  v1308
def k0_mult23 (v1306 : BitVec 32) : BitVec 32 :=
  v1306

def k0_mult24 (v1306 : BitVec 32) : BitVec 32 :=
  let c2_i32_569 : BitVec 32 := 2#32
  let v1311 : BitVec 32 := Scalar.addi v1306 c2_i32_569
  v1311
def k0_off33 (v1302 : BitVec 32) : Fin 2 → Nat :=
  let v1307 : BitVec 32 := v1302
  let v1313 : Index := Scalar.indexCast v1307
  let c0_570 : Index := 0#32
  ![v1313.toNat, 0]
def k0_off34 (v1302 : BitVec 32) : Fin 2 → Nat :=
  let c2_i32_568 : BitVec 32 := 2#32
  let v1308 : BitVec 32 := Scalar.addi v1302 c2_i32_568
  let v1309 : BitVec 32 := v1308
  let v1319 : Index := Scalar.indexCast v1309
  let c0_573 : Index := 0#32
  ![v1319.toNat, 0]

def k0_chk11 (v1302 : BitVec 32) : Prop :=
  (2 ∣ (k0_mult21 v1302).toNat) ∧
  (2 ∣ (k0_mult22 v1302).toNat) ∧
  (∀ a, (k0_off33 v1302) a + S2x128.size a ≤ S106256x128.size a) ∧
  (∀ a, (k0_off34 v1302) a + S2x128.size a ≤ S106256x128.size a)
theorem k0_mult21_dvd : ∀ (v1302 : BitVec 32) (k0_hw11 : k0_chk11 v1302), 2 ∣ (k0_mult21 v1302).toNat := fun v1302 k0_hw11 => k0_hw11.1
theorem k0_mult22_dvd : ∀ (v1302 : BitVec 32) (k0_hw11 : k0_chk11 v1302), 2 ∣ (k0_mult22 v1302).toNat := fun v1302 k0_hw11 => k0_hw11.2.1
theorem k0_off33_inb : ∀ (v1302 : BitVec 32) (k0_hw11 : k0_chk11 v1302), ∀ a, (k0_off33 v1302) a + S2x128.size a ≤ S106256x128.size a := fun v1302 k0_hw11 => k0_hw11.2.2.1
theorem k0_off34_inb : ∀ (v1302 : BitVec 32) (k0_hw11 : k0_chk11 v1302), ∀ a, (k0_off34 v1302) a + S2x128.size a ≤ S106256x128.size a := fun v1302 k0_hw11 => k0_hw11.2.2.2

def k0_off35 (v1306 : BitVec 32) : Fin 2 → Nat :=
  let v1310 : BitVec 32 := v1306
  let v1325 : Index := Scalar.indexCast v1310
  let c0_576 : Index := 0#32
  ![v1325.toNat, 0]
def k0_off36 (v1306 : BitVec 32) : Fin 2 → Nat :=
  let c2_i32_569 : BitVec 32 := 2#32
  let v1311 : BitVec 32 := Scalar.addi v1306 c2_i32_569
  let v1312 : BitVec 32 := v1311
  let v1331 : Index := Scalar.indexCast v1312
  let c0_579 : Index := 0#32
  ![v1331.toNat, 0]

def k0_chk12 (v1306 : BitVec 32) : Prop :=
  (2 ∣ (k0_mult23 v1306).toNat) ∧
  (2 ∣ (k0_mult24 v1306).toNat) ∧
  (∀ a, (k0_off35 v1306) a + S2x128.size a ≤ S106256x128.size a) ∧
  (∀ a, (k0_off36 v1306) a + S2x128.size a ≤ S106256x128.size a)
theorem k0_mult23_dvd : ∀ (v1306 : BitVec 32) (k0_hw12 : k0_chk12 v1306), 2 ∣ (k0_mult23 v1306).toNat := fun v1306 k0_hw12 => k0_hw12.1
theorem k0_mult24_dvd : ∀ (v1306 : BitVec 32) (k0_hw12 : k0_chk12 v1306), 2 ∣ (k0_mult24 v1306).toNat := fun v1306 k0_hw12 => k0_hw12.2.1
theorem k0_off35_inb : ∀ (v1306 : BitVec 32) (k0_hw12 : k0_chk12 v1306), ∀ a, (k0_off35 v1306) a + S2x128.size a ≤ S106256x128.size a := fun v1306 k0_hw12 => k0_hw12.2.2.1
theorem k0_off36_inb : ∀ (v1306 : BitVec 32) (k0_hw12 : k0_chk12 v1306), ∀ a, (k0_off36 v1306) a + S2x128.size a ≤ S106256x128.size a := fun v1306 k0_hw12 => k0_hw12.2.2.2

def k0_off37 (k0_t1 : Fin k0_t1_loop.trips) : Fin 2 → Nat :=
  let c1_583 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_582 : BitVec 32 := 4#32
  let v1337 : BitVec 32 := Scalar.addi v1114 c4_i32_582
  let v1338 : Index := Scalar.indexCast v1337
  ![1, v1338.toNat]
def k0_off38 (k0_t1 : Fin k0_t1_loop.trips) : Fin 2 → Nat :=
  let c1_586 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_584 : BitVec 32 := 4#32
  let v1340 : BitVec 32 := Scalar.addi v1114 c4_i32_584
  let c1_i32_585 : BitVec 32 := 1#32
  let v1341 : BitVec 32 := Scalar.addi v1340 c1_i32_585
  let v1342 : Index := Scalar.indexCast v1341
  ![1, v1342.toNat]
def k0_mult25 (v1339 : BitVec 32) : BitVec 32 :=
  v1339

def k0_mult26 (v1339 : BitVec 32) : BitVec 32 :=
  let c2_i32_587 : BitVec 32 := 2#32
  let v1345 : BitVec 32 := Scalar.addi v1339 c2_i32_587
  v1345
def k0_mult27 (v1343 : BitVec 32) : BitVec 32 :=
  v1343

def k0_mult28 (v1343 : BitVec 32) : BitVec 32 :=
  let c2_i32_588 : BitVec 32 := 2#32
  let v1348 : BitVec 32 := Scalar.addi v1343 c2_i32_588
  v1348
def k0_off39 (v1339 : BitVec 32) : Fin 2 → Nat :=
  let v1344 : BitVec 32 := v1339
  let v1350 : Index := Scalar.indexCast v1344
  let c0_589 : Index := 0#32
  ![v1350.toNat, 0]
def k0_off40 (v1339 : BitVec 32) : Fin 2 → Nat :=
  let c2_i32_587 : BitVec 32 := 2#32
  let v1345 : BitVec 32 := Scalar.addi v1339 c2_i32_587
  let v1346 : BitVec 32 := v1345
  let v1356 : Index := Scalar.indexCast v1346
  let c0_592 : Index := 0#32
  ![v1356.toNat, 0]

def k0_chk13 (v1339 : BitVec 32) : Prop :=
  (2 ∣ (k0_mult25 v1339).toNat) ∧
  (2 ∣ (k0_mult26 v1339).toNat) ∧
  (∀ a, (k0_off39 v1339) a + S2x128.size a ≤ S106256x128.size a) ∧
  (∀ a, (k0_off40 v1339) a + S2x128.size a ≤ S106256x128.size a)
theorem k0_mult25_dvd : ∀ (v1339 : BitVec 32) (k0_hw13 : k0_chk13 v1339), 2 ∣ (k0_mult25 v1339).toNat := fun v1339 k0_hw13 => k0_hw13.1
theorem k0_mult26_dvd : ∀ (v1339 : BitVec 32) (k0_hw13 : k0_chk13 v1339), 2 ∣ (k0_mult26 v1339).toNat := fun v1339 k0_hw13 => k0_hw13.2.1
theorem k0_off39_inb : ∀ (v1339 : BitVec 32) (k0_hw13 : k0_chk13 v1339), ∀ a, (k0_off39 v1339) a + S2x128.size a ≤ S106256x128.size a := fun v1339 k0_hw13 => k0_hw13.2.2.1
theorem k0_off40_inb : ∀ (v1339 : BitVec 32) (k0_hw13 : k0_chk13 v1339), ∀ a, (k0_off40 v1339) a + S2x128.size a ≤ S106256x128.size a := fun v1339 k0_hw13 => k0_hw13.2.2.2

def k0_off41 (v1343 : BitVec 32) : Fin 2 → Nat :=
  let v1347 : BitVec 32 := v1343
  let v1362 : Index := Scalar.indexCast v1347
  let c0_595 : Index := 0#32
  ![v1362.toNat, 0]
def k0_off42 (v1343 : BitVec 32) : Fin 2 → Nat :=
  let c2_i32_588 : BitVec 32 := 2#32
  let v1348 : BitVec 32 := Scalar.addi v1343 c2_i32_588
  let v1349 : BitVec 32 := v1348
  let v1368 : Index := Scalar.indexCast v1349
  let c0_598 : Index := 0#32
  ![v1368.toNat, 0]

def k0_chk14 (v1343 : BitVec 32) : Prop :=
  (2 ∣ (k0_mult27 v1343).toNat) ∧
  (2 ∣ (k0_mult28 v1343).toNat) ∧
  (∀ a, (k0_off41 v1343) a + S2x128.size a ≤ S106256x128.size a) ∧
  (∀ a, (k0_off42 v1343) a + S2x128.size a ≤ S106256x128.size a)
theorem k0_mult27_dvd : ∀ (v1343 : BitVec 32) (k0_hw14 : k0_chk14 v1343), 2 ∣ (k0_mult27 v1343).toNat := fun v1343 k0_hw14 => k0_hw14.1
theorem k0_mult28_dvd : ∀ (v1343 : BitVec 32) (k0_hw14 : k0_chk14 v1343), 2 ∣ (k0_mult28 v1343).toNat := fun v1343 k0_hw14 => k0_hw14.2.1
theorem k0_off41_inb : ∀ (v1343 : BitVec 32) (k0_hw14 : k0_chk14 v1343), ∀ a, (k0_off41 v1343) a + S2x128.size a ≤ S106256x128.size a := fun v1343 k0_hw14 => k0_hw14.2.2.1
theorem k0_off42_inb : ∀ (v1343 : BitVec 32) (k0_hw14 : k0_chk14 v1343), ∀ a, (k0_off42 v1343) a + S2x128.size a ≤ S106256x128.size a := fun v1343 k0_hw14 => k0_hw14.2.2.2

def k0_off43 (k0_t1 : Fin k0_t1_loop.trips) : Fin 2 → Nat :=
  let c1_602 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_601 : BitVec 32 := 6#32
  let v1374 : BitVec 32 := Scalar.addi v1114 c6_i32_601
  let v1375 : Index := Scalar.indexCast v1374
  ![1, v1375.toNat]
def k0_off44 (k0_t1 : Fin k0_t1_loop.trips) : Fin 2 → Nat :=
  let c1_605 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_603 : BitVec 32 := 6#32
  let v1377 : BitVec 32 := Scalar.addi v1114 c6_i32_603
  let c1_i32_604 : BitVec 32 := 1#32
  let v1378 : BitVec 32 := Scalar.addi v1377 c1_i32_604
  let v1379 : Index := Scalar.indexCast v1378
  ![1, v1379.toNat]
def k0_mult29 (v1376 : BitVec 32) : BitVec 32 :=
  v1376

def k0_mult30 (v1376 : BitVec 32) : BitVec 32 :=
  let c2_i32_606 : BitVec 32 := 2#32
  let v1382 : BitVec 32 := Scalar.addi v1376 c2_i32_606
  v1382
def k0_mult31 (v1380 : BitVec 32) : BitVec 32 :=
  v1380

def k0_mult32 (v1380 : BitVec 32) : BitVec 32 :=
  let c2_i32_607 : BitVec 32 := 2#32
  let v1385 : BitVec 32 := Scalar.addi v1380 c2_i32_607
  v1385
def k0_off45 (v1376 : BitVec 32) : Fin 2 → Nat :=
  let v1381 : BitVec 32 := v1376
  let v1387 : Index := Scalar.indexCast v1381
  let c0_608 : Index := 0#32
  ![v1387.toNat, 0]
def k0_off46 (v1376 : BitVec 32) : Fin 2 → Nat :=
  let c2_i32_606 : BitVec 32 := 2#32
  let v1382 : BitVec 32 := Scalar.addi v1376 c2_i32_606
  let v1383 : BitVec 32 := v1382
  let v1393 : Index := Scalar.indexCast v1383
  let c0_611 : Index := 0#32
  ![v1393.toNat, 0]

def k0_chk15 (v1376 : BitVec 32) : Prop :=
  (2 ∣ (k0_mult29 v1376).toNat) ∧
  (2 ∣ (k0_mult30 v1376).toNat) ∧
  (∀ a, (k0_off45 v1376) a + S2x128.size a ≤ S106256x128.size a) ∧
  (∀ a, (k0_off46 v1376) a + S2x128.size a ≤ S106256x128.size a)
theorem k0_mult29_dvd : ∀ (v1376 : BitVec 32) (k0_hw15 : k0_chk15 v1376), 2 ∣ (k0_mult29 v1376).toNat := fun v1376 k0_hw15 => k0_hw15.1
theorem k0_mult30_dvd : ∀ (v1376 : BitVec 32) (k0_hw15 : k0_chk15 v1376), 2 ∣ (k0_mult30 v1376).toNat := fun v1376 k0_hw15 => k0_hw15.2.1
theorem k0_off45_inb : ∀ (v1376 : BitVec 32) (k0_hw15 : k0_chk15 v1376), ∀ a, (k0_off45 v1376) a + S2x128.size a ≤ S106256x128.size a := fun v1376 k0_hw15 => k0_hw15.2.2.1
theorem k0_off46_inb : ∀ (v1376 : BitVec 32) (k0_hw15 : k0_chk15 v1376), ∀ a, (k0_off46 v1376) a + S2x128.size a ≤ S106256x128.size a := fun v1376 k0_hw15 => k0_hw15.2.2.2

def k0_off47 (v1380 : BitVec 32) : Fin 2 → Nat :=
  let v1384 : BitVec 32 := v1380
  let v1399 : Index := Scalar.indexCast v1384
  let c0_614 : Index := 0#32
  ![v1399.toNat, 0]
def k0_off48 (v1380 : BitVec 32) : Fin 2 → Nat :=
  let c2_i32_607 : BitVec 32 := 2#32
  let v1385 : BitVec 32 := Scalar.addi v1380 c2_i32_607
  let v1386 : BitVec 32 := v1385
  let v1405 : Index := Scalar.indexCast v1386
  let c0_617 : Index := 0#32
  ![v1405.toNat, 0]

def k0_chk16 (v1380 : BitVec 32) : Prop :=
  (2 ∣ (k0_mult31 v1380).toNat) ∧
  (2 ∣ (k0_mult32 v1380).toNat) ∧
  (∀ a, (k0_off47 v1380) a + S2x128.size a ≤ S106256x128.size a) ∧
  (∀ a, (k0_off48 v1380) a + S2x128.size a ≤ S106256x128.size a)
theorem k0_mult31_dvd : ∀ (v1380 : BitVec 32) (k0_hw16 : k0_chk16 v1380), 2 ∣ (k0_mult31 v1380).toNat := fun v1380 k0_hw16 => k0_hw16.1
theorem k0_mult32_dvd : ∀ (v1380 : BitVec 32) (k0_hw16 : k0_chk16 v1380), 2 ∣ (k0_mult32 v1380).toNat := fun v1380 k0_hw16 => k0_hw16.2.1
theorem k0_off47_inb : ∀ (v1380 : BitVec 32) (k0_hw16 : k0_chk16 v1380), ∀ a, (k0_off47 v1380) a + S2x128.size a ≤ S106256x128.size a := fun v1380 k0_hw16 => k0_hw16.2.2.1
theorem k0_off48_inb : ∀ (v1380 : BitVec 32) (k0_hw16 : k0_chk16 v1380), ∀ a, (k0_off48 v1380) a + S2x128.size a ≤ S106256x128.size a := fun v1380 k0_hw16 => k0_hw16.2.2.2

def k0_off49 (k0_t1 : Fin k0_t1_loop.trips) : Fin 2 → Nat :=
  let c2_621 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_620 : BitVec 32 := 0#32
  let v1411 : BitVec 32 := Scalar.addi v1114 c0_i32_620
  let v1412 : Index := Scalar.indexCast v1411
  ![2, v1412.toNat]
def k0_off50 (k0_t1 : Fin k0_t1_loop.trips) : Fin 2 → Nat :=
  let c2_624 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_622 : BitVec 32 := 0#32
  let v1414 : BitVec 32 := Scalar.addi v1114 c0_i32_622
  let c1_i32_623 : BitVec 32 := 1#32
  let v1415 : BitVec 32 := Scalar.addi v1414 c1_i32_623
  let v1416 : Index := Scalar.indexCast v1415
  ![2, v1416.toNat]
def k0_mult33 (v1413 : BitVec 32) : BitVec 32 :=
  v1413

def k0_mult34 (v1413 : BitVec 32) : BitVec 32 :=
  let c2_i32_625 : BitVec 32 := 2#32
  let v1419 : BitVec 32 := Scalar.addi v1413 c2_i32_625
  v1419
def k0_mult35 (v1417 : BitVec 32) : BitVec 32 :=
  v1417

def k0_mult36 (v1417 : BitVec 32) : BitVec 32 :=
  let c2_i32_626 : BitVec 32 := 2#32
  let v1422 : BitVec 32 := Scalar.addi v1417 c2_i32_626
  v1422
def k0_off51 (v1413 : BitVec 32) : Fin 2 → Nat :=
  let v1418 : BitVec 32 := v1413
  let v1424 : Index := Scalar.indexCast v1418
  let c0_627 : Index := 0#32
  ![v1424.toNat, 0]
def k0_off52 (v1413 : BitVec 32) : Fin 2 → Nat :=
  let c2_i32_625 : BitVec 32 := 2#32
  let v1419 : BitVec 32 := Scalar.addi v1413 c2_i32_625
  let v1420 : BitVec 32 := v1419
  let v1430 : Index := Scalar.indexCast v1420
  let c0_630 : Index := 0#32
  ![v1430.toNat, 0]

def k0_chk17 (v1413 : BitVec 32) : Prop :=
  (2 ∣ (k0_mult33 v1413).toNat) ∧
  (2 ∣ (k0_mult34 v1413).toNat) ∧
  (∀ a, (k0_off51 v1413) a + S2x128.size a ≤ S106256x128.size a) ∧
  (∀ a, (k0_off52 v1413) a + S2x128.size a ≤ S106256x128.size a)
theorem k0_mult33_dvd : ∀ (v1413 : BitVec 32) (k0_hw17 : k0_chk17 v1413), 2 ∣ (k0_mult33 v1413).toNat := fun v1413 k0_hw17 => k0_hw17.1
theorem k0_mult34_dvd : ∀ (v1413 : BitVec 32) (k0_hw17 : k0_chk17 v1413), 2 ∣ (k0_mult34 v1413).toNat := fun v1413 k0_hw17 => k0_hw17.2.1
theorem k0_off51_inb : ∀ (v1413 : BitVec 32) (k0_hw17 : k0_chk17 v1413), ∀ a, (k0_off51 v1413) a + S2x128.size a ≤ S106256x128.size a := fun v1413 k0_hw17 => k0_hw17.2.2.1
theorem k0_off52_inb : ∀ (v1413 : BitVec 32) (k0_hw17 : k0_chk17 v1413), ∀ a, (k0_off52 v1413) a + S2x128.size a ≤ S106256x128.size a := fun v1413 k0_hw17 => k0_hw17.2.2.2

def k0_off53 (v1417 : BitVec 32) : Fin 2 → Nat :=
  let v1421 : BitVec 32 := v1417
  let v1436 : Index := Scalar.indexCast v1421
  let c0_633 : Index := 0#32
  ![v1436.toNat, 0]
def k0_off54 (v1417 : BitVec 32) : Fin 2 → Nat :=
  let c2_i32_626 : BitVec 32 := 2#32
  let v1422 : BitVec 32 := Scalar.addi v1417 c2_i32_626
  let v1423 : BitVec 32 := v1422
  let v1442 : Index := Scalar.indexCast v1423
  let c0_636 : Index := 0#32
  ![v1442.toNat, 0]

def k0_chk18 (v1417 : BitVec 32) : Prop :=
  (2 ∣ (k0_mult35 v1417).toNat) ∧
  (2 ∣ (k0_mult36 v1417).toNat) ∧
  (∀ a, (k0_off53 v1417) a + S2x128.size a ≤ S106256x128.size a) ∧
  (∀ a, (k0_off54 v1417) a + S2x128.size a ≤ S106256x128.size a)
theorem k0_mult35_dvd : ∀ (v1417 : BitVec 32) (k0_hw18 : k0_chk18 v1417), 2 ∣ (k0_mult35 v1417).toNat := fun v1417 k0_hw18 => k0_hw18.1
theorem k0_mult36_dvd : ∀ (v1417 : BitVec 32) (k0_hw18 : k0_chk18 v1417), 2 ∣ (k0_mult36 v1417).toNat := fun v1417 k0_hw18 => k0_hw18.2.1
theorem k0_off53_inb : ∀ (v1417 : BitVec 32) (k0_hw18 : k0_chk18 v1417), ∀ a, (k0_off53 v1417) a + S2x128.size a ≤ S106256x128.size a := fun v1417 k0_hw18 => k0_hw18.2.2.1
theorem k0_off54_inb : ∀ (v1417 : BitVec 32) (k0_hw18 : k0_chk18 v1417), ∀ a, (k0_off54 v1417) a + S2x128.size a ≤ S106256x128.size a := fun v1417 k0_hw18 => k0_hw18.2.2.2

def k0_off55 (k0_t1 : Fin k0_t1_loop.trips) : Fin 2 → Nat :=
  let c2_640 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_639 : BitVec 32 := 2#32
  let v1448 : BitVec 32 := Scalar.addi v1114 c2_i32_639
  let v1449 : Index := Scalar.indexCast v1448
  ![2, v1449.toNat]
def k0_off56 (k0_t1 : Fin k0_t1_loop.trips) : Fin 2 → Nat :=
  let c2_643 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_641 : BitVec 32 := 2#32
  let v1451 : BitVec 32 := Scalar.addi v1114 c2_i32_641
  let c1_i32_642 : BitVec 32 := 1#32
  let v1452 : BitVec 32 := Scalar.addi v1451 c1_i32_642
  let v1453 : Index := Scalar.indexCast v1452
  ![2, v1453.toNat]
def k0_mult37 (v1450 : BitVec 32) : BitVec 32 :=
  v1450

def k0_mult38 (v1450 : BitVec 32) : BitVec 32 :=
  let c2_i32_644 : BitVec 32 := 2#32
  let v1456 : BitVec 32 := Scalar.addi v1450 c2_i32_644
  v1456
def k0_mult39 (v1454 : BitVec 32) : BitVec 32 :=
  v1454

def k0_mult40 (v1454 : BitVec 32) : BitVec 32 :=
  let c2_i32_645 : BitVec 32 := 2#32
  let v1459 : BitVec 32 := Scalar.addi v1454 c2_i32_645
  v1459
def k0_off57 (v1450 : BitVec 32) : Fin 2 → Nat :=
  let v1455 : BitVec 32 := v1450
  let v1461 : Index := Scalar.indexCast v1455
  let c0_646 : Index := 0#32
  ![v1461.toNat, 0]
def k0_off58 (v1450 : BitVec 32) : Fin 2 → Nat :=
  let c2_i32_644 : BitVec 32 := 2#32
  let v1456 : BitVec 32 := Scalar.addi v1450 c2_i32_644
  let v1457 : BitVec 32 := v1456
  let v1467 : Index := Scalar.indexCast v1457
  let c0_649 : Index := 0#32
  ![v1467.toNat, 0]

def k0_chk19 (v1450 : BitVec 32) : Prop :=
  (2 ∣ (k0_mult37 v1450).toNat) ∧
  (2 ∣ (k0_mult38 v1450).toNat) ∧
  (∀ a, (k0_off57 v1450) a + S2x128.size a ≤ S106256x128.size a) ∧
  (∀ a, (k0_off58 v1450) a + S2x128.size a ≤ S106256x128.size a)
theorem k0_mult37_dvd : ∀ (v1450 : BitVec 32) (k0_hw19 : k0_chk19 v1450), 2 ∣ (k0_mult37 v1450).toNat := fun v1450 k0_hw19 => k0_hw19.1
theorem k0_mult38_dvd : ∀ (v1450 : BitVec 32) (k0_hw19 : k0_chk19 v1450), 2 ∣ (k0_mult38 v1450).toNat := fun v1450 k0_hw19 => k0_hw19.2.1
theorem k0_off57_inb : ∀ (v1450 : BitVec 32) (k0_hw19 : k0_chk19 v1450), ∀ a, (k0_off57 v1450) a + S2x128.size a ≤ S106256x128.size a := fun v1450 k0_hw19 => k0_hw19.2.2.1
theorem k0_off58_inb : ∀ (v1450 : BitVec 32) (k0_hw19 : k0_chk19 v1450), ∀ a, (k0_off58 v1450) a + S2x128.size a ≤ S106256x128.size a := fun v1450 k0_hw19 => k0_hw19.2.2.2

def k0_off59 (v1454 : BitVec 32) : Fin 2 → Nat :=
  let v1458 : BitVec 32 := v1454
  let v1473 : Index := Scalar.indexCast v1458
  let c0_652 : Index := 0#32
  ![v1473.toNat, 0]
def k0_off60 (v1454 : BitVec 32) : Fin 2 → Nat :=
  let c2_i32_645 : BitVec 32 := 2#32
  let v1459 : BitVec 32 := Scalar.addi v1454 c2_i32_645
  let v1460 : BitVec 32 := v1459
  let v1479 : Index := Scalar.indexCast v1460
  let c0_655 : Index := 0#32
  ![v1479.toNat, 0]

def k0_chk20 (v1454 : BitVec 32) : Prop :=
  (2 ∣ (k0_mult39 v1454).toNat) ∧
  (2 ∣ (k0_mult40 v1454).toNat) ∧
  (∀ a, (k0_off59 v1454) a + S2x128.size a ≤ S106256x128.size a) ∧
  (∀ a, (k0_off60 v1454) a + S2x128.size a ≤ S106256x128.size a)
theorem k0_mult39_dvd : ∀ (v1454 : BitVec 32) (k0_hw20 : k0_chk20 v1454), 2 ∣ (k0_mult39 v1454).toNat := fun v1454 k0_hw20 => k0_hw20.1
theorem k0_mult40_dvd : ∀ (v1454 : BitVec 32) (k0_hw20 : k0_chk20 v1454), 2 ∣ (k0_mult40 v1454).toNat := fun v1454 k0_hw20 => k0_hw20.2.1
theorem k0_off59_inb : ∀ (v1454 : BitVec 32) (k0_hw20 : k0_chk20 v1454), ∀ a, (k0_off59 v1454) a + S2x128.size a ≤ S106256x128.size a := fun v1454 k0_hw20 => k0_hw20.2.2.1
theorem k0_off60_inb : ∀ (v1454 : BitVec 32) (k0_hw20 : k0_chk20 v1454), ∀ a, (k0_off60 v1454) a + S2x128.size a ≤ S106256x128.size a := fun v1454 k0_hw20 => k0_hw20.2.2.2

def k0_off61 (k0_t1 : Fin k0_t1_loop.trips) : Fin 2 → Nat :=
  let c2_659 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_658 : BitVec 32 := 4#32
  let v1485 : BitVec 32 := Scalar.addi v1114 c4_i32_658
  let v1486 : Index := Scalar.indexCast v1485
  ![2, v1486.toNat]
def k0_off62 (k0_t1 : Fin k0_t1_loop.trips) : Fin 2 → Nat :=
  let c2_662 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_660 : BitVec 32 := 4#32
  let v1488 : BitVec 32 := Scalar.addi v1114 c4_i32_660
  let c1_i32_661 : BitVec 32 := 1#32
  let v1489 : BitVec 32 := Scalar.addi v1488 c1_i32_661
  let v1490 : Index := Scalar.indexCast v1489
  ![2, v1490.toNat]
def k0_mult41 (v1487 : BitVec 32) : BitVec 32 :=
  v1487

def k0_mult42 (v1487 : BitVec 32) : BitVec 32 :=
  let c2_i32_663 : BitVec 32 := 2#32
  let v1493 : BitVec 32 := Scalar.addi v1487 c2_i32_663
  v1493
def k0_mult43 (v1491 : BitVec 32) : BitVec 32 :=
  v1491

def k0_mult44 (v1491 : BitVec 32) : BitVec 32 :=
  let c2_i32_664 : BitVec 32 := 2#32
  let v1496 : BitVec 32 := Scalar.addi v1491 c2_i32_664
  v1496
def k0_off63 (v1487 : BitVec 32) : Fin 2 → Nat :=
  let v1492 : BitVec 32 := v1487
  let v1498 : Index := Scalar.indexCast v1492
  let c0_665 : Index := 0#32
  ![v1498.toNat, 0]
def k0_off64 (v1487 : BitVec 32) : Fin 2 → Nat :=
  let c2_i32_663 : BitVec 32 := 2#32
  let v1493 : BitVec 32 := Scalar.addi v1487 c2_i32_663
  let v1494 : BitVec 32 := v1493
  let v1504 : Index := Scalar.indexCast v1494
  let c0_668 : Index := 0#32
  ![v1504.toNat, 0]

def k0_chk21 (v1487 : BitVec 32) : Prop :=
  (2 ∣ (k0_mult41 v1487).toNat) ∧
  (2 ∣ (k0_mult42 v1487).toNat) ∧
  (∀ a, (k0_off63 v1487) a + S2x128.size a ≤ S106256x128.size a) ∧
  (∀ a, (k0_off64 v1487) a + S2x128.size a ≤ S106256x128.size a)
theorem k0_mult41_dvd : ∀ (v1487 : BitVec 32) (k0_hw21 : k0_chk21 v1487), 2 ∣ (k0_mult41 v1487).toNat := fun v1487 k0_hw21 => k0_hw21.1
theorem k0_mult42_dvd : ∀ (v1487 : BitVec 32) (k0_hw21 : k0_chk21 v1487), 2 ∣ (k0_mult42 v1487).toNat := fun v1487 k0_hw21 => k0_hw21.2.1
theorem k0_off63_inb : ∀ (v1487 : BitVec 32) (k0_hw21 : k0_chk21 v1487), ∀ a, (k0_off63 v1487) a + S2x128.size a ≤ S106256x128.size a := fun v1487 k0_hw21 => k0_hw21.2.2.1
theorem k0_off64_inb : ∀ (v1487 : BitVec 32) (k0_hw21 : k0_chk21 v1487), ∀ a, (k0_off64 v1487) a + S2x128.size a ≤ S106256x128.size a := fun v1487 k0_hw21 => k0_hw21.2.2.2

def k0_off65 (v1491 : BitVec 32) : Fin 2 → Nat :=
  let v1495 : BitVec 32 := v1491
  let v1510 : Index := Scalar.indexCast v1495
  let c0_671 : Index := 0#32
  ![v1510.toNat, 0]
def k0_off66 (v1491 : BitVec 32) : Fin 2 → Nat :=
  let c2_i32_664 : BitVec 32 := 2#32
  let v1496 : BitVec 32 := Scalar.addi v1491 c2_i32_664
  let v1497 : BitVec 32 := v1496
  let v1516 : Index := Scalar.indexCast v1497
  let c0_674 : Index := 0#32
  ![v1516.toNat, 0]

def k0_chk22 (v1491 : BitVec 32) : Prop :=
  (2 ∣ (k0_mult43 v1491).toNat) ∧
  (2 ∣ (k0_mult44 v1491).toNat) ∧
  (∀ a, (k0_off65 v1491) a + S2x128.size a ≤ S106256x128.size a) ∧
  (∀ a, (k0_off66 v1491) a + S2x128.size a ≤ S106256x128.size a)
theorem k0_mult43_dvd : ∀ (v1491 : BitVec 32) (k0_hw22 : k0_chk22 v1491), 2 ∣ (k0_mult43 v1491).toNat := fun v1491 k0_hw22 => k0_hw22.1
theorem k0_mult44_dvd : ∀ (v1491 : BitVec 32) (k0_hw22 : k0_chk22 v1491), 2 ∣ (k0_mult44 v1491).toNat := fun v1491 k0_hw22 => k0_hw22.2.1
theorem k0_off65_inb : ∀ (v1491 : BitVec 32) (k0_hw22 : k0_chk22 v1491), ∀ a, (k0_off65 v1491) a + S2x128.size a ≤ S106256x128.size a := fun v1491 k0_hw22 => k0_hw22.2.2.1
theorem k0_off66_inb : ∀ (v1491 : BitVec 32) (k0_hw22 : k0_chk22 v1491), ∀ a, (k0_off66 v1491) a + S2x128.size a ≤ S106256x128.size a := fun v1491 k0_hw22 => k0_hw22.2.2.2

def k0_off67 (k0_t1 : Fin k0_t1_loop.trips) : Fin 2 → Nat :=
  let c2_678 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_677 : BitVec 32 := 6#32
  let v1522 : BitVec 32 := Scalar.addi v1114 c6_i32_677
  let v1523 : Index := Scalar.indexCast v1522
  ![2, v1523.toNat]
def k0_off68 (k0_t1 : Fin k0_t1_loop.trips) : Fin 2 → Nat :=
  let c2_681 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_679 : BitVec 32 := 6#32
  let v1525 : BitVec 32 := Scalar.addi v1114 c6_i32_679
  let c1_i32_680 : BitVec 32 := 1#32
  let v1526 : BitVec 32 := Scalar.addi v1525 c1_i32_680
  let v1527 : Index := Scalar.indexCast v1526
  ![2, v1527.toNat]
def k0_mult45 (v1524 : BitVec 32) : BitVec 32 :=
  v1524

def k0_mult46 (v1524 : BitVec 32) : BitVec 32 :=
  let c2_i32_682 : BitVec 32 := 2#32
  let v1530 : BitVec 32 := Scalar.addi v1524 c2_i32_682
  v1530
def k0_mult47 (v1528 : BitVec 32) : BitVec 32 :=
  v1528

def k0_mult48 (v1528 : BitVec 32) : BitVec 32 :=
  let c2_i32_683 : BitVec 32 := 2#32
  let v1533 : BitVec 32 := Scalar.addi v1528 c2_i32_683
  v1533
def k0_off69 (v1524 : BitVec 32) : Fin 2 → Nat :=
  let v1529 : BitVec 32 := v1524
  let v1535 : Index := Scalar.indexCast v1529
  let c0_684 : Index := 0#32
  ![v1535.toNat, 0]
def k0_off70 (v1524 : BitVec 32) : Fin 2 → Nat :=
  let c2_i32_682 : BitVec 32 := 2#32
  let v1530 : BitVec 32 := Scalar.addi v1524 c2_i32_682
  let v1531 : BitVec 32 := v1530
  let v1541 : Index := Scalar.indexCast v1531
  let c0_687 : Index := 0#32
  ![v1541.toNat, 0]

def k0_chk23 (v1524 : BitVec 32) : Prop :=
  (2 ∣ (k0_mult45 v1524).toNat) ∧
  (2 ∣ (k0_mult46 v1524).toNat) ∧
  (∀ a, (k0_off69 v1524) a + S2x128.size a ≤ S106256x128.size a) ∧
  (∀ a, (k0_off70 v1524) a + S2x128.size a ≤ S106256x128.size a)
theorem k0_mult45_dvd : ∀ (v1524 : BitVec 32) (k0_hw23 : k0_chk23 v1524), 2 ∣ (k0_mult45 v1524).toNat := fun v1524 k0_hw23 => k0_hw23.1
theorem k0_mult46_dvd : ∀ (v1524 : BitVec 32) (k0_hw23 : k0_chk23 v1524), 2 ∣ (k0_mult46 v1524).toNat := fun v1524 k0_hw23 => k0_hw23.2.1
theorem k0_off69_inb : ∀ (v1524 : BitVec 32) (k0_hw23 : k0_chk23 v1524), ∀ a, (k0_off69 v1524) a + S2x128.size a ≤ S106256x128.size a := fun v1524 k0_hw23 => k0_hw23.2.2.1
theorem k0_off70_inb : ∀ (v1524 : BitVec 32) (k0_hw23 : k0_chk23 v1524), ∀ a, (k0_off70 v1524) a + S2x128.size a ≤ S106256x128.size a := fun v1524 k0_hw23 => k0_hw23.2.2.2

def k0_off71 (v1528 : BitVec 32) : Fin 2 → Nat :=
  let v1532 : BitVec 32 := v1528
  let v1547 : Index := Scalar.indexCast v1532
  let c0_690 : Index := 0#32
  ![v1547.toNat, 0]
def k0_off72 (v1528 : BitVec 32) : Fin 2 → Nat :=
  let c2_i32_683 : BitVec 32 := 2#32
  let v1533 : BitVec 32 := Scalar.addi v1528 c2_i32_683
  let v1534 : BitVec 32 := v1533
  let v1553 : Index := Scalar.indexCast v1534
  let c0_693 : Index := 0#32
  ![v1553.toNat, 0]

def k0_chk24 (v1528 : BitVec 32) : Prop :=
  (2 ∣ (k0_mult47 v1528).toNat) ∧
  (2 ∣ (k0_mult48 v1528).toNat) ∧
  (∀ a, (k0_off71 v1528) a + S2x128.size a ≤ S106256x128.size a) ∧
  (∀ a, (k0_off72 v1528) a + S2x128.size a ≤ S106256x128.size a)
theorem k0_mult47_dvd : ∀ (v1528 : BitVec 32) (k0_hw24 : k0_chk24 v1528), 2 ∣ (k0_mult47 v1528).toNat := fun v1528 k0_hw24 => k0_hw24.1
theorem k0_mult48_dvd : ∀ (v1528 : BitVec 32) (k0_hw24 : k0_chk24 v1528), 2 ∣ (k0_mult48 v1528).toNat := fun v1528 k0_hw24 => k0_hw24.2.1
theorem k0_off71_inb : ∀ (v1528 : BitVec 32) (k0_hw24 : k0_chk24 v1528), ∀ a, (k0_off71 v1528) a + S2x128.size a ≤ S106256x128.size a := fun v1528 k0_hw24 => k0_hw24.2.2.1
theorem k0_off72_inb : ∀ (v1528 : BitVec 32) (k0_hw24 : k0_chk24 v1528), ∀ a, (k0_off72 v1528) a + S2x128.size a ≤ S106256x128.size a := fun v1528 k0_hw24 => k0_hw24.2.2.2

def k0_off73 (k0_t1 : Fin k0_t1_loop.trips) : Fin 2 → Nat :=
  let c3_697 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_696 : BitVec 32 := 0#32
  let v1559 : BitVec 32 := Scalar.addi v1114 c0_i32_696
  let v1560 : Index := Scalar.indexCast v1559
  ![3, v1560.toNat]
def k0_off74 (k0_t1 : Fin k0_t1_loop.trips) : Fin 2 → Nat :=
  let c3_700 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_698 : BitVec 32 := 0#32
  let v1562 : BitVec 32 := Scalar.addi v1114 c0_i32_698
  let c1_i32_699 : BitVec 32 := 1#32
  let v1563 : BitVec 32 := Scalar.addi v1562 c1_i32_699
  let v1564 : Index := Scalar.indexCast v1563
  ![3, v1564.toNat]
def k0_mult49 (v1561 : BitVec 32) : BitVec 32 :=
  v1561

def k0_mult50 (v1561 : BitVec 32) : BitVec 32 :=
  let c2_i32_701 : BitVec 32 := 2#32
  let v1567 : BitVec 32 := Scalar.addi v1561 c2_i32_701
  v1567
def k0_mult51 (v1565 : BitVec 32) : BitVec 32 :=
  v1565

def k0_mult52 (v1565 : BitVec 32) : BitVec 32 :=
  let c2_i32_702 : BitVec 32 := 2#32
  let v1570 : BitVec 32 := Scalar.addi v1565 c2_i32_702
  v1570
def k0_off75 (v1561 : BitVec 32) : Fin 2 → Nat :=
  let v1566 : BitVec 32 := v1561
  let v1572 : Index := Scalar.indexCast v1566
  let c0_703 : Index := 0#32
  ![v1572.toNat, 0]
def k0_off76 (v1561 : BitVec 32) : Fin 2 → Nat :=
  let c2_i32_701 : BitVec 32 := 2#32
  let v1567 : BitVec 32 := Scalar.addi v1561 c2_i32_701
  let v1568 : BitVec 32 := v1567
  let v1578 : Index := Scalar.indexCast v1568
  let c0_706 : Index := 0#32
  ![v1578.toNat, 0]

def k0_chk25 (v1561 : BitVec 32) : Prop :=
  (2 ∣ (k0_mult49 v1561).toNat) ∧
  (2 ∣ (k0_mult50 v1561).toNat) ∧
  (∀ a, (k0_off75 v1561) a + S2x128.size a ≤ S106256x128.size a) ∧
  (∀ a, (k0_off76 v1561) a + S2x128.size a ≤ S106256x128.size a)
theorem k0_mult49_dvd : ∀ (v1561 : BitVec 32) (k0_hw25 : k0_chk25 v1561), 2 ∣ (k0_mult49 v1561).toNat := fun v1561 k0_hw25 => k0_hw25.1
theorem k0_mult50_dvd : ∀ (v1561 : BitVec 32) (k0_hw25 : k0_chk25 v1561), 2 ∣ (k0_mult50 v1561).toNat := fun v1561 k0_hw25 => k0_hw25.2.1
theorem k0_off75_inb : ∀ (v1561 : BitVec 32) (k0_hw25 : k0_chk25 v1561), ∀ a, (k0_off75 v1561) a + S2x128.size a ≤ S106256x128.size a := fun v1561 k0_hw25 => k0_hw25.2.2.1
theorem k0_off76_inb : ∀ (v1561 : BitVec 32) (k0_hw25 : k0_chk25 v1561), ∀ a, (k0_off76 v1561) a + S2x128.size a ≤ S106256x128.size a := fun v1561 k0_hw25 => k0_hw25.2.2.2

def k0_off77 (v1565 : BitVec 32) : Fin 2 → Nat :=
  let v1569 : BitVec 32 := v1565
  let v1584 : Index := Scalar.indexCast v1569
  let c0_709 : Index := 0#32
  ![v1584.toNat, 0]
def k0_off78 (v1565 : BitVec 32) : Fin 2 → Nat :=
  let c2_i32_702 : BitVec 32 := 2#32
  let v1570 : BitVec 32 := Scalar.addi v1565 c2_i32_702
  let v1571 : BitVec 32 := v1570
  let v1590 : Index := Scalar.indexCast v1571
  let c0_712 : Index := 0#32
  ![v1590.toNat, 0]

def k0_chk26 (v1565 : BitVec 32) : Prop :=
  (2 ∣ (k0_mult51 v1565).toNat) ∧
  (2 ∣ (k0_mult52 v1565).toNat) ∧
  (∀ a, (k0_off77 v1565) a + S2x128.size a ≤ S106256x128.size a) ∧
  (∀ a, (k0_off78 v1565) a + S2x128.size a ≤ S106256x128.size a)
theorem k0_mult51_dvd : ∀ (v1565 : BitVec 32) (k0_hw26 : k0_chk26 v1565), 2 ∣ (k0_mult51 v1565).toNat := fun v1565 k0_hw26 => k0_hw26.1
theorem k0_mult52_dvd : ∀ (v1565 : BitVec 32) (k0_hw26 : k0_chk26 v1565), 2 ∣ (k0_mult52 v1565).toNat := fun v1565 k0_hw26 => k0_hw26.2.1
theorem k0_off77_inb : ∀ (v1565 : BitVec 32) (k0_hw26 : k0_chk26 v1565), ∀ a, (k0_off77 v1565) a + S2x128.size a ≤ S106256x128.size a := fun v1565 k0_hw26 => k0_hw26.2.2.1
theorem k0_off78_inb : ∀ (v1565 : BitVec 32) (k0_hw26 : k0_chk26 v1565), ∀ a, (k0_off78 v1565) a + S2x128.size a ≤ S106256x128.size a := fun v1565 k0_hw26 => k0_hw26.2.2.2

def k0_off79 (k0_t1 : Fin k0_t1_loop.trips) : Fin 2 → Nat :=
  let c3_716 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_715 : BitVec 32 := 2#32
  let v1596 : BitVec 32 := Scalar.addi v1114 c2_i32_715
  let v1597 : Index := Scalar.indexCast v1596
  ![3, v1597.toNat]
def k0_off80 (k0_t1 : Fin k0_t1_loop.trips) : Fin 2 → Nat :=
  let c3_719 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_717 : BitVec 32 := 2#32
  let v1599 : BitVec 32 := Scalar.addi v1114 c2_i32_717
  let c1_i32_718 : BitVec 32 := 1#32
  let v1600 : BitVec 32 := Scalar.addi v1599 c1_i32_718
  let v1601 : Index := Scalar.indexCast v1600
  ![3, v1601.toNat]
def k0_mult53 (v1598 : BitVec 32) : BitVec 32 :=
  v1598

def k0_mult54 (v1598 : BitVec 32) : BitVec 32 :=
  let c2_i32_720 : BitVec 32 := 2#32
  let v1604 : BitVec 32 := Scalar.addi v1598 c2_i32_720
  v1604
def k0_mult55 (v1602 : BitVec 32) : BitVec 32 :=
  v1602

def k0_mult56 (v1602 : BitVec 32) : BitVec 32 :=
  let c2_i32_721 : BitVec 32 := 2#32
  let v1607 : BitVec 32 := Scalar.addi v1602 c2_i32_721
  v1607
def k0_off81 (v1598 : BitVec 32) : Fin 2 → Nat :=
  let v1603 : BitVec 32 := v1598
  let v1609 : Index := Scalar.indexCast v1603
  let c0_722 : Index := 0#32
  ![v1609.toNat, 0]
def k0_off82 (v1598 : BitVec 32) : Fin 2 → Nat :=
  let c2_i32_720 : BitVec 32 := 2#32
  let v1604 : BitVec 32 := Scalar.addi v1598 c2_i32_720
  let v1605 : BitVec 32 := v1604
  let v1615 : Index := Scalar.indexCast v1605
  let c0_725 : Index := 0#32
  ![v1615.toNat, 0]

def k0_chk27 (v1598 : BitVec 32) : Prop :=
  (2 ∣ (k0_mult53 v1598).toNat) ∧
  (2 ∣ (k0_mult54 v1598).toNat) ∧
  (∀ a, (k0_off81 v1598) a + S2x128.size a ≤ S106256x128.size a) ∧
  (∀ a, (k0_off82 v1598) a + S2x128.size a ≤ S106256x128.size a)
theorem k0_mult53_dvd : ∀ (v1598 : BitVec 32) (k0_hw27 : k0_chk27 v1598), 2 ∣ (k0_mult53 v1598).toNat := fun v1598 k0_hw27 => k0_hw27.1
theorem k0_mult54_dvd : ∀ (v1598 : BitVec 32) (k0_hw27 : k0_chk27 v1598), 2 ∣ (k0_mult54 v1598).toNat := fun v1598 k0_hw27 => k0_hw27.2.1
theorem k0_off81_inb : ∀ (v1598 : BitVec 32) (k0_hw27 : k0_chk27 v1598), ∀ a, (k0_off81 v1598) a + S2x128.size a ≤ S106256x128.size a := fun v1598 k0_hw27 => k0_hw27.2.2.1
theorem k0_off82_inb : ∀ (v1598 : BitVec 32) (k0_hw27 : k0_chk27 v1598), ∀ a, (k0_off82 v1598) a + S2x128.size a ≤ S106256x128.size a := fun v1598 k0_hw27 => k0_hw27.2.2.2

def k0_off83 (v1602 : BitVec 32) : Fin 2 → Nat :=
  let v1606 : BitVec 32 := v1602
  let v1621 : Index := Scalar.indexCast v1606
  let c0_728 : Index := 0#32
  ![v1621.toNat, 0]
def k0_off84 (v1602 : BitVec 32) : Fin 2 → Nat :=
  let c2_i32_721 : BitVec 32 := 2#32
  let v1607 : BitVec 32 := Scalar.addi v1602 c2_i32_721
  let v1608 : BitVec 32 := v1607
  let v1627 : Index := Scalar.indexCast v1608
  let c0_731 : Index := 0#32
  ![v1627.toNat, 0]

def k0_chk28 (v1602 : BitVec 32) : Prop :=
  (2 ∣ (k0_mult55 v1602).toNat) ∧
  (2 ∣ (k0_mult56 v1602).toNat) ∧
  (∀ a, (k0_off83 v1602) a + S2x128.size a ≤ S106256x128.size a) ∧
  (∀ a, (k0_off84 v1602) a + S2x128.size a ≤ S106256x128.size a)
theorem k0_mult55_dvd : ∀ (v1602 : BitVec 32) (k0_hw28 : k0_chk28 v1602), 2 ∣ (k0_mult55 v1602).toNat := fun v1602 k0_hw28 => k0_hw28.1
theorem k0_mult56_dvd : ∀ (v1602 : BitVec 32) (k0_hw28 : k0_chk28 v1602), 2 ∣ (k0_mult56 v1602).toNat := fun v1602 k0_hw28 => k0_hw28.2.1
theorem k0_off83_inb : ∀ (v1602 : BitVec 32) (k0_hw28 : k0_chk28 v1602), ∀ a, (k0_off83 v1602) a + S2x128.size a ≤ S106256x128.size a := fun v1602 k0_hw28 => k0_hw28.2.2.1
theorem k0_off84_inb : ∀ (v1602 : BitVec 32) (k0_hw28 : k0_chk28 v1602), ∀ a, (k0_off84 v1602) a + S2x128.size a ≤ S106256x128.size a := fun v1602 k0_hw28 => k0_hw28.2.2.2

def k0_off85 (k0_t1 : Fin k0_t1_loop.trips) : Fin 2 → Nat :=
  let c3_735 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_734 : BitVec 32 := 4#32
  let v1633 : BitVec 32 := Scalar.addi v1114 c4_i32_734
  let v1634 : Index := Scalar.indexCast v1633
  ![3, v1634.toNat]
def k0_off86 (k0_t1 : Fin k0_t1_loop.trips) : Fin 2 → Nat :=
  let c3_738 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_736 : BitVec 32 := 4#32
  let v1636 : BitVec 32 := Scalar.addi v1114 c4_i32_736
  let c1_i32_737 : BitVec 32 := 1#32
  let v1637 : BitVec 32 := Scalar.addi v1636 c1_i32_737
  let v1638 : Index := Scalar.indexCast v1637
  ![3, v1638.toNat]
def k0_mult57 (v1635 : BitVec 32) : BitVec 32 :=
  v1635

def k0_mult58 (v1635 : BitVec 32) : BitVec 32 :=
  let c2_i32_739 : BitVec 32 := 2#32
  let v1641 : BitVec 32 := Scalar.addi v1635 c2_i32_739
  v1641
def k0_mult59 (v1639 : BitVec 32) : BitVec 32 :=
  v1639

def k0_mult60 (v1639 : BitVec 32) : BitVec 32 :=
  let c2_i32_740 : BitVec 32 := 2#32
  let v1644 : BitVec 32 := Scalar.addi v1639 c2_i32_740
  v1644
def k0_off87 (v1635 : BitVec 32) : Fin 2 → Nat :=
  let v1640 : BitVec 32 := v1635
  let v1646 : Index := Scalar.indexCast v1640
  let c0_741 : Index := 0#32
  ![v1646.toNat, 0]
def k0_off88 (v1635 : BitVec 32) : Fin 2 → Nat :=
  let c2_i32_739 : BitVec 32 := 2#32
  let v1641 : BitVec 32 := Scalar.addi v1635 c2_i32_739
  let v1642 : BitVec 32 := v1641
  let v1652 : Index := Scalar.indexCast v1642
  let c0_744 : Index := 0#32
  ![v1652.toNat, 0]

def k0_chk29 (v1635 : BitVec 32) : Prop :=
  (2 ∣ (k0_mult57 v1635).toNat) ∧
  (2 ∣ (k0_mult58 v1635).toNat) ∧
  (∀ a, (k0_off87 v1635) a + S2x128.size a ≤ S106256x128.size a) ∧
  (∀ a, (k0_off88 v1635) a + S2x128.size a ≤ S106256x128.size a)
theorem k0_mult57_dvd : ∀ (v1635 : BitVec 32) (k0_hw29 : k0_chk29 v1635), 2 ∣ (k0_mult57 v1635).toNat := fun v1635 k0_hw29 => k0_hw29.1
theorem k0_mult58_dvd : ∀ (v1635 : BitVec 32) (k0_hw29 : k0_chk29 v1635), 2 ∣ (k0_mult58 v1635).toNat := fun v1635 k0_hw29 => k0_hw29.2.1
theorem k0_off87_inb : ∀ (v1635 : BitVec 32) (k0_hw29 : k0_chk29 v1635), ∀ a, (k0_off87 v1635) a + S2x128.size a ≤ S106256x128.size a := fun v1635 k0_hw29 => k0_hw29.2.2.1
theorem k0_off88_inb : ∀ (v1635 : BitVec 32) (k0_hw29 : k0_chk29 v1635), ∀ a, (k0_off88 v1635) a + S2x128.size a ≤ S106256x128.size a := fun v1635 k0_hw29 => k0_hw29.2.2.2

def k0_off89 (v1639 : BitVec 32) : Fin 2 → Nat :=
  let v1643 : BitVec 32 := v1639
  let v1658 : Index := Scalar.indexCast v1643
  let c0_747 : Index := 0#32
  ![v1658.toNat, 0]
def k0_off90 (v1639 : BitVec 32) : Fin 2 → Nat :=
  let c2_i32_740 : BitVec 32 := 2#32
  let v1644 : BitVec 32 := Scalar.addi v1639 c2_i32_740
  let v1645 : BitVec 32 := v1644
  let v1664 : Index := Scalar.indexCast v1645
  let c0_750 : Index := 0#32
  ![v1664.toNat, 0]

def k0_chk30 (v1639 : BitVec 32) : Prop :=
  (2 ∣ (k0_mult59 v1639).toNat) ∧
  (2 ∣ (k0_mult60 v1639).toNat) ∧
  (∀ a, (k0_off89 v1639) a + S2x128.size a ≤ S106256x128.size a) ∧
  (∀ a, (k0_off90 v1639) a + S2x128.size a ≤ S106256x128.size a)
theorem k0_mult59_dvd : ∀ (v1639 : BitVec 32) (k0_hw30 : k0_chk30 v1639), 2 ∣ (k0_mult59 v1639).toNat := fun v1639 k0_hw30 => k0_hw30.1
theorem k0_mult60_dvd : ∀ (v1639 : BitVec 32) (k0_hw30 : k0_chk30 v1639), 2 ∣ (k0_mult60 v1639).toNat := fun v1639 k0_hw30 => k0_hw30.2.1
theorem k0_off89_inb : ∀ (v1639 : BitVec 32) (k0_hw30 : k0_chk30 v1639), ∀ a, (k0_off89 v1639) a + S2x128.size a ≤ S106256x128.size a := fun v1639 k0_hw30 => k0_hw30.2.2.1
theorem k0_off90_inb : ∀ (v1639 : BitVec 32) (k0_hw30 : k0_chk30 v1639), ∀ a, (k0_off90 v1639) a + S2x128.size a ≤ S106256x128.size a := fun v1639 k0_hw30 => k0_hw30.2.2.2

def k0_off91 (k0_t1 : Fin k0_t1_loop.trips) : Fin 2 → Nat :=
  let c3_754 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_753 : BitVec 32 := 6#32
  let v1670 : BitVec 32 := Scalar.addi v1114 c6_i32_753
  let v1671 : Index := Scalar.indexCast v1670
  ![3, v1671.toNat]
def k0_off92 (k0_t1 : Fin k0_t1_loop.trips) : Fin 2 → Nat :=
  let c3_757 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_755 : BitVec 32 := 6#32
  let v1673 : BitVec 32 := Scalar.addi v1114 c6_i32_755
  let c1_i32_756 : BitVec 32 := 1#32
  let v1674 : BitVec 32 := Scalar.addi v1673 c1_i32_756
  let v1675 : Index := Scalar.indexCast v1674
  ![3, v1675.toNat]
def k0_mult61 (v1672 : BitVec 32) : BitVec 32 :=
  v1672

def k0_mult62 (v1672 : BitVec 32) : BitVec 32 :=
  let c2_i32_758 : BitVec 32 := 2#32
  let v1678 : BitVec 32 := Scalar.addi v1672 c2_i32_758
  v1678
def k0_mult63 (v1676 : BitVec 32) : BitVec 32 :=
  v1676

def k0_mult64 (v1676 : BitVec 32) : BitVec 32 :=
  let c2_i32_759 : BitVec 32 := 2#32
  let v1681 : BitVec 32 := Scalar.addi v1676 c2_i32_759
  v1681
def k0_off93 (v1672 : BitVec 32) : Fin 2 → Nat :=
  let v1677 : BitVec 32 := v1672
  let v1683 : Index := Scalar.indexCast v1677
  let c0_760 : Index := 0#32
  ![v1683.toNat, 0]
def k0_off94 (v1672 : BitVec 32) : Fin 2 → Nat :=
  let c2_i32_758 : BitVec 32 := 2#32
  let v1678 : BitVec 32 := Scalar.addi v1672 c2_i32_758
  let v1679 : BitVec 32 := v1678
  let v1689 : Index := Scalar.indexCast v1679
  let c0_763 : Index := 0#32
  ![v1689.toNat, 0]

def k0_chk31 (v1672 : BitVec 32) : Prop :=
  (2 ∣ (k0_mult61 v1672).toNat) ∧
  (2 ∣ (k0_mult62 v1672).toNat) ∧
  (∀ a, (k0_off93 v1672) a + S2x128.size a ≤ S106256x128.size a) ∧
  (∀ a, (k0_off94 v1672) a + S2x128.size a ≤ S106256x128.size a)
theorem k0_mult61_dvd : ∀ (v1672 : BitVec 32) (k0_hw31 : k0_chk31 v1672), 2 ∣ (k0_mult61 v1672).toNat := fun v1672 k0_hw31 => k0_hw31.1
theorem k0_mult62_dvd : ∀ (v1672 : BitVec 32) (k0_hw31 : k0_chk31 v1672), 2 ∣ (k0_mult62 v1672).toNat := fun v1672 k0_hw31 => k0_hw31.2.1
theorem k0_off93_inb : ∀ (v1672 : BitVec 32) (k0_hw31 : k0_chk31 v1672), ∀ a, (k0_off93 v1672) a + S2x128.size a ≤ S106256x128.size a := fun v1672 k0_hw31 => k0_hw31.2.2.1
theorem k0_off94_inb : ∀ (v1672 : BitVec 32) (k0_hw31 : k0_chk31 v1672), ∀ a, (k0_off94 v1672) a + S2x128.size a ≤ S106256x128.size a := fun v1672 k0_hw31 => k0_hw31.2.2.2

def k0_off95 (v1676 : BitVec 32) : Fin 2 → Nat :=
  let v1680 : BitVec 32 := v1676
  let v1695 : Index := Scalar.indexCast v1680
  let c0_766 : Index := 0#32
  ![v1695.toNat, 0]
def k0_off96 (v1676 : BitVec 32) : Fin 2 → Nat :=
  let c2_i32_759 : BitVec 32 := 2#32
  let v1681 : BitVec 32 := Scalar.addi v1676 c2_i32_759
  let v1682 : BitVec 32 := v1681
  let v1701 : Index := Scalar.indexCast v1682
  let c0_769 : Index := 0#32
  ![v1701.toNat, 0]

def k0_chk32 (v1676 : BitVec 32) : Prop :=
  (2 ∣ (k0_mult63 v1676).toNat) ∧
  (2 ∣ (k0_mult64 v1676).toNat) ∧
  (∀ a, (k0_off95 v1676) a + S2x128.size a ≤ S106256x128.size a) ∧
  (∀ a, (k0_off96 v1676) a + S2x128.size a ≤ S106256x128.size a)
theorem k0_mult63_dvd : ∀ (v1676 : BitVec 32) (k0_hw32 : k0_chk32 v1676), 2 ∣ (k0_mult63 v1676).toNat := fun v1676 k0_hw32 => k0_hw32.1
theorem k0_mult64_dvd : ∀ (v1676 : BitVec 32) (k0_hw32 : k0_chk32 v1676), 2 ∣ (k0_mult64 v1676).toNat := fun v1676 k0_hw32 => k0_hw32.2.1
theorem k0_off95_inb : ∀ (v1676 : BitVec 32) (k0_hw32 : k0_chk32 v1676), ∀ a, (k0_off95 v1676) a + S2x128.size a ≤ S106256x128.size a := fun v1676 k0_hw32 => k0_hw32.2.2.1
theorem k0_off96_inb : ∀ (v1676 : BitVec 32) (k0_hw32 : k0_chk32 v1676), ∀ a, (k0_off96 v1676) a + S2x128.size a ≤ S106256x128.size a := fun v1676 k0_hw32 => k0_hw32.2.2.2

def k0_off97 (k0_t1 : Fin k0_t1_loop.trips) : Fin 2 → Nat :=
  let c4_773 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_772 : BitVec 32 := 0#32
  let v1707 : BitVec 32 := Scalar.addi v1114 c0_i32_772
  let v1708 : Index := Scalar.indexCast v1707
  ![4, v1708.toNat]
def k0_off98 (k0_t1 : Fin k0_t1_loop.trips) : Fin 2 → Nat :=
  let c4_776 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_774 : BitVec 32 := 0#32
  let v1710 : BitVec 32 := Scalar.addi v1114 c0_i32_774
  let c1_i32_775 : BitVec 32 := 1#32
  let v1711 : BitVec 32 := Scalar.addi v1710 c1_i32_775
  let v1712 : Index := Scalar.indexCast v1711
  ![4, v1712.toNat]
def k0_mult65 (v1709 : BitVec 32) : BitVec 32 :=
  v1709

def k0_mult66 (v1709 : BitVec 32) : BitVec 32 :=
  let c2_i32_777 : BitVec 32 := 2#32
  let v1715 : BitVec 32 := Scalar.addi v1709 c2_i32_777
  v1715
def k0_mult67 (v1713 : BitVec 32) : BitVec 32 :=
  v1713

def k0_mult68 (v1713 : BitVec 32) : BitVec 32 :=
  let c2_i32_778 : BitVec 32 := 2#32
  let v1718 : BitVec 32 := Scalar.addi v1713 c2_i32_778
  v1718
def k0_off99 (v1709 : BitVec 32) : Fin 2 → Nat :=
  let v1714 : BitVec 32 := v1709
  let v1720 : Index := Scalar.indexCast v1714
  let c0_779 : Index := 0#32
  ![v1720.toNat, 0]
def k0_off100 (v1709 : BitVec 32) : Fin 2 → Nat :=
  let c2_i32_777 : BitVec 32 := 2#32
  let v1715 : BitVec 32 := Scalar.addi v1709 c2_i32_777
  let v1716 : BitVec 32 := v1715
  let v1726 : Index := Scalar.indexCast v1716
  let c0_782 : Index := 0#32
  ![v1726.toNat, 0]

def k0_chk33 (v1709 : BitVec 32) : Prop :=
  (2 ∣ (k0_mult65 v1709).toNat) ∧
  (2 ∣ (k0_mult66 v1709).toNat) ∧
  (∀ a, (k0_off99 v1709) a + S2x128.size a ≤ S106256x128.size a) ∧
  (∀ a, (k0_off100 v1709) a + S2x128.size a ≤ S106256x128.size a)
theorem k0_mult65_dvd : ∀ (v1709 : BitVec 32) (k0_hw33 : k0_chk33 v1709), 2 ∣ (k0_mult65 v1709).toNat := fun v1709 k0_hw33 => k0_hw33.1
theorem k0_mult66_dvd : ∀ (v1709 : BitVec 32) (k0_hw33 : k0_chk33 v1709), 2 ∣ (k0_mult66 v1709).toNat := fun v1709 k0_hw33 => k0_hw33.2.1
theorem k0_off99_inb : ∀ (v1709 : BitVec 32) (k0_hw33 : k0_chk33 v1709), ∀ a, (k0_off99 v1709) a + S2x128.size a ≤ S106256x128.size a := fun v1709 k0_hw33 => k0_hw33.2.2.1
theorem k0_off100_inb : ∀ (v1709 : BitVec 32) (k0_hw33 : k0_chk33 v1709), ∀ a, (k0_off100 v1709) a + S2x128.size a ≤ S106256x128.size a := fun v1709 k0_hw33 => k0_hw33.2.2.2

def k0_off101 (v1713 : BitVec 32) : Fin 2 → Nat :=
  let v1717 : BitVec 32 := v1713
  let v1732 : Index := Scalar.indexCast v1717
  let c0_785 : Index := 0#32
  ![v1732.toNat, 0]
def k0_off102 (v1713 : BitVec 32) : Fin 2 → Nat :=
  let c2_i32_778 : BitVec 32 := 2#32
  let v1718 : BitVec 32 := Scalar.addi v1713 c2_i32_778
  let v1719 : BitVec 32 := v1718
  let v1738 : Index := Scalar.indexCast v1719
  let c0_788 : Index := 0#32
  ![v1738.toNat, 0]

def k0_chk34 (v1713 : BitVec 32) : Prop :=
  (2 ∣ (k0_mult67 v1713).toNat) ∧
  (2 ∣ (k0_mult68 v1713).toNat) ∧
  (∀ a, (k0_off101 v1713) a + S2x128.size a ≤ S106256x128.size a) ∧
  (∀ a, (k0_off102 v1713) a + S2x128.size a ≤ S106256x128.size a)
theorem k0_mult67_dvd : ∀ (v1713 : BitVec 32) (k0_hw34 : k0_chk34 v1713), 2 ∣ (k0_mult67 v1713).toNat := fun v1713 k0_hw34 => k0_hw34.1
theorem k0_mult68_dvd : ∀ (v1713 : BitVec 32) (k0_hw34 : k0_chk34 v1713), 2 ∣ (k0_mult68 v1713).toNat := fun v1713 k0_hw34 => k0_hw34.2.1
theorem k0_off101_inb : ∀ (v1713 : BitVec 32) (k0_hw34 : k0_chk34 v1713), ∀ a, (k0_off101 v1713) a + S2x128.size a ≤ S106256x128.size a := fun v1713 k0_hw34 => k0_hw34.2.2.1
theorem k0_off102_inb : ∀ (v1713 : BitVec 32) (k0_hw34 : k0_chk34 v1713), ∀ a, (k0_off102 v1713) a + S2x128.size a ≤ S106256x128.size a := fun v1713 k0_hw34 => k0_hw34.2.2.2

def k0_off103 (k0_t1 : Fin k0_t1_loop.trips) : Fin 2 → Nat :=
  let c4_792 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_791 : BitVec 32 := 2#32
  let v1744 : BitVec 32 := Scalar.addi v1114 c2_i32_791
  let v1745 : Index := Scalar.indexCast v1744
  ![4, v1745.toNat]
def k0_off104 (k0_t1 : Fin k0_t1_loop.trips) : Fin 2 → Nat :=
  let c4_795 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_793 : BitVec 32 := 2#32
  let v1747 : BitVec 32 := Scalar.addi v1114 c2_i32_793
  let c1_i32_794 : BitVec 32 := 1#32
  let v1748 : BitVec 32 := Scalar.addi v1747 c1_i32_794
  let v1749 : Index := Scalar.indexCast v1748
  ![4, v1749.toNat]
def k0_mult69 (v1746 : BitVec 32) : BitVec 32 :=
  v1746

def k0_mult70 (v1746 : BitVec 32) : BitVec 32 :=
  let c2_i32_796 : BitVec 32 := 2#32
  let v1752 : BitVec 32 := Scalar.addi v1746 c2_i32_796
  v1752
def k0_mult71 (v1750 : BitVec 32) : BitVec 32 :=
  v1750

def k0_mult72 (v1750 : BitVec 32) : BitVec 32 :=
  let c2_i32_797 : BitVec 32 := 2#32
  let v1755 : BitVec 32 := Scalar.addi v1750 c2_i32_797
  v1755
def k0_off105 (v1746 : BitVec 32) : Fin 2 → Nat :=
  let v1751 : BitVec 32 := v1746
  let v1757 : Index := Scalar.indexCast v1751
  let c0_798 : Index := 0#32
  ![v1757.toNat, 0]
def k0_off106 (v1746 : BitVec 32) : Fin 2 → Nat :=
  let c2_i32_796 : BitVec 32 := 2#32
  let v1752 : BitVec 32 := Scalar.addi v1746 c2_i32_796
  let v1753 : BitVec 32 := v1752
  let v1763 : Index := Scalar.indexCast v1753
  let c0_801 : Index := 0#32
  ![v1763.toNat, 0]

def k0_chk35 (v1746 : BitVec 32) : Prop :=
  (2 ∣ (k0_mult69 v1746).toNat) ∧
  (2 ∣ (k0_mult70 v1746).toNat) ∧
  (∀ a, (k0_off105 v1746) a + S2x128.size a ≤ S106256x128.size a) ∧
  (∀ a, (k0_off106 v1746) a + S2x128.size a ≤ S106256x128.size a)
theorem k0_mult69_dvd : ∀ (v1746 : BitVec 32) (k0_hw35 : k0_chk35 v1746), 2 ∣ (k0_mult69 v1746).toNat := fun v1746 k0_hw35 => k0_hw35.1
theorem k0_mult70_dvd : ∀ (v1746 : BitVec 32) (k0_hw35 : k0_chk35 v1746), 2 ∣ (k0_mult70 v1746).toNat := fun v1746 k0_hw35 => k0_hw35.2.1
theorem k0_off105_inb : ∀ (v1746 : BitVec 32) (k0_hw35 : k0_chk35 v1746), ∀ a, (k0_off105 v1746) a + S2x128.size a ≤ S106256x128.size a := fun v1746 k0_hw35 => k0_hw35.2.2.1
theorem k0_off106_inb : ∀ (v1746 : BitVec 32) (k0_hw35 : k0_chk35 v1746), ∀ a, (k0_off106 v1746) a + S2x128.size a ≤ S106256x128.size a := fun v1746 k0_hw35 => k0_hw35.2.2.2

def k0_off107 (v1750 : BitVec 32) : Fin 2 → Nat :=
  let v1754 : BitVec 32 := v1750
  let v1769 : Index := Scalar.indexCast v1754
  let c0_804 : Index := 0#32
  ![v1769.toNat, 0]
def k0_off108 (v1750 : BitVec 32) : Fin 2 → Nat :=
  let c2_i32_797 : BitVec 32 := 2#32
  let v1755 : BitVec 32 := Scalar.addi v1750 c2_i32_797
  let v1756 : BitVec 32 := v1755
  let v1775 : Index := Scalar.indexCast v1756
  let c0_807 : Index := 0#32
  ![v1775.toNat, 0]

def k0_chk36 (v1750 : BitVec 32) : Prop :=
  (2 ∣ (k0_mult71 v1750).toNat) ∧
  (2 ∣ (k0_mult72 v1750).toNat) ∧
  (∀ a, (k0_off107 v1750) a + S2x128.size a ≤ S106256x128.size a) ∧
  (∀ a, (k0_off108 v1750) a + S2x128.size a ≤ S106256x128.size a)
theorem k0_mult71_dvd : ∀ (v1750 : BitVec 32) (k0_hw36 : k0_chk36 v1750), 2 ∣ (k0_mult71 v1750).toNat := fun v1750 k0_hw36 => k0_hw36.1
theorem k0_mult72_dvd : ∀ (v1750 : BitVec 32) (k0_hw36 : k0_chk36 v1750), 2 ∣ (k0_mult72 v1750).toNat := fun v1750 k0_hw36 => k0_hw36.2.1
theorem k0_off107_inb : ∀ (v1750 : BitVec 32) (k0_hw36 : k0_chk36 v1750), ∀ a, (k0_off107 v1750) a + S2x128.size a ≤ S106256x128.size a := fun v1750 k0_hw36 => k0_hw36.2.2.1
theorem k0_off108_inb : ∀ (v1750 : BitVec 32) (k0_hw36 : k0_chk36 v1750), ∀ a, (k0_off108 v1750) a + S2x128.size a ≤ S106256x128.size a := fun v1750 k0_hw36 => k0_hw36.2.2.2

def k0_off109 (k0_t1 : Fin k0_t1_loop.trips) : Fin 2 → Nat :=
  let c4_811 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_810 : BitVec 32 := 4#32
  let v1781 : BitVec 32 := Scalar.addi v1114 c4_i32_810
  let v1782 : Index := Scalar.indexCast v1781
  ![4, v1782.toNat]
def k0_off110 (k0_t1 : Fin k0_t1_loop.trips) : Fin 2 → Nat :=
  let c4_814 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_812 : BitVec 32 := 4#32
  let v1784 : BitVec 32 := Scalar.addi v1114 c4_i32_812
  let c1_i32_813 : BitVec 32 := 1#32
  let v1785 : BitVec 32 := Scalar.addi v1784 c1_i32_813
  let v1786 : Index := Scalar.indexCast v1785
  ![4, v1786.toNat]
def k0_mult73 (v1783 : BitVec 32) : BitVec 32 :=
  v1783

def k0_mult74 (v1783 : BitVec 32) : BitVec 32 :=
  let c2_i32_815 : BitVec 32 := 2#32
  let v1789 : BitVec 32 := Scalar.addi v1783 c2_i32_815
  v1789
def k0_mult75 (v1787 : BitVec 32) : BitVec 32 :=
  v1787

def k0_mult76 (v1787 : BitVec 32) : BitVec 32 :=
  let c2_i32_816 : BitVec 32 := 2#32
  let v1792 : BitVec 32 := Scalar.addi v1787 c2_i32_816
  v1792
def k0_off111 (v1783 : BitVec 32) : Fin 2 → Nat :=
  let v1788 : BitVec 32 := v1783
  let v1794 : Index := Scalar.indexCast v1788
  let c0_817 : Index := 0#32
  ![v1794.toNat, 0]
def k0_off112 (v1783 : BitVec 32) : Fin 2 → Nat :=
  let c2_i32_815 : BitVec 32 := 2#32
  let v1789 : BitVec 32 := Scalar.addi v1783 c2_i32_815
  let v1790 : BitVec 32 := v1789
  let v1800 : Index := Scalar.indexCast v1790
  let c0_820 : Index := 0#32
  ![v1800.toNat, 0]

def k0_chk37 (v1783 : BitVec 32) : Prop :=
  (2 ∣ (k0_mult73 v1783).toNat) ∧
  (2 ∣ (k0_mult74 v1783).toNat) ∧
  (∀ a, (k0_off111 v1783) a + S2x128.size a ≤ S106256x128.size a) ∧
  (∀ a, (k0_off112 v1783) a + S2x128.size a ≤ S106256x128.size a)
theorem k0_mult73_dvd : ∀ (v1783 : BitVec 32) (k0_hw37 : k0_chk37 v1783), 2 ∣ (k0_mult73 v1783).toNat := fun v1783 k0_hw37 => k0_hw37.1
theorem k0_mult74_dvd : ∀ (v1783 : BitVec 32) (k0_hw37 : k0_chk37 v1783), 2 ∣ (k0_mult74 v1783).toNat := fun v1783 k0_hw37 => k0_hw37.2.1
theorem k0_off111_inb : ∀ (v1783 : BitVec 32) (k0_hw37 : k0_chk37 v1783), ∀ a, (k0_off111 v1783) a + S2x128.size a ≤ S106256x128.size a := fun v1783 k0_hw37 => k0_hw37.2.2.1
theorem k0_off112_inb : ∀ (v1783 : BitVec 32) (k0_hw37 : k0_chk37 v1783), ∀ a, (k0_off112 v1783) a + S2x128.size a ≤ S106256x128.size a := fun v1783 k0_hw37 => k0_hw37.2.2.2

def k0_off113 (v1787 : BitVec 32) : Fin 2 → Nat :=
  let v1791 : BitVec 32 := v1787
  let v1806 : Index := Scalar.indexCast v1791
  let c0_823 : Index := 0#32
  ![v1806.toNat, 0]
def k0_off114 (v1787 : BitVec 32) : Fin 2 → Nat :=
  let c2_i32_816 : BitVec 32 := 2#32
  let v1792 : BitVec 32 := Scalar.addi v1787 c2_i32_816
  let v1793 : BitVec 32 := v1792
  let v1812 : Index := Scalar.indexCast v1793
  let c0_826 : Index := 0#32
  ![v1812.toNat, 0]

def k0_chk38 (v1787 : BitVec 32) : Prop :=
  (2 ∣ (k0_mult75 v1787).toNat) ∧
  (2 ∣ (k0_mult76 v1787).toNat) ∧
  (∀ a, (k0_off113 v1787) a + S2x128.size a ≤ S106256x128.size a) ∧
  (∀ a, (k0_off114 v1787) a + S2x128.size a ≤ S106256x128.size a)
theorem k0_mult75_dvd : ∀ (v1787 : BitVec 32) (k0_hw38 : k0_chk38 v1787), 2 ∣ (k0_mult75 v1787).toNat := fun v1787 k0_hw38 => k0_hw38.1
theorem k0_mult76_dvd : ∀ (v1787 : BitVec 32) (k0_hw38 : k0_chk38 v1787), 2 ∣ (k0_mult76 v1787).toNat := fun v1787 k0_hw38 => k0_hw38.2.1
theorem k0_off113_inb : ∀ (v1787 : BitVec 32) (k0_hw38 : k0_chk38 v1787), ∀ a, (k0_off113 v1787) a + S2x128.size a ≤ S106256x128.size a := fun v1787 k0_hw38 => k0_hw38.2.2.1
theorem k0_off114_inb : ∀ (v1787 : BitVec 32) (k0_hw38 : k0_chk38 v1787), ∀ a, (k0_off114 v1787) a + S2x128.size a ≤ S106256x128.size a := fun v1787 k0_hw38 => k0_hw38.2.2.2

def k0_off115 (k0_t1 : Fin k0_t1_loop.trips) : Fin 2 → Nat :=
  let c4_830 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_829 : BitVec 32 := 6#32
  let v1818 : BitVec 32 := Scalar.addi v1114 c6_i32_829
  let v1819 : Index := Scalar.indexCast v1818
  ![4, v1819.toNat]
def k0_off116 (k0_t1 : Fin k0_t1_loop.trips) : Fin 2 → Nat :=
  let c4_833 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_831 : BitVec 32 := 6#32
  let v1821 : BitVec 32 := Scalar.addi v1114 c6_i32_831
  let c1_i32_832 : BitVec 32 := 1#32
  let v1822 : BitVec 32 := Scalar.addi v1821 c1_i32_832
  let v1823 : Index := Scalar.indexCast v1822
  ![4, v1823.toNat]
def k0_mult77 (v1820 : BitVec 32) : BitVec 32 :=
  v1820

def k0_mult78 (v1820 : BitVec 32) : BitVec 32 :=
  let c2_i32_834 : BitVec 32 := 2#32
  let v1826 : BitVec 32 := Scalar.addi v1820 c2_i32_834
  v1826
def k0_mult79 (v1824 : BitVec 32) : BitVec 32 :=
  v1824

def k0_mult80 (v1824 : BitVec 32) : BitVec 32 :=
  let c2_i32_835 : BitVec 32 := 2#32
  let v1829 : BitVec 32 := Scalar.addi v1824 c2_i32_835
  v1829
def k0_off117 (v1820 : BitVec 32) : Fin 2 → Nat :=
  let v1825 : BitVec 32 := v1820
  let v1831 : Index := Scalar.indexCast v1825
  let c0_836 : Index := 0#32
  ![v1831.toNat, 0]
def k0_off118 (v1820 : BitVec 32) : Fin 2 → Nat :=
  let c2_i32_834 : BitVec 32 := 2#32
  let v1826 : BitVec 32 := Scalar.addi v1820 c2_i32_834
  let v1827 : BitVec 32 := v1826
  let v1837 : Index := Scalar.indexCast v1827
  let c0_839 : Index := 0#32
  ![v1837.toNat, 0]

def k0_chk39 (v1820 : BitVec 32) : Prop :=
  (2 ∣ (k0_mult77 v1820).toNat) ∧
  (2 ∣ (k0_mult78 v1820).toNat) ∧
  (∀ a, (k0_off117 v1820) a + S2x128.size a ≤ S106256x128.size a) ∧
  (∀ a, (k0_off118 v1820) a + S2x128.size a ≤ S106256x128.size a)
theorem k0_mult77_dvd : ∀ (v1820 : BitVec 32) (k0_hw39 : k0_chk39 v1820), 2 ∣ (k0_mult77 v1820).toNat := fun v1820 k0_hw39 => k0_hw39.1
theorem k0_mult78_dvd : ∀ (v1820 : BitVec 32) (k0_hw39 : k0_chk39 v1820), 2 ∣ (k0_mult78 v1820).toNat := fun v1820 k0_hw39 => k0_hw39.2.1
theorem k0_off117_inb : ∀ (v1820 : BitVec 32) (k0_hw39 : k0_chk39 v1820), ∀ a, (k0_off117 v1820) a + S2x128.size a ≤ S106256x128.size a := fun v1820 k0_hw39 => k0_hw39.2.2.1
theorem k0_off118_inb : ∀ (v1820 : BitVec 32) (k0_hw39 : k0_chk39 v1820), ∀ a, (k0_off118 v1820) a + S2x128.size a ≤ S106256x128.size a := fun v1820 k0_hw39 => k0_hw39.2.2.2

def k0_off119 (v1824 : BitVec 32) : Fin 2 → Nat :=
  let v1828 : BitVec 32 := v1824
  let v1843 : Index := Scalar.indexCast v1828
  let c0_842 : Index := 0#32
  ![v1843.toNat, 0]
def k0_off120 (v1824 : BitVec 32) : Fin 2 → Nat :=
  let c2_i32_835 : BitVec 32 := 2#32
  let v1829 : BitVec 32 := Scalar.addi v1824 c2_i32_835
  let v1830 : BitVec 32 := v1829
  let v1849 : Index := Scalar.indexCast v1830
  let c0_845 : Index := 0#32
  ![v1849.toNat, 0]

def k0_chk40 (v1824 : BitVec 32) : Prop :=
  (2 ∣ (k0_mult79 v1824).toNat) ∧
  (2 ∣ (k0_mult80 v1824).toNat) ∧
  (∀ a, (k0_off119 v1824) a + S2x128.size a ≤ S106256x128.size a) ∧
  (∀ a, (k0_off120 v1824) a + S2x128.size a ≤ S106256x128.size a)
theorem k0_mult79_dvd : ∀ (v1824 : BitVec 32) (k0_hw40 : k0_chk40 v1824), 2 ∣ (k0_mult79 v1824).toNat := fun v1824 k0_hw40 => k0_hw40.1
theorem k0_mult80_dvd : ∀ (v1824 : BitVec 32) (k0_hw40 : k0_chk40 v1824), 2 ∣ (k0_mult80 v1824).toNat := fun v1824 k0_hw40 => k0_hw40.2.1
theorem k0_off119_inb : ∀ (v1824 : BitVec 32) (k0_hw40 : k0_chk40 v1824), ∀ a, (k0_off119 v1824) a + S2x128.size a ≤ S106256x128.size a := fun v1824 k0_hw40 => k0_hw40.2.2.1
theorem k0_off120_inb : ∀ (v1824 : BitVec 32) (k0_hw40 : k0_chk40 v1824), ∀ a, (k0_off120 v1824) a + S2x128.size a ≤ S106256x128.size a := fun v1824 k0_hw40 => k0_hw40.2.2.2

def k0_off121 (k0_t1 : Fin k0_t1_loop.trips) : Fin 2 → Nat :=
  let c5_849 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_848 : BitVec 32 := 0#32
  let v1855 : BitVec 32 := Scalar.addi v1114 c0_i32_848
  let v1856 : Index := Scalar.indexCast v1855
  ![5, v1856.toNat]
def k0_off122 (k0_t1 : Fin k0_t1_loop.trips) : Fin 2 → Nat :=
  let c5_852 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_850 : BitVec 32 := 0#32
  let v1858 : BitVec 32 := Scalar.addi v1114 c0_i32_850
  let c1_i32_851 : BitVec 32 := 1#32
  let v1859 : BitVec 32 := Scalar.addi v1858 c1_i32_851
  let v1860 : Index := Scalar.indexCast v1859
  ![5, v1860.toNat]
def k0_mult81 (v1857 : BitVec 32) : BitVec 32 :=
  v1857

def k0_mult82 (v1857 : BitVec 32) : BitVec 32 :=
  let c2_i32_853 : BitVec 32 := 2#32
  let v1863 : BitVec 32 := Scalar.addi v1857 c2_i32_853
  v1863
def k0_mult83 (v1861 : BitVec 32) : BitVec 32 :=
  v1861

def k0_mult84 (v1861 : BitVec 32) : BitVec 32 :=
  let c2_i32_854 : BitVec 32 := 2#32
  let v1866 : BitVec 32 := Scalar.addi v1861 c2_i32_854
  v1866
def k0_off123 (v1857 : BitVec 32) : Fin 2 → Nat :=
  let v1862 : BitVec 32 := v1857
  let v1868 : Index := Scalar.indexCast v1862
  let c0_855 : Index := 0#32
  ![v1868.toNat, 0]
def k0_off124 (v1857 : BitVec 32) : Fin 2 → Nat :=
  let c2_i32_853 : BitVec 32 := 2#32
  let v1863 : BitVec 32 := Scalar.addi v1857 c2_i32_853
  let v1864 : BitVec 32 := v1863
  let v1874 : Index := Scalar.indexCast v1864
  let c0_858 : Index := 0#32
  ![v1874.toNat, 0]

def k0_chk41 (v1857 : BitVec 32) : Prop :=
  (2 ∣ (k0_mult81 v1857).toNat) ∧
  (2 ∣ (k0_mult82 v1857).toNat) ∧
  (∀ a, (k0_off123 v1857) a + S2x128.size a ≤ S106256x128.size a) ∧
  (∀ a, (k0_off124 v1857) a + S2x128.size a ≤ S106256x128.size a)
theorem k0_mult81_dvd : ∀ (v1857 : BitVec 32) (k0_hw41 : k0_chk41 v1857), 2 ∣ (k0_mult81 v1857).toNat := fun v1857 k0_hw41 => k0_hw41.1
theorem k0_mult82_dvd : ∀ (v1857 : BitVec 32) (k0_hw41 : k0_chk41 v1857), 2 ∣ (k0_mult82 v1857).toNat := fun v1857 k0_hw41 => k0_hw41.2.1
theorem k0_off123_inb : ∀ (v1857 : BitVec 32) (k0_hw41 : k0_chk41 v1857), ∀ a, (k0_off123 v1857) a + S2x128.size a ≤ S106256x128.size a := fun v1857 k0_hw41 => k0_hw41.2.2.1
theorem k0_off124_inb : ∀ (v1857 : BitVec 32) (k0_hw41 : k0_chk41 v1857), ∀ a, (k0_off124 v1857) a + S2x128.size a ≤ S106256x128.size a := fun v1857 k0_hw41 => k0_hw41.2.2.2

def k0_off125 (v1861 : BitVec 32) : Fin 2 → Nat :=
  let v1865 : BitVec 32 := v1861
  let v1880 : Index := Scalar.indexCast v1865
  let c0_861 : Index := 0#32
  ![v1880.toNat, 0]
def k0_off126 (v1861 : BitVec 32) : Fin 2 → Nat :=
  let c2_i32_854 : BitVec 32 := 2#32
  let v1866 : BitVec 32 := Scalar.addi v1861 c2_i32_854
  let v1867 : BitVec 32 := v1866
  let v1886 : Index := Scalar.indexCast v1867
  let c0_864 : Index := 0#32
  ![v1886.toNat, 0]

def k0_chk42 (v1861 : BitVec 32) : Prop :=
  (2 ∣ (k0_mult83 v1861).toNat) ∧
  (2 ∣ (k0_mult84 v1861).toNat) ∧
  (∀ a, (k0_off125 v1861) a + S2x128.size a ≤ S106256x128.size a) ∧
  (∀ a, (k0_off126 v1861) a + S2x128.size a ≤ S106256x128.size a)
theorem k0_mult83_dvd : ∀ (v1861 : BitVec 32) (k0_hw42 : k0_chk42 v1861), 2 ∣ (k0_mult83 v1861).toNat := fun v1861 k0_hw42 => k0_hw42.1
theorem k0_mult84_dvd : ∀ (v1861 : BitVec 32) (k0_hw42 : k0_chk42 v1861), 2 ∣ (k0_mult84 v1861).toNat := fun v1861 k0_hw42 => k0_hw42.2.1
theorem k0_off125_inb : ∀ (v1861 : BitVec 32) (k0_hw42 : k0_chk42 v1861), ∀ a, (k0_off125 v1861) a + S2x128.size a ≤ S106256x128.size a := fun v1861 k0_hw42 => k0_hw42.2.2.1
theorem k0_off126_inb : ∀ (v1861 : BitVec 32) (k0_hw42 : k0_chk42 v1861), ∀ a, (k0_off126 v1861) a + S2x128.size a ≤ S106256x128.size a := fun v1861 k0_hw42 => k0_hw42.2.2.2

def k0_off127 (k0_t1 : Fin k0_t1_loop.trips) : Fin 2 → Nat :=
  let c5_868 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_867 : BitVec 32 := 2#32
  let v1892 : BitVec 32 := Scalar.addi v1114 c2_i32_867
  let v1893 : Index := Scalar.indexCast v1892
  ![5, v1893.toNat]
def k0_off128 (k0_t1 : Fin k0_t1_loop.trips) : Fin 2 → Nat :=
  let c5_871 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_869 : BitVec 32 := 2#32
  let v1895 : BitVec 32 := Scalar.addi v1114 c2_i32_869
  let c1_i32_870 : BitVec 32 := 1#32
  let v1896 : BitVec 32 := Scalar.addi v1895 c1_i32_870
  let v1897 : Index := Scalar.indexCast v1896
  ![5, v1897.toNat]
def k0_mult85 (v1894 : BitVec 32) : BitVec 32 :=
  v1894

def k0_mult86 (v1894 : BitVec 32) : BitVec 32 :=
  let c2_i32_872 : BitVec 32 := 2#32
  let v1900 : BitVec 32 := Scalar.addi v1894 c2_i32_872
  v1900
def k0_mult87 (v1898 : BitVec 32) : BitVec 32 :=
  v1898

def k0_mult88 (v1898 : BitVec 32) : BitVec 32 :=
  let c2_i32_873 : BitVec 32 := 2#32
  let v1903 : BitVec 32 := Scalar.addi v1898 c2_i32_873
  v1903
def k0_off129 (v1894 : BitVec 32) : Fin 2 → Nat :=
  let v1899 : BitVec 32 := v1894
  let v1905 : Index := Scalar.indexCast v1899
  let c0_874 : Index := 0#32
  ![v1905.toNat, 0]
def k0_off130 (v1894 : BitVec 32) : Fin 2 → Nat :=
  let c2_i32_872 : BitVec 32 := 2#32
  let v1900 : BitVec 32 := Scalar.addi v1894 c2_i32_872
  let v1901 : BitVec 32 := v1900
  let v1911 : Index := Scalar.indexCast v1901
  let c0_877 : Index := 0#32
  ![v1911.toNat, 0]

def k0_chk43 (v1894 : BitVec 32) : Prop :=
  (2 ∣ (k0_mult85 v1894).toNat) ∧
  (2 ∣ (k0_mult86 v1894).toNat) ∧
  (∀ a, (k0_off129 v1894) a + S2x128.size a ≤ S106256x128.size a) ∧
  (∀ a, (k0_off130 v1894) a + S2x128.size a ≤ S106256x128.size a)
theorem k0_mult85_dvd : ∀ (v1894 : BitVec 32) (k0_hw43 : k0_chk43 v1894), 2 ∣ (k0_mult85 v1894).toNat := fun v1894 k0_hw43 => k0_hw43.1
theorem k0_mult86_dvd : ∀ (v1894 : BitVec 32) (k0_hw43 : k0_chk43 v1894), 2 ∣ (k0_mult86 v1894).toNat := fun v1894 k0_hw43 => k0_hw43.2.1
theorem k0_off129_inb : ∀ (v1894 : BitVec 32) (k0_hw43 : k0_chk43 v1894), ∀ a, (k0_off129 v1894) a + S2x128.size a ≤ S106256x128.size a := fun v1894 k0_hw43 => k0_hw43.2.2.1
theorem k0_off130_inb : ∀ (v1894 : BitVec 32) (k0_hw43 : k0_chk43 v1894), ∀ a, (k0_off130 v1894) a + S2x128.size a ≤ S106256x128.size a := fun v1894 k0_hw43 => k0_hw43.2.2.2

def k0_off131 (v1898 : BitVec 32) : Fin 2 → Nat :=
  let v1902 : BitVec 32 := v1898
  let v1917 : Index := Scalar.indexCast v1902
  let c0_880 : Index := 0#32
  ![v1917.toNat, 0]
def k0_off132 (v1898 : BitVec 32) : Fin 2 → Nat :=
  let c2_i32_873 : BitVec 32 := 2#32
  let v1903 : BitVec 32 := Scalar.addi v1898 c2_i32_873
  let v1904 : BitVec 32 := v1903
  let v1923 : Index := Scalar.indexCast v1904
  let c0_883 : Index := 0#32
  ![v1923.toNat, 0]

def k0_chk44 (v1898 : BitVec 32) : Prop :=
  (2 ∣ (k0_mult87 v1898).toNat) ∧
  (2 ∣ (k0_mult88 v1898).toNat) ∧
  (∀ a, (k0_off131 v1898) a + S2x128.size a ≤ S106256x128.size a) ∧
  (∀ a, (k0_off132 v1898) a + S2x128.size a ≤ S106256x128.size a)
theorem k0_mult87_dvd : ∀ (v1898 : BitVec 32) (k0_hw44 : k0_chk44 v1898), 2 ∣ (k0_mult87 v1898).toNat := fun v1898 k0_hw44 => k0_hw44.1
theorem k0_mult88_dvd : ∀ (v1898 : BitVec 32) (k0_hw44 : k0_chk44 v1898), 2 ∣ (k0_mult88 v1898).toNat := fun v1898 k0_hw44 => k0_hw44.2.1
theorem k0_off131_inb : ∀ (v1898 : BitVec 32) (k0_hw44 : k0_chk44 v1898), ∀ a, (k0_off131 v1898) a + S2x128.size a ≤ S106256x128.size a := fun v1898 k0_hw44 => k0_hw44.2.2.1
theorem k0_off132_inb : ∀ (v1898 : BitVec 32) (k0_hw44 : k0_chk44 v1898), ∀ a, (k0_off132 v1898) a + S2x128.size a ≤ S106256x128.size a := fun v1898 k0_hw44 => k0_hw44.2.2.2

def k0_off133 (k0_t1 : Fin k0_t1_loop.trips) : Fin 2 → Nat :=
  let c5_887 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_886 : BitVec 32 := 4#32
  let v1929 : BitVec 32 := Scalar.addi v1114 c4_i32_886
  let v1930 : Index := Scalar.indexCast v1929
  ![5, v1930.toNat]
def k0_off134 (k0_t1 : Fin k0_t1_loop.trips) : Fin 2 → Nat :=
  let c5_890 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_888 : BitVec 32 := 4#32
  let v1932 : BitVec 32 := Scalar.addi v1114 c4_i32_888
  let c1_i32_889 : BitVec 32 := 1#32
  let v1933 : BitVec 32 := Scalar.addi v1932 c1_i32_889
  let v1934 : Index := Scalar.indexCast v1933
  ![5, v1934.toNat]
def k0_mult89 (v1931 : BitVec 32) : BitVec 32 :=
  v1931

def k0_mult90 (v1931 : BitVec 32) : BitVec 32 :=
  let c2_i32_891 : BitVec 32 := 2#32
  let v1937 : BitVec 32 := Scalar.addi v1931 c2_i32_891
  v1937
def k0_mult91 (v1935 : BitVec 32) : BitVec 32 :=
  v1935

def k0_mult92 (v1935 : BitVec 32) : BitVec 32 :=
  let c2_i32_892 : BitVec 32 := 2#32
  let v1940 : BitVec 32 := Scalar.addi v1935 c2_i32_892
  v1940
def k0_off135 (v1931 : BitVec 32) : Fin 2 → Nat :=
  let v1936 : BitVec 32 := v1931
  let v1942 : Index := Scalar.indexCast v1936
  let c0_893 : Index := 0#32
  ![v1942.toNat, 0]
def k0_off136 (v1931 : BitVec 32) : Fin 2 → Nat :=
  let c2_i32_891 : BitVec 32 := 2#32
  let v1937 : BitVec 32 := Scalar.addi v1931 c2_i32_891
  let v1938 : BitVec 32 := v1937
  let v1948 : Index := Scalar.indexCast v1938
  let c0_896 : Index := 0#32
  ![v1948.toNat, 0]

def k0_chk45 (v1931 : BitVec 32) : Prop :=
  (2 ∣ (k0_mult89 v1931).toNat) ∧
  (2 ∣ (k0_mult90 v1931).toNat) ∧
  (∀ a, (k0_off135 v1931) a + S2x128.size a ≤ S106256x128.size a) ∧
  (∀ a, (k0_off136 v1931) a + S2x128.size a ≤ S106256x128.size a)
theorem k0_mult89_dvd : ∀ (v1931 : BitVec 32) (k0_hw45 : k0_chk45 v1931), 2 ∣ (k0_mult89 v1931).toNat := fun v1931 k0_hw45 => k0_hw45.1
theorem k0_mult90_dvd : ∀ (v1931 : BitVec 32) (k0_hw45 : k0_chk45 v1931), 2 ∣ (k0_mult90 v1931).toNat := fun v1931 k0_hw45 => k0_hw45.2.1
theorem k0_off135_inb : ∀ (v1931 : BitVec 32) (k0_hw45 : k0_chk45 v1931), ∀ a, (k0_off135 v1931) a + S2x128.size a ≤ S106256x128.size a := fun v1931 k0_hw45 => k0_hw45.2.2.1
theorem k0_off136_inb : ∀ (v1931 : BitVec 32) (k0_hw45 : k0_chk45 v1931), ∀ a, (k0_off136 v1931) a + S2x128.size a ≤ S106256x128.size a := fun v1931 k0_hw45 => k0_hw45.2.2.2

def k0_off137 (v1935 : BitVec 32) : Fin 2 → Nat :=
  let v1939 : BitVec 32 := v1935
  let v1954 : Index := Scalar.indexCast v1939
  let c0_899 : Index := 0#32
  ![v1954.toNat, 0]
def k0_off138 (v1935 : BitVec 32) : Fin 2 → Nat :=
  let c2_i32_892 : BitVec 32 := 2#32
  let v1940 : BitVec 32 := Scalar.addi v1935 c2_i32_892
  let v1941 : BitVec 32 := v1940
  let v1960 : Index := Scalar.indexCast v1941
  let c0_902 : Index := 0#32
  ![v1960.toNat, 0]

def k0_chk46 (v1935 : BitVec 32) : Prop :=
  (2 ∣ (k0_mult91 v1935).toNat) ∧
  (2 ∣ (k0_mult92 v1935).toNat) ∧
  (∀ a, (k0_off137 v1935) a + S2x128.size a ≤ S106256x128.size a) ∧
  (∀ a, (k0_off138 v1935) a + S2x128.size a ≤ S106256x128.size a)
theorem k0_mult91_dvd : ∀ (v1935 : BitVec 32) (k0_hw46 : k0_chk46 v1935), 2 ∣ (k0_mult91 v1935).toNat := fun v1935 k0_hw46 => k0_hw46.1
theorem k0_mult92_dvd : ∀ (v1935 : BitVec 32) (k0_hw46 : k0_chk46 v1935), 2 ∣ (k0_mult92 v1935).toNat := fun v1935 k0_hw46 => k0_hw46.2.1
theorem k0_off137_inb : ∀ (v1935 : BitVec 32) (k0_hw46 : k0_chk46 v1935), ∀ a, (k0_off137 v1935) a + S2x128.size a ≤ S106256x128.size a := fun v1935 k0_hw46 => k0_hw46.2.2.1
theorem k0_off138_inb : ∀ (v1935 : BitVec 32) (k0_hw46 : k0_chk46 v1935), ∀ a, (k0_off138 v1935) a + S2x128.size a ≤ S106256x128.size a := fun v1935 k0_hw46 => k0_hw46.2.2.2

def k0_off139 (k0_t1 : Fin k0_t1_loop.trips) : Fin 2 → Nat :=
  let c5_906 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_905 : BitVec 32 := 6#32
  let v1966 : BitVec 32 := Scalar.addi v1114 c6_i32_905
  let v1967 : Index := Scalar.indexCast v1966
  ![5, v1967.toNat]
def k0_off140 (k0_t1 : Fin k0_t1_loop.trips) : Fin 2 → Nat :=
  let c5_909 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_907 : BitVec 32 := 6#32
  let v1969 : BitVec 32 := Scalar.addi v1114 c6_i32_907
  let c1_i32_908 : BitVec 32 := 1#32
  let v1970 : BitVec 32 := Scalar.addi v1969 c1_i32_908
  let v1971 : Index := Scalar.indexCast v1970
  ![5, v1971.toNat]
def k0_mult93 (v1968 : BitVec 32) : BitVec 32 :=
  v1968

def k0_mult94 (v1968 : BitVec 32) : BitVec 32 :=
  let c2_i32_910 : BitVec 32 := 2#32
  let v1974 : BitVec 32 := Scalar.addi v1968 c2_i32_910
  v1974
def k0_mult95 (v1972 : BitVec 32) : BitVec 32 :=
  v1972

def k0_mult96 (v1972 : BitVec 32) : BitVec 32 :=
  let c2_i32_911 : BitVec 32 := 2#32
  let v1977 : BitVec 32 := Scalar.addi v1972 c2_i32_911
  v1977
def k0_off141 (v1968 : BitVec 32) : Fin 2 → Nat :=
  let v1973 : BitVec 32 := v1968
  let v1979 : Index := Scalar.indexCast v1973
  let c0_912 : Index := 0#32
  ![v1979.toNat, 0]
def k0_off142 (v1968 : BitVec 32) : Fin 2 → Nat :=
  let c2_i32_910 : BitVec 32 := 2#32
  let v1974 : BitVec 32 := Scalar.addi v1968 c2_i32_910
  let v1975 : BitVec 32 := v1974
  let v1985 : Index := Scalar.indexCast v1975
  let c0_915 : Index := 0#32
  ![v1985.toNat, 0]

def k0_chk47 (v1968 : BitVec 32) : Prop :=
  (2 ∣ (k0_mult93 v1968).toNat) ∧
  (2 ∣ (k0_mult94 v1968).toNat) ∧
  (∀ a, (k0_off141 v1968) a + S2x128.size a ≤ S106256x128.size a) ∧
  (∀ a, (k0_off142 v1968) a + S2x128.size a ≤ S106256x128.size a)
theorem k0_mult93_dvd : ∀ (v1968 : BitVec 32) (k0_hw47 : k0_chk47 v1968), 2 ∣ (k0_mult93 v1968).toNat := fun v1968 k0_hw47 => k0_hw47.1
theorem k0_mult94_dvd : ∀ (v1968 : BitVec 32) (k0_hw47 : k0_chk47 v1968), 2 ∣ (k0_mult94 v1968).toNat := fun v1968 k0_hw47 => k0_hw47.2.1
theorem k0_off141_inb : ∀ (v1968 : BitVec 32) (k0_hw47 : k0_chk47 v1968), ∀ a, (k0_off141 v1968) a + S2x128.size a ≤ S106256x128.size a := fun v1968 k0_hw47 => k0_hw47.2.2.1
theorem k0_off142_inb : ∀ (v1968 : BitVec 32) (k0_hw47 : k0_chk47 v1968), ∀ a, (k0_off142 v1968) a + S2x128.size a ≤ S106256x128.size a := fun v1968 k0_hw47 => k0_hw47.2.2.2

def k0_off143 (v1972 : BitVec 32) : Fin 2 → Nat :=
  let v1976 : BitVec 32 := v1972
  let v1991 : Index := Scalar.indexCast v1976
  let c0_918 : Index := 0#32
  ![v1991.toNat, 0]
def k0_off144 (v1972 : BitVec 32) : Fin 2 → Nat :=
  let c2_i32_911 : BitVec 32 := 2#32
  let v1977 : BitVec 32 := Scalar.addi v1972 c2_i32_911
  let v1978 : BitVec 32 := v1977
  let v1997 : Index := Scalar.indexCast v1978
  let c0_921 : Index := 0#32
  ![v1997.toNat, 0]

def k0_chk48 (v1972 : BitVec 32) : Prop :=
  (2 ∣ (k0_mult95 v1972).toNat) ∧
  (2 ∣ (k0_mult96 v1972).toNat) ∧
  (∀ a, (k0_off143 v1972) a + S2x128.size a ≤ S106256x128.size a) ∧
  (∀ a, (k0_off144 v1972) a + S2x128.size a ≤ S106256x128.size a)
theorem k0_mult95_dvd : ∀ (v1972 : BitVec 32) (k0_hw48 : k0_chk48 v1972), 2 ∣ (k0_mult95 v1972).toNat := fun v1972 k0_hw48 => k0_hw48.1
theorem k0_mult96_dvd : ∀ (v1972 : BitVec 32) (k0_hw48 : k0_chk48 v1972), 2 ∣ (k0_mult96 v1972).toNat := fun v1972 k0_hw48 => k0_hw48.2.1
theorem k0_off143_inb : ∀ (v1972 : BitVec 32) (k0_hw48 : k0_chk48 v1972), ∀ a, (k0_off143 v1972) a + S2x128.size a ≤ S106256x128.size a := fun v1972 k0_hw48 => k0_hw48.2.2.1
theorem k0_off144_inb : ∀ (v1972 : BitVec 32) (k0_hw48 : k0_chk48 v1972), ∀ a, (k0_off144 v1972) a + S2x128.size a ≤ S106256x128.size a := fun v1972 k0_hw48 => k0_hw48.2.2.2

def k0_off145 (k0_t1 : Fin k0_t1_loop.trips) : Fin 2 → Nat :=
  let c6_925 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_924 : BitVec 32 := 0#32
  let v2003 : BitVec 32 := Scalar.addi v1114 c0_i32_924
  let v2004 : Index := Scalar.indexCast v2003
  ![6, v2004.toNat]
def k0_off146 (k0_t1 : Fin k0_t1_loop.trips) : Fin 2 → Nat :=
  let c6_928 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_926 : BitVec 32 := 0#32
  let v2006 : BitVec 32 := Scalar.addi v1114 c0_i32_926
  let c1_i32_927 : BitVec 32 := 1#32
  let v2007 : BitVec 32 := Scalar.addi v2006 c1_i32_927
  let v2008 : Index := Scalar.indexCast v2007
  ![6, v2008.toNat]
def k0_mult97 (v2005 : BitVec 32) : BitVec 32 :=
  v2005

def k0_mult98 (v2005 : BitVec 32) : BitVec 32 :=
  let c2_i32_929 : BitVec 32 := 2#32
  let v2011 : BitVec 32 := Scalar.addi v2005 c2_i32_929
  v2011
def k0_mult99 (v2009 : BitVec 32) : BitVec 32 :=
  v2009

def k0_mult100 (v2009 : BitVec 32) : BitVec 32 :=
  let c2_i32_930 : BitVec 32 := 2#32
  let v2014 : BitVec 32 := Scalar.addi v2009 c2_i32_930
  v2014
def k0_off147 (v2005 : BitVec 32) : Fin 2 → Nat :=
  let v2010 : BitVec 32 := v2005
  let v2016 : Index := Scalar.indexCast v2010
  let c0_931 : Index := 0#32
  ![v2016.toNat, 0]
def k0_off148 (v2005 : BitVec 32) : Fin 2 → Nat :=
  let c2_i32_929 : BitVec 32 := 2#32
  let v2011 : BitVec 32 := Scalar.addi v2005 c2_i32_929
  let v2012 : BitVec 32 := v2011
  let v2022 : Index := Scalar.indexCast v2012
  let c0_934 : Index := 0#32
  ![v2022.toNat, 0]

def k0_chk49 (v2005 : BitVec 32) : Prop :=
  (2 ∣ (k0_mult97 v2005).toNat) ∧
  (2 ∣ (k0_mult98 v2005).toNat) ∧
  (∀ a, (k0_off147 v2005) a + S2x128.size a ≤ S106256x128.size a) ∧
  (∀ a, (k0_off148 v2005) a + S2x128.size a ≤ S106256x128.size a)
theorem k0_mult97_dvd : ∀ (v2005 : BitVec 32) (k0_hw49 : k0_chk49 v2005), 2 ∣ (k0_mult97 v2005).toNat := fun v2005 k0_hw49 => k0_hw49.1
theorem k0_mult98_dvd : ∀ (v2005 : BitVec 32) (k0_hw49 : k0_chk49 v2005), 2 ∣ (k0_mult98 v2005).toNat := fun v2005 k0_hw49 => k0_hw49.2.1
theorem k0_off147_inb : ∀ (v2005 : BitVec 32) (k0_hw49 : k0_chk49 v2005), ∀ a, (k0_off147 v2005) a + S2x128.size a ≤ S106256x128.size a := fun v2005 k0_hw49 => k0_hw49.2.2.1
theorem k0_off148_inb : ∀ (v2005 : BitVec 32) (k0_hw49 : k0_chk49 v2005), ∀ a, (k0_off148 v2005) a + S2x128.size a ≤ S106256x128.size a := fun v2005 k0_hw49 => k0_hw49.2.2.2

def k0_off149 (v2009 : BitVec 32) : Fin 2 → Nat :=
  let v2013 : BitVec 32 := v2009
  let v2028 : Index := Scalar.indexCast v2013
  let c0_937 : Index := 0#32
  ![v2028.toNat, 0]
def k0_off150 (v2009 : BitVec 32) : Fin 2 → Nat :=
  let c2_i32_930 : BitVec 32 := 2#32
  let v2014 : BitVec 32 := Scalar.addi v2009 c2_i32_930
  let v2015 : BitVec 32 := v2014
  let v2034 : Index := Scalar.indexCast v2015
  let c0_940 : Index := 0#32
  ![v2034.toNat, 0]

def k0_chk50 (v2009 : BitVec 32) : Prop :=
  (2 ∣ (k0_mult99 v2009).toNat) ∧
  (2 ∣ (k0_mult100 v2009).toNat) ∧
  (∀ a, (k0_off149 v2009) a + S2x128.size a ≤ S106256x128.size a) ∧
  (∀ a, (k0_off150 v2009) a + S2x128.size a ≤ S106256x128.size a)
theorem k0_mult99_dvd : ∀ (v2009 : BitVec 32) (k0_hw50 : k0_chk50 v2009), 2 ∣ (k0_mult99 v2009).toNat := fun v2009 k0_hw50 => k0_hw50.1
theorem k0_mult100_dvd : ∀ (v2009 : BitVec 32) (k0_hw50 : k0_chk50 v2009), 2 ∣ (k0_mult100 v2009).toNat := fun v2009 k0_hw50 => k0_hw50.2.1
theorem k0_off149_inb : ∀ (v2009 : BitVec 32) (k0_hw50 : k0_chk50 v2009), ∀ a, (k0_off149 v2009) a + S2x128.size a ≤ S106256x128.size a := fun v2009 k0_hw50 => k0_hw50.2.2.1
theorem k0_off150_inb : ∀ (v2009 : BitVec 32) (k0_hw50 : k0_chk50 v2009), ∀ a, (k0_off150 v2009) a + S2x128.size a ≤ S106256x128.size a := fun v2009 k0_hw50 => k0_hw50.2.2.2

def k0_off151 (k0_t1 : Fin k0_t1_loop.trips) : Fin 2 → Nat :=
  let c6_944 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_943 : BitVec 32 := 2#32
  let v2040 : BitVec 32 := Scalar.addi v1114 c2_i32_943
  let v2041 : Index := Scalar.indexCast v2040
  ![6, v2041.toNat]
def k0_off152 (k0_t1 : Fin k0_t1_loop.trips) : Fin 2 → Nat :=
  let c6_947 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_945 : BitVec 32 := 2#32
  let v2043 : BitVec 32 := Scalar.addi v1114 c2_i32_945
  let c1_i32_946 : BitVec 32 := 1#32
  let v2044 : BitVec 32 := Scalar.addi v2043 c1_i32_946
  let v2045 : Index := Scalar.indexCast v2044
  ![6, v2045.toNat]
def k0_mult101 (v2042 : BitVec 32) : BitVec 32 :=
  v2042

def k0_mult102 (v2042 : BitVec 32) : BitVec 32 :=
  let c2_i32_948 : BitVec 32 := 2#32
  let v2048 : BitVec 32 := Scalar.addi v2042 c2_i32_948
  v2048
def k0_mult103 (v2046 : BitVec 32) : BitVec 32 :=
  v2046

def k0_mult104 (v2046 : BitVec 32) : BitVec 32 :=
  let c2_i32_949 : BitVec 32 := 2#32
  let v2051 : BitVec 32 := Scalar.addi v2046 c2_i32_949
  v2051
def k0_off153 (v2042 : BitVec 32) : Fin 2 → Nat :=
  let v2047 : BitVec 32 := v2042
  let v2053 : Index := Scalar.indexCast v2047
  let c0_950 : Index := 0#32
  ![v2053.toNat, 0]
def k0_off154 (v2042 : BitVec 32) : Fin 2 → Nat :=
  let c2_i32_948 : BitVec 32 := 2#32
  let v2048 : BitVec 32 := Scalar.addi v2042 c2_i32_948
  let v2049 : BitVec 32 := v2048
  let v2059 : Index := Scalar.indexCast v2049
  let c0_953 : Index := 0#32
  ![v2059.toNat, 0]

def k0_chk51 (v2042 : BitVec 32) : Prop :=
  (2 ∣ (k0_mult101 v2042).toNat) ∧
  (2 ∣ (k0_mult102 v2042).toNat) ∧
  (∀ a, (k0_off153 v2042) a + S2x128.size a ≤ S106256x128.size a) ∧
  (∀ a, (k0_off154 v2042) a + S2x128.size a ≤ S106256x128.size a)
theorem k0_mult101_dvd : ∀ (v2042 : BitVec 32) (k0_hw51 : k0_chk51 v2042), 2 ∣ (k0_mult101 v2042).toNat := fun v2042 k0_hw51 => k0_hw51.1
theorem k0_mult102_dvd : ∀ (v2042 : BitVec 32) (k0_hw51 : k0_chk51 v2042), 2 ∣ (k0_mult102 v2042).toNat := fun v2042 k0_hw51 => k0_hw51.2.1
theorem k0_off153_inb : ∀ (v2042 : BitVec 32) (k0_hw51 : k0_chk51 v2042), ∀ a, (k0_off153 v2042) a + S2x128.size a ≤ S106256x128.size a := fun v2042 k0_hw51 => k0_hw51.2.2.1
theorem k0_off154_inb : ∀ (v2042 : BitVec 32) (k0_hw51 : k0_chk51 v2042), ∀ a, (k0_off154 v2042) a + S2x128.size a ≤ S106256x128.size a := fun v2042 k0_hw51 => k0_hw51.2.2.2

def k0_off155 (v2046 : BitVec 32) : Fin 2 → Nat :=
  let v2050 : BitVec 32 := v2046
  let v2065 : Index := Scalar.indexCast v2050
  let c0_956 : Index := 0#32
  ![v2065.toNat, 0]
def k0_off156 (v2046 : BitVec 32) : Fin 2 → Nat :=
  let c2_i32_949 : BitVec 32 := 2#32
  let v2051 : BitVec 32 := Scalar.addi v2046 c2_i32_949
  let v2052 : BitVec 32 := v2051
  let v2071 : Index := Scalar.indexCast v2052
  let c0_959 : Index := 0#32
  ![v2071.toNat, 0]

def k0_chk52 (v2046 : BitVec 32) : Prop :=
  (2 ∣ (k0_mult103 v2046).toNat) ∧
  (2 ∣ (k0_mult104 v2046).toNat) ∧
  (∀ a, (k0_off155 v2046) a + S2x128.size a ≤ S106256x128.size a) ∧
  (∀ a, (k0_off156 v2046) a + S2x128.size a ≤ S106256x128.size a)
theorem k0_mult103_dvd : ∀ (v2046 : BitVec 32) (k0_hw52 : k0_chk52 v2046), 2 ∣ (k0_mult103 v2046).toNat := fun v2046 k0_hw52 => k0_hw52.1
theorem k0_mult104_dvd : ∀ (v2046 : BitVec 32) (k0_hw52 : k0_chk52 v2046), 2 ∣ (k0_mult104 v2046).toNat := fun v2046 k0_hw52 => k0_hw52.2.1
theorem k0_off155_inb : ∀ (v2046 : BitVec 32) (k0_hw52 : k0_chk52 v2046), ∀ a, (k0_off155 v2046) a + S2x128.size a ≤ S106256x128.size a := fun v2046 k0_hw52 => k0_hw52.2.2.1
theorem k0_off156_inb : ∀ (v2046 : BitVec 32) (k0_hw52 : k0_chk52 v2046), ∀ a, (k0_off156 v2046) a + S2x128.size a ≤ S106256x128.size a := fun v2046 k0_hw52 => k0_hw52.2.2.2

def k0_off157 (k0_t1 : Fin k0_t1_loop.trips) : Fin 2 → Nat :=
  let c6_963 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_962 : BitVec 32 := 4#32
  let v2077 : BitVec 32 := Scalar.addi v1114 c4_i32_962
  let v2078 : Index := Scalar.indexCast v2077
  ![6, v2078.toNat]
def k0_off158 (k0_t1 : Fin k0_t1_loop.trips) : Fin 2 → Nat :=
  let c6_966 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_964 : BitVec 32 := 4#32
  let v2080 : BitVec 32 := Scalar.addi v1114 c4_i32_964
  let c1_i32_965 : BitVec 32 := 1#32
  let v2081 : BitVec 32 := Scalar.addi v2080 c1_i32_965
  let v2082 : Index := Scalar.indexCast v2081
  ![6, v2082.toNat]
def k0_mult105 (v2079 : BitVec 32) : BitVec 32 :=
  v2079

def k0_mult106 (v2079 : BitVec 32) : BitVec 32 :=
  let c2_i32_967 : BitVec 32 := 2#32
  let v2085 : BitVec 32 := Scalar.addi v2079 c2_i32_967
  v2085
def k0_mult107 (v2083 : BitVec 32) : BitVec 32 :=
  v2083

def k0_mult108 (v2083 : BitVec 32) : BitVec 32 :=
  let c2_i32_968 : BitVec 32 := 2#32
  let v2088 : BitVec 32 := Scalar.addi v2083 c2_i32_968
  v2088
def k0_off159 (v2079 : BitVec 32) : Fin 2 → Nat :=
  let v2084 : BitVec 32 := v2079
  let v2090 : Index := Scalar.indexCast v2084
  let c0_969 : Index := 0#32
  ![v2090.toNat, 0]
def k0_off160 (v2079 : BitVec 32) : Fin 2 → Nat :=
  let c2_i32_967 : BitVec 32 := 2#32
  let v2085 : BitVec 32 := Scalar.addi v2079 c2_i32_967
  let v2086 : BitVec 32 := v2085
  let v2096 : Index := Scalar.indexCast v2086
  let c0_972 : Index := 0#32
  ![v2096.toNat, 0]

def k0_chk53 (v2079 : BitVec 32) : Prop :=
  (2 ∣ (k0_mult105 v2079).toNat) ∧
  (2 ∣ (k0_mult106 v2079).toNat) ∧
  (∀ a, (k0_off159 v2079) a + S2x128.size a ≤ S106256x128.size a) ∧
  (∀ a, (k0_off160 v2079) a + S2x128.size a ≤ S106256x128.size a)
theorem k0_mult105_dvd : ∀ (v2079 : BitVec 32) (k0_hw53 : k0_chk53 v2079), 2 ∣ (k0_mult105 v2079).toNat := fun v2079 k0_hw53 => k0_hw53.1
theorem k0_mult106_dvd : ∀ (v2079 : BitVec 32) (k0_hw53 : k0_chk53 v2079), 2 ∣ (k0_mult106 v2079).toNat := fun v2079 k0_hw53 => k0_hw53.2.1
theorem k0_off159_inb : ∀ (v2079 : BitVec 32) (k0_hw53 : k0_chk53 v2079), ∀ a, (k0_off159 v2079) a + S2x128.size a ≤ S106256x128.size a := fun v2079 k0_hw53 => k0_hw53.2.2.1
theorem k0_off160_inb : ∀ (v2079 : BitVec 32) (k0_hw53 : k0_chk53 v2079), ∀ a, (k0_off160 v2079) a + S2x128.size a ≤ S106256x128.size a := fun v2079 k0_hw53 => k0_hw53.2.2.2

def k0_off161 (v2083 : BitVec 32) : Fin 2 → Nat :=
  let v2087 : BitVec 32 := v2083
  let v2102 : Index := Scalar.indexCast v2087
  let c0_975 : Index := 0#32
  ![v2102.toNat, 0]
def k0_off162 (v2083 : BitVec 32) : Fin 2 → Nat :=
  let c2_i32_968 : BitVec 32 := 2#32
  let v2088 : BitVec 32 := Scalar.addi v2083 c2_i32_968
  let v2089 : BitVec 32 := v2088
  let v2108 : Index := Scalar.indexCast v2089
  let c0_978 : Index := 0#32
  ![v2108.toNat, 0]

def k0_chk54 (v2083 : BitVec 32) : Prop :=
  (2 ∣ (k0_mult107 v2083).toNat) ∧
  (2 ∣ (k0_mult108 v2083).toNat) ∧
  (∀ a, (k0_off161 v2083) a + S2x128.size a ≤ S106256x128.size a) ∧
  (∀ a, (k0_off162 v2083) a + S2x128.size a ≤ S106256x128.size a)
theorem k0_mult107_dvd : ∀ (v2083 : BitVec 32) (k0_hw54 : k0_chk54 v2083), 2 ∣ (k0_mult107 v2083).toNat := fun v2083 k0_hw54 => k0_hw54.1
theorem k0_mult108_dvd : ∀ (v2083 : BitVec 32) (k0_hw54 : k0_chk54 v2083), 2 ∣ (k0_mult108 v2083).toNat := fun v2083 k0_hw54 => k0_hw54.2.1
theorem k0_off161_inb : ∀ (v2083 : BitVec 32) (k0_hw54 : k0_chk54 v2083), ∀ a, (k0_off161 v2083) a + S2x128.size a ≤ S106256x128.size a := fun v2083 k0_hw54 => k0_hw54.2.2.1
theorem k0_off162_inb : ∀ (v2083 : BitVec 32) (k0_hw54 : k0_chk54 v2083), ∀ a, (k0_off162 v2083) a + S2x128.size a ≤ S106256x128.size a := fun v2083 k0_hw54 => k0_hw54.2.2.2

def k0_off163 (k0_t1 : Fin k0_t1_loop.trips) : Fin 2 → Nat :=
  let c6_982 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_981 : BitVec 32 := 6#32
  let v2114 : BitVec 32 := Scalar.addi v1114 c6_i32_981
  let v2115 : Index := Scalar.indexCast v2114
  ![6, v2115.toNat]
def k0_off164 (k0_t1 : Fin k0_t1_loop.trips) : Fin 2 → Nat :=
  let c6_985 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_983 : BitVec 32 := 6#32
  let v2117 : BitVec 32 := Scalar.addi v1114 c6_i32_983
  let c1_i32_984 : BitVec 32 := 1#32
  let v2118 : BitVec 32 := Scalar.addi v2117 c1_i32_984
  let v2119 : Index := Scalar.indexCast v2118
  ![6, v2119.toNat]
def k0_mult109 (v2116 : BitVec 32) : BitVec 32 :=
  v2116

def k0_mult110 (v2116 : BitVec 32) : BitVec 32 :=
  let c2_i32_986 : BitVec 32 := 2#32
  let v2122 : BitVec 32 := Scalar.addi v2116 c2_i32_986
  v2122
def k0_mult111 (v2120 : BitVec 32) : BitVec 32 :=
  v2120

def k0_mult112 (v2120 : BitVec 32) : BitVec 32 :=
  let c2_i32_987 : BitVec 32 := 2#32
  let v2125 : BitVec 32 := Scalar.addi v2120 c2_i32_987
  v2125
def k0_off165 (v2116 : BitVec 32) : Fin 2 → Nat :=
  let v2121 : BitVec 32 := v2116
  let v2127 : Index := Scalar.indexCast v2121
  let c0_988 : Index := 0#32
  ![v2127.toNat, 0]
def k0_off166 (v2116 : BitVec 32) : Fin 2 → Nat :=
  let c2_i32_986 : BitVec 32 := 2#32
  let v2122 : BitVec 32 := Scalar.addi v2116 c2_i32_986
  let v2123 : BitVec 32 := v2122
  let v2133 : Index := Scalar.indexCast v2123
  let c0_991 : Index := 0#32
  ![v2133.toNat, 0]

def k0_chk55 (v2116 : BitVec 32) : Prop :=
  (2 ∣ (k0_mult109 v2116).toNat) ∧
  (2 ∣ (k0_mult110 v2116).toNat) ∧
  (∀ a, (k0_off165 v2116) a + S2x128.size a ≤ S106256x128.size a) ∧
  (∀ a, (k0_off166 v2116) a + S2x128.size a ≤ S106256x128.size a)
theorem k0_mult109_dvd : ∀ (v2116 : BitVec 32) (k0_hw55 : k0_chk55 v2116), 2 ∣ (k0_mult109 v2116).toNat := fun v2116 k0_hw55 => k0_hw55.1
theorem k0_mult110_dvd : ∀ (v2116 : BitVec 32) (k0_hw55 : k0_chk55 v2116), 2 ∣ (k0_mult110 v2116).toNat := fun v2116 k0_hw55 => k0_hw55.2.1
theorem k0_off165_inb : ∀ (v2116 : BitVec 32) (k0_hw55 : k0_chk55 v2116), ∀ a, (k0_off165 v2116) a + S2x128.size a ≤ S106256x128.size a := fun v2116 k0_hw55 => k0_hw55.2.2.1
theorem k0_off166_inb : ∀ (v2116 : BitVec 32) (k0_hw55 : k0_chk55 v2116), ∀ a, (k0_off166 v2116) a + S2x128.size a ≤ S106256x128.size a := fun v2116 k0_hw55 => k0_hw55.2.2.2

def k0_off167 (v2120 : BitVec 32) : Fin 2 → Nat :=
  let v2124 : BitVec 32 := v2120
  let v2139 : Index := Scalar.indexCast v2124
  let c0_994 : Index := 0#32
  ![v2139.toNat, 0]
def k0_off168 (v2120 : BitVec 32) : Fin 2 → Nat :=
  let c2_i32_987 : BitVec 32 := 2#32
  let v2125 : BitVec 32 := Scalar.addi v2120 c2_i32_987
  let v2126 : BitVec 32 := v2125
  let v2145 : Index := Scalar.indexCast v2126
  let c0_997 : Index := 0#32
  ![v2145.toNat, 0]

def k0_chk56 (v2120 : BitVec 32) : Prop :=
  (2 ∣ (k0_mult111 v2120).toNat) ∧
  (2 ∣ (k0_mult112 v2120).toNat) ∧
  (∀ a, (k0_off167 v2120) a + S2x128.size a ≤ S106256x128.size a) ∧
  (∀ a, (k0_off168 v2120) a + S2x128.size a ≤ S106256x128.size a)
theorem k0_mult111_dvd : ∀ (v2120 : BitVec 32) (k0_hw56 : k0_chk56 v2120), 2 ∣ (k0_mult111 v2120).toNat := fun v2120 k0_hw56 => k0_hw56.1
theorem k0_mult112_dvd : ∀ (v2120 : BitVec 32) (k0_hw56 : k0_chk56 v2120), 2 ∣ (k0_mult112 v2120).toNat := fun v2120 k0_hw56 => k0_hw56.2.1
theorem k0_off167_inb : ∀ (v2120 : BitVec 32) (k0_hw56 : k0_chk56 v2120), ∀ a, (k0_off167 v2120) a + S2x128.size a ≤ S106256x128.size a := fun v2120 k0_hw56 => k0_hw56.2.2.1
theorem k0_off168_inb : ∀ (v2120 : BitVec 32) (k0_hw56 : k0_chk56 v2120), ∀ a, (k0_off168 v2120) a + S2x128.size a ≤ S106256x128.size a := fun v2120 k0_hw56 => k0_hw56.2.2.2

def k0_off169 (k0_t1 : Fin k0_t1_loop.trips) : Fin 2 → Nat :=
  let c7_1001 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_1000 : BitVec 32 := 0#32
  let v2151 : BitVec 32 := Scalar.addi v1114 c0_i32_1000
  let v2152 : Index := Scalar.indexCast v2151
  ![7, v2152.toNat]
def k0_off170 (k0_t1 : Fin k0_t1_loop.trips) : Fin 2 → Nat :=
  let c7_1004 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c0_i32_1002 : BitVec 32 := 0#32
  let v2154 : BitVec 32 := Scalar.addi v1114 c0_i32_1002
  let c1_i32_1003 : BitVec 32 := 1#32
  let v2155 : BitVec 32 := Scalar.addi v2154 c1_i32_1003
  let v2156 : Index := Scalar.indexCast v2155
  ![7, v2156.toNat]
def k0_mult113 (v2153 : BitVec 32) : BitVec 32 :=
  v2153

def k0_mult114 (v2153 : BitVec 32) : BitVec 32 :=
  let c2_i32_1005 : BitVec 32 := 2#32
  let v2159 : BitVec 32 := Scalar.addi v2153 c2_i32_1005
  v2159
def k0_mult115 (v2157 : BitVec 32) : BitVec 32 :=
  v2157

def k0_mult116 (v2157 : BitVec 32) : BitVec 32 :=
  let c2_i32_1006 : BitVec 32 := 2#32
  let v2162 : BitVec 32 := Scalar.addi v2157 c2_i32_1006
  v2162
def k0_off171 (v2153 : BitVec 32) : Fin 2 → Nat :=
  let v2158 : BitVec 32 := v2153
  let v2164 : Index := Scalar.indexCast v2158
  let c0_1007 : Index := 0#32
  ![v2164.toNat, 0]
def k0_off172 (v2153 : BitVec 32) : Fin 2 → Nat :=
  let c2_i32_1005 : BitVec 32 := 2#32
  let v2159 : BitVec 32 := Scalar.addi v2153 c2_i32_1005
  let v2160 : BitVec 32 := v2159
  let v2170 : Index := Scalar.indexCast v2160
  let c0_1010 : Index := 0#32
  ![v2170.toNat, 0]

def k0_chk57 (v2153 : BitVec 32) : Prop :=
  (2 ∣ (k0_mult113 v2153).toNat) ∧
  (2 ∣ (k0_mult114 v2153).toNat) ∧
  (∀ a, (k0_off171 v2153) a + S2x128.size a ≤ S106256x128.size a) ∧
  (∀ a, (k0_off172 v2153) a + S2x128.size a ≤ S106256x128.size a)
theorem k0_mult113_dvd : ∀ (v2153 : BitVec 32) (k0_hw57 : k0_chk57 v2153), 2 ∣ (k0_mult113 v2153).toNat := fun v2153 k0_hw57 => k0_hw57.1
theorem k0_mult114_dvd : ∀ (v2153 : BitVec 32) (k0_hw57 : k0_chk57 v2153), 2 ∣ (k0_mult114 v2153).toNat := fun v2153 k0_hw57 => k0_hw57.2.1
theorem k0_off171_inb : ∀ (v2153 : BitVec 32) (k0_hw57 : k0_chk57 v2153), ∀ a, (k0_off171 v2153) a + S2x128.size a ≤ S106256x128.size a := fun v2153 k0_hw57 => k0_hw57.2.2.1
theorem k0_off172_inb : ∀ (v2153 : BitVec 32) (k0_hw57 : k0_chk57 v2153), ∀ a, (k0_off172 v2153) a + S2x128.size a ≤ S106256x128.size a := fun v2153 k0_hw57 => k0_hw57.2.2.2

def k0_off173 (v2157 : BitVec 32) : Fin 2 → Nat :=
  let v2161 : BitVec 32 := v2157
  let v2176 : Index := Scalar.indexCast v2161
  let c0_1013 : Index := 0#32
  ![v2176.toNat, 0]
def k0_off174 (v2157 : BitVec 32) : Fin 2 → Nat :=
  let c2_i32_1006 : BitVec 32 := 2#32
  let v2162 : BitVec 32 := Scalar.addi v2157 c2_i32_1006
  let v2163 : BitVec 32 := v2162
  let v2182 : Index := Scalar.indexCast v2163
  let c0_1016 : Index := 0#32
  ![v2182.toNat, 0]

def k0_chk58 (v2157 : BitVec 32) : Prop :=
  (2 ∣ (k0_mult115 v2157).toNat) ∧
  (2 ∣ (k0_mult116 v2157).toNat) ∧
  (∀ a, (k0_off173 v2157) a + S2x128.size a ≤ S106256x128.size a) ∧
  (∀ a, (k0_off174 v2157) a + S2x128.size a ≤ S106256x128.size a)
theorem k0_mult115_dvd : ∀ (v2157 : BitVec 32) (k0_hw58 : k0_chk58 v2157), 2 ∣ (k0_mult115 v2157).toNat := fun v2157 k0_hw58 => k0_hw58.1
theorem k0_mult116_dvd : ∀ (v2157 : BitVec 32) (k0_hw58 : k0_chk58 v2157), 2 ∣ (k0_mult116 v2157).toNat := fun v2157 k0_hw58 => k0_hw58.2.1
theorem k0_off173_inb : ∀ (v2157 : BitVec 32) (k0_hw58 : k0_chk58 v2157), ∀ a, (k0_off173 v2157) a + S2x128.size a ≤ S106256x128.size a := fun v2157 k0_hw58 => k0_hw58.2.2.1
theorem k0_off174_inb : ∀ (v2157 : BitVec 32) (k0_hw58 : k0_chk58 v2157), ∀ a, (k0_off174 v2157) a + S2x128.size a ≤ S106256x128.size a := fun v2157 k0_hw58 => k0_hw58.2.2.2

def k0_off175 (k0_t1 : Fin k0_t1_loop.trips) : Fin 2 → Nat :=
  let c7_1020 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_1019 : BitVec 32 := 2#32
  let v2188 : BitVec 32 := Scalar.addi v1114 c2_i32_1019
  let v2189 : Index := Scalar.indexCast v2188
  ![7, v2189.toNat]
def k0_off176 (k0_t1 : Fin k0_t1_loop.trips) : Fin 2 → Nat :=
  let c7_1023 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c2_i32_1021 : BitVec 32 := 2#32
  let v2191 : BitVec 32 := Scalar.addi v1114 c2_i32_1021
  let c1_i32_1022 : BitVec 32 := 1#32
  let v2192 : BitVec 32 := Scalar.addi v2191 c1_i32_1022
  let v2193 : Index := Scalar.indexCast v2192
  ![7, v2193.toNat]
def k0_mult117 (v2190 : BitVec 32) : BitVec 32 :=
  v2190

def k0_mult118 (v2190 : BitVec 32) : BitVec 32 :=
  let c2_i32_1024 : BitVec 32 := 2#32
  let v2196 : BitVec 32 := Scalar.addi v2190 c2_i32_1024
  v2196
def k0_mult119 (v2194 : BitVec 32) : BitVec 32 :=
  v2194

def k0_mult120 (v2194 : BitVec 32) : BitVec 32 :=
  let c2_i32_1025 : BitVec 32 := 2#32
  let v2199 : BitVec 32 := Scalar.addi v2194 c2_i32_1025
  v2199
def k0_off177 (v2190 : BitVec 32) : Fin 2 → Nat :=
  let v2195 : BitVec 32 := v2190
  let v2201 : Index := Scalar.indexCast v2195
  let c0_1026 : Index := 0#32
  ![v2201.toNat, 0]
def k0_off178 (v2190 : BitVec 32) : Fin 2 → Nat :=
  let c2_i32_1024 : BitVec 32 := 2#32
  let v2196 : BitVec 32 := Scalar.addi v2190 c2_i32_1024
  let v2197 : BitVec 32 := v2196
  let v2207 : Index := Scalar.indexCast v2197
  let c0_1029 : Index := 0#32
  ![v2207.toNat, 0]

def k0_chk59 (v2190 : BitVec 32) : Prop :=
  (2 ∣ (k0_mult117 v2190).toNat) ∧
  (2 ∣ (k0_mult118 v2190).toNat) ∧
  (∀ a, (k0_off177 v2190) a + S2x128.size a ≤ S106256x128.size a) ∧
  (∀ a, (k0_off178 v2190) a + S2x128.size a ≤ S106256x128.size a)
theorem k0_mult117_dvd : ∀ (v2190 : BitVec 32) (k0_hw59 : k0_chk59 v2190), 2 ∣ (k0_mult117 v2190).toNat := fun v2190 k0_hw59 => k0_hw59.1
theorem k0_mult118_dvd : ∀ (v2190 : BitVec 32) (k0_hw59 : k0_chk59 v2190), 2 ∣ (k0_mult118 v2190).toNat := fun v2190 k0_hw59 => k0_hw59.2.1
theorem k0_off177_inb : ∀ (v2190 : BitVec 32) (k0_hw59 : k0_chk59 v2190), ∀ a, (k0_off177 v2190) a + S2x128.size a ≤ S106256x128.size a := fun v2190 k0_hw59 => k0_hw59.2.2.1
theorem k0_off178_inb : ∀ (v2190 : BitVec 32) (k0_hw59 : k0_chk59 v2190), ∀ a, (k0_off178 v2190) a + S2x128.size a ≤ S106256x128.size a := fun v2190 k0_hw59 => k0_hw59.2.2.2

def k0_off179 (v2194 : BitVec 32) : Fin 2 → Nat :=
  let v2198 : BitVec 32 := v2194
  let v2213 : Index := Scalar.indexCast v2198
  let c0_1032 : Index := 0#32
  ![v2213.toNat, 0]
def k0_off180 (v2194 : BitVec 32) : Fin 2 → Nat :=
  let c2_i32_1025 : BitVec 32 := 2#32
  let v2199 : BitVec 32 := Scalar.addi v2194 c2_i32_1025
  let v2200 : BitVec 32 := v2199
  let v2219 : Index := Scalar.indexCast v2200
  let c0_1035 : Index := 0#32
  ![v2219.toNat, 0]

def k0_chk60 (v2194 : BitVec 32) : Prop :=
  (2 ∣ (k0_mult119 v2194).toNat) ∧
  (2 ∣ (k0_mult120 v2194).toNat) ∧
  (∀ a, (k0_off179 v2194) a + S2x128.size a ≤ S106256x128.size a) ∧
  (∀ a, (k0_off180 v2194) a + S2x128.size a ≤ S106256x128.size a)
theorem k0_mult119_dvd : ∀ (v2194 : BitVec 32) (k0_hw60 : k0_chk60 v2194), 2 ∣ (k0_mult119 v2194).toNat := fun v2194 k0_hw60 => k0_hw60.1
theorem k0_mult120_dvd : ∀ (v2194 : BitVec 32) (k0_hw60 : k0_chk60 v2194), 2 ∣ (k0_mult120 v2194).toNat := fun v2194 k0_hw60 => k0_hw60.2.1
theorem k0_off179_inb : ∀ (v2194 : BitVec 32) (k0_hw60 : k0_chk60 v2194), ∀ a, (k0_off179 v2194) a + S2x128.size a ≤ S106256x128.size a := fun v2194 k0_hw60 => k0_hw60.2.2.1
theorem k0_off180_inb : ∀ (v2194 : BitVec 32) (k0_hw60 : k0_chk60 v2194), ∀ a, (k0_off180 v2194) a + S2x128.size a ≤ S106256x128.size a := fun v2194 k0_hw60 => k0_hw60.2.2.2

def k0_off181 (k0_t1 : Fin k0_t1_loop.trips) : Fin 2 → Nat :=
  let c7_1039 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_1038 : BitVec 32 := 4#32
  let v2225 : BitVec 32 := Scalar.addi v1114 c4_i32_1038
  let v2226 : Index := Scalar.indexCast v2225
  ![7, v2226.toNat]
def k0_off182 (k0_t1 : Fin k0_t1_loop.trips) : Fin 2 → Nat :=
  let c7_1042 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c4_i32_1040 : BitVec 32 := 4#32
  let v2228 : BitVec 32 := Scalar.addi v1114 c4_i32_1040
  let c1_i32_1041 : BitVec 32 := 1#32
  let v2229 : BitVec 32 := Scalar.addi v2228 c1_i32_1041
  let v2230 : Index := Scalar.indexCast v2229
  ![7, v2230.toNat]
def k0_mult121 (v2227 : BitVec 32) : BitVec 32 :=
  v2227

def k0_mult122 (v2227 : BitVec 32) : BitVec 32 :=
  let c2_i32_1043 : BitVec 32 := 2#32
  let v2233 : BitVec 32 := Scalar.addi v2227 c2_i32_1043
  v2233
def k0_mult123 (v2231 : BitVec 32) : BitVec 32 :=
  v2231

def k0_mult124 (v2231 : BitVec 32) : BitVec 32 :=
  let c2_i32_1044 : BitVec 32 := 2#32
  let v2236 : BitVec 32 := Scalar.addi v2231 c2_i32_1044
  v2236
def k0_off183 (v2227 : BitVec 32) : Fin 2 → Nat :=
  let v2232 : BitVec 32 := v2227
  let v2238 : Index := Scalar.indexCast v2232
  let c0_1045 : Index := 0#32
  ![v2238.toNat, 0]
def k0_off184 (v2227 : BitVec 32) : Fin 2 → Nat :=
  let c2_i32_1043 : BitVec 32 := 2#32
  let v2233 : BitVec 32 := Scalar.addi v2227 c2_i32_1043
  let v2234 : BitVec 32 := v2233
  let v2244 : Index := Scalar.indexCast v2234
  let c0_1048 : Index := 0#32
  ![v2244.toNat, 0]

def k0_chk61 (v2227 : BitVec 32) : Prop :=
  (2 ∣ (k0_mult121 v2227).toNat) ∧
  (2 ∣ (k0_mult122 v2227).toNat) ∧
  (∀ a, (k0_off183 v2227) a + S2x128.size a ≤ S106256x128.size a) ∧
  (∀ a, (k0_off184 v2227) a + S2x128.size a ≤ S106256x128.size a)
theorem k0_mult121_dvd : ∀ (v2227 : BitVec 32) (k0_hw61 : k0_chk61 v2227), 2 ∣ (k0_mult121 v2227).toNat := fun v2227 k0_hw61 => k0_hw61.1
theorem k0_mult122_dvd : ∀ (v2227 : BitVec 32) (k0_hw61 : k0_chk61 v2227), 2 ∣ (k0_mult122 v2227).toNat := fun v2227 k0_hw61 => k0_hw61.2.1
theorem k0_off183_inb : ∀ (v2227 : BitVec 32) (k0_hw61 : k0_chk61 v2227), ∀ a, (k0_off183 v2227) a + S2x128.size a ≤ S106256x128.size a := fun v2227 k0_hw61 => k0_hw61.2.2.1
theorem k0_off184_inb : ∀ (v2227 : BitVec 32) (k0_hw61 : k0_chk61 v2227), ∀ a, (k0_off184 v2227) a + S2x128.size a ≤ S106256x128.size a := fun v2227 k0_hw61 => k0_hw61.2.2.2

def k0_off185 (v2231 : BitVec 32) : Fin 2 → Nat :=
  let v2235 : BitVec 32 := v2231
  let v2250 : Index := Scalar.indexCast v2235
  let c0_1051 : Index := 0#32
  ![v2250.toNat, 0]
def k0_off186 (v2231 : BitVec 32) : Fin 2 → Nat :=
  let c2_i32_1044 : BitVec 32 := 2#32
  let v2236 : BitVec 32 := Scalar.addi v2231 c2_i32_1044
  let v2237 : BitVec 32 := v2236
  let v2256 : Index := Scalar.indexCast v2237
  let c0_1054 : Index := 0#32
  ![v2256.toNat, 0]

def k0_chk62 (v2231 : BitVec 32) : Prop :=
  (2 ∣ (k0_mult123 v2231).toNat) ∧
  (2 ∣ (k0_mult124 v2231).toNat) ∧
  (∀ a, (k0_off185 v2231) a + S2x128.size a ≤ S106256x128.size a) ∧
  (∀ a, (k0_off186 v2231) a + S2x128.size a ≤ S106256x128.size a)
theorem k0_mult123_dvd : ∀ (v2231 : BitVec 32) (k0_hw62 : k0_chk62 v2231), 2 ∣ (k0_mult123 v2231).toNat := fun v2231 k0_hw62 => k0_hw62.1
theorem k0_mult124_dvd : ∀ (v2231 : BitVec 32) (k0_hw62 : k0_chk62 v2231), 2 ∣ (k0_mult124 v2231).toNat := fun v2231 k0_hw62 => k0_hw62.2.1
theorem k0_off185_inb : ∀ (v2231 : BitVec 32) (k0_hw62 : k0_chk62 v2231), ∀ a, (k0_off185 v2231) a + S2x128.size a ≤ S106256x128.size a := fun v2231 k0_hw62 => k0_hw62.2.2.1
theorem k0_off186_inb : ∀ (v2231 : BitVec 32) (k0_hw62 : k0_chk62 v2231), ∀ a, (k0_off186 v2231) a + S2x128.size a ≤ S106256x128.size a := fun v2231 k0_hw62 => k0_hw62.2.2.2

def k0_off187 (k0_t1 : Fin k0_t1_loop.trips) : Fin 2 → Nat :=
  let c7_1058 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_1057 : BitVec 32 := 6#32
  let v2262 : BitVec 32 := Scalar.addi v1114 c6_i32_1057
  let v2263 : Index := Scalar.indexCast v2262
  ![7, v2263.toNat]
def k0_off188 (k0_t1 : Fin k0_t1_loop.trips) : Fin 2 → Nat :=
  let c7_1061 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c8_i32 : BitVec 32 := 8#32
  let v1114 : BitVec 32 := Scalar.muli v1113 c8_i32
  let c6_i32_1059 : BitVec 32 := 6#32
  let v2265 : BitVec 32 := Scalar.addi v1114 c6_i32_1059
  let c1_i32_1060 : BitVec 32 := 1#32
  let v2266 : BitVec 32 := Scalar.addi v2265 c1_i32_1060
  let v2267 : Index := Scalar.indexCast v2266
  ![7, v2267.toNat]
def k0_mult125 (v2264 : BitVec 32) : BitVec 32 :=
  v2264

def k0_mult126 (v2264 : BitVec 32) : BitVec 32 :=
  let c2_i32_1062 : BitVec 32 := 2#32
  let v2270 : BitVec 32 := Scalar.addi v2264 c2_i32_1062
  v2270
def k0_mult127 (v2268 : BitVec 32) : BitVec 32 :=
  v2268

def k0_mult128 (v2268 : BitVec 32) : BitVec 32 :=
  let c2_i32_1063 : BitVec 32 := 2#32
  let v2273 : BitVec 32 := Scalar.addi v2268 c2_i32_1063
  v2273
def k0_off189 (v2264 : BitVec 32) : Fin 2 → Nat :=
  let v2269 : BitVec 32 := v2264
  let v2275 : Index := Scalar.indexCast v2269
  let c0_1064 : Index := 0#32
  ![v2275.toNat, 0]
def k0_off190 (v2264 : BitVec 32) : Fin 2 → Nat :=
  let c2_i32_1062 : BitVec 32 := 2#32
  let v2270 : BitVec 32 := Scalar.addi v2264 c2_i32_1062
  let v2271 : BitVec 32 := v2270
  let v2281 : Index := Scalar.indexCast v2271
  let c0_1067 : Index := 0#32
  ![v2281.toNat, 0]

def k0_chk63 (v2264 : BitVec 32) : Prop :=
  (2 ∣ (k0_mult125 v2264).toNat) ∧
  (2 ∣ (k0_mult126 v2264).toNat) ∧
  (∀ a, (k0_off189 v2264) a + S2x128.size a ≤ S106256x128.size a) ∧
  (∀ a, (k0_off190 v2264) a + S2x128.size a ≤ S106256x128.size a)
theorem k0_mult125_dvd : ∀ (v2264 : BitVec 32) (k0_hw63 : k0_chk63 v2264), 2 ∣ (k0_mult125 v2264).toNat := fun v2264 k0_hw63 => k0_hw63.1
theorem k0_mult126_dvd : ∀ (v2264 : BitVec 32) (k0_hw63 : k0_chk63 v2264), 2 ∣ (k0_mult126 v2264).toNat := fun v2264 k0_hw63 => k0_hw63.2.1
theorem k0_off189_inb : ∀ (v2264 : BitVec 32) (k0_hw63 : k0_chk63 v2264), ∀ a, (k0_off189 v2264) a + S2x128.size a ≤ S106256x128.size a := fun v2264 k0_hw63 => k0_hw63.2.2.1
theorem k0_off190_inb : ∀ (v2264 : BitVec 32) (k0_hw63 : k0_chk63 v2264), ∀ a, (k0_off190 v2264) a + S2x128.size a ≤ S106256x128.size a := fun v2264 k0_hw63 => k0_hw63.2.2.2

def k0_off191 (v2268 : BitVec 32) : Fin 2 → Nat :=
  let v2272 : BitVec 32 := v2268
  let v2287 : Index := Scalar.indexCast v2272
  let c0_1070 : Index := 0#32
  ![v2287.toNat, 0]
def k0_off192 (v2268 : BitVec 32) : Fin 2 → Nat :=
  let c2_i32_1063 : BitVec 32 := 2#32
  let v2273 : BitVec 32 := Scalar.addi v2268 c2_i32_1063
  let v2274 : BitVec 32 := v2273
  let v2293 : Index := Scalar.indexCast v2274
  let c0_1073 : Index := 0#32
  ![v2293.toNat, 0]

def k0_chk64 (v2268 : BitVec 32) : Prop :=
  (2 ∣ (k0_mult127 v2268).toNat) ∧
  (2 ∣ (k0_mult128 v2268).toNat) ∧
  (∀ a, (k0_off191 v2268) a + S2x128.size a ≤ S106256x128.size a) ∧
  (∀ a, (k0_off192 v2268) a + S2x128.size a ≤ S106256x128.size a)
theorem k0_mult127_dvd : ∀ (v2268 : BitVec 32) (k0_hw64 : k0_chk64 v2268), 2 ∣ (k0_mult127 v2268).toNat := fun v2268 k0_hw64 => k0_hw64.1
theorem k0_mult128_dvd : ∀ (v2268 : BitVec 32) (k0_hw64 : k0_chk64 v2268), 2 ∣ (k0_mult128 v2268).toNat := fun v2268 k0_hw64 => k0_hw64.2.1
theorem k0_off191_inb : ∀ (v2268 : BitVec 32) (k0_hw64 : k0_chk64 v2268), ∀ a, (k0_off191 v2268) a + S2x128.size a ≤ S106256x128.size a := fun v2268 k0_hw64 => k0_hw64.2.2.1
theorem k0_off192_inb : ∀ (v2268 : BitVec 32) (k0_hw64 : k0_chk64 v2268), ∀ a, (k0_off192 v2268) a + S2x128.size a ≤ S106256x128.size a := fun v2268 k0_hw64 => k0_hw64.2.2.2

def k0_off193 (k0_t1 : Fin k0_t1_loop.trips) : Fin 2 → Nat :=
  let c0_1079 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1078 : BitVec 32 := 0#32
  let v2301 : BitVec 32 := Scalar.addi v2300 c0_i32_1078
  let v2302 : Index := Scalar.indexCast v2301
  ![0, v2302.toNat]
def k0_off194 (k0_t1 : Fin k0_t1_loop.trips) : Fin 2 → Nat :=
  let c0_1082 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1080 : BitVec 32 := 0#32
  let v2304 : BitVec 32 := Scalar.addi v2300 c0_i32_1080
  let c1_i32_1081 : BitVec 32 := 1#32
  let v2305 : BitVec 32 := Scalar.addi v2304 c1_i32_1081
  let v2306 : Index := Scalar.indexCast v2305
  ![0, v2306.toNat]
def k0_mult129 (v2303 : BitVec 32) : BitVec 32 :=
  v2303

def k0_mult130 (v2303 : BitVec 32) : BitVec 32 :=
  let c2_i32_1083 : BitVec 32 := 2#32
  let v2309 : BitVec 32 := Scalar.addi v2303 c2_i32_1083
  v2309
def k0_mult131 (v2307 : BitVec 32) : BitVec 32 :=
  v2307

def k0_mult132 (v2307 : BitVec 32) : BitVec 32 :=
  let c2_i32_1084 : BitVec 32 := 2#32
  let v2312 : BitVec 32 := Scalar.addi v2307 c2_i32_1084
  v2312
def k0_off195 (v2303 : BitVec 32) : Fin 2 → Nat :=
  let v2308 : BitVec 32 := v2303
  let v2314 : Index := Scalar.indexCast v2308
  let c0_1085 : Index := 0#32
  ![v2314.toNat, 0]
def k0_off196 (v2303 : BitVec 32) : Fin 2 → Nat :=
  let c2_i32_1083 : BitVec 32 := 2#32
  let v2309 : BitVec 32 := Scalar.addi v2303 c2_i32_1083
  let v2310 : BitVec 32 := v2309
  let v2320 : Index := Scalar.indexCast v2310
  let c0_1088 : Index := 0#32
  ![v2320.toNat, 0]

def k0_chk65 (v2303 : BitVec 32) : Prop :=
  (2 ∣ (k0_mult129 v2303).toNat) ∧
  (2 ∣ (k0_mult130 v2303).toNat) ∧
  (∀ a, (k0_off195 v2303) a + S2x128.size a ≤ S106256x128.size a) ∧
  (∀ a, (k0_off196 v2303) a + S2x128.size a ≤ S106256x128.size a)
theorem k0_mult129_dvd : ∀ (v2303 : BitVec 32) (k0_hw65 : k0_chk65 v2303), 2 ∣ (k0_mult129 v2303).toNat := fun v2303 k0_hw65 => k0_hw65.1
theorem k0_mult130_dvd : ∀ (v2303 : BitVec 32) (k0_hw65 : k0_chk65 v2303), 2 ∣ (k0_mult130 v2303).toNat := fun v2303 k0_hw65 => k0_hw65.2.1
theorem k0_off195_inb : ∀ (v2303 : BitVec 32) (k0_hw65 : k0_chk65 v2303), ∀ a, (k0_off195 v2303) a + S2x128.size a ≤ S106256x128.size a := fun v2303 k0_hw65 => k0_hw65.2.2.1
theorem k0_off196_inb : ∀ (v2303 : BitVec 32) (k0_hw65 : k0_chk65 v2303), ∀ a, (k0_off196 v2303) a + S2x128.size a ≤ S106256x128.size a := fun v2303 k0_hw65 => k0_hw65.2.2.2

def k0_off197 (v2307 : BitVec 32) : Fin 2 → Nat :=
  let v2311 : BitVec 32 := v2307
  let v2326 : Index := Scalar.indexCast v2311
  let c0_1091 : Index := 0#32
  ![v2326.toNat, 0]
def k0_off198 (v2307 : BitVec 32) : Fin 2 → Nat :=
  let c2_i32_1084 : BitVec 32 := 2#32
  let v2312 : BitVec 32 := Scalar.addi v2307 c2_i32_1084
  let v2313 : BitVec 32 := v2312
  let v2332 : Index := Scalar.indexCast v2313
  let c0_1094 : Index := 0#32
  ![v2332.toNat, 0]

def k0_chk66 (v2307 : BitVec 32) : Prop :=
  (2 ∣ (k0_mult131 v2307).toNat) ∧
  (2 ∣ (k0_mult132 v2307).toNat) ∧
  (∀ a, (k0_off197 v2307) a + S2x128.size a ≤ S106256x128.size a) ∧
  (∀ a, (k0_off198 v2307) a + S2x128.size a ≤ S106256x128.size a)
theorem k0_mult131_dvd : ∀ (v2307 : BitVec 32) (k0_hw66 : k0_chk66 v2307), 2 ∣ (k0_mult131 v2307).toNat := fun v2307 k0_hw66 => k0_hw66.1
theorem k0_mult132_dvd : ∀ (v2307 : BitVec 32) (k0_hw66 : k0_chk66 v2307), 2 ∣ (k0_mult132 v2307).toNat := fun v2307 k0_hw66 => k0_hw66.2.1
theorem k0_off197_inb : ∀ (v2307 : BitVec 32) (k0_hw66 : k0_chk66 v2307), ∀ a, (k0_off197 v2307) a + S2x128.size a ≤ S106256x128.size a := fun v2307 k0_hw66 => k0_hw66.2.2.1
theorem k0_off198_inb : ∀ (v2307 : BitVec 32) (k0_hw66 : k0_chk66 v2307), ∀ a, (k0_off198 v2307) a + S2x128.size a ≤ S106256x128.size a := fun v2307 k0_hw66 => k0_hw66.2.2.2

def k0_off199 (k0_t1 : Fin k0_t1_loop.trips) : Fin 2 → Nat :=
  let c0_1098 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1097 : BitVec 32 := 2#32
  let v2338 : BitVec 32 := Scalar.addi v2300 c2_i32_1097
  let v2339 : Index := Scalar.indexCast v2338
  ![0, v2339.toNat]
def k0_off200 (k0_t1 : Fin k0_t1_loop.trips) : Fin 2 → Nat :=
  let c0_1101 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1099 : BitVec 32 := 2#32
  let v2341 : BitVec 32 := Scalar.addi v2300 c2_i32_1099
  let c1_i32_1100 : BitVec 32 := 1#32
  let v2342 : BitVec 32 := Scalar.addi v2341 c1_i32_1100
  let v2343 : Index := Scalar.indexCast v2342
  ![0, v2343.toNat]
def k0_mult133 (v2340 : BitVec 32) : BitVec 32 :=
  v2340

def k0_mult134 (v2340 : BitVec 32) : BitVec 32 :=
  let c2_i32_1102 : BitVec 32 := 2#32
  let v2346 : BitVec 32 := Scalar.addi v2340 c2_i32_1102
  v2346
def k0_mult135 (v2344 : BitVec 32) : BitVec 32 :=
  v2344

def k0_mult136 (v2344 : BitVec 32) : BitVec 32 :=
  let c2_i32_1103 : BitVec 32 := 2#32
  let v2349 : BitVec 32 := Scalar.addi v2344 c2_i32_1103
  v2349
def k0_off201 (v2340 : BitVec 32) : Fin 2 → Nat :=
  let v2345 : BitVec 32 := v2340
  let v2351 : Index := Scalar.indexCast v2345
  let c0_1104 : Index := 0#32
  ![v2351.toNat, 0]
def k0_off202 (v2340 : BitVec 32) : Fin 2 → Nat :=
  let c2_i32_1102 : BitVec 32 := 2#32
  let v2346 : BitVec 32 := Scalar.addi v2340 c2_i32_1102
  let v2347 : BitVec 32 := v2346
  let v2357 : Index := Scalar.indexCast v2347
  let c0_1107 : Index := 0#32
  ![v2357.toNat, 0]

def k0_chk67 (v2340 : BitVec 32) : Prop :=
  (2 ∣ (k0_mult133 v2340).toNat) ∧
  (2 ∣ (k0_mult134 v2340).toNat) ∧
  (∀ a, (k0_off201 v2340) a + S2x128.size a ≤ S106256x128.size a) ∧
  (∀ a, (k0_off202 v2340) a + S2x128.size a ≤ S106256x128.size a)
theorem k0_mult133_dvd : ∀ (v2340 : BitVec 32) (k0_hw67 : k0_chk67 v2340), 2 ∣ (k0_mult133 v2340).toNat := fun v2340 k0_hw67 => k0_hw67.1
theorem k0_mult134_dvd : ∀ (v2340 : BitVec 32) (k0_hw67 : k0_chk67 v2340), 2 ∣ (k0_mult134 v2340).toNat := fun v2340 k0_hw67 => k0_hw67.2.1
theorem k0_off201_inb : ∀ (v2340 : BitVec 32) (k0_hw67 : k0_chk67 v2340), ∀ a, (k0_off201 v2340) a + S2x128.size a ≤ S106256x128.size a := fun v2340 k0_hw67 => k0_hw67.2.2.1
theorem k0_off202_inb : ∀ (v2340 : BitVec 32) (k0_hw67 : k0_chk67 v2340), ∀ a, (k0_off202 v2340) a + S2x128.size a ≤ S106256x128.size a := fun v2340 k0_hw67 => k0_hw67.2.2.2

def k0_off203 (v2344 : BitVec 32) : Fin 2 → Nat :=
  let v2348 : BitVec 32 := v2344
  let v2363 : Index := Scalar.indexCast v2348
  let c0_1110 : Index := 0#32
  ![v2363.toNat, 0]
def k0_off204 (v2344 : BitVec 32) : Fin 2 → Nat :=
  let c2_i32_1103 : BitVec 32 := 2#32
  let v2349 : BitVec 32 := Scalar.addi v2344 c2_i32_1103
  let v2350 : BitVec 32 := v2349
  let v2369 : Index := Scalar.indexCast v2350
  let c0_1113 : Index := 0#32
  ![v2369.toNat, 0]

def k0_chk68 (v2344 : BitVec 32) : Prop :=
  (2 ∣ (k0_mult135 v2344).toNat) ∧
  (2 ∣ (k0_mult136 v2344).toNat) ∧
  (∀ a, (k0_off203 v2344) a + S2x128.size a ≤ S106256x128.size a) ∧
  (∀ a, (k0_off204 v2344) a + S2x128.size a ≤ S106256x128.size a)
theorem k0_mult135_dvd : ∀ (v2344 : BitVec 32) (k0_hw68 : k0_chk68 v2344), 2 ∣ (k0_mult135 v2344).toNat := fun v2344 k0_hw68 => k0_hw68.1
theorem k0_mult136_dvd : ∀ (v2344 : BitVec 32) (k0_hw68 : k0_chk68 v2344), 2 ∣ (k0_mult136 v2344).toNat := fun v2344 k0_hw68 => k0_hw68.2.1
theorem k0_off203_inb : ∀ (v2344 : BitVec 32) (k0_hw68 : k0_chk68 v2344), ∀ a, (k0_off203 v2344) a + S2x128.size a ≤ S106256x128.size a := fun v2344 k0_hw68 => k0_hw68.2.2.1
theorem k0_off204_inb : ∀ (v2344 : BitVec 32) (k0_hw68 : k0_chk68 v2344), ∀ a, (k0_off204 v2344) a + S2x128.size a ≤ S106256x128.size a := fun v2344 k0_hw68 => k0_hw68.2.2.2

def k0_off205 (k0_t1 : Fin k0_t1_loop.trips) : Fin 2 → Nat :=
  let c0_1117 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1116 : BitVec 32 := 4#32
  let v2375 : BitVec 32 := Scalar.addi v2300 c4_i32_1116
  let v2376 : Index := Scalar.indexCast v2375
  ![0, v2376.toNat]
def k0_off206 (k0_t1 : Fin k0_t1_loop.trips) : Fin 2 → Nat :=
  let c0_1120 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1118 : BitVec 32 := 4#32
  let v2378 : BitVec 32 := Scalar.addi v2300 c4_i32_1118
  let c1_i32_1119 : BitVec 32 := 1#32
  let v2379 : BitVec 32 := Scalar.addi v2378 c1_i32_1119
  let v2380 : Index := Scalar.indexCast v2379
  ![0, v2380.toNat]
def k0_mult137 (v2377 : BitVec 32) : BitVec 32 :=
  v2377

def k0_mult138 (v2377 : BitVec 32) : BitVec 32 :=
  let c2_i32_1121 : BitVec 32 := 2#32
  let v2383 : BitVec 32 := Scalar.addi v2377 c2_i32_1121
  v2383
def k0_mult139 (v2381 : BitVec 32) : BitVec 32 :=
  v2381

def k0_mult140 (v2381 : BitVec 32) : BitVec 32 :=
  let c2_i32_1122 : BitVec 32 := 2#32
  let v2386 : BitVec 32 := Scalar.addi v2381 c2_i32_1122
  v2386
def k0_off207 (v2377 : BitVec 32) : Fin 2 → Nat :=
  let v2382 : BitVec 32 := v2377
  let v2388 : Index := Scalar.indexCast v2382
  let c0_1123 : Index := 0#32
  ![v2388.toNat, 0]
def k0_off208 (v2377 : BitVec 32) : Fin 2 → Nat :=
  let c2_i32_1121 : BitVec 32 := 2#32
  let v2383 : BitVec 32 := Scalar.addi v2377 c2_i32_1121
  let v2384 : BitVec 32 := v2383
  let v2394 : Index := Scalar.indexCast v2384
  let c0_1126 : Index := 0#32
  ![v2394.toNat, 0]

def k0_chk69 (v2377 : BitVec 32) : Prop :=
  (2 ∣ (k0_mult137 v2377).toNat) ∧
  (2 ∣ (k0_mult138 v2377).toNat) ∧
  (∀ a, (k0_off207 v2377) a + S2x128.size a ≤ S106256x128.size a) ∧
  (∀ a, (k0_off208 v2377) a + S2x128.size a ≤ S106256x128.size a)
theorem k0_mult137_dvd : ∀ (v2377 : BitVec 32) (k0_hw69 : k0_chk69 v2377), 2 ∣ (k0_mult137 v2377).toNat := fun v2377 k0_hw69 => k0_hw69.1
theorem k0_mult138_dvd : ∀ (v2377 : BitVec 32) (k0_hw69 : k0_chk69 v2377), 2 ∣ (k0_mult138 v2377).toNat := fun v2377 k0_hw69 => k0_hw69.2.1
theorem k0_off207_inb : ∀ (v2377 : BitVec 32) (k0_hw69 : k0_chk69 v2377), ∀ a, (k0_off207 v2377) a + S2x128.size a ≤ S106256x128.size a := fun v2377 k0_hw69 => k0_hw69.2.2.1
theorem k0_off208_inb : ∀ (v2377 : BitVec 32) (k0_hw69 : k0_chk69 v2377), ∀ a, (k0_off208 v2377) a + S2x128.size a ≤ S106256x128.size a := fun v2377 k0_hw69 => k0_hw69.2.2.2

def k0_off209 (v2381 : BitVec 32) : Fin 2 → Nat :=
  let v2385 : BitVec 32 := v2381
  let v2400 : Index := Scalar.indexCast v2385
  let c0_1129 : Index := 0#32
  ![v2400.toNat, 0]
def k0_off210 (v2381 : BitVec 32) : Fin 2 → Nat :=
  let c2_i32_1122 : BitVec 32 := 2#32
  let v2386 : BitVec 32 := Scalar.addi v2381 c2_i32_1122
  let v2387 : BitVec 32 := v2386
  let v2406 : Index := Scalar.indexCast v2387
  let c0_1132 : Index := 0#32
  ![v2406.toNat, 0]

def k0_chk70 (v2381 : BitVec 32) : Prop :=
  (2 ∣ (k0_mult139 v2381).toNat) ∧
  (2 ∣ (k0_mult140 v2381).toNat) ∧
  (∀ a, (k0_off209 v2381) a + S2x128.size a ≤ S106256x128.size a) ∧
  (∀ a, (k0_off210 v2381) a + S2x128.size a ≤ S106256x128.size a)
theorem k0_mult139_dvd : ∀ (v2381 : BitVec 32) (k0_hw70 : k0_chk70 v2381), 2 ∣ (k0_mult139 v2381).toNat := fun v2381 k0_hw70 => k0_hw70.1
theorem k0_mult140_dvd : ∀ (v2381 : BitVec 32) (k0_hw70 : k0_chk70 v2381), 2 ∣ (k0_mult140 v2381).toNat := fun v2381 k0_hw70 => k0_hw70.2.1
theorem k0_off209_inb : ∀ (v2381 : BitVec 32) (k0_hw70 : k0_chk70 v2381), ∀ a, (k0_off209 v2381) a + S2x128.size a ≤ S106256x128.size a := fun v2381 k0_hw70 => k0_hw70.2.2.1
theorem k0_off210_inb : ∀ (v2381 : BitVec 32) (k0_hw70 : k0_chk70 v2381), ∀ a, (k0_off210 v2381) a + S2x128.size a ≤ S106256x128.size a := fun v2381 k0_hw70 => k0_hw70.2.2.2

def k0_off211 (k0_t1 : Fin k0_t1_loop.trips) : Fin 2 → Nat :=
  let c0_1136 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1135 : BitVec 32 := 6#32
  let v2412 : BitVec 32 := Scalar.addi v2300 c6_i32_1135
  let v2413 : Index := Scalar.indexCast v2412
  ![0, v2413.toNat]
def k0_off212 (k0_t1 : Fin k0_t1_loop.trips) : Fin 2 → Nat :=
  let c0_1139 : Index := 0#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1137 : BitVec 32 := 6#32
  let v2415 : BitVec 32 := Scalar.addi v2300 c6_i32_1137
  let c1_i32_1138 : BitVec 32 := 1#32
  let v2416 : BitVec 32 := Scalar.addi v2415 c1_i32_1138
  let v2417 : Index := Scalar.indexCast v2416
  ![0, v2417.toNat]
def k0_mult141 (v2414 : BitVec 32) : BitVec 32 :=
  v2414

def k0_mult142 (v2414 : BitVec 32) : BitVec 32 :=
  let c2_i32_1140 : BitVec 32 := 2#32
  let v2420 : BitVec 32 := Scalar.addi v2414 c2_i32_1140
  v2420
def k0_mult143 (v2418 : BitVec 32) : BitVec 32 :=
  v2418

def k0_mult144 (v2418 : BitVec 32) : BitVec 32 :=
  let c2_i32_1141 : BitVec 32 := 2#32
  let v2423 : BitVec 32 := Scalar.addi v2418 c2_i32_1141
  v2423
def k0_off213 (v2414 : BitVec 32) : Fin 2 → Nat :=
  let v2419 : BitVec 32 := v2414
  let v2425 : Index := Scalar.indexCast v2419
  let c0_1142 : Index := 0#32
  ![v2425.toNat, 0]
def k0_off214 (v2414 : BitVec 32) : Fin 2 → Nat :=
  let c2_i32_1140 : BitVec 32 := 2#32
  let v2420 : BitVec 32 := Scalar.addi v2414 c2_i32_1140
  let v2421 : BitVec 32 := v2420
  let v2431 : Index := Scalar.indexCast v2421
  let c0_1145 : Index := 0#32
  ![v2431.toNat, 0]

def k0_chk71 (v2414 : BitVec 32) : Prop :=
  (2 ∣ (k0_mult141 v2414).toNat) ∧
  (2 ∣ (k0_mult142 v2414).toNat) ∧
  (∀ a, (k0_off213 v2414) a + S2x128.size a ≤ S106256x128.size a) ∧
  (∀ a, (k0_off214 v2414) a + S2x128.size a ≤ S106256x128.size a)
theorem k0_mult141_dvd : ∀ (v2414 : BitVec 32) (k0_hw71 : k0_chk71 v2414), 2 ∣ (k0_mult141 v2414).toNat := fun v2414 k0_hw71 => k0_hw71.1
theorem k0_mult142_dvd : ∀ (v2414 : BitVec 32) (k0_hw71 : k0_chk71 v2414), 2 ∣ (k0_mult142 v2414).toNat := fun v2414 k0_hw71 => k0_hw71.2.1
theorem k0_off213_inb : ∀ (v2414 : BitVec 32) (k0_hw71 : k0_chk71 v2414), ∀ a, (k0_off213 v2414) a + S2x128.size a ≤ S106256x128.size a := fun v2414 k0_hw71 => k0_hw71.2.2.1
theorem k0_off214_inb : ∀ (v2414 : BitVec 32) (k0_hw71 : k0_chk71 v2414), ∀ a, (k0_off214 v2414) a + S2x128.size a ≤ S106256x128.size a := fun v2414 k0_hw71 => k0_hw71.2.2.2

def k0_off215 (v2418 : BitVec 32) : Fin 2 → Nat :=
  let v2422 : BitVec 32 := v2418
  let v2437 : Index := Scalar.indexCast v2422
  let c0_1148 : Index := 0#32
  ![v2437.toNat, 0]
def k0_off216 (v2418 : BitVec 32) : Fin 2 → Nat :=
  let c2_i32_1141 : BitVec 32 := 2#32
  let v2423 : BitVec 32 := Scalar.addi v2418 c2_i32_1141
  let v2424 : BitVec 32 := v2423
  let v2443 : Index := Scalar.indexCast v2424
  let c0_1151 : Index := 0#32
  ![v2443.toNat, 0]

def k0_chk72 (v2418 : BitVec 32) : Prop :=
  (2 ∣ (k0_mult143 v2418).toNat) ∧
  (2 ∣ (k0_mult144 v2418).toNat) ∧
  (∀ a, (k0_off215 v2418) a + S2x128.size a ≤ S106256x128.size a) ∧
  (∀ a, (k0_off216 v2418) a + S2x128.size a ≤ S106256x128.size a)
theorem k0_mult143_dvd : ∀ (v2418 : BitVec 32) (k0_hw72 : k0_chk72 v2418), 2 ∣ (k0_mult143 v2418).toNat := fun v2418 k0_hw72 => k0_hw72.1
theorem k0_mult144_dvd : ∀ (v2418 : BitVec 32) (k0_hw72 : k0_chk72 v2418), 2 ∣ (k0_mult144 v2418).toNat := fun v2418 k0_hw72 => k0_hw72.2.1
theorem k0_off215_inb : ∀ (v2418 : BitVec 32) (k0_hw72 : k0_chk72 v2418), ∀ a, (k0_off215 v2418) a + S2x128.size a ≤ S106256x128.size a := fun v2418 k0_hw72 => k0_hw72.2.2.1
theorem k0_off216_inb : ∀ (v2418 : BitVec 32) (k0_hw72 : k0_chk72 v2418), ∀ a, (k0_off216 v2418) a + S2x128.size a ≤ S106256x128.size a := fun v2418 k0_hw72 => k0_hw72.2.2.2

def k0_off217 (k0_t1 : Fin k0_t1_loop.trips) : Fin 2 → Nat :=
  let c1_1155 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1154 : BitVec 32 := 0#32
  let v2449 : BitVec 32 := Scalar.addi v2300 c0_i32_1154
  let v2450 : Index := Scalar.indexCast v2449
  ![1, v2450.toNat]
def k0_off218 (k0_t1 : Fin k0_t1_loop.trips) : Fin 2 → Nat :=
  let c1_1158 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1156 : BitVec 32 := 0#32
  let v2452 : BitVec 32 := Scalar.addi v2300 c0_i32_1156
  let c1_i32_1157 : BitVec 32 := 1#32
  let v2453 : BitVec 32 := Scalar.addi v2452 c1_i32_1157
  let v2454 : Index := Scalar.indexCast v2453
  ![1, v2454.toNat]
def k0_mult145 (v2451 : BitVec 32) : BitVec 32 :=
  v2451

def k0_mult146 (v2451 : BitVec 32) : BitVec 32 :=
  let c2_i32_1159 : BitVec 32 := 2#32
  let v2457 : BitVec 32 := Scalar.addi v2451 c2_i32_1159
  v2457
def k0_mult147 (v2455 : BitVec 32) : BitVec 32 :=
  v2455

def k0_mult148 (v2455 : BitVec 32) : BitVec 32 :=
  let c2_i32_1160 : BitVec 32 := 2#32
  let v2460 : BitVec 32 := Scalar.addi v2455 c2_i32_1160
  v2460
def k0_off219 (v2451 : BitVec 32) : Fin 2 → Nat :=
  let v2456 : BitVec 32 := v2451
  let v2462 : Index := Scalar.indexCast v2456
  let c0_1161 : Index := 0#32
  ![v2462.toNat, 0]
def k0_off220 (v2451 : BitVec 32) : Fin 2 → Nat :=
  let c2_i32_1159 : BitVec 32 := 2#32
  let v2457 : BitVec 32 := Scalar.addi v2451 c2_i32_1159
  let v2458 : BitVec 32 := v2457
  let v2468 : Index := Scalar.indexCast v2458
  let c0_1164 : Index := 0#32
  ![v2468.toNat, 0]

def k0_chk73 (v2451 : BitVec 32) : Prop :=
  (2 ∣ (k0_mult145 v2451).toNat) ∧
  (2 ∣ (k0_mult146 v2451).toNat) ∧
  (∀ a, (k0_off219 v2451) a + S2x128.size a ≤ S106256x128.size a) ∧
  (∀ a, (k0_off220 v2451) a + S2x128.size a ≤ S106256x128.size a)
theorem k0_mult145_dvd : ∀ (v2451 : BitVec 32) (k0_hw73 : k0_chk73 v2451), 2 ∣ (k0_mult145 v2451).toNat := fun v2451 k0_hw73 => k0_hw73.1
theorem k0_mult146_dvd : ∀ (v2451 : BitVec 32) (k0_hw73 : k0_chk73 v2451), 2 ∣ (k0_mult146 v2451).toNat := fun v2451 k0_hw73 => k0_hw73.2.1
theorem k0_off219_inb : ∀ (v2451 : BitVec 32) (k0_hw73 : k0_chk73 v2451), ∀ a, (k0_off219 v2451) a + S2x128.size a ≤ S106256x128.size a := fun v2451 k0_hw73 => k0_hw73.2.2.1
theorem k0_off220_inb : ∀ (v2451 : BitVec 32) (k0_hw73 : k0_chk73 v2451), ∀ a, (k0_off220 v2451) a + S2x128.size a ≤ S106256x128.size a := fun v2451 k0_hw73 => k0_hw73.2.2.2

def k0_off221 (v2455 : BitVec 32) : Fin 2 → Nat :=
  let v2459 : BitVec 32 := v2455
  let v2474 : Index := Scalar.indexCast v2459
  let c0_1167 : Index := 0#32
  ![v2474.toNat, 0]
def k0_off222 (v2455 : BitVec 32) : Fin 2 → Nat :=
  let c2_i32_1160 : BitVec 32 := 2#32
  let v2460 : BitVec 32 := Scalar.addi v2455 c2_i32_1160
  let v2461 : BitVec 32 := v2460
  let v2480 : Index := Scalar.indexCast v2461
  let c0_1170 : Index := 0#32
  ![v2480.toNat, 0]

def k0_chk74 (v2455 : BitVec 32) : Prop :=
  (2 ∣ (k0_mult147 v2455).toNat) ∧
  (2 ∣ (k0_mult148 v2455).toNat) ∧
  (∀ a, (k0_off221 v2455) a + S2x128.size a ≤ S106256x128.size a) ∧
  (∀ a, (k0_off222 v2455) a + S2x128.size a ≤ S106256x128.size a)
theorem k0_mult147_dvd : ∀ (v2455 : BitVec 32) (k0_hw74 : k0_chk74 v2455), 2 ∣ (k0_mult147 v2455).toNat := fun v2455 k0_hw74 => k0_hw74.1
theorem k0_mult148_dvd : ∀ (v2455 : BitVec 32) (k0_hw74 : k0_chk74 v2455), 2 ∣ (k0_mult148 v2455).toNat := fun v2455 k0_hw74 => k0_hw74.2.1
theorem k0_off221_inb : ∀ (v2455 : BitVec 32) (k0_hw74 : k0_chk74 v2455), ∀ a, (k0_off221 v2455) a + S2x128.size a ≤ S106256x128.size a := fun v2455 k0_hw74 => k0_hw74.2.2.1
theorem k0_off222_inb : ∀ (v2455 : BitVec 32) (k0_hw74 : k0_chk74 v2455), ∀ a, (k0_off222 v2455) a + S2x128.size a ≤ S106256x128.size a := fun v2455 k0_hw74 => k0_hw74.2.2.2

def k0_off223 (k0_t1 : Fin k0_t1_loop.trips) : Fin 2 → Nat :=
  let c1_1174 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1173 : BitVec 32 := 2#32
  let v2486 : BitVec 32 := Scalar.addi v2300 c2_i32_1173
  let v2487 : Index := Scalar.indexCast v2486
  ![1, v2487.toNat]
def k0_off224 (k0_t1 : Fin k0_t1_loop.trips) : Fin 2 → Nat :=
  let c1_1177 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1175 : BitVec 32 := 2#32
  let v2489 : BitVec 32 := Scalar.addi v2300 c2_i32_1175
  let c1_i32_1176 : BitVec 32 := 1#32
  let v2490 : BitVec 32 := Scalar.addi v2489 c1_i32_1176
  let v2491 : Index := Scalar.indexCast v2490
  ![1, v2491.toNat]
def k0_mult149 (v2488 : BitVec 32) : BitVec 32 :=
  v2488

def k0_mult150 (v2488 : BitVec 32) : BitVec 32 :=
  let c2_i32_1178 : BitVec 32 := 2#32
  let v2494 : BitVec 32 := Scalar.addi v2488 c2_i32_1178
  v2494
def k0_mult151 (v2492 : BitVec 32) : BitVec 32 :=
  v2492

def k0_mult152 (v2492 : BitVec 32) : BitVec 32 :=
  let c2_i32_1179 : BitVec 32 := 2#32
  let v2497 : BitVec 32 := Scalar.addi v2492 c2_i32_1179
  v2497
def k0_off225 (v2488 : BitVec 32) : Fin 2 → Nat :=
  let v2493 : BitVec 32 := v2488
  let v2499 : Index := Scalar.indexCast v2493
  let c0_1180 : Index := 0#32
  ![v2499.toNat, 0]
def k0_off226 (v2488 : BitVec 32) : Fin 2 → Nat :=
  let c2_i32_1178 : BitVec 32 := 2#32
  let v2494 : BitVec 32 := Scalar.addi v2488 c2_i32_1178
  let v2495 : BitVec 32 := v2494
  let v2505 : Index := Scalar.indexCast v2495
  let c0_1183 : Index := 0#32
  ![v2505.toNat, 0]

def k0_chk75 (v2488 : BitVec 32) : Prop :=
  (2 ∣ (k0_mult149 v2488).toNat) ∧
  (2 ∣ (k0_mult150 v2488).toNat) ∧
  (∀ a, (k0_off225 v2488) a + S2x128.size a ≤ S106256x128.size a) ∧
  (∀ a, (k0_off226 v2488) a + S2x128.size a ≤ S106256x128.size a)
theorem k0_mult149_dvd : ∀ (v2488 : BitVec 32) (k0_hw75 : k0_chk75 v2488), 2 ∣ (k0_mult149 v2488).toNat := fun v2488 k0_hw75 => k0_hw75.1
theorem k0_mult150_dvd : ∀ (v2488 : BitVec 32) (k0_hw75 : k0_chk75 v2488), 2 ∣ (k0_mult150 v2488).toNat := fun v2488 k0_hw75 => k0_hw75.2.1
theorem k0_off225_inb : ∀ (v2488 : BitVec 32) (k0_hw75 : k0_chk75 v2488), ∀ a, (k0_off225 v2488) a + S2x128.size a ≤ S106256x128.size a := fun v2488 k0_hw75 => k0_hw75.2.2.1
theorem k0_off226_inb : ∀ (v2488 : BitVec 32) (k0_hw75 : k0_chk75 v2488), ∀ a, (k0_off226 v2488) a + S2x128.size a ≤ S106256x128.size a := fun v2488 k0_hw75 => k0_hw75.2.2.2

def k0_off227 (v2492 : BitVec 32) : Fin 2 → Nat :=
  let v2496 : BitVec 32 := v2492
  let v2511 : Index := Scalar.indexCast v2496
  let c0_1186 : Index := 0#32
  ![v2511.toNat, 0]
def k0_off228 (v2492 : BitVec 32) : Fin 2 → Nat :=
  let c2_i32_1179 : BitVec 32 := 2#32
  let v2497 : BitVec 32 := Scalar.addi v2492 c2_i32_1179
  let v2498 : BitVec 32 := v2497
  let v2517 : Index := Scalar.indexCast v2498
  let c0_1189 : Index := 0#32
  ![v2517.toNat, 0]

def k0_chk76 (v2492 : BitVec 32) : Prop :=
  (2 ∣ (k0_mult151 v2492).toNat) ∧
  (2 ∣ (k0_mult152 v2492).toNat) ∧
  (∀ a, (k0_off227 v2492) a + S2x128.size a ≤ S106256x128.size a) ∧
  (∀ a, (k0_off228 v2492) a + S2x128.size a ≤ S106256x128.size a)
theorem k0_mult151_dvd : ∀ (v2492 : BitVec 32) (k0_hw76 : k0_chk76 v2492), 2 ∣ (k0_mult151 v2492).toNat := fun v2492 k0_hw76 => k0_hw76.1
theorem k0_mult152_dvd : ∀ (v2492 : BitVec 32) (k0_hw76 : k0_chk76 v2492), 2 ∣ (k0_mult152 v2492).toNat := fun v2492 k0_hw76 => k0_hw76.2.1
theorem k0_off227_inb : ∀ (v2492 : BitVec 32) (k0_hw76 : k0_chk76 v2492), ∀ a, (k0_off227 v2492) a + S2x128.size a ≤ S106256x128.size a := fun v2492 k0_hw76 => k0_hw76.2.2.1
theorem k0_off228_inb : ∀ (v2492 : BitVec 32) (k0_hw76 : k0_chk76 v2492), ∀ a, (k0_off228 v2492) a + S2x128.size a ≤ S106256x128.size a := fun v2492 k0_hw76 => k0_hw76.2.2.2

def k0_off229 (k0_t1 : Fin k0_t1_loop.trips) : Fin 2 → Nat :=
  let c1_1193 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1192 : BitVec 32 := 4#32
  let v2523 : BitVec 32 := Scalar.addi v2300 c4_i32_1192
  let v2524 : Index := Scalar.indexCast v2523
  ![1, v2524.toNat]
def k0_off230 (k0_t1 : Fin k0_t1_loop.trips) : Fin 2 → Nat :=
  let c1_1196 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1194 : BitVec 32 := 4#32
  let v2526 : BitVec 32 := Scalar.addi v2300 c4_i32_1194
  let c1_i32_1195 : BitVec 32 := 1#32
  let v2527 : BitVec 32 := Scalar.addi v2526 c1_i32_1195
  let v2528 : Index := Scalar.indexCast v2527
  ![1, v2528.toNat]
def k0_mult153 (v2525 : BitVec 32) : BitVec 32 :=
  v2525

def k0_mult154 (v2525 : BitVec 32) : BitVec 32 :=
  let c2_i32_1197 : BitVec 32 := 2#32
  let v2531 : BitVec 32 := Scalar.addi v2525 c2_i32_1197
  v2531
def k0_mult155 (v2529 : BitVec 32) : BitVec 32 :=
  v2529

def k0_mult156 (v2529 : BitVec 32) : BitVec 32 :=
  let c2_i32_1198 : BitVec 32 := 2#32
  let v2534 : BitVec 32 := Scalar.addi v2529 c2_i32_1198
  v2534
def k0_off231 (v2525 : BitVec 32) : Fin 2 → Nat :=
  let v2530 : BitVec 32 := v2525
  let v2536 : Index := Scalar.indexCast v2530
  let c0_1199 : Index := 0#32
  ![v2536.toNat, 0]
def k0_off232 (v2525 : BitVec 32) : Fin 2 → Nat :=
  let c2_i32_1197 : BitVec 32 := 2#32
  let v2531 : BitVec 32 := Scalar.addi v2525 c2_i32_1197
  let v2532 : BitVec 32 := v2531
  let v2542 : Index := Scalar.indexCast v2532
  let c0_1202 : Index := 0#32
  ![v2542.toNat, 0]

def k0_chk77 (v2525 : BitVec 32) : Prop :=
  (2 ∣ (k0_mult153 v2525).toNat) ∧
  (2 ∣ (k0_mult154 v2525).toNat) ∧
  (∀ a, (k0_off231 v2525) a + S2x128.size a ≤ S106256x128.size a) ∧
  (∀ a, (k0_off232 v2525) a + S2x128.size a ≤ S106256x128.size a)
theorem k0_mult153_dvd : ∀ (v2525 : BitVec 32) (k0_hw77 : k0_chk77 v2525), 2 ∣ (k0_mult153 v2525).toNat := fun v2525 k0_hw77 => k0_hw77.1
theorem k0_mult154_dvd : ∀ (v2525 : BitVec 32) (k0_hw77 : k0_chk77 v2525), 2 ∣ (k0_mult154 v2525).toNat := fun v2525 k0_hw77 => k0_hw77.2.1
theorem k0_off231_inb : ∀ (v2525 : BitVec 32) (k0_hw77 : k0_chk77 v2525), ∀ a, (k0_off231 v2525) a + S2x128.size a ≤ S106256x128.size a := fun v2525 k0_hw77 => k0_hw77.2.2.1
theorem k0_off232_inb : ∀ (v2525 : BitVec 32) (k0_hw77 : k0_chk77 v2525), ∀ a, (k0_off232 v2525) a + S2x128.size a ≤ S106256x128.size a := fun v2525 k0_hw77 => k0_hw77.2.2.2

def k0_off233 (v2529 : BitVec 32) : Fin 2 → Nat :=
  let v2533 : BitVec 32 := v2529
  let v2548 : Index := Scalar.indexCast v2533
  let c0_1205 : Index := 0#32
  ![v2548.toNat, 0]
def k0_off234 (v2529 : BitVec 32) : Fin 2 → Nat :=
  let c2_i32_1198 : BitVec 32 := 2#32
  let v2534 : BitVec 32 := Scalar.addi v2529 c2_i32_1198
  let v2535 : BitVec 32 := v2534
  let v2554 : Index := Scalar.indexCast v2535
  let c0_1208 : Index := 0#32
  ![v2554.toNat, 0]

def k0_chk78 (v2529 : BitVec 32) : Prop :=
  (2 ∣ (k0_mult155 v2529).toNat) ∧
  (2 ∣ (k0_mult156 v2529).toNat) ∧
  (∀ a, (k0_off233 v2529) a + S2x128.size a ≤ S106256x128.size a) ∧
  (∀ a, (k0_off234 v2529) a + S2x128.size a ≤ S106256x128.size a)
theorem k0_mult155_dvd : ∀ (v2529 : BitVec 32) (k0_hw78 : k0_chk78 v2529), 2 ∣ (k0_mult155 v2529).toNat := fun v2529 k0_hw78 => k0_hw78.1
theorem k0_mult156_dvd : ∀ (v2529 : BitVec 32) (k0_hw78 : k0_chk78 v2529), 2 ∣ (k0_mult156 v2529).toNat := fun v2529 k0_hw78 => k0_hw78.2.1
theorem k0_off233_inb : ∀ (v2529 : BitVec 32) (k0_hw78 : k0_chk78 v2529), ∀ a, (k0_off233 v2529) a + S2x128.size a ≤ S106256x128.size a := fun v2529 k0_hw78 => k0_hw78.2.2.1
theorem k0_off234_inb : ∀ (v2529 : BitVec 32) (k0_hw78 : k0_chk78 v2529), ∀ a, (k0_off234 v2529) a + S2x128.size a ≤ S106256x128.size a := fun v2529 k0_hw78 => k0_hw78.2.2.2

def k0_off235 (k0_t1 : Fin k0_t1_loop.trips) : Fin 2 → Nat :=
  let c1_1212 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1211 : BitVec 32 := 6#32
  let v2560 : BitVec 32 := Scalar.addi v2300 c6_i32_1211
  let v2561 : Index := Scalar.indexCast v2560
  ![1, v2561.toNat]
def k0_off236 (k0_t1 : Fin k0_t1_loop.trips) : Fin 2 → Nat :=
  let c1_1215 : Index := 1#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1213 : BitVec 32 := 6#32
  let v2563 : BitVec 32 := Scalar.addi v2300 c6_i32_1213
  let c1_i32_1214 : BitVec 32 := 1#32
  let v2564 : BitVec 32 := Scalar.addi v2563 c1_i32_1214
  let v2565 : Index := Scalar.indexCast v2564
  ![1, v2565.toNat]
def k0_mult157 (v2562 : BitVec 32) : BitVec 32 :=
  v2562

def k0_mult158 (v2562 : BitVec 32) : BitVec 32 :=
  let c2_i32_1216 : BitVec 32 := 2#32
  let v2568 : BitVec 32 := Scalar.addi v2562 c2_i32_1216
  v2568
def k0_mult159 (v2566 : BitVec 32) : BitVec 32 :=
  v2566

def k0_mult160 (v2566 : BitVec 32) : BitVec 32 :=
  let c2_i32_1217 : BitVec 32 := 2#32
  let v2571 : BitVec 32 := Scalar.addi v2566 c2_i32_1217
  v2571
def k0_off237 (v2562 : BitVec 32) : Fin 2 → Nat :=
  let v2567 : BitVec 32 := v2562
  let v2573 : Index := Scalar.indexCast v2567
  let c0_1218 : Index := 0#32
  ![v2573.toNat, 0]
def k0_off238 (v2562 : BitVec 32) : Fin 2 → Nat :=
  let c2_i32_1216 : BitVec 32 := 2#32
  let v2568 : BitVec 32 := Scalar.addi v2562 c2_i32_1216
  let v2569 : BitVec 32 := v2568
  let v2579 : Index := Scalar.indexCast v2569
  let c0_1221 : Index := 0#32
  ![v2579.toNat, 0]

def k0_chk79 (v2562 : BitVec 32) : Prop :=
  (2 ∣ (k0_mult157 v2562).toNat) ∧
  (2 ∣ (k0_mult158 v2562).toNat) ∧
  (∀ a, (k0_off237 v2562) a + S2x128.size a ≤ S106256x128.size a) ∧
  (∀ a, (k0_off238 v2562) a + S2x128.size a ≤ S106256x128.size a)
theorem k0_mult157_dvd : ∀ (v2562 : BitVec 32) (k0_hw79 : k0_chk79 v2562), 2 ∣ (k0_mult157 v2562).toNat := fun v2562 k0_hw79 => k0_hw79.1
theorem k0_mult158_dvd : ∀ (v2562 : BitVec 32) (k0_hw79 : k0_chk79 v2562), 2 ∣ (k0_mult158 v2562).toNat := fun v2562 k0_hw79 => k0_hw79.2.1
theorem k0_off237_inb : ∀ (v2562 : BitVec 32) (k0_hw79 : k0_chk79 v2562), ∀ a, (k0_off237 v2562) a + S2x128.size a ≤ S106256x128.size a := fun v2562 k0_hw79 => k0_hw79.2.2.1
theorem k0_off238_inb : ∀ (v2562 : BitVec 32) (k0_hw79 : k0_chk79 v2562), ∀ a, (k0_off238 v2562) a + S2x128.size a ≤ S106256x128.size a := fun v2562 k0_hw79 => k0_hw79.2.2.2

def k0_off239 (v2566 : BitVec 32) : Fin 2 → Nat :=
  let v2570 : BitVec 32 := v2566
  let v2585 : Index := Scalar.indexCast v2570
  let c0_1224 : Index := 0#32
  ![v2585.toNat, 0]
def k0_off240 (v2566 : BitVec 32) : Fin 2 → Nat :=
  let c2_i32_1217 : BitVec 32 := 2#32
  let v2571 : BitVec 32 := Scalar.addi v2566 c2_i32_1217
  let v2572 : BitVec 32 := v2571
  let v2591 : Index := Scalar.indexCast v2572
  let c0_1227 : Index := 0#32
  ![v2591.toNat, 0]

def k0_chk80 (v2566 : BitVec 32) : Prop :=
  (2 ∣ (k0_mult159 v2566).toNat) ∧
  (2 ∣ (k0_mult160 v2566).toNat) ∧
  (∀ a, (k0_off239 v2566) a + S2x128.size a ≤ S106256x128.size a) ∧
  (∀ a, (k0_off240 v2566) a + S2x128.size a ≤ S106256x128.size a)
theorem k0_mult159_dvd : ∀ (v2566 : BitVec 32) (k0_hw80 : k0_chk80 v2566), 2 ∣ (k0_mult159 v2566).toNat := fun v2566 k0_hw80 => k0_hw80.1
theorem k0_mult160_dvd : ∀ (v2566 : BitVec 32) (k0_hw80 : k0_chk80 v2566), 2 ∣ (k0_mult160 v2566).toNat := fun v2566 k0_hw80 => k0_hw80.2.1
theorem k0_off239_inb : ∀ (v2566 : BitVec 32) (k0_hw80 : k0_chk80 v2566), ∀ a, (k0_off239 v2566) a + S2x128.size a ≤ S106256x128.size a := fun v2566 k0_hw80 => k0_hw80.2.2.1
theorem k0_off240_inb : ∀ (v2566 : BitVec 32) (k0_hw80 : k0_chk80 v2566), ∀ a, (k0_off240 v2566) a + S2x128.size a ≤ S106256x128.size a := fun v2566 k0_hw80 => k0_hw80.2.2.2

def k0_off241 (k0_t1 : Fin k0_t1_loop.trips) : Fin 2 → Nat :=
  let c2_1231 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1230 : BitVec 32 := 0#32
  let v2597 : BitVec 32 := Scalar.addi v2300 c0_i32_1230
  let v2598 : Index := Scalar.indexCast v2597
  ![2, v2598.toNat]
def k0_off242 (k0_t1 : Fin k0_t1_loop.trips) : Fin 2 → Nat :=
  let c2_1234 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1232 : BitVec 32 := 0#32
  let v2600 : BitVec 32 := Scalar.addi v2300 c0_i32_1232
  let c1_i32_1233 : BitVec 32 := 1#32
  let v2601 : BitVec 32 := Scalar.addi v2600 c1_i32_1233
  let v2602 : Index := Scalar.indexCast v2601
  ![2, v2602.toNat]
def k0_mult161 (v2599 : BitVec 32) : BitVec 32 :=
  v2599

def k0_mult162 (v2599 : BitVec 32) : BitVec 32 :=
  let c2_i32_1235 : BitVec 32 := 2#32
  let v2605 : BitVec 32 := Scalar.addi v2599 c2_i32_1235
  v2605
def k0_mult163 (v2603 : BitVec 32) : BitVec 32 :=
  v2603

def k0_mult164 (v2603 : BitVec 32) : BitVec 32 :=
  let c2_i32_1236 : BitVec 32 := 2#32
  let v2608 : BitVec 32 := Scalar.addi v2603 c2_i32_1236
  v2608
def k0_off243 (v2599 : BitVec 32) : Fin 2 → Nat :=
  let v2604 : BitVec 32 := v2599
  let v2610 : Index := Scalar.indexCast v2604
  let c0_1237 : Index := 0#32
  ![v2610.toNat, 0]
def k0_off244 (v2599 : BitVec 32) : Fin 2 → Nat :=
  let c2_i32_1235 : BitVec 32 := 2#32
  let v2605 : BitVec 32 := Scalar.addi v2599 c2_i32_1235
  let v2606 : BitVec 32 := v2605
  let v2616 : Index := Scalar.indexCast v2606
  let c0_1240 : Index := 0#32
  ![v2616.toNat, 0]

def k0_chk81 (v2599 : BitVec 32) : Prop :=
  (2 ∣ (k0_mult161 v2599).toNat) ∧
  (2 ∣ (k0_mult162 v2599).toNat) ∧
  (∀ a, (k0_off243 v2599) a + S2x128.size a ≤ S106256x128.size a) ∧
  (∀ a, (k0_off244 v2599) a + S2x128.size a ≤ S106256x128.size a)
theorem k0_mult161_dvd : ∀ (v2599 : BitVec 32) (k0_hw81 : k0_chk81 v2599), 2 ∣ (k0_mult161 v2599).toNat := fun v2599 k0_hw81 => k0_hw81.1
theorem k0_mult162_dvd : ∀ (v2599 : BitVec 32) (k0_hw81 : k0_chk81 v2599), 2 ∣ (k0_mult162 v2599).toNat := fun v2599 k0_hw81 => k0_hw81.2.1
theorem k0_off243_inb : ∀ (v2599 : BitVec 32) (k0_hw81 : k0_chk81 v2599), ∀ a, (k0_off243 v2599) a + S2x128.size a ≤ S106256x128.size a := fun v2599 k0_hw81 => k0_hw81.2.2.1
theorem k0_off244_inb : ∀ (v2599 : BitVec 32) (k0_hw81 : k0_chk81 v2599), ∀ a, (k0_off244 v2599) a + S2x128.size a ≤ S106256x128.size a := fun v2599 k0_hw81 => k0_hw81.2.2.2

def k0_off245 (v2603 : BitVec 32) : Fin 2 → Nat :=
  let v2607 : BitVec 32 := v2603
  let v2622 : Index := Scalar.indexCast v2607
  let c0_1243 : Index := 0#32
  ![v2622.toNat, 0]
def k0_off246 (v2603 : BitVec 32) : Fin 2 → Nat :=
  let c2_i32_1236 : BitVec 32 := 2#32
  let v2608 : BitVec 32 := Scalar.addi v2603 c2_i32_1236
  let v2609 : BitVec 32 := v2608
  let v2628 : Index := Scalar.indexCast v2609
  let c0_1246 : Index := 0#32
  ![v2628.toNat, 0]

def k0_chk82 (v2603 : BitVec 32) : Prop :=
  (2 ∣ (k0_mult163 v2603).toNat) ∧
  (2 ∣ (k0_mult164 v2603).toNat) ∧
  (∀ a, (k0_off245 v2603) a + S2x128.size a ≤ S106256x128.size a) ∧
  (∀ a, (k0_off246 v2603) a + S2x128.size a ≤ S106256x128.size a)
theorem k0_mult163_dvd : ∀ (v2603 : BitVec 32) (k0_hw82 : k0_chk82 v2603), 2 ∣ (k0_mult163 v2603).toNat := fun v2603 k0_hw82 => k0_hw82.1
theorem k0_mult164_dvd : ∀ (v2603 : BitVec 32) (k0_hw82 : k0_chk82 v2603), 2 ∣ (k0_mult164 v2603).toNat := fun v2603 k0_hw82 => k0_hw82.2.1
theorem k0_off245_inb : ∀ (v2603 : BitVec 32) (k0_hw82 : k0_chk82 v2603), ∀ a, (k0_off245 v2603) a + S2x128.size a ≤ S106256x128.size a := fun v2603 k0_hw82 => k0_hw82.2.2.1
theorem k0_off246_inb : ∀ (v2603 : BitVec 32) (k0_hw82 : k0_chk82 v2603), ∀ a, (k0_off246 v2603) a + S2x128.size a ≤ S106256x128.size a := fun v2603 k0_hw82 => k0_hw82.2.2.2

def k0_off247 (k0_t1 : Fin k0_t1_loop.trips) : Fin 2 → Nat :=
  let c2_1250 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1249 : BitVec 32 := 2#32
  let v2634 : BitVec 32 := Scalar.addi v2300 c2_i32_1249
  let v2635 : Index := Scalar.indexCast v2634
  ![2, v2635.toNat]
def k0_off248 (k0_t1 : Fin k0_t1_loop.trips) : Fin 2 → Nat :=
  let c2_1253 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1251 : BitVec 32 := 2#32
  let v2637 : BitVec 32 := Scalar.addi v2300 c2_i32_1251
  let c1_i32_1252 : BitVec 32 := 1#32
  let v2638 : BitVec 32 := Scalar.addi v2637 c1_i32_1252
  let v2639 : Index := Scalar.indexCast v2638
  ![2, v2639.toNat]
def k0_mult165 (v2636 : BitVec 32) : BitVec 32 :=
  v2636

def k0_mult166 (v2636 : BitVec 32) : BitVec 32 :=
  let c2_i32_1254 : BitVec 32 := 2#32
  let v2642 : BitVec 32 := Scalar.addi v2636 c2_i32_1254
  v2642
def k0_mult167 (v2640 : BitVec 32) : BitVec 32 :=
  v2640

def k0_mult168 (v2640 : BitVec 32) : BitVec 32 :=
  let c2_i32_1255 : BitVec 32 := 2#32
  let v2645 : BitVec 32 := Scalar.addi v2640 c2_i32_1255
  v2645
def k0_off249 (v2636 : BitVec 32) : Fin 2 → Nat :=
  let v2641 : BitVec 32 := v2636
  let v2647 : Index := Scalar.indexCast v2641
  let c0_1256 : Index := 0#32
  ![v2647.toNat, 0]
def k0_off250 (v2636 : BitVec 32) : Fin 2 → Nat :=
  let c2_i32_1254 : BitVec 32 := 2#32
  let v2642 : BitVec 32 := Scalar.addi v2636 c2_i32_1254
  let v2643 : BitVec 32 := v2642
  let v2653 : Index := Scalar.indexCast v2643
  let c0_1259 : Index := 0#32
  ![v2653.toNat, 0]

def k0_chk83 (v2636 : BitVec 32) : Prop :=
  (2 ∣ (k0_mult165 v2636).toNat) ∧
  (2 ∣ (k0_mult166 v2636).toNat) ∧
  (∀ a, (k0_off249 v2636) a + S2x128.size a ≤ S106256x128.size a) ∧
  (∀ a, (k0_off250 v2636) a + S2x128.size a ≤ S106256x128.size a)
theorem k0_mult165_dvd : ∀ (v2636 : BitVec 32) (k0_hw83 : k0_chk83 v2636), 2 ∣ (k0_mult165 v2636).toNat := fun v2636 k0_hw83 => k0_hw83.1
theorem k0_mult166_dvd : ∀ (v2636 : BitVec 32) (k0_hw83 : k0_chk83 v2636), 2 ∣ (k0_mult166 v2636).toNat := fun v2636 k0_hw83 => k0_hw83.2.1
theorem k0_off249_inb : ∀ (v2636 : BitVec 32) (k0_hw83 : k0_chk83 v2636), ∀ a, (k0_off249 v2636) a + S2x128.size a ≤ S106256x128.size a := fun v2636 k0_hw83 => k0_hw83.2.2.1
theorem k0_off250_inb : ∀ (v2636 : BitVec 32) (k0_hw83 : k0_chk83 v2636), ∀ a, (k0_off250 v2636) a + S2x128.size a ≤ S106256x128.size a := fun v2636 k0_hw83 => k0_hw83.2.2.2

def k0_off251 (v2640 : BitVec 32) : Fin 2 → Nat :=
  let v2644 : BitVec 32 := v2640
  let v2659 : Index := Scalar.indexCast v2644
  let c0_1262 : Index := 0#32
  ![v2659.toNat, 0]
def k0_off252 (v2640 : BitVec 32) : Fin 2 → Nat :=
  let c2_i32_1255 : BitVec 32 := 2#32
  let v2645 : BitVec 32 := Scalar.addi v2640 c2_i32_1255
  let v2646 : BitVec 32 := v2645
  let v2665 : Index := Scalar.indexCast v2646
  let c0_1265 : Index := 0#32
  ![v2665.toNat, 0]

def k0_chk84 (v2640 : BitVec 32) : Prop :=
  (2 ∣ (k0_mult167 v2640).toNat) ∧
  (2 ∣ (k0_mult168 v2640).toNat) ∧
  (∀ a, (k0_off251 v2640) a + S2x128.size a ≤ S106256x128.size a) ∧
  (∀ a, (k0_off252 v2640) a + S2x128.size a ≤ S106256x128.size a)
theorem k0_mult167_dvd : ∀ (v2640 : BitVec 32) (k0_hw84 : k0_chk84 v2640), 2 ∣ (k0_mult167 v2640).toNat := fun v2640 k0_hw84 => k0_hw84.1
theorem k0_mult168_dvd : ∀ (v2640 : BitVec 32) (k0_hw84 : k0_chk84 v2640), 2 ∣ (k0_mult168 v2640).toNat := fun v2640 k0_hw84 => k0_hw84.2.1
theorem k0_off251_inb : ∀ (v2640 : BitVec 32) (k0_hw84 : k0_chk84 v2640), ∀ a, (k0_off251 v2640) a + S2x128.size a ≤ S106256x128.size a := fun v2640 k0_hw84 => k0_hw84.2.2.1
theorem k0_off252_inb : ∀ (v2640 : BitVec 32) (k0_hw84 : k0_chk84 v2640), ∀ a, (k0_off252 v2640) a + S2x128.size a ≤ S106256x128.size a := fun v2640 k0_hw84 => k0_hw84.2.2.2

def k0_off253 (k0_t1 : Fin k0_t1_loop.trips) : Fin 2 → Nat :=
  let c2_1269 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1268 : BitVec 32 := 4#32
  let v2671 : BitVec 32 := Scalar.addi v2300 c4_i32_1268
  let v2672 : Index := Scalar.indexCast v2671
  ![2, v2672.toNat]
def k0_off254 (k0_t1 : Fin k0_t1_loop.trips) : Fin 2 → Nat :=
  let c2_1272 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1270 : BitVec 32 := 4#32
  let v2674 : BitVec 32 := Scalar.addi v2300 c4_i32_1270
  let c1_i32_1271 : BitVec 32 := 1#32
  let v2675 : BitVec 32 := Scalar.addi v2674 c1_i32_1271
  let v2676 : Index := Scalar.indexCast v2675
  ![2, v2676.toNat]
def k0_mult169 (v2673 : BitVec 32) : BitVec 32 :=
  v2673

def k0_mult170 (v2673 : BitVec 32) : BitVec 32 :=
  let c2_i32_1273 : BitVec 32 := 2#32
  let v2679 : BitVec 32 := Scalar.addi v2673 c2_i32_1273
  v2679
def k0_mult171 (v2677 : BitVec 32) : BitVec 32 :=
  v2677

def k0_mult172 (v2677 : BitVec 32) : BitVec 32 :=
  let c2_i32_1274 : BitVec 32 := 2#32
  let v2682 : BitVec 32 := Scalar.addi v2677 c2_i32_1274
  v2682
def k0_off255 (v2673 : BitVec 32) : Fin 2 → Nat :=
  let v2678 : BitVec 32 := v2673
  let v2684 : Index := Scalar.indexCast v2678
  let c0_1275 : Index := 0#32
  ![v2684.toNat, 0]
def k0_off256 (v2673 : BitVec 32) : Fin 2 → Nat :=
  let c2_i32_1273 : BitVec 32 := 2#32
  let v2679 : BitVec 32 := Scalar.addi v2673 c2_i32_1273
  let v2680 : BitVec 32 := v2679
  let v2690 : Index := Scalar.indexCast v2680
  let c0_1278 : Index := 0#32
  ![v2690.toNat, 0]

def k0_chk85 (v2673 : BitVec 32) : Prop :=
  (2 ∣ (k0_mult169 v2673).toNat) ∧
  (2 ∣ (k0_mult170 v2673).toNat) ∧
  (∀ a, (k0_off255 v2673) a + S2x128.size a ≤ S106256x128.size a) ∧
  (∀ a, (k0_off256 v2673) a + S2x128.size a ≤ S106256x128.size a)
theorem k0_mult169_dvd : ∀ (v2673 : BitVec 32) (k0_hw85 : k0_chk85 v2673), 2 ∣ (k0_mult169 v2673).toNat := fun v2673 k0_hw85 => k0_hw85.1
theorem k0_mult170_dvd : ∀ (v2673 : BitVec 32) (k0_hw85 : k0_chk85 v2673), 2 ∣ (k0_mult170 v2673).toNat := fun v2673 k0_hw85 => k0_hw85.2.1
theorem k0_off255_inb : ∀ (v2673 : BitVec 32) (k0_hw85 : k0_chk85 v2673), ∀ a, (k0_off255 v2673) a + S2x128.size a ≤ S106256x128.size a := fun v2673 k0_hw85 => k0_hw85.2.2.1
theorem k0_off256_inb : ∀ (v2673 : BitVec 32) (k0_hw85 : k0_chk85 v2673), ∀ a, (k0_off256 v2673) a + S2x128.size a ≤ S106256x128.size a := fun v2673 k0_hw85 => k0_hw85.2.2.2

def k0_off257 (v2677 : BitVec 32) : Fin 2 → Nat :=
  let v2681 : BitVec 32 := v2677
  let v2696 : Index := Scalar.indexCast v2681
  let c0_1281 : Index := 0#32
  ![v2696.toNat, 0]
def k0_off258 (v2677 : BitVec 32) : Fin 2 → Nat :=
  let c2_i32_1274 : BitVec 32 := 2#32
  let v2682 : BitVec 32 := Scalar.addi v2677 c2_i32_1274
  let v2683 : BitVec 32 := v2682
  let v2702 : Index := Scalar.indexCast v2683
  let c0_1284 : Index := 0#32
  ![v2702.toNat, 0]

def k0_chk86 (v2677 : BitVec 32) : Prop :=
  (2 ∣ (k0_mult171 v2677).toNat) ∧
  (2 ∣ (k0_mult172 v2677).toNat) ∧
  (∀ a, (k0_off257 v2677) a + S2x128.size a ≤ S106256x128.size a) ∧
  (∀ a, (k0_off258 v2677) a + S2x128.size a ≤ S106256x128.size a)
theorem k0_mult171_dvd : ∀ (v2677 : BitVec 32) (k0_hw86 : k0_chk86 v2677), 2 ∣ (k0_mult171 v2677).toNat := fun v2677 k0_hw86 => k0_hw86.1
theorem k0_mult172_dvd : ∀ (v2677 : BitVec 32) (k0_hw86 : k0_chk86 v2677), 2 ∣ (k0_mult172 v2677).toNat := fun v2677 k0_hw86 => k0_hw86.2.1
theorem k0_off257_inb : ∀ (v2677 : BitVec 32) (k0_hw86 : k0_chk86 v2677), ∀ a, (k0_off257 v2677) a + S2x128.size a ≤ S106256x128.size a := fun v2677 k0_hw86 => k0_hw86.2.2.1
theorem k0_off258_inb : ∀ (v2677 : BitVec 32) (k0_hw86 : k0_chk86 v2677), ∀ a, (k0_off258 v2677) a + S2x128.size a ≤ S106256x128.size a := fun v2677 k0_hw86 => k0_hw86.2.2.2

def k0_off259 (k0_t1 : Fin k0_t1_loop.trips) : Fin 2 → Nat :=
  let c2_1288 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1287 : BitVec 32 := 6#32
  let v2708 : BitVec 32 := Scalar.addi v2300 c6_i32_1287
  let v2709 : Index := Scalar.indexCast v2708
  ![2, v2709.toNat]
def k0_off260 (k0_t1 : Fin k0_t1_loop.trips) : Fin 2 → Nat :=
  let c2_1291 : Index := 2#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1289 : BitVec 32 := 6#32
  let v2711 : BitVec 32 := Scalar.addi v2300 c6_i32_1289
  let c1_i32_1290 : BitVec 32 := 1#32
  let v2712 : BitVec 32 := Scalar.addi v2711 c1_i32_1290
  let v2713 : Index := Scalar.indexCast v2712
  ![2, v2713.toNat]
def k0_mult173 (v2710 : BitVec 32) : BitVec 32 :=
  v2710

def k0_mult174 (v2710 : BitVec 32) : BitVec 32 :=
  let c2_i32_1292 : BitVec 32 := 2#32
  let v2716 : BitVec 32 := Scalar.addi v2710 c2_i32_1292
  v2716
def k0_mult175 (v2714 : BitVec 32) : BitVec 32 :=
  v2714

def k0_mult176 (v2714 : BitVec 32) : BitVec 32 :=
  let c2_i32_1293 : BitVec 32 := 2#32
  let v2719 : BitVec 32 := Scalar.addi v2714 c2_i32_1293
  v2719
def k0_off261 (v2710 : BitVec 32) : Fin 2 → Nat :=
  let v2715 : BitVec 32 := v2710
  let v2721 : Index := Scalar.indexCast v2715
  let c0_1294 : Index := 0#32
  ![v2721.toNat, 0]
def k0_off262 (v2710 : BitVec 32) : Fin 2 → Nat :=
  let c2_i32_1292 : BitVec 32 := 2#32
  let v2716 : BitVec 32 := Scalar.addi v2710 c2_i32_1292
  let v2717 : BitVec 32 := v2716
  let v2727 : Index := Scalar.indexCast v2717
  let c0_1297 : Index := 0#32
  ![v2727.toNat, 0]

def k0_chk87 (v2710 : BitVec 32) : Prop :=
  (2 ∣ (k0_mult173 v2710).toNat) ∧
  (2 ∣ (k0_mult174 v2710).toNat) ∧
  (∀ a, (k0_off261 v2710) a + S2x128.size a ≤ S106256x128.size a) ∧
  (∀ a, (k0_off262 v2710) a + S2x128.size a ≤ S106256x128.size a)
theorem k0_mult173_dvd : ∀ (v2710 : BitVec 32) (k0_hw87 : k0_chk87 v2710), 2 ∣ (k0_mult173 v2710).toNat := fun v2710 k0_hw87 => k0_hw87.1
theorem k0_mult174_dvd : ∀ (v2710 : BitVec 32) (k0_hw87 : k0_chk87 v2710), 2 ∣ (k0_mult174 v2710).toNat := fun v2710 k0_hw87 => k0_hw87.2.1
theorem k0_off261_inb : ∀ (v2710 : BitVec 32) (k0_hw87 : k0_chk87 v2710), ∀ a, (k0_off261 v2710) a + S2x128.size a ≤ S106256x128.size a := fun v2710 k0_hw87 => k0_hw87.2.2.1
theorem k0_off262_inb : ∀ (v2710 : BitVec 32) (k0_hw87 : k0_chk87 v2710), ∀ a, (k0_off262 v2710) a + S2x128.size a ≤ S106256x128.size a := fun v2710 k0_hw87 => k0_hw87.2.2.2

def k0_off263 (v2714 : BitVec 32) : Fin 2 → Nat :=
  let v2718 : BitVec 32 := v2714
  let v2733 : Index := Scalar.indexCast v2718
  let c0_1300 : Index := 0#32
  ![v2733.toNat, 0]
def k0_off264 (v2714 : BitVec 32) : Fin 2 → Nat :=
  let c2_i32_1293 : BitVec 32 := 2#32
  let v2719 : BitVec 32 := Scalar.addi v2714 c2_i32_1293
  let v2720 : BitVec 32 := v2719
  let v2739 : Index := Scalar.indexCast v2720
  let c0_1303 : Index := 0#32
  ![v2739.toNat, 0]

def k0_chk88 (v2714 : BitVec 32) : Prop :=
  (2 ∣ (k0_mult175 v2714).toNat) ∧
  (2 ∣ (k0_mult176 v2714).toNat) ∧
  (∀ a, (k0_off263 v2714) a + S2x128.size a ≤ S106256x128.size a) ∧
  (∀ a, (k0_off264 v2714) a + S2x128.size a ≤ S106256x128.size a)
theorem k0_mult175_dvd : ∀ (v2714 : BitVec 32) (k0_hw88 : k0_chk88 v2714), 2 ∣ (k0_mult175 v2714).toNat := fun v2714 k0_hw88 => k0_hw88.1
theorem k0_mult176_dvd : ∀ (v2714 : BitVec 32) (k0_hw88 : k0_chk88 v2714), 2 ∣ (k0_mult176 v2714).toNat := fun v2714 k0_hw88 => k0_hw88.2.1
theorem k0_off263_inb : ∀ (v2714 : BitVec 32) (k0_hw88 : k0_chk88 v2714), ∀ a, (k0_off263 v2714) a + S2x128.size a ≤ S106256x128.size a := fun v2714 k0_hw88 => k0_hw88.2.2.1
theorem k0_off264_inb : ∀ (v2714 : BitVec 32) (k0_hw88 : k0_chk88 v2714), ∀ a, (k0_off264 v2714) a + S2x128.size a ≤ S106256x128.size a := fun v2714 k0_hw88 => k0_hw88.2.2.2

def k0_off265 (k0_t1 : Fin k0_t1_loop.trips) : Fin 2 → Nat :=
  let c3_1307 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1306 : BitVec 32 := 0#32
  let v2745 : BitVec 32 := Scalar.addi v2300 c0_i32_1306
  let v2746 : Index := Scalar.indexCast v2745
  ![3, v2746.toNat]
def k0_off266 (k0_t1 : Fin k0_t1_loop.trips) : Fin 2 → Nat :=
  let c3_1310 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1308 : BitVec 32 := 0#32
  let v2748 : BitVec 32 := Scalar.addi v2300 c0_i32_1308
  let c1_i32_1309 : BitVec 32 := 1#32
  let v2749 : BitVec 32 := Scalar.addi v2748 c1_i32_1309
  let v2750 : Index := Scalar.indexCast v2749
  ![3, v2750.toNat]
def k0_mult177 (v2747 : BitVec 32) : BitVec 32 :=
  v2747

def k0_mult178 (v2747 : BitVec 32) : BitVec 32 :=
  let c2_i32_1311 : BitVec 32 := 2#32
  let v2753 : BitVec 32 := Scalar.addi v2747 c2_i32_1311
  v2753
def k0_mult179 (v2751 : BitVec 32) : BitVec 32 :=
  v2751

def k0_mult180 (v2751 : BitVec 32) : BitVec 32 :=
  let c2_i32_1312 : BitVec 32 := 2#32
  let v2756 : BitVec 32 := Scalar.addi v2751 c2_i32_1312
  v2756
def k0_off267 (v2747 : BitVec 32) : Fin 2 → Nat :=
  let v2752 : BitVec 32 := v2747
  let v2758 : Index := Scalar.indexCast v2752
  let c0_1313 : Index := 0#32
  ![v2758.toNat, 0]
def k0_off268 (v2747 : BitVec 32) : Fin 2 → Nat :=
  let c2_i32_1311 : BitVec 32 := 2#32
  let v2753 : BitVec 32 := Scalar.addi v2747 c2_i32_1311
  let v2754 : BitVec 32 := v2753
  let v2764 : Index := Scalar.indexCast v2754
  let c0_1316 : Index := 0#32
  ![v2764.toNat, 0]

def k0_chk89 (v2747 : BitVec 32) : Prop :=
  (2 ∣ (k0_mult177 v2747).toNat) ∧
  (2 ∣ (k0_mult178 v2747).toNat) ∧
  (∀ a, (k0_off267 v2747) a + S2x128.size a ≤ S106256x128.size a) ∧
  (∀ a, (k0_off268 v2747) a + S2x128.size a ≤ S106256x128.size a)
theorem k0_mult177_dvd : ∀ (v2747 : BitVec 32) (k0_hw89 : k0_chk89 v2747), 2 ∣ (k0_mult177 v2747).toNat := fun v2747 k0_hw89 => k0_hw89.1
theorem k0_mult178_dvd : ∀ (v2747 : BitVec 32) (k0_hw89 : k0_chk89 v2747), 2 ∣ (k0_mult178 v2747).toNat := fun v2747 k0_hw89 => k0_hw89.2.1
theorem k0_off267_inb : ∀ (v2747 : BitVec 32) (k0_hw89 : k0_chk89 v2747), ∀ a, (k0_off267 v2747) a + S2x128.size a ≤ S106256x128.size a := fun v2747 k0_hw89 => k0_hw89.2.2.1
theorem k0_off268_inb : ∀ (v2747 : BitVec 32) (k0_hw89 : k0_chk89 v2747), ∀ a, (k0_off268 v2747) a + S2x128.size a ≤ S106256x128.size a := fun v2747 k0_hw89 => k0_hw89.2.2.2

def k0_off269 (v2751 : BitVec 32) : Fin 2 → Nat :=
  let v2755 : BitVec 32 := v2751
  let v2770 : Index := Scalar.indexCast v2755
  let c0_1319 : Index := 0#32
  ![v2770.toNat, 0]
def k0_off270 (v2751 : BitVec 32) : Fin 2 → Nat :=
  let c2_i32_1312 : BitVec 32 := 2#32
  let v2756 : BitVec 32 := Scalar.addi v2751 c2_i32_1312
  let v2757 : BitVec 32 := v2756
  let v2776 : Index := Scalar.indexCast v2757
  let c0_1322 : Index := 0#32
  ![v2776.toNat, 0]

def k0_chk90 (v2751 : BitVec 32) : Prop :=
  (2 ∣ (k0_mult179 v2751).toNat) ∧
  (2 ∣ (k0_mult180 v2751).toNat) ∧
  (∀ a, (k0_off269 v2751) a + S2x128.size a ≤ S106256x128.size a) ∧
  (∀ a, (k0_off270 v2751) a + S2x128.size a ≤ S106256x128.size a)
theorem k0_mult179_dvd : ∀ (v2751 : BitVec 32) (k0_hw90 : k0_chk90 v2751), 2 ∣ (k0_mult179 v2751).toNat := fun v2751 k0_hw90 => k0_hw90.1
theorem k0_mult180_dvd : ∀ (v2751 : BitVec 32) (k0_hw90 : k0_chk90 v2751), 2 ∣ (k0_mult180 v2751).toNat := fun v2751 k0_hw90 => k0_hw90.2.1
theorem k0_off269_inb : ∀ (v2751 : BitVec 32) (k0_hw90 : k0_chk90 v2751), ∀ a, (k0_off269 v2751) a + S2x128.size a ≤ S106256x128.size a := fun v2751 k0_hw90 => k0_hw90.2.2.1
theorem k0_off270_inb : ∀ (v2751 : BitVec 32) (k0_hw90 : k0_chk90 v2751), ∀ a, (k0_off270 v2751) a + S2x128.size a ≤ S106256x128.size a := fun v2751 k0_hw90 => k0_hw90.2.2.2

def k0_off271 (k0_t1 : Fin k0_t1_loop.trips) : Fin 2 → Nat :=
  let c3_1326 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1325 : BitVec 32 := 2#32
  let v2782 : BitVec 32 := Scalar.addi v2300 c2_i32_1325
  let v2783 : Index := Scalar.indexCast v2782
  ![3, v2783.toNat]
def k0_off272 (k0_t1 : Fin k0_t1_loop.trips) : Fin 2 → Nat :=
  let c3_1329 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1327 : BitVec 32 := 2#32
  let v2785 : BitVec 32 := Scalar.addi v2300 c2_i32_1327
  let c1_i32_1328 : BitVec 32 := 1#32
  let v2786 : BitVec 32 := Scalar.addi v2785 c1_i32_1328
  let v2787 : Index := Scalar.indexCast v2786
  ![3, v2787.toNat]
def k0_mult181 (v2784 : BitVec 32) : BitVec 32 :=
  v2784

def k0_mult182 (v2784 : BitVec 32) : BitVec 32 :=
  let c2_i32_1330 : BitVec 32 := 2#32
  let v2790 : BitVec 32 := Scalar.addi v2784 c2_i32_1330
  v2790
def k0_mult183 (v2788 : BitVec 32) : BitVec 32 :=
  v2788

def k0_mult184 (v2788 : BitVec 32) : BitVec 32 :=
  let c2_i32_1331 : BitVec 32 := 2#32
  let v2793 : BitVec 32 := Scalar.addi v2788 c2_i32_1331
  v2793
def k0_off273 (v2784 : BitVec 32) : Fin 2 → Nat :=
  let v2789 : BitVec 32 := v2784
  let v2795 : Index := Scalar.indexCast v2789
  let c0_1332 : Index := 0#32
  ![v2795.toNat, 0]
def k0_off274 (v2784 : BitVec 32) : Fin 2 → Nat :=
  let c2_i32_1330 : BitVec 32 := 2#32
  let v2790 : BitVec 32 := Scalar.addi v2784 c2_i32_1330
  let v2791 : BitVec 32 := v2790
  let v2801 : Index := Scalar.indexCast v2791
  let c0_1335 : Index := 0#32
  ![v2801.toNat, 0]

def k0_chk91 (v2784 : BitVec 32) : Prop :=
  (2 ∣ (k0_mult181 v2784).toNat) ∧
  (2 ∣ (k0_mult182 v2784).toNat) ∧
  (∀ a, (k0_off273 v2784) a + S2x128.size a ≤ S106256x128.size a) ∧
  (∀ a, (k0_off274 v2784) a + S2x128.size a ≤ S106256x128.size a)
theorem k0_mult181_dvd : ∀ (v2784 : BitVec 32) (k0_hw91 : k0_chk91 v2784), 2 ∣ (k0_mult181 v2784).toNat := fun v2784 k0_hw91 => k0_hw91.1
theorem k0_mult182_dvd : ∀ (v2784 : BitVec 32) (k0_hw91 : k0_chk91 v2784), 2 ∣ (k0_mult182 v2784).toNat := fun v2784 k0_hw91 => k0_hw91.2.1
theorem k0_off273_inb : ∀ (v2784 : BitVec 32) (k0_hw91 : k0_chk91 v2784), ∀ a, (k0_off273 v2784) a + S2x128.size a ≤ S106256x128.size a := fun v2784 k0_hw91 => k0_hw91.2.2.1
theorem k0_off274_inb : ∀ (v2784 : BitVec 32) (k0_hw91 : k0_chk91 v2784), ∀ a, (k0_off274 v2784) a + S2x128.size a ≤ S106256x128.size a := fun v2784 k0_hw91 => k0_hw91.2.2.2

def k0_off275 (v2788 : BitVec 32) : Fin 2 → Nat :=
  let v2792 : BitVec 32 := v2788
  let v2807 : Index := Scalar.indexCast v2792
  let c0_1338 : Index := 0#32
  ![v2807.toNat, 0]
def k0_off276 (v2788 : BitVec 32) : Fin 2 → Nat :=
  let c2_i32_1331 : BitVec 32 := 2#32
  let v2793 : BitVec 32 := Scalar.addi v2788 c2_i32_1331
  let v2794 : BitVec 32 := v2793
  let v2813 : Index := Scalar.indexCast v2794
  let c0_1341 : Index := 0#32
  ![v2813.toNat, 0]

def k0_chk92 (v2788 : BitVec 32) : Prop :=
  (2 ∣ (k0_mult183 v2788).toNat) ∧
  (2 ∣ (k0_mult184 v2788).toNat) ∧
  (∀ a, (k0_off275 v2788) a + S2x128.size a ≤ S106256x128.size a) ∧
  (∀ a, (k0_off276 v2788) a + S2x128.size a ≤ S106256x128.size a)
theorem k0_mult183_dvd : ∀ (v2788 : BitVec 32) (k0_hw92 : k0_chk92 v2788), 2 ∣ (k0_mult183 v2788).toNat := fun v2788 k0_hw92 => k0_hw92.1
theorem k0_mult184_dvd : ∀ (v2788 : BitVec 32) (k0_hw92 : k0_chk92 v2788), 2 ∣ (k0_mult184 v2788).toNat := fun v2788 k0_hw92 => k0_hw92.2.1
theorem k0_off275_inb : ∀ (v2788 : BitVec 32) (k0_hw92 : k0_chk92 v2788), ∀ a, (k0_off275 v2788) a + S2x128.size a ≤ S106256x128.size a := fun v2788 k0_hw92 => k0_hw92.2.2.1
theorem k0_off276_inb : ∀ (v2788 : BitVec 32) (k0_hw92 : k0_chk92 v2788), ∀ a, (k0_off276 v2788) a + S2x128.size a ≤ S106256x128.size a := fun v2788 k0_hw92 => k0_hw92.2.2.2

def k0_off277 (k0_t1 : Fin k0_t1_loop.trips) : Fin 2 → Nat :=
  let c3_1345 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1344 : BitVec 32 := 4#32
  let v2819 : BitVec 32 := Scalar.addi v2300 c4_i32_1344
  let v2820 : Index := Scalar.indexCast v2819
  ![3, v2820.toNat]
def k0_off278 (k0_t1 : Fin k0_t1_loop.trips) : Fin 2 → Nat :=
  let c3_1348 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1346 : BitVec 32 := 4#32
  let v2822 : BitVec 32 := Scalar.addi v2300 c4_i32_1346
  let c1_i32_1347 : BitVec 32 := 1#32
  let v2823 : BitVec 32 := Scalar.addi v2822 c1_i32_1347
  let v2824 : Index := Scalar.indexCast v2823
  ![3, v2824.toNat]
def k0_mult185 (v2821 : BitVec 32) : BitVec 32 :=
  v2821

def k0_mult186 (v2821 : BitVec 32) : BitVec 32 :=
  let c2_i32_1349 : BitVec 32 := 2#32
  let v2827 : BitVec 32 := Scalar.addi v2821 c2_i32_1349
  v2827
def k0_mult187 (v2825 : BitVec 32) : BitVec 32 :=
  v2825

def k0_mult188 (v2825 : BitVec 32) : BitVec 32 :=
  let c2_i32_1350 : BitVec 32 := 2#32
  let v2830 : BitVec 32 := Scalar.addi v2825 c2_i32_1350
  v2830
def k0_off279 (v2821 : BitVec 32) : Fin 2 → Nat :=
  let v2826 : BitVec 32 := v2821
  let v2832 : Index := Scalar.indexCast v2826
  let c0_1351 : Index := 0#32
  ![v2832.toNat, 0]
def k0_off280 (v2821 : BitVec 32) : Fin 2 → Nat :=
  let c2_i32_1349 : BitVec 32 := 2#32
  let v2827 : BitVec 32 := Scalar.addi v2821 c2_i32_1349
  let v2828 : BitVec 32 := v2827
  let v2838 : Index := Scalar.indexCast v2828
  let c0_1354 : Index := 0#32
  ![v2838.toNat, 0]

def k0_chk93 (v2821 : BitVec 32) : Prop :=
  (2 ∣ (k0_mult185 v2821).toNat) ∧
  (2 ∣ (k0_mult186 v2821).toNat) ∧
  (∀ a, (k0_off279 v2821) a + S2x128.size a ≤ S106256x128.size a) ∧
  (∀ a, (k0_off280 v2821) a + S2x128.size a ≤ S106256x128.size a)
theorem k0_mult185_dvd : ∀ (v2821 : BitVec 32) (k0_hw93 : k0_chk93 v2821), 2 ∣ (k0_mult185 v2821).toNat := fun v2821 k0_hw93 => k0_hw93.1
theorem k0_mult186_dvd : ∀ (v2821 : BitVec 32) (k0_hw93 : k0_chk93 v2821), 2 ∣ (k0_mult186 v2821).toNat := fun v2821 k0_hw93 => k0_hw93.2.1
theorem k0_off279_inb : ∀ (v2821 : BitVec 32) (k0_hw93 : k0_chk93 v2821), ∀ a, (k0_off279 v2821) a + S2x128.size a ≤ S106256x128.size a := fun v2821 k0_hw93 => k0_hw93.2.2.1
theorem k0_off280_inb : ∀ (v2821 : BitVec 32) (k0_hw93 : k0_chk93 v2821), ∀ a, (k0_off280 v2821) a + S2x128.size a ≤ S106256x128.size a := fun v2821 k0_hw93 => k0_hw93.2.2.2

def k0_off281 (v2825 : BitVec 32) : Fin 2 → Nat :=
  let v2829 : BitVec 32 := v2825
  let v2844 : Index := Scalar.indexCast v2829
  let c0_1357 : Index := 0#32
  ![v2844.toNat, 0]
def k0_off282 (v2825 : BitVec 32) : Fin 2 → Nat :=
  let c2_i32_1350 : BitVec 32 := 2#32
  let v2830 : BitVec 32 := Scalar.addi v2825 c2_i32_1350
  let v2831 : BitVec 32 := v2830
  let v2850 : Index := Scalar.indexCast v2831
  let c0_1360 : Index := 0#32
  ![v2850.toNat, 0]

def k0_chk94 (v2825 : BitVec 32) : Prop :=
  (2 ∣ (k0_mult187 v2825).toNat) ∧
  (2 ∣ (k0_mult188 v2825).toNat) ∧
  (∀ a, (k0_off281 v2825) a + S2x128.size a ≤ S106256x128.size a) ∧
  (∀ a, (k0_off282 v2825) a + S2x128.size a ≤ S106256x128.size a)
theorem k0_mult187_dvd : ∀ (v2825 : BitVec 32) (k0_hw94 : k0_chk94 v2825), 2 ∣ (k0_mult187 v2825).toNat := fun v2825 k0_hw94 => k0_hw94.1
theorem k0_mult188_dvd : ∀ (v2825 : BitVec 32) (k0_hw94 : k0_chk94 v2825), 2 ∣ (k0_mult188 v2825).toNat := fun v2825 k0_hw94 => k0_hw94.2.1
theorem k0_off281_inb : ∀ (v2825 : BitVec 32) (k0_hw94 : k0_chk94 v2825), ∀ a, (k0_off281 v2825) a + S2x128.size a ≤ S106256x128.size a := fun v2825 k0_hw94 => k0_hw94.2.2.1
theorem k0_off282_inb : ∀ (v2825 : BitVec 32) (k0_hw94 : k0_chk94 v2825), ∀ a, (k0_off282 v2825) a + S2x128.size a ≤ S106256x128.size a := fun v2825 k0_hw94 => k0_hw94.2.2.2

def k0_off283 (k0_t1 : Fin k0_t1_loop.trips) : Fin 2 → Nat :=
  let c3_1364 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1363 : BitVec 32 := 6#32
  let v2856 : BitVec 32 := Scalar.addi v2300 c6_i32_1363
  let v2857 : Index := Scalar.indexCast v2856
  ![3, v2857.toNat]
def k0_off284 (k0_t1 : Fin k0_t1_loop.trips) : Fin 2 → Nat :=
  let c3_1367 : Index := 3#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1365 : BitVec 32 := 6#32
  let v2859 : BitVec 32 := Scalar.addi v2300 c6_i32_1365
  let c1_i32_1366 : BitVec 32 := 1#32
  let v2860 : BitVec 32 := Scalar.addi v2859 c1_i32_1366
  let v2861 : Index := Scalar.indexCast v2860
  ![3, v2861.toNat]
def k0_mult189 (v2858 : BitVec 32) : BitVec 32 :=
  v2858

def k0_mult190 (v2858 : BitVec 32) : BitVec 32 :=
  let c2_i32_1368 : BitVec 32 := 2#32
  let v2864 : BitVec 32 := Scalar.addi v2858 c2_i32_1368
  v2864
def k0_mult191 (v2862 : BitVec 32) : BitVec 32 :=
  v2862

def k0_mult192 (v2862 : BitVec 32) : BitVec 32 :=
  let c2_i32_1369 : BitVec 32 := 2#32
  let v2867 : BitVec 32 := Scalar.addi v2862 c2_i32_1369
  v2867
def k0_off285 (v2858 : BitVec 32) : Fin 2 → Nat :=
  let v2863 : BitVec 32 := v2858
  let v2869 : Index := Scalar.indexCast v2863
  let c0_1370 : Index := 0#32
  ![v2869.toNat, 0]
def k0_off286 (v2858 : BitVec 32) : Fin 2 → Nat :=
  let c2_i32_1368 : BitVec 32 := 2#32
  let v2864 : BitVec 32 := Scalar.addi v2858 c2_i32_1368
  let v2865 : BitVec 32 := v2864
  let v2875 : Index := Scalar.indexCast v2865
  let c0_1373 : Index := 0#32
  ![v2875.toNat, 0]

def k0_chk95 (v2858 : BitVec 32) : Prop :=
  (2 ∣ (k0_mult189 v2858).toNat) ∧
  (2 ∣ (k0_mult190 v2858).toNat) ∧
  (∀ a, (k0_off285 v2858) a + S2x128.size a ≤ S106256x128.size a) ∧
  (∀ a, (k0_off286 v2858) a + S2x128.size a ≤ S106256x128.size a)
theorem k0_mult189_dvd : ∀ (v2858 : BitVec 32) (k0_hw95 : k0_chk95 v2858), 2 ∣ (k0_mult189 v2858).toNat := fun v2858 k0_hw95 => k0_hw95.1
theorem k0_mult190_dvd : ∀ (v2858 : BitVec 32) (k0_hw95 : k0_chk95 v2858), 2 ∣ (k0_mult190 v2858).toNat := fun v2858 k0_hw95 => k0_hw95.2.1
theorem k0_off285_inb : ∀ (v2858 : BitVec 32) (k0_hw95 : k0_chk95 v2858), ∀ a, (k0_off285 v2858) a + S2x128.size a ≤ S106256x128.size a := fun v2858 k0_hw95 => k0_hw95.2.2.1
theorem k0_off286_inb : ∀ (v2858 : BitVec 32) (k0_hw95 : k0_chk95 v2858), ∀ a, (k0_off286 v2858) a + S2x128.size a ≤ S106256x128.size a := fun v2858 k0_hw95 => k0_hw95.2.2.2

def k0_off287 (v2862 : BitVec 32) : Fin 2 → Nat :=
  let v2866 : BitVec 32 := v2862
  let v2881 : Index := Scalar.indexCast v2866
  let c0_1376 : Index := 0#32
  ![v2881.toNat, 0]
def k0_off288 (v2862 : BitVec 32) : Fin 2 → Nat :=
  let c2_i32_1369 : BitVec 32 := 2#32
  let v2867 : BitVec 32 := Scalar.addi v2862 c2_i32_1369
  let v2868 : BitVec 32 := v2867
  let v2887 : Index := Scalar.indexCast v2868
  let c0_1379 : Index := 0#32
  ![v2887.toNat, 0]

def k0_chk96 (v2862 : BitVec 32) : Prop :=
  (2 ∣ (k0_mult191 v2862).toNat) ∧
  (2 ∣ (k0_mult192 v2862).toNat) ∧
  (∀ a, (k0_off287 v2862) a + S2x128.size a ≤ S106256x128.size a) ∧
  (∀ a, (k0_off288 v2862) a + S2x128.size a ≤ S106256x128.size a)
theorem k0_mult191_dvd : ∀ (v2862 : BitVec 32) (k0_hw96 : k0_chk96 v2862), 2 ∣ (k0_mult191 v2862).toNat := fun v2862 k0_hw96 => k0_hw96.1
theorem k0_mult192_dvd : ∀ (v2862 : BitVec 32) (k0_hw96 : k0_chk96 v2862), 2 ∣ (k0_mult192 v2862).toNat := fun v2862 k0_hw96 => k0_hw96.2.1
theorem k0_off287_inb : ∀ (v2862 : BitVec 32) (k0_hw96 : k0_chk96 v2862), ∀ a, (k0_off287 v2862) a + S2x128.size a ≤ S106256x128.size a := fun v2862 k0_hw96 => k0_hw96.2.2.1
theorem k0_off288_inb : ∀ (v2862 : BitVec 32) (k0_hw96 : k0_chk96 v2862), ∀ a, (k0_off288 v2862) a + S2x128.size a ≤ S106256x128.size a := fun v2862 k0_hw96 => k0_hw96.2.2.2

def k0_off289 (k0_t1 : Fin k0_t1_loop.trips) : Fin 2 → Nat :=
  let c4_1383 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1382 : BitVec 32 := 0#32
  let v2893 : BitVec 32 := Scalar.addi v2300 c0_i32_1382
  let v2894 : Index := Scalar.indexCast v2893
  ![4, v2894.toNat]
def k0_off290 (k0_t1 : Fin k0_t1_loop.trips) : Fin 2 → Nat :=
  let c4_1386 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1384 : BitVec 32 := 0#32
  let v2896 : BitVec 32 := Scalar.addi v2300 c0_i32_1384
  let c1_i32_1385 : BitVec 32 := 1#32
  let v2897 : BitVec 32 := Scalar.addi v2896 c1_i32_1385
  let v2898 : Index := Scalar.indexCast v2897
  ![4, v2898.toNat]
def k0_mult193 (v2895 : BitVec 32) : BitVec 32 :=
  v2895

def k0_mult194 (v2895 : BitVec 32) : BitVec 32 :=
  let c2_i32_1387 : BitVec 32 := 2#32
  let v2901 : BitVec 32 := Scalar.addi v2895 c2_i32_1387
  v2901
def k0_mult195 (v2899 : BitVec 32) : BitVec 32 :=
  v2899

def k0_mult196 (v2899 : BitVec 32) : BitVec 32 :=
  let c2_i32_1388 : BitVec 32 := 2#32
  let v2904 : BitVec 32 := Scalar.addi v2899 c2_i32_1388
  v2904
def k0_off291 (v2895 : BitVec 32) : Fin 2 → Nat :=
  let v2900 : BitVec 32 := v2895
  let v2906 : Index := Scalar.indexCast v2900
  let c0_1389 : Index := 0#32
  ![v2906.toNat, 0]
def k0_off292 (v2895 : BitVec 32) : Fin 2 → Nat :=
  let c2_i32_1387 : BitVec 32 := 2#32
  let v2901 : BitVec 32 := Scalar.addi v2895 c2_i32_1387
  let v2902 : BitVec 32 := v2901
  let v2912 : Index := Scalar.indexCast v2902
  let c0_1392 : Index := 0#32
  ![v2912.toNat, 0]

def k0_chk97 (v2895 : BitVec 32) : Prop :=
  (2 ∣ (k0_mult193 v2895).toNat) ∧
  (2 ∣ (k0_mult194 v2895).toNat) ∧
  (∀ a, (k0_off291 v2895) a + S2x128.size a ≤ S106256x128.size a) ∧
  (∀ a, (k0_off292 v2895) a + S2x128.size a ≤ S106256x128.size a)
theorem k0_mult193_dvd : ∀ (v2895 : BitVec 32) (k0_hw97 : k0_chk97 v2895), 2 ∣ (k0_mult193 v2895).toNat := fun v2895 k0_hw97 => k0_hw97.1
theorem k0_mult194_dvd : ∀ (v2895 : BitVec 32) (k0_hw97 : k0_chk97 v2895), 2 ∣ (k0_mult194 v2895).toNat := fun v2895 k0_hw97 => k0_hw97.2.1
theorem k0_off291_inb : ∀ (v2895 : BitVec 32) (k0_hw97 : k0_chk97 v2895), ∀ a, (k0_off291 v2895) a + S2x128.size a ≤ S106256x128.size a := fun v2895 k0_hw97 => k0_hw97.2.2.1
theorem k0_off292_inb : ∀ (v2895 : BitVec 32) (k0_hw97 : k0_chk97 v2895), ∀ a, (k0_off292 v2895) a + S2x128.size a ≤ S106256x128.size a := fun v2895 k0_hw97 => k0_hw97.2.2.2

def k0_off293 (v2899 : BitVec 32) : Fin 2 → Nat :=
  let v2903 : BitVec 32 := v2899
  let v2918 : Index := Scalar.indexCast v2903
  let c0_1395 : Index := 0#32
  ![v2918.toNat, 0]
def k0_off294 (v2899 : BitVec 32) : Fin 2 → Nat :=
  let c2_i32_1388 : BitVec 32 := 2#32
  let v2904 : BitVec 32 := Scalar.addi v2899 c2_i32_1388
  let v2905 : BitVec 32 := v2904
  let v2924 : Index := Scalar.indexCast v2905
  let c0_1398 : Index := 0#32
  ![v2924.toNat, 0]

def k0_chk98 (v2899 : BitVec 32) : Prop :=
  (2 ∣ (k0_mult195 v2899).toNat) ∧
  (2 ∣ (k0_mult196 v2899).toNat) ∧
  (∀ a, (k0_off293 v2899) a + S2x128.size a ≤ S106256x128.size a) ∧
  (∀ a, (k0_off294 v2899) a + S2x128.size a ≤ S106256x128.size a)
theorem k0_mult195_dvd : ∀ (v2899 : BitVec 32) (k0_hw98 : k0_chk98 v2899), 2 ∣ (k0_mult195 v2899).toNat := fun v2899 k0_hw98 => k0_hw98.1
theorem k0_mult196_dvd : ∀ (v2899 : BitVec 32) (k0_hw98 : k0_chk98 v2899), 2 ∣ (k0_mult196 v2899).toNat := fun v2899 k0_hw98 => k0_hw98.2.1
theorem k0_off293_inb : ∀ (v2899 : BitVec 32) (k0_hw98 : k0_chk98 v2899), ∀ a, (k0_off293 v2899) a + S2x128.size a ≤ S106256x128.size a := fun v2899 k0_hw98 => k0_hw98.2.2.1
theorem k0_off294_inb : ∀ (v2899 : BitVec 32) (k0_hw98 : k0_chk98 v2899), ∀ a, (k0_off294 v2899) a + S2x128.size a ≤ S106256x128.size a := fun v2899 k0_hw98 => k0_hw98.2.2.2

def k0_off295 (k0_t1 : Fin k0_t1_loop.trips) : Fin 2 → Nat :=
  let c4_1402 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1401 : BitVec 32 := 2#32
  let v2930 : BitVec 32 := Scalar.addi v2300 c2_i32_1401
  let v2931 : Index := Scalar.indexCast v2930
  ![4, v2931.toNat]
def k0_off296 (k0_t1 : Fin k0_t1_loop.trips) : Fin 2 → Nat :=
  let c4_1405 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1403 : BitVec 32 := 2#32
  let v2933 : BitVec 32 := Scalar.addi v2300 c2_i32_1403
  let c1_i32_1404 : BitVec 32 := 1#32
  let v2934 : BitVec 32 := Scalar.addi v2933 c1_i32_1404
  let v2935 : Index := Scalar.indexCast v2934
  ![4, v2935.toNat]
def k0_mult197 (v2932 : BitVec 32) : BitVec 32 :=
  v2932

def k0_mult198 (v2932 : BitVec 32) : BitVec 32 :=
  let c2_i32_1406 : BitVec 32 := 2#32
  let v2938 : BitVec 32 := Scalar.addi v2932 c2_i32_1406
  v2938
def k0_mult199 (v2936 : BitVec 32) : BitVec 32 :=
  v2936

def k0_mult200 (v2936 : BitVec 32) : BitVec 32 :=
  let c2_i32_1407 : BitVec 32 := 2#32
  let v2941 : BitVec 32 := Scalar.addi v2936 c2_i32_1407
  v2941
def k0_off297 (v2932 : BitVec 32) : Fin 2 → Nat :=
  let v2937 : BitVec 32 := v2932
  let v2943 : Index := Scalar.indexCast v2937
  let c0_1408 : Index := 0#32
  ![v2943.toNat, 0]
def k0_off298 (v2932 : BitVec 32) : Fin 2 → Nat :=
  let c2_i32_1406 : BitVec 32 := 2#32
  let v2938 : BitVec 32 := Scalar.addi v2932 c2_i32_1406
  let v2939 : BitVec 32 := v2938
  let v2949 : Index := Scalar.indexCast v2939
  let c0_1411 : Index := 0#32
  ![v2949.toNat, 0]

def k0_chk99 (v2932 : BitVec 32) : Prop :=
  (2 ∣ (k0_mult197 v2932).toNat) ∧
  (2 ∣ (k0_mult198 v2932).toNat) ∧
  (∀ a, (k0_off297 v2932) a + S2x128.size a ≤ S106256x128.size a) ∧
  (∀ a, (k0_off298 v2932) a + S2x128.size a ≤ S106256x128.size a)
theorem k0_mult197_dvd : ∀ (v2932 : BitVec 32) (k0_hw99 : k0_chk99 v2932), 2 ∣ (k0_mult197 v2932).toNat := fun v2932 k0_hw99 => k0_hw99.1
theorem k0_mult198_dvd : ∀ (v2932 : BitVec 32) (k0_hw99 : k0_chk99 v2932), 2 ∣ (k0_mult198 v2932).toNat := fun v2932 k0_hw99 => k0_hw99.2.1
theorem k0_off297_inb : ∀ (v2932 : BitVec 32) (k0_hw99 : k0_chk99 v2932), ∀ a, (k0_off297 v2932) a + S2x128.size a ≤ S106256x128.size a := fun v2932 k0_hw99 => k0_hw99.2.2.1
theorem k0_off298_inb : ∀ (v2932 : BitVec 32) (k0_hw99 : k0_chk99 v2932), ∀ a, (k0_off298 v2932) a + S2x128.size a ≤ S106256x128.size a := fun v2932 k0_hw99 => k0_hw99.2.2.2

def k0_off299 (v2936 : BitVec 32) : Fin 2 → Nat :=
  let v2940 : BitVec 32 := v2936
  let v2955 : Index := Scalar.indexCast v2940
  let c0_1414 : Index := 0#32
  ![v2955.toNat, 0]
def k0_off300 (v2936 : BitVec 32) : Fin 2 → Nat :=
  let c2_i32_1407 : BitVec 32 := 2#32
  let v2941 : BitVec 32 := Scalar.addi v2936 c2_i32_1407
  let v2942 : BitVec 32 := v2941
  let v2961 : Index := Scalar.indexCast v2942
  let c0_1417 : Index := 0#32
  ![v2961.toNat, 0]

def k0_chk100 (v2936 : BitVec 32) : Prop :=
  (2 ∣ (k0_mult199 v2936).toNat) ∧
  (2 ∣ (k0_mult200 v2936).toNat) ∧
  (∀ a, (k0_off299 v2936) a + S2x128.size a ≤ S106256x128.size a) ∧
  (∀ a, (k0_off300 v2936) a + S2x128.size a ≤ S106256x128.size a)
theorem k0_mult199_dvd : ∀ (v2936 : BitVec 32) (k0_hw100 : k0_chk100 v2936), 2 ∣ (k0_mult199 v2936).toNat := fun v2936 k0_hw100 => k0_hw100.1
theorem k0_mult200_dvd : ∀ (v2936 : BitVec 32) (k0_hw100 : k0_chk100 v2936), 2 ∣ (k0_mult200 v2936).toNat := fun v2936 k0_hw100 => k0_hw100.2.1
theorem k0_off299_inb : ∀ (v2936 : BitVec 32) (k0_hw100 : k0_chk100 v2936), ∀ a, (k0_off299 v2936) a + S2x128.size a ≤ S106256x128.size a := fun v2936 k0_hw100 => k0_hw100.2.2.1
theorem k0_off300_inb : ∀ (v2936 : BitVec 32) (k0_hw100 : k0_chk100 v2936), ∀ a, (k0_off300 v2936) a + S2x128.size a ≤ S106256x128.size a := fun v2936 k0_hw100 => k0_hw100.2.2.2

def k0_off301 (k0_t1 : Fin k0_t1_loop.trips) : Fin 2 → Nat :=
  let c4_1421 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1420 : BitVec 32 := 4#32
  let v2967 : BitVec 32 := Scalar.addi v2300 c4_i32_1420
  let v2968 : Index := Scalar.indexCast v2967
  ![4, v2968.toNat]
def k0_off302 (k0_t1 : Fin k0_t1_loop.trips) : Fin 2 → Nat :=
  let c4_1424 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1422 : BitVec 32 := 4#32
  let v2970 : BitVec 32 := Scalar.addi v2300 c4_i32_1422
  let c1_i32_1423 : BitVec 32 := 1#32
  let v2971 : BitVec 32 := Scalar.addi v2970 c1_i32_1423
  let v2972 : Index := Scalar.indexCast v2971
  ![4, v2972.toNat]
def k0_mult201 (v2969 : BitVec 32) : BitVec 32 :=
  v2969

def k0_mult202 (v2969 : BitVec 32) : BitVec 32 :=
  let c2_i32_1425 : BitVec 32 := 2#32
  let v2975 : BitVec 32 := Scalar.addi v2969 c2_i32_1425
  v2975
def k0_mult203 (v2973 : BitVec 32) : BitVec 32 :=
  v2973

def k0_mult204 (v2973 : BitVec 32) : BitVec 32 :=
  let c2_i32_1426 : BitVec 32 := 2#32
  let v2978 : BitVec 32 := Scalar.addi v2973 c2_i32_1426
  v2978
def k0_off303 (v2969 : BitVec 32) : Fin 2 → Nat :=
  let v2974 : BitVec 32 := v2969
  let v2980 : Index := Scalar.indexCast v2974
  let c0_1427 : Index := 0#32
  ![v2980.toNat, 0]
def k0_off304 (v2969 : BitVec 32) : Fin 2 → Nat :=
  let c2_i32_1425 : BitVec 32 := 2#32
  let v2975 : BitVec 32 := Scalar.addi v2969 c2_i32_1425
  let v2976 : BitVec 32 := v2975
  let v2986 : Index := Scalar.indexCast v2976
  let c0_1430 : Index := 0#32
  ![v2986.toNat, 0]

def k0_chk101 (v2969 : BitVec 32) : Prop :=
  (2 ∣ (k0_mult201 v2969).toNat) ∧
  (2 ∣ (k0_mult202 v2969).toNat) ∧
  (∀ a, (k0_off303 v2969) a + S2x128.size a ≤ S106256x128.size a) ∧
  (∀ a, (k0_off304 v2969) a + S2x128.size a ≤ S106256x128.size a)
theorem k0_mult201_dvd : ∀ (v2969 : BitVec 32) (k0_hw101 : k0_chk101 v2969), 2 ∣ (k0_mult201 v2969).toNat := fun v2969 k0_hw101 => k0_hw101.1
theorem k0_mult202_dvd : ∀ (v2969 : BitVec 32) (k0_hw101 : k0_chk101 v2969), 2 ∣ (k0_mult202 v2969).toNat := fun v2969 k0_hw101 => k0_hw101.2.1
theorem k0_off303_inb : ∀ (v2969 : BitVec 32) (k0_hw101 : k0_chk101 v2969), ∀ a, (k0_off303 v2969) a + S2x128.size a ≤ S106256x128.size a := fun v2969 k0_hw101 => k0_hw101.2.2.1
theorem k0_off304_inb : ∀ (v2969 : BitVec 32) (k0_hw101 : k0_chk101 v2969), ∀ a, (k0_off304 v2969) a + S2x128.size a ≤ S106256x128.size a := fun v2969 k0_hw101 => k0_hw101.2.2.2

def k0_off305 (v2973 : BitVec 32) : Fin 2 → Nat :=
  let v2977 : BitVec 32 := v2973
  let v2992 : Index := Scalar.indexCast v2977
  let c0_1433 : Index := 0#32
  ![v2992.toNat, 0]
def k0_off306 (v2973 : BitVec 32) : Fin 2 → Nat :=
  let c2_i32_1426 : BitVec 32 := 2#32
  let v2978 : BitVec 32 := Scalar.addi v2973 c2_i32_1426
  let v2979 : BitVec 32 := v2978
  let v2998 : Index := Scalar.indexCast v2979
  let c0_1436 : Index := 0#32
  ![v2998.toNat, 0]

def k0_chk102 (v2973 : BitVec 32) : Prop :=
  (2 ∣ (k0_mult203 v2973).toNat) ∧
  (2 ∣ (k0_mult204 v2973).toNat) ∧
  (∀ a, (k0_off305 v2973) a + S2x128.size a ≤ S106256x128.size a) ∧
  (∀ a, (k0_off306 v2973) a + S2x128.size a ≤ S106256x128.size a)
theorem k0_mult203_dvd : ∀ (v2973 : BitVec 32) (k0_hw102 : k0_chk102 v2973), 2 ∣ (k0_mult203 v2973).toNat := fun v2973 k0_hw102 => k0_hw102.1
theorem k0_mult204_dvd : ∀ (v2973 : BitVec 32) (k0_hw102 : k0_chk102 v2973), 2 ∣ (k0_mult204 v2973).toNat := fun v2973 k0_hw102 => k0_hw102.2.1
theorem k0_off305_inb : ∀ (v2973 : BitVec 32) (k0_hw102 : k0_chk102 v2973), ∀ a, (k0_off305 v2973) a + S2x128.size a ≤ S106256x128.size a := fun v2973 k0_hw102 => k0_hw102.2.2.1
theorem k0_off306_inb : ∀ (v2973 : BitVec 32) (k0_hw102 : k0_chk102 v2973), ∀ a, (k0_off306 v2973) a + S2x128.size a ≤ S106256x128.size a := fun v2973 k0_hw102 => k0_hw102.2.2.2

def k0_off307 (k0_t1 : Fin k0_t1_loop.trips) : Fin 2 → Nat :=
  let c4_1440 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1439 : BitVec 32 := 6#32
  let v3004 : BitVec 32 := Scalar.addi v2300 c6_i32_1439
  let v3005 : Index := Scalar.indexCast v3004
  ![4, v3005.toNat]
def k0_off308 (k0_t1 : Fin k0_t1_loop.trips) : Fin 2 → Nat :=
  let c4_1443 : Index := 4#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1441 : BitVec 32 := 6#32
  let v3007 : BitVec 32 := Scalar.addi v2300 c6_i32_1441
  let c1_i32_1442 : BitVec 32 := 1#32
  let v3008 : BitVec 32 := Scalar.addi v3007 c1_i32_1442
  let v3009 : Index := Scalar.indexCast v3008
  ![4, v3009.toNat]
def k0_mult205 (v3006 : BitVec 32) : BitVec 32 :=
  v3006

def k0_mult206 (v3006 : BitVec 32) : BitVec 32 :=
  let c2_i32_1444 : BitVec 32 := 2#32
  let v3012 : BitVec 32 := Scalar.addi v3006 c2_i32_1444
  v3012
def k0_mult207 (v3010 : BitVec 32) : BitVec 32 :=
  v3010

def k0_mult208 (v3010 : BitVec 32) : BitVec 32 :=
  let c2_i32_1445 : BitVec 32 := 2#32
  let v3015 : BitVec 32 := Scalar.addi v3010 c2_i32_1445
  v3015
def k0_off309 (v3006 : BitVec 32) : Fin 2 → Nat :=
  let v3011 : BitVec 32 := v3006
  let v3017 : Index := Scalar.indexCast v3011
  let c0_1446 : Index := 0#32
  ![v3017.toNat, 0]
def k0_off310 (v3006 : BitVec 32) : Fin 2 → Nat :=
  let c2_i32_1444 : BitVec 32 := 2#32
  let v3012 : BitVec 32 := Scalar.addi v3006 c2_i32_1444
  let v3013 : BitVec 32 := v3012
  let v3023 : Index := Scalar.indexCast v3013
  let c0_1449 : Index := 0#32
  ![v3023.toNat, 0]

def k0_chk103 (v3006 : BitVec 32) : Prop :=
  (2 ∣ (k0_mult205 v3006).toNat) ∧
  (2 ∣ (k0_mult206 v3006).toNat) ∧
  (∀ a, (k0_off309 v3006) a + S2x128.size a ≤ S106256x128.size a) ∧
  (∀ a, (k0_off310 v3006) a + S2x128.size a ≤ S106256x128.size a)
theorem k0_mult205_dvd : ∀ (v3006 : BitVec 32) (k0_hw103 : k0_chk103 v3006), 2 ∣ (k0_mult205 v3006).toNat := fun v3006 k0_hw103 => k0_hw103.1
theorem k0_mult206_dvd : ∀ (v3006 : BitVec 32) (k0_hw103 : k0_chk103 v3006), 2 ∣ (k0_mult206 v3006).toNat := fun v3006 k0_hw103 => k0_hw103.2.1
theorem k0_off309_inb : ∀ (v3006 : BitVec 32) (k0_hw103 : k0_chk103 v3006), ∀ a, (k0_off309 v3006) a + S2x128.size a ≤ S106256x128.size a := fun v3006 k0_hw103 => k0_hw103.2.2.1
theorem k0_off310_inb : ∀ (v3006 : BitVec 32) (k0_hw103 : k0_chk103 v3006), ∀ a, (k0_off310 v3006) a + S2x128.size a ≤ S106256x128.size a := fun v3006 k0_hw103 => k0_hw103.2.2.2

def k0_off311 (v3010 : BitVec 32) : Fin 2 → Nat :=
  let v3014 : BitVec 32 := v3010
  let v3029 : Index := Scalar.indexCast v3014
  let c0_1452 : Index := 0#32
  ![v3029.toNat, 0]
def k0_off312 (v3010 : BitVec 32) : Fin 2 → Nat :=
  let c2_i32_1445 : BitVec 32 := 2#32
  let v3015 : BitVec 32 := Scalar.addi v3010 c2_i32_1445
  let v3016 : BitVec 32 := v3015
  let v3035 : Index := Scalar.indexCast v3016
  let c0_1455 : Index := 0#32
  ![v3035.toNat, 0]

def k0_chk104 (v3010 : BitVec 32) : Prop :=
  (2 ∣ (k0_mult207 v3010).toNat) ∧
  (2 ∣ (k0_mult208 v3010).toNat) ∧
  (∀ a, (k0_off311 v3010) a + S2x128.size a ≤ S106256x128.size a) ∧
  (∀ a, (k0_off312 v3010) a + S2x128.size a ≤ S106256x128.size a)
theorem k0_mult207_dvd : ∀ (v3010 : BitVec 32) (k0_hw104 : k0_chk104 v3010), 2 ∣ (k0_mult207 v3010).toNat := fun v3010 k0_hw104 => k0_hw104.1
theorem k0_mult208_dvd : ∀ (v3010 : BitVec 32) (k0_hw104 : k0_chk104 v3010), 2 ∣ (k0_mult208 v3010).toNat := fun v3010 k0_hw104 => k0_hw104.2.1
theorem k0_off311_inb : ∀ (v3010 : BitVec 32) (k0_hw104 : k0_chk104 v3010), ∀ a, (k0_off311 v3010) a + S2x128.size a ≤ S106256x128.size a := fun v3010 k0_hw104 => k0_hw104.2.2.1
theorem k0_off312_inb : ∀ (v3010 : BitVec 32) (k0_hw104 : k0_chk104 v3010), ∀ a, (k0_off312 v3010) a + S2x128.size a ≤ S106256x128.size a := fun v3010 k0_hw104 => k0_hw104.2.2.2

def k0_off313 (k0_t1 : Fin k0_t1_loop.trips) : Fin 2 → Nat :=
  let c5_1459 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1458 : BitVec 32 := 0#32
  let v3041 : BitVec 32 := Scalar.addi v2300 c0_i32_1458
  let v3042 : Index := Scalar.indexCast v3041
  ![5, v3042.toNat]
def k0_off314 (k0_t1 : Fin k0_t1_loop.trips) : Fin 2 → Nat :=
  let c5_1462 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1460 : BitVec 32 := 0#32
  let v3044 : BitVec 32 := Scalar.addi v2300 c0_i32_1460
  let c1_i32_1461 : BitVec 32 := 1#32
  let v3045 : BitVec 32 := Scalar.addi v3044 c1_i32_1461
  let v3046 : Index := Scalar.indexCast v3045
  ![5, v3046.toNat]
def k0_mult209 (v3043 : BitVec 32) : BitVec 32 :=
  v3043

def k0_mult210 (v3043 : BitVec 32) : BitVec 32 :=
  let c2_i32_1463 : BitVec 32 := 2#32
  let v3049 : BitVec 32 := Scalar.addi v3043 c2_i32_1463
  v3049
def k0_mult211 (v3047 : BitVec 32) : BitVec 32 :=
  v3047

def k0_mult212 (v3047 : BitVec 32) : BitVec 32 :=
  let c2_i32_1464 : BitVec 32 := 2#32
  let v3052 : BitVec 32 := Scalar.addi v3047 c2_i32_1464
  v3052
def k0_off315 (v3043 : BitVec 32) : Fin 2 → Nat :=
  let v3048 : BitVec 32 := v3043
  let v3054 : Index := Scalar.indexCast v3048
  let c0_1465 : Index := 0#32
  ![v3054.toNat, 0]
def k0_off316 (v3043 : BitVec 32) : Fin 2 → Nat :=
  let c2_i32_1463 : BitVec 32 := 2#32
  let v3049 : BitVec 32 := Scalar.addi v3043 c2_i32_1463
  let v3050 : BitVec 32 := v3049
  let v3060 : Index := Scalar.indexCast v3050
  let c0_1468 : Index := 0#32
  ![v3060.toNat, 0]

def k0_chk105 (v3043 : BitVec 32) : Prop :=
  (2 ∣ (k0_mult209 v3043).toNat) ∧
  (2 ∣ (k0_mult210 v3043).toNat) ∧
  (∀ a, (k0_off315 v3043) a + S2x128.size a ≤ S106256x128.size a) ∧
  (∀ a, (k0_off316 v3043) a + S2x128.size a ≤ S106256x128.size a)
theorem k0_mult209_dvd : ∀ (v3043 : BitVec 32) (k0_hw105 : k0_chk105 v3043), 2 ∣ (k0_mult209 v3043).toNat := fun v3043 k0_hw105 => k0_hw105.1
theorem k0_mult210_dvd : ∀ (v3043 : BitVec 32) (k0_hw105 : k0_chk105 v3043), 2 ∣ (k0_mult210 v3043).toNat := fun v3043 k0_hw105 => k0_hw105.2.1
theorem k0_off315_inb : ∀ (v3043 : BitVec 32) (k0_hw105 : k0_chk105 v3043), ∀ a, (k0_off315 v3043) a + S2x128.size a ≤ S106256x128.size a := fun v3043 k0_hw105 => k0_hw105.2.2.1
theorem k0_off316_inb : ∀ (v3043 : BitVec 32) (k0_hw105 : k0_chk105 v3043), ∀ a, (k0_off316 v3043) a + S2x128.size a ≤ S106256x128.size a := fun v3043 k0_hw105 => k0_hw105.2.2.2

def k0_off317 (v3047 : BitVec 32) : Fin 2 → Nat :=
  let v3051 : BitVec 32 := v3047
  let v3066 : Index := Scalar.indexCast v3051
  let c0_1471 : Index := 0#32
  ![v3066.toNat, 0]
def k0_off318 (v3047 : BitVec 32) : Fin 2 → Nat :=
  let c2_i32_1464 : BitVec 32 := 2#32
  let v3052 : BitVec 32 := Scalar.addi v3047 c2_i32_1464
  let v3053 : BitVec 32 := v3052
  let v3072 : Index := Scalar.indexCast v3053
  let c0_1474 : Index := 0#32
  ![v3072.toNat, 0]

def k0_chk106 (v3047 : BitVec 32) : Prop :=
  (2 ∣ (k0_mult211 v3047).toNat) ∧
  (2 ∣ (k0_mult212 v3047).toNat) ∧
  (∀ a, (k0_off317 v3047) a + S2x128.size a ≤ S106256x128.size a) ∧
  (∀ a, (k0_off318 v3047) a + S2x128.size a ≤ S106256x128.size a)
theorem k0_mult211_dvd : ∀ (v3047 : BitVec 32) (k0_hw106 : k0_chk106 v3047), 2 ∣ (k0_mult211 v3047).toNat := fun v3047 k0_hw106 => k0_hw106.1
theorem k0_mult212_dvd : ∀ (v3047 : BitVec 32) (k0_hw106 : k0_chk106 v3047), 2 ∣ (k0_mult212 v3047).toNat := fun v3047 k0_hw106 => k0_hw106.2.1
theorem k0_off317_inb : ∀ (v3047 : BitVec 32) (k0_hw106 : k0_chk106 v3047), ∀ a, (k0_off317 v3047) a + S2x128.size a ≤ S106256x128.size a := fun v3047 k0_hw106 => k0_hw106.2.2.1
theorem k0_off318_inb : ∀ (v3047 : BitVec 32) (k0_hw106 : k0_chk106 v3047), ∀ a, (k0_off318 v3047) a + S2x128.size a ≤ S106256x128.size a := fun v3047 k0_hw106 => k0_hw106.2.2.2

def k0_off319 (k0_t1 : Fin k0_t1_loop.trips) : Fin 2 → Nat :=
  let c5_1478 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1477 : BitVec 32 := 2#32
  let v3078 : BitVec 32 := Scalar.addi v2300 c2_i32_1477
  let v3079 : Index := Scalar.indexCast v3078
  ![5, v3079.toNat]
def k0_off320 (k0_t1 : Fin k0_t1_loop.trips) : Fin 2 → Nat :=
  let c5_1481 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1479 : BitVec 32 := 2#32
  let v3081 : BitVec 32 := Scalar.addi v2300 c2_i32_1479
  let c1_i32_1480 : BitVec 32 := 1#32
  let v3082 : BitVec 32 := Scalar.addi v3081 c1_i32_1480
  let v3083 : Index := Scalar.indexCast v3082
  ![5, v3083.toNat]
def k0_mult213 (v3080 : BitVec 32) : BitVec 32 :=
  v3080

def k0_mult214 (v3080 : BitVec 32) : BitVec 32 :=
  let c2_i32_1482 : BitVec 32 := 2#32
  let v3086 : BitVec 32 := Scalar.addi v3080 c2_i32_1482
  v3086
def k0_mult215 (v3084 : BitVec 32) : BitVec 32 :=
  v3084

def k0_mult216 (v3084 : BitVec 32) : BitVec 32 :=
  let c2_i32_1483 : BitVec 32 := 2#32
  let v3089 : BitVec 32 := Scalar.addi v3084 c2_i32_1483
  v3089
def k0_off321 (v3080 : BitVec 32) : Fin 2 → Nat :=
  let v3085 : BitVec 32 := v3080
  let v3091 : Index := Scalar.indexCast v3085
  let c0_1484 : Index := 0#32
  ![v3091.toNat, 0]
def k0_off322 (v3080 : BitVec 32) : Fin 2 → Nat :=
  let c2_i32_1482 : BitVec 32 := 2#32
  let v3086 : BitVec 32 := Scalar.addi v3080 c2_i32_1482
  let v3087 : BitVec 32 := v3086
  let v3097 : Index := Scalar.indexCast v3087
  let c0_1487 : Index := 0#32
  ![v3097.toNat, 0]

def k0_chk107 (v3080 : BitVec 32) : Prop :=
  (2 ∣ (k0_mult213 v3080).toNat) ∧
  (2 ∣ (k0_mult214 v3080).toNat) ∧
  (∀ a, (k0_off321 v3080) a + S2x128.size a ≤ S106256x128.size a) ∧
  (∀ a, (k0_off322 v3080) a + S2x128.size a ≤ S106256x128.size a)
theorem k0_mult213_dvd : ∀ (v3080 : BitVec 32) (k0_hw107 : k0_chk107 v3080), 2 ∣ (k0_mult213 v3080).toNat := fun v3080 k0_hw107 => k0_hw107.1
theorem k0_mult214_dvd : ∀ (v3080 : BitVec 32) (k0_hw107 : k0_chk107 v3080), 2 ∣ (k0_mult214 v3080).toNat := fun v3080 k0_hw107 => k0_hw107.2.1
theorem k0_off321_inb : ∀ (v3080 : BitVec 32) (k0_hw107 : k0_chk107 v3080), ∀ a, (k0_off321 v3080) a + S2x128.size a ≤ S106256x128.size a := fun v3080 k0_hw107 => k0_hw107.2.2.1
theorem k0_off322_inb : ∀ (v3080 : BitVec 32) (k0_hw107 : k0_chk107 v3080), ∀ a, (k0_off322 v3080) a + S2x128.size a ≤ S106256x128.size a := fun v3080 k0_hw107 => k0_hw107.2.2.2

def k0_off323 (v3084 : BitVec 32) : Fin 2 → Nat :=
  let v3088 : BitVec 32 := v3084
  let v3103 : Index := Scalar.indexCast v3088
  let c0_1490 : Index := 0#32
  ![v3103.toNat, 0]
def k0_off324 (v3084 : BitVec 32) : Fin 2 → Nat :=
  let c2_i32_1483 : BitVec 32 := 2#32
  let v3089 : BitVec 32 := Scalar.addi v3084 c2_i32_1483
  let v3090 : BitVec 32 := v3089
  let v3109 : Index := Scalar.indexCast v3090
  let c0_1493 : Index := 0#32
  ![v3109.toNat, 0]

def k0_chk108 (v3084 : BitVec 32) : Prop :=
  (2 ∣ (k0_mult215 v3084).toNat) ∧
  (2 ∣ (k0_mult216 v3084).toNat) ∧
  (∀ a, (k0_off323 v3084) a + S2x128.size a ≤ S106256x128.size a) ∧
  (∀ a, (k0_off324 v3084) a + S2x128.size a ≤ S106256x128.size a)
theorem k0_mult215_dvd : ∀ (v3084 : BitVec 32) (k0_hw108 : k0_chk108 v3084), 2 ∣ (k0_mult215 v3084).toNat := fun v3084 k0_hw108 => k0_hw108.1
theorem k0_mult216_dvd : ∀ (v3084 : BitVec 32) (k0_hw108 : k0_chk108 v3084), 2 ∣ (k0_mult216 v3084).toNat := fun v3084 k0_hw108 => k0_hw108.2.1
theorem k0_off323_inb : ∀ (v3084 : BitVec 32) (k0_hw108 : k0_chk108 v3084), ∀ a, (k0_off323 v3084) a + S2x128.size a ≤ S106256x128.size a := fun v3084 k0_hw108 => k0_hw108.2.2.1
theorem k0_off324_inb : ∀ (v3084 : BitVec 32) (k0_hw108 : k0_chk108 v3084), ∀ a, (k0_off324 v3084) a + S2x128.size a ≤ S106256x128.size a := fun v3084 k0_hw108 => k0_hw108.2.2.2

def k0_off325 (k0_t1 : Fin k0_t1_loop.trips) : Fin 2 → Nat :=
  let c5_1497 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1496 : BitVec 32 := 4#32
  let v3115 : BitVec 32 := Scalar.addi v2300 c4_i32_1496
  let v3116 : Index := Scalar.indexCast v3115
  ![5, v3116.toNat]
def k0_off326 (k0_t1 : Fin k0_t1_loop.trips) : Fin 2 → Nat :=
  let c5_1500 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1498 : BitVec 32 := 4#32
  let v3118 : BitVec 32 := Scalar.addi v2300 c4_i32_1498
  let c1_i32_1499 : BitVec 32 := 1#32
  let v3119 : BitVec 32 := Scalar.addi v3118 c1_i32_1499
  let v3120 : Index := Scalar.indexCast v3119
  ![5, v3120.toNat]
def k0_mult217 (v3117 : BitVec 32) : BitVec 32 :=
  v3117

def k0_mult218 (v3117 : BitVec 32) : BitVec 32 :=
  let c2_i32_1501 : BitVec 32 := 2#32
  let v3123 : BitVec 32 := Scalar.addi v3117 c2_i32_1501
  v3123
def k0_mult219 (v3121 : BitVec 32) : BitVec 32 :=
  v3121

def k0_mult220 (v3121 : BitVec 32) : BitVec 32 :=
  let c2_i32_1502 : BitVec 32 := 2#32
  let v3126 : BitVec 32 := Scalar.addi v3121 c2_i32_1502
  v3126
def k0_off327 (v3117 : BitVec 32) : Fin 2 → Nat :=
  let v3122 : BitVec 32 := v3117
  let v3128 : Index := Scalar.indexCast v3122
  let c0_1503 : Index := 0#32
  ![v3128.toNat, 0]
def k0_off328 (v3117 : BitVec 32) : Fin 2 → Nat :=
  let c2_i32_1501 : BitVec 32 := 2#32
  let v3123 : BitVec 32 := Scalar.addi v3117 c2_i32_1501
  let v3124 : BitVec 32 := v3123
  let v3134 : Index := Scalar.indexCast v3124
  let c0_1506 : Index := 0#32
  ![v3134.toNat, 0]

def k0_chk109 (v3117 : BitVec 32) : Prop :=
  (2 ∣ (k0_mult217 v3117).toNat) ∧
  (2 ∣ (k0_mult218 v3117).toNat) ∧
  (∀ a, (k0_off327 v3117) a + S2x128.size a ≤ S106256x128.size a) ∧
  (∀ a, (k0_off328 v3117) a + S2x128.size a ≤ S106256x128.size a)
theorem k0_mult217_dvd : ∀ (v3117 : BitVec 32) (k0_hw109 : k0_chk109 v3117), 2 ∣ (k0_mult217 v3117).toNat := fun v3117 k0_hw109 => k0_hw109.1
theorem k0_mult218_dvd : ∀ (v3117 : BitVec 32) (k0_hw109 : k0_chk109 v3117), 2 ∣ (k0_mult218 v3117).toNat := fun v3117 k0_hw109 => k0_hw109.2.1
theorem k0_off327_inb : ∀ (v3117 : BitVec 32) (k0_hw109 : k0_chk109 v3117), ∀ a, (k0_off327 v3117) a + S2x128.size a ≤ S106256x128.size a := fun v3117 k0_hw109 => k0_hw109.2.2.1
theorem k0_off328_inb : ∀ (v3117 : BitVec 32) (k0_hw109 : k0_chk109 v3117), ∀ a, (k0_off328 v3117) a + S2x128.size a ≤ S106256x128.size a := fun v3117 k0_hw109 => k0_hw109.2.2.2

def k0_off329 (v3121 : BitVec 32) : Fin 2 → Nat :=
  let v3125 : BitVec 32 := v3121
  let v3140 : Index := Scalar.indexCast v3125
  let c0_1509 : Index := 0#32
  ![v3140.toNat, 0]
def k0_off330 (v3121 : BitVec 32) : Fin 2 → Nat :=
  let c2_i32_1502 : BitVec 32 := 2#32
  let v3126 : BitVec 32 := Scalar.addi v3121 c2_i32_1502
  let v3127 : BitVec 32 := v3126
  let v3146 : Index := Scalar.indexCast v3127
  let c0_1512 : Index := 0#32
  ![v3146.toNat, 0]

def k0_chk110 (v3121 : BitVec 32) : Prop :=
  (2 ∣ (k0_mult219 v3121).toNat) ∧
  (2 ∣ (k0_mult220 v3121).toNat) ∧
  (∀ a, (k0_off329 v3121) a + S2x128.size a ≤ S106256x128.size a) ∧
  (∀ a, (k0_off330 v3121) a + S2x128.size a ≤ S106256x128.size a)
theorem k0_mult219_dvd : ∀ (v3121 : BitVec 32) (k0_hw110 : k0_chk110 v3121), 2 ∣ (k0_mult219 v3121).toNat := fun v3121 k0_hw110 => k0_hw110.1
theorem k0_mult220_dvd : ∀ (v3121 : BitVec 32) (k0_hw110 : k0_chk110 v3121), 2 ∣ (k0_mult220 v3121).toNat := fun v3121 k0_hw110 => k0_hw110.2.1
theorem k0_off329_inb : ∀ (v3121 : BitVec 32) (k0_hw110 : k0_chk110 v3121), ∀ a, (k0_off329 v3121) a + S2x128.size a ≤ S106256x128.size a := fun v3121 k0_hw110 => k0_hw110.2.2.1
theorem k0_off330_inb : ∀ (v3121 : BitVec 32) (k0_hw110 : k0_chk110 v3121), ∀ a, (k0_off330 v3121) a + S2x128.size a ≤ S106256x128.size a := fun v3121 k0_hw110 => k0_hw110.2.2.2

def k0_off331 (k0_t1 : Fin k0_t1_loop.trips) : Fin 2 → Nat :=
  let c5_1516 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1515 : BitVec 32 := 6#32
  let v3152 : BitVec 32 := Scalar.addi v2300 c6_i32_1515
  let v3153 : Index := Scalar.indexCast v3152
  ![5, v3153.toNat]
def k0_off332 (k0_t1 : Fin k0_t1_loop.trips) : Fin 2 → Nat :=
  let c5_1519 : Index := 5#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1517 : BitVec 32 := 6#32
  let v3155 : BitVec 32 := Scalar.addi v2300 c6_i32_1517
  let c1_i32_1518 : BitVec 32 := 1#32
  let v3156 : BitVec 32 := Scalar.addi v3155 c1_i32_1518
  let v3157 : Index := Scalar.indexCast v3156
  ![5, v3157.toNat]
def k0_mult221 (v3154 : BitVec 32) : BitVec 32 :=
  v3154

def k0_mult222 (v3154 : BitVec 32) : BitVec 32 :=
  let c2_i32_1520 : BitVec 32 := 2#32
  let v3160 : BitVec 32 := Scalar.addi v3154 c2_i32_1520
  v3160
def k0_mult223 (v3158 : BitVec 32) : BitVec 32 :=
  v3158

def k0_mult224 (v3158 : BitVec 32) : BitVec 32 :=
  let c2_i32_1521 : BitVec 32 := 2#32
  let v3163 : BitVec 32 := Scalar.addi v3158 c2_i32_1521
  v3163
def k0_off333 (v3154 : BitVec 32) : Fin 2 → Nat :=
  let v3159 : BitVec 32 := v3154
  let v3165 : Index := Scalar.indexCast v3159
  let c0_1522 : Index := 0#32
  ![v3165.toNat, 0]
def k0_off334 (v3154 : BitVec 32) : Fin 2 → Nat :=
  let c2_i32_1520 : BitVec 32 := 2#32
  let v3160 : BitVec 32 := Scalar.addi v3154 c2_i32_1520
  let v3161 : BitVec 32 := v3160
  let v3171 : Index := Scalar.indexCast v3161
  let c0_1525 : Index := 0#32
  ![v3171.toNat, 0]

def k0_chk111 (v3154 : BitVec 32) : Prop :=
  (2 ∣ (k0_mult221 v3154).toNat) ∧
  (2 ∣ (k0_mult222 v3154).toNat) ∧
  (∀ a, (k0_off333 v3154) a + S2x128.size a ≤ S106256x128.size a) ∧
  (∀ a, (k0_off334 v3154) a + S2x128.size a ≤ S106256x128.size a)
theorem k0_mult221_dvd : ∀ (v3154 : BitVec 32) (k0_hw111 : k0_chk111 v3154), 2 ∣ (k0_mult221 v3154).toNat := fun v3154 k0_hw111 => k0_hw111.1
theorem k0_mult222_dvd : ∀ (v3154 : BitVec 32) (k0_hw111 : k0_chk111 v3154), 2 ∣ (k0_mult222 v3154).toNat := fun v3154 k0_hw111 => k0_hw111.2.1
theorem k0_off333_inb : ∀ (v3154 : BitVec 32) (k0_hw111 : k0_chk111 v3154), ∀ a, (k0_off333 v3154) a + S2x128.size a ≤ S106256x128.size a := fun v3154 k0_hw111 => k0_hw111.2.2.1
theorem k0_off334_inb : ∀ (v3154 : BitVec 32) (k0_hw111 : k0_chk111 v3154), ∀ a, (k0_off334 v3154) a + S2x128.size a ≤ S106256x128.size a := fun v3154 k0_hw111 => k0_hw111.2.2.2

def k0_off335 (v3158 : BitVec 32) : Fin 2 → Nat :=
  let v3162 : BitVec 32 := v3158
  let v3177 : Index := Scalar.indexCast v3162
  let c0_1528 : Index := 0#32
  ![v3177.toNat, 0]
def k0_off336 (v3158 : BitVec 32) : Fin 2 → Nat :=
  let c2_i32_1521 : BitVec 32 := 2#32
  let v3163 : BitVec 32 := Scalar.addi v3158 c2_i32_1521
  let v3164 : BitVec 32 := v3163
  let v3183 : Index := Scalar.indexCast v3164
  let c0_1531 : Index := 0#32
  ![v3183.toNat, 0]

def k0_chk112 (v3158 : BitVec 32) : Prop :=
  (2 ∣ (k0_mult223 v3158).toNat) ∧
  (2 ∣ (k0_mult224 v3158).toNat) ∧
  (∀ a, (k0_off335 v3158) a + S2x128.size a ≤ S106256x128.size a) ∧
  (∀ a, (k0_off336 v3158) a + S2x128.size a ≤ S106256x128.size a)
theorem k0_mult223_dvd : ∀ (v3158 : BitVec 32) (k0_hw112 : k0_chk112 v3158), 2 ∣ (k0_mult223 v3158).toNat := fun v3158 k0_hw112 => k0_hw112.1
theorem k0_mult224_dvd : ∀ (v3158 : BitVec 32) (k0_hw112 : k0_chk112 v3158), 2 ∣ (k0_mult224 v3158).toNat := fun v3158 k0_hw112 => k0_hw112.2.1
theorem k0_off335_inb : ∀ (v3158 : BitVec 32) (k0_hw112 : k0_chk112 v3158), ∀ a, (k0_off335 v3158) a + S2x128.size a ≤ S106256x128.size a := fun v3158 k0_hw112 => k0_hw112.2.2.1
theorem k0_off336_inb : ∀ (v3158 : BitVec 32) (k0_hw112 : k0_chk112 v3158), ∀ a, (k0_off336 v3158) a + S2x128.size a ≤ S106256x128.size a := fun v3158 k0_hw112 => k0_hw112.2.2.2

def k0_off337 (k0_t1 : Fin k0_t1_loop.trips) : Fin 2 → Nat :=
  let c6_1535 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1534 : BitVec 32 := 0#32
  let v3189 : BitVec 32 := Scalar.addi v2300 c0_i32_1534
  let v3190 : Index := Scalar.indexCast v3189
  ![6, v3190.toNat]
def k0_off338 (k0_t1 : Fin k0_t1_loop.trips) : Fin 2 → Nat :=
  let c6_1538 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1536 : BitVec 32 := 0#32
  let v3192 : BitVec 32 := Scalar.addi v2300 c0_i32_1536
  let c1_i32_1537 : BitVec 32 := 1#32
  let v3193 : BitVec 32 := Scalar.addi v3192 c1_i32_1537
  let v3194 : Index := Scalar.indexCast v3193
  ![6, v3194.toNat]
def k0_mult225 (v3191 : BitVec 32) : BitVec 32 :=
  v3191

def k0_mult226 (v3191 : BitVec 32) : BitVec 32 :=
  let c2_i32_1539 : BitVec 32 := 2#32
  let v3197 : BitVec 32 := Scalar.addi v3191 c2_i32_1539
  v3197
def k0_mult227 (v3195 : BitVec 32) : BitVec 32 :=
  v3195

def k0_mult228 (v3195 : BitVec 32) : BitVec 32 :=
  let c2_i32_1540 : BitVec 32 := 2#32
  let v3200 : BitVec 32 := Scalar.addi v3195 c2_i32_1540
  v3200
def k0_off339 (v3191 : BitVec 32) : Fin 2 → Nat :=
  let v3196 : BitVec 32 := v3191
  let v3202 : Index := Scalar.indexCast v3196
  let c0_1541 : Index := 0#32
  ![v3202.toNat, 0]
def k0_off340 (v3191 : BitVec 32) : Fin 2 → Nat :=
  let c2_i32_1539 : BitVec 32 := 2#32
  let v3197 : BitVec 32 := Scalar.addi v3191 c2_i32_1539
  let v3198 : BitVec 32 := v3197
  let v3208 : Index := Scalar.indexCast v3198
  let c0_1544 : Index := 0#32
  ![v3208.toNat, 0]

def k0_chk113 (v3191 : BitVec 32) : Prop :=
  (2 ∣ (k0_mult225 v3191).toNat) ∧
  (2 ∣ (k0_mult226 v3191).toNat) ∧
  (∀ a, (k0_off339 v3191) a + S2x128.size a ≤ S106256x128.size a) ∧
  (∀ a, (k0_off340 v3191) a + S2x128.size a ≤ S106256x128.size a)
theorem k0_mult225_dvd : ∀ (v3191 : BitVec 32) (k0_hw113 : k0_chk113 v3191), 2 ∣ (k0_mult225 v3191).toNat := fun v3191 k0_hw113 => k0_hw113.1
theorem k0_mult226_dvd : ∀ (v3191 : BitVec 32) (k0_hw113 : k0_chk113 v3191), 2 ∣ (k0_mult226 v3191).toNat := fun v3191 k0_hw113 => k0_hw113.2.1
theorem k0_off339_inb : ∀ (v3191 : BitVec 32) (k0_hw113 : k0_chk113 v3191), ∀ a, (k0_off339 v3191) a + S2x128.size a ≤ S106256x128.size a := fun v3191 k0_hw113 => k0_hw113.2.2.1
theorem k0_off340_inb : ∀ (v3191 : BitVec 32) (k0_hw113 : k0_chk113 v3191), ∀ a, (k0_off340 v3191) a + S2x128.size a ≤ S106256x128.size a := fun v3191 k0_hw113 => k0_hw113.2.2.2

def k0_off341 (v3195 : BitVec 32) : Fin 2 → Nat :=
  let v3199 : BitVec 32 := v3195
  let v3214 : Index := Scalar.indexCast v3199
  let c0_1547 : Index := 0#32
  ![v3214.toNat, 0]
def k0_off342 (v3195 : BitVec 32) : Fin 2 → Nat :=
  let c2_i32_1540 : BitVec 32 := 2#32
  let v3200 : BitVec 32 := Scalar.addi v3195 c2_i32_1540
  let v3201 : BitVec 32 := v3200
  let v3220 : Index := Scalar.indexCast v3201
  let c0_1550 : Index := 0#32
  ![v3220.toNat, 0]

def k0_chk114 (v3195 : BitVec 32) : Prop :=
  (2 ∣ (k0_mult227 v3195).toNat) ∧
  (2 ∣ (k0_mult228 v3195).toNat) ∧
  (∀ a, (k0_off341 v3195) a + S2x128.size a ≤ S106256x128.size a) ∧
  (∀ a, (k0_off342 v3195) a + S2x128.size a ≤ S106256x128.size a)
theorem k0_mult227_dvd : ∀ (v3195 : BitVec 32) (k0_hw114 : k0_chk114 v3195), 2 ∣ (k0_mult227 v3195).toNat := fun v3195 k0_hw114 => k0_hw114.1
theorem k0_mult228_dvd : ∀ (v3195 : BitVec 32) (k0_hw114 : k0_chk114 v3195), 2 ∣ (k0_mult228 v3195).toNat := fun v3195 k0_hw114 => k0_hw114.2.1
theorem k0_off341_inb : ∀ (v3195 : BitVec 32) (k0_hw114 : k0_chk114 v3195), ∀ a, (k0_off341 v3195) a + S2x128.size a ≤ S106256x128.size a := fun v3195 k0_hw114 => k0_hw114.2.2.1
theorem k0_off342_inb : ∀ (v3195 : BitVec 32) (k0_hw114 : k0_chk114 v3195), ∀ a, (k0_off342 v3195) a + S2x128.size a ≤ S106256x128.size a := fun v3195 k0_hw114 => k0_hw114.2.2.2

def k0_off343 (k0_t1 : Fin k0_t1_loop.trips) : Fin 2 → Nat :=
  let c6_1554 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1553 : BitVec 32 := 2#32
  let v3226 : BitVec 32 := Scalar.addi v2300 c2_i32_1553
  let v3227 : Index := Scalar.indexCast v3226
  ![6, v3227.toNat]
def k0_off344 (k0_t1 : Fin k0_t1_loop.trips) : Fin 2 → Nat :=
  let c6_1557 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1555 : BitVec 32 := 2#32
  let v3229 : BitVec 32 := Scalar.addi v2300 c2_i32_1555
  let c1_i32_1556 : BitVec 32 := 1#32
  let v3230 : BitVec 32 := Scalar.addi v3229 c1_i32_1556
  let v3231 : Index := Scalar.indexCast v3230
  ![6, v3231.toNat]
def k0_mult229 (v3228 : BitVec 32) : BitVec 32 :=
  v3228

def k0_mult230 (v3228 : BitVec 32) : BitVec 32 :=
  let c2_i32_1558 : BitVec 32 := 2#32
  let v3234 : BitVec 32 := Scalar.addi v3228 c2_i32_1558
  v3234
def k0_mult231 (v3232 : BitVec 32) : BitVec 32 :=
  v3232

def k0_mult232 (v3232 : BitVec 32) : BitVec 32 :=
  let c2_i32_1559 : BitVec 32 := 2#32
  let v3237 : BitVec 32 := Scalar.addi v3232 c2_i32_1559
  v3237
def k0_off345 (v3228 : BitVec 32) : Fin 2 → Nat :=
  let v3233 : BitVec 32 := v3228
  let v3239 : Index := Scalar.indexCast v3233
  let c0_1560 : Index := 0#32
  ![v3239.toNat, 0]
def k0_off346 (v3228 : BitVec 32) : Fin 2 → Nat :=
  let c2_i32_1558 : BitVec 32 := 2#32
  let v3234 : BitVec 32 := Scalar.addi v3228 c2_i32_1558
  let v3235 : BitVec 32 := v3234
  let v3245 : Index := Scalar.indexCast v3235
  let c0_1563 : Index := 0#32
  ![v3245.toNat, 0]

def k0_chk115 (v3228 : BitVec 32) : Prop :=
  (2 ∣ (k0_mult229 v3228).toNat) ∧
  (2 ∣ (k0_mult230 v3228).toNat) ∧
  (∀ a, (k0_off345 v3228) a + S2x128.size a ≤ S106256x128.size a) ∧
  (∀ a, (k0_off346 v3228) a + S2x128.size a ≤ S106256x128.size a)
theorem k0_mult229_dvd : ∀ (v3228 : BitVec 32) (k0_hw115 : k0_chk115 v3228), 2 ∣ (k0_mult229 v3228).toNat := fun v3228 k0_hw115 => k0_hw115.1
theorem k0_mult230_dvd : ∀ (v3228 : BitVec 32) (k0_hw115 : k0_chk115 v3228), 2 ∣ (k0_mult230 v3228).toNat := fun v3228 k0_hw115 => k0_hw115.2.1
theorem k0_off345_inb : ∀ (v3228 : BitVec 32) (k0_hw115 : k0_chk115 v3228), ∀ a, (k0_off345 v3228) a + S2x128.size a ≤ S106256x128.size a := fun v3228 k0_hw115 => k0_hw115.2.2.1
theorem k0_off346_inb : ∀ (v3228 : BitVec 32) (k0_hw115 : k0_chk115 v3228), ∀ a, (k0_off346 v3228) a + S2x128.size a ≤ S106256x128.size a := fun v3228 k0_hw115 => k0_hw115.2.2.2

def k0_off347 (v3232 : BitVec 32) : Fin 2 → Nat :=
  let v3236 : BitVec 32 := v3232
  let v3251 : Index := Scalar.indexCast v3236
  let c0_1566 : Index := 0#32
  ![v3251.toNat, 0]
def k0_off348 (v3232 : BitVec 32) : Fin 2 → Nat :=
  let c2_i32_1559 : BitVec 32 := 2#32
  let v3237 : BitVec 32 := Scalar.addi v3232 c2_i32_1559
  let v3238 : BitVec 32 := v3237
  let v3257 : Index := Scalar.indexCast v3238
  let c0_1569 : Index := 0#32
  ![v3257.toNat, 0]

def k0_chk116 (v3232 : BitVec 32) : Prop :=
  (2 ∣ (k0_mult231 v3232).toNat) ∧
  (2 ∣ (k0_mult232 v3232).toNat) ∧
  (∀ a, (k0_off347 v3232) a + S2x128.size a ≤ S106256x128.size a) ∧
  (∀ a, (k0_off348 v3232) a + S2x128.size a ≤ S106256x128.size a)
theorem k0_mult231_dvd : ∀ (v3232 : BitVec 32) (k0_hw116 : k0_chk116 v3232), 2 ∣ (k0_mult231 v3232).toNat := fun v3232 k0_hw116 => k0_hw116.1
theorem k0_mult232_dvd : ∀ (v3232 : BitVec 32) (k0_hw116 : k0_chk116 v3232), 2 ∣ (k0_mult232 v3232).toNat := fun v3232 k0_hw116 => k0_hw116.2.1
theorem k0_off347_inb : ∀ (v3232 : BitVec 32) (k0_hw116 : k0_chk116 v3232), ∀ a, (k0_off347 v3232) a + S2x128.size a ≤ S106256x128.size a := fun v3232 k0_hw116 => k0_hw116.2.2.1
theorem k0_off348_inb : ∀ (v3232 : BitVec 32) (k0_hw116 : k0_chk116 v3232), ∀ a, (k0_off348 v3232) a + S2x128.size a ≤ S106256x128.size a := fun v3232 k0_hw116 => k0_hw116.2.2.2

def k0_off349 (k0_t1 : Fin k0_t1_loop.trips) : Fin 2 → Nat :=
  let c6_1573 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1572 : BitVec 32 := 4#32
  let v3263 : BitVec 32 := Scalar.addi v2300 c4_i32_1572
  let v3264 : Index := Scalar.indexCast v3263
  ![6, v3264.toNat]
def k0_off350 (k0_t1 : Fin k0_t1_loop.trips) : Fin 2 → Nat :=
  let c6_1576 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1574 : BitVec 32 := 4#32
  let v3266 : BitVec 32 := Scalar.addi v2300 c4_i32_1574
  let c1_i32_1575 : BitVec 32 := 1#32
  let v3267 : BitVec 32 := Scalar.addi v3266 c1_i32_1575
  let v3268 : Index := Scalar.indexCast v3267
  ![6, v3268.toNat]
def k0_mult233 (v3265 : BitVec 32) : BitVec 32 :=
  v3265

def k0_mult234 (v3265 : BitVec 32) : BitVec 32 :=
  let c2_i32_1577 : BitVec 32 := 2#32
  let v3271 : BitVec 32 := Scalar.addi v3265 c2_i32_1577
  v3271
def k0_mult235 (v3269 : BitVec 32) : BitVec 32 :=
  v3269

def k0_mult236 (v3269 : BitVec 32) : BitVec 32 :=
  let c2_i32_1578 : BitVec 32 := 2#32
  let v3274 : BitVec 32 := Scalar.addi v3269 c2_i32_1578
  v3274
def k0_off351 (v3265 : BitVec 32) : Fin 2 → Nat :=
  let v3270 : BitVec 32 := v3265
  let v3276 : Index := Scalar.indexCast v3270
  let c0_1579 : Index := 0#32
  ![v3276.toNat, 0]
def k0_off352 (v3265 : BitVec 32) : Fin 2 → Nat :=
  let c2_i32_1577 : BitVec 32 := 2#32
  let v3271 : BitVec 32 := Scalar.addi v3265 c2_i32_1577
  let v3272 : BitVec 32 := v3271
  let v3282 : Index := Scalar.indexCast v3272
  let c0_1582 : Index := 0#32
  ![v3282.toNat, 0]

def k0_chk117 (v3265 : BitVec 32) : Prop :=
  (2 ∣ (k0_mult233 v3265).toNat) ∧
  (2 ∣ (k0_mult234 v3265).toNat) ∧
  (∀ a, (k0_off351 v3265) a + S2x128.size a ≤ S106256x128.size a) ∧
  (∀ a, (k0_off352 v3265) a + S2x128.size a ≤ S106256x128.size a)
theorem k0_mult233_dvd : ∀ (v3265 : BitVec 32) (k0_hw117 : k0_chk117 v3265), 2 ∣ (k0_mult233 v3265).toNat := fun v3265 k0_hw117 => k0_hw117.1
theorem k0_mult234_dvd : ∀ (v3265 : BitVec 32) (k0_hw117 : k0_chk117 v3265), 2 ∣ (k0_mult234 v3265).toNat := fun v3265 k0_hw117 => k0_hw117.2.1
theorem k0_off351_inb : ∀ (v3265 : BitVec 32) (k0_hw117 : k0_chk117 v3265), ∀ a, (k0_off351 v3265) a + S2x128.size a ≤ S106256x128.size a := fun v3265 k0_hw117 => k0_hw117.2.2.1
theorem k0_off352_inb : ∀ (v3265 : BitVec 32) (k0_hw117 : k0_chk117 v3265), ∀ a, (k0_off352 v3265) a + S2x128.size a ≤ S106256x128.size a := fun v3265 k0_hw117 => k0_hw117.2.2.2

def k0_off353 (v3269 : BitVec 32) : Fin 2 → Nat :=
  let v3273 : BitVec 32 := v3269
  let v3288 : Index := Scalar.indexCast v3273
  let c0_1585 : Index := 0#32
  ![v3288.toNat, 0]
def k0_off354 (v3269 : BitVec 32) : Fin 2 → Nat :=
  let c2_i32_1578 : BitVec 32 := 2#32
  let v3274 : BitVec 32 := Scalar.addi v3269 c2_i32_1578
  let v3275 : BitVec 32 := v3274
  let v3294 : Index := Scalar.indexCast v3275
  let c0_1588 : Index := 0#32
  ![v3294.toNat, 0]

def k0_chk118 (v3269 : BitVec 32) : Prop :=
  (2 ∣ (k0_mult235 v3269).toNat) ∧
  (2 ∣ (k0_mult236 v3269).toNat) ∧
  (∀ a, (k0_off353 v3269) a + S2x128.size a ≤ S106256x128.size a) ∧
  (∀ a, (k0_off354 v3269) a + S2x128.size a ≤ S106256x128.size a)
theorem k0_mult235_dvd : ∀ (v3269 : BitVec 32) (k0_hw118 : k0_chk118 v3269), 2 ∣ (k0_mult235 v3269).toNat := fun v3269 k0_hw118 => k0_hw118.1
theorem k0_mult236_dvd : ∀ (v3269 : BitVec 32) (k0_hw118 : k0_chk118 v3269), 2 ∣ (k0_mult236 v3269).toNat := fun v3269 k0_hw118 => k0_hw118.2.1
theorem k0_off353_inb : ∀ (v3269 : BitVec 32) (k0_hw118 : k0_chk118 v3269), ∀ a, (k0_off353 v3269) a + S2x128.size a ≤ S106256x128.size a := fun v3269 k0_hw118 => k0_hw118.2.2.1
theorem k0_off354_inb : ∀ (v3269 : BitVec 32) (k0_hw118 : k0_chk118 v3269), ∀ a, (k0_off354 v3269) a + S2x128.size a ≤ S106256x128.size a := fun v3269 k0_hw118 => k0_hw118.2.2.2

def k0_off355 (k0_t1 : Fin k0_t1_loop.trips) : Fin 2 → Nat :=
  let c6_1592 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1591 : BitVec 32 := 6#32
  let v3300 : BitVec 32 := Scalar.addi v2300 c6_i32_1591
  let v3301 : Index := Scalar.indexCast v3300
  ![6, v3301.toNat]
def k0_off356 (k0_t1 : Fin k0_t1_loop.trips) : Fin 2 → Nat :=
  let c6_1595 : Index := 6#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1593 : BitVec 32 := 6#32
  let v3303 : BitVec 32 := Scalar.addi v2300 c6_i32_1593
  let c1_i32_1594 : BitVec 32 := 1#32
  let v3304 : BitVec 32 := Scalar.addi v3303 c1_i32_1594
  let v3305 : Index := Scalar.indexCast v3304
  ![6, v3305.toNat]
def k0_mult237 (v3302 : BitVec 32) : BitVec 32 :=
  v3302

def k0_mult238 (v3302 : BitVec 32) : BitVec 32 :=
  let c2_i32_1596 : BitVec 32 := 2#32
  let v3308 : BitVec 32 := Scalar.addi v3302 c2_i32_1596
  v3308
def k0_mult239 (v3306 : BitVec 32) : BitVec 32 :=
  v3306

def k0_mult240 (v3306 : BitVec 32) : BitVec 32 :=
  let c2_i32_1597 : BitVec 32 := 2#32
  let v3311 : BitVec 32 := Scalar.addi v3306 c2_i32_1597
  v3311
def k0_off357 (v3302 : BitVec 32) : Fin 2 → Nat :=
  let v3307 : BitVec 32 := v3302
  let v3313 : Index := Scalar.indexCast v3307
  let c0_1598 : Index := 0#32
  ![v3313.toNat, 0]
def k0_off358 (v3302 : BitVec 32) : Fin 2 → Nat :=
  let c2_i32_1596 : BitVec 32 := 2#32
  let v3308 : BitVec 32 := Scalar.addi v3302 c2_i32_1596
  let v3309 : BitVec 32 := v3308
  let v3319 : Index := Scalar.indexCast v3309
  let c0_1601 : Index := 0#32
  ![v3319.toNat, 0]

def k0_chk119 (v3302 : BitVec 32) : Prop :=
  (2 ∣ (k0_mult237 v3302).toNat) ∧
  (2 ∣ (k0_mult238 v3302).toNat) ∧
  (∀ a, (k0_off357 v3302) a + S2x128.size a ≤ S106256x128.size a) ∧
  (∀ a, (k0_off358 v3302) a + S2x128.size a ≤ S106256x128.size a)
theorem k0_mult237_dvd : ∀ (v3302 : BitVec 32) (k0_hw119 : k0_chk119 v3302), 2 ∣ (k0_mult237 v3302).toNat := fun v3302 k0_hw119 => k0_hw119.1
theorem k0_mult238_dvd : ∀ (v3302 : BitVec 32) (k0_hw119 : k0_chk119 v3302), 2 ∣ (k0_mult238 v3302).toNat := fun v3302 k0_hw119 => k0_hw119.2.1
theorem k0_off357_inb : ∀ (v3302 : BitVec 32) (k0_hw119 : k0_chk119 v3302), ∀ a, (k0_off357 v3302) a + S2x128.size a ≤ S106256x128.size a := fun v3302 k0_hw119 => k0_hw119.2.2.1
theorem k0_off358_inb : ∀ (v3302 : BitVec 32) (k0_hw119 : k0_chk119 v3302), ∀ a, (k0_off358 v3302) a + S2x128.size a ≤ S106256x128.size a := fun v3302 k0_hw119 => k0_hw119.2.2.2

def k0_off359 (v3306 : BitVec 32) : Fin 2 → Nat :=
  let v3310 : BitVec 32 := v3306
  let v3325 : Index := Scalar.indexCast v3310
  let c0_1604 : Index := 0#32
  ![v3325.toNat, 0]
def k0_off360 (v3306 : BitVec 32) : Fin 2 → Nat :=
  let c2_i32_1597 : BitVec 32 := 2#32
  let v3311 : BitVec 32 := Scalar.addi v3306 c2_i32_1597
  let v3312 : BitVec 32 := v3311
  let v3331 : Index := Scalar.indexCast v3312
  let c0_1607 : Index := 0#32
  ![v3331.toNat, 0]

def k0_chk120 (v3306 : BitVec 32) : Prop :=
  (2 ∣ (k0_mult239 v3306).toNat) ∧
  (2 ∣ (k0_mult240 v3306).toNat) ∧
  (∀ a, (k0_off359 v3306) a + S2x128.size a ≤ S106256x128.size a) ∧
  (∀ a, (k0_off360 v3306) a + S2x128.size a ≤ S106256x128.size a)
theorem k0_mult239_dvd : ∀ (v3306 : BitVec 32) (k0_hw120 : k0_chk120 v3306), 2 ∣ (k0_mult239 v3306).toNat := fun v3306 k0_hw120 => k0_hw120.1
theorem k0_mult240_dvd : ∀ (v3306 : BitVec 32) (k0_hw120 : k0_chk120 v3306), 2 ∣ (k0_mult240 v3306).toNat := fun v3306 k0_hw120 => k0_hw120.2.1
theorem k0_off359_inb : ∀ (v3306 : BitVec 32) (k0_hw120 : k0_chk120 v3306), ∀ a, (k0_off359 v3306) a + S2x128.size a ≤ S106256x128.size a := fun v3306 k0_hw120 => k0_hw120.2.2.1
theorem k0_off360_inb : ∀ (v3306 : BitVec 32) (k0_hw120 : k0_chk120 v3306), ∀ a, (k0_off360 v3306) a + S2x128.size a ≤ S106256x128.size a := fun v3306 k0_hw120 => k0_hw120.2.2.2

def k0_off361 (k0_t1 : Fin k0_t1_loop.trips) : Fin 2 → Nat :=
  let c7_1611 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1610 : BitVec 32 := 0#32
  let v3337 : BitVec 32 := Scalar.addi v2300 c0_i32_1610
  let v3338 : Index := Scalar.indexCast v3337
  ![7, v3338.toNat]
def k0_off362 (k0_t1 : Fin k0_t1_loop.trips) : Fin 2 → Nat :=
  let c7_1614 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c0_i32_1612 : BitVec 32 := 0#32
  let v3340 : BitVec 32 := Scalar.addi v2300 c0_i32_1612
  let c1_i32_1613 : BitVec 32 := 1#32
  let v3341 : BitVec 32 := Scalar.addi v3340 c1_i32_1613
  let v3342 : Index := Scalar.indexCast v3341
  ![7, v3342.toNat]
def k0_mult241 (v3339 : BitVec 32) : BitVec 32 :=
  v3339

def k0_mult242 (v3339 : BitVec 32) : BitVec 32 :=
  let c2_i32_1615 : BitVec 32 := 2#32
  let v3345 : BitVec 32 := Scalar.addi v3339 c2_i32_1615
  v3345
def k0_mult243 (v3343 : BitVec 32) : BitVec 32 :=
  v3343

def k0_mult244 (v3343 : BitVec 32) : BitVec 32 :=
  let c2_i32_1616 : BitVec 32 := 2#32
  let v3348 : BitVec 32 := Scalar.addi v3343 c2_i32_1616
  v3348
def k0_off363 (v3339 : BitVec 32) : Fin 2 → Nat :=
  let v3344 : BitVec 32 := v3339
  let v3350 : Index := Scalar.indexCast v3344
  let c0_1617 : Index := 0#32
  ![v3350.toNat, 0]
def k0_off364 (v3339 : BitVec 32) : Fin 2 → Nat :=
  let c2_i32_1615 : BitVec 32 := 2#32
  let v3345 : BitVec 32 := Scalar.addi v3339 c2_i32_1615
  let v3346 : BitVec 32 := v3345
  let v3356 : Index := Scalar.indexCast v3346
  let c0_1620 : Index := 0#32
  ![v3356.toNat, 0]

def k0_chk121 (v3339 : BitVec 32) : Prop :=
  (2 ∣ (k0_mult241 v3339).toNat) ∧
  (2 ∣ (k0_mult242 v3339).toNat) ∧
  (∀ a, (k0_off363 v3339) a + S2x128.size a ≤ S106256x128.size a) ∧
  (∀ a, (k0_off364 v3339) a + S2x128.size a ≤ S106256x128.size a)
theorem k0_mult241_dvd : ∀ (v3339 : BitVec 32) (k0_hw121 : k0_chk121 v3339), 2 ∣ (k0_mult241 v3339).toNat := fun v3339 k0_hw121 => k0_hw121.1
theorem k0_mult242_dvd : ∀ (v3339 : BitVec 32) (k0_hw121 : k0_chk121 v3339), 2 ∣ (k0_mult242 v3339).toNat := fun v3339 k0_hw121 => k0_hw121.2.1
theorem k0_off363_inb : ∀ (v3339 : BitVec 32) (k0_hw121 : k0_chk121 v3339), ∀ a, (k0_off363 v3339) a + S2x128.size a ≤ S106256x128.size a := fun v3339 k0_hw121 => k0_hw121.2.2.1
theorem k0_off364_inb : ∀ (v3339 : BitVec 32) (k0_hw121 : k0_chk121 v3339), ∀ a, (k0_off364 v3339) a + S2x128.size a ≤ S106256x128.size a := fun v3339 k0_hw121 => k0_hw121.2.2.2

def k0_off365 (v3343 : BitVec 32) : Fin 2 → Nat :=
  let v3347 : BitVec 32 := v3343
  let v3362 : Index := Scalar.indexCast v3347
  let c0_1623 : Index := 0#32
  ![v3362.toNat, 0]
def k0_off366 (v3343 : BitVec 32) : Fin 2 → Nat :=
  let c2_i32_1616 : BitVec 32 := 2#32
  let v3348 : BitVec 32 := Scalar.addi v3343 c2_i32_1616
  let v3349 : BitVec 32 := v3348
  let v3368 : Index := Scalar.indexCast v3349
  let c0_1626 : Index := 0#32
  ![v3368.toNat, 0]

def k0_chk122 (v3343 : BitVec 32) : Prop :=
  (2 ∣ (k0_mult243 v3343).toNat) ∧
  (2 ∣ (k0_mult244 v3343).toNat) ∧
  (∀ a, (k0_off365 v3343) a + S2x128.size a ≤ S106256x128.size a) ∧
  (∀ a, (k0_off366 v3343) a + S2x128.size a ≤ S106256x128.size a)
theorem k0_mult243_dvd : ∀ (v3343 : BitVec 32) (k0_hw122 : k0_chk122 v3343), 2 ∣ (k0_mult243 v3343).toNat := fun v3343 k0_hw122 => k0_hw122.1
theorem k0_mult244_dvd : ∀ (v3343 : BitVec 32) (k0_hw122 : k0_chk122 v3343), 2 ∣ (k0_mult244 v3343).toNat := fun v3343 k0_hw122 => k0_hw122.2.1
theorem k0_off365_inb : ∀ (v3343 : BitVec 32) (k0_hw122 : k0_chk122 v3343), ∀ a, (k0_off365 v3343) a + S2x128.size a ≤ S106256x128.size a := fun v3343 k0_hw122 => k0_hw122.2.2.1
theorem k0_off366_inb : ∀ (v3343 : BitVec 32) (k0_hw122 : k0_chk122 v3343), ∀ a, (k0_off366 v3343) a + S2x128.size a ≤ S106256x128.size a := fun v3343 k0_hw122 => k0_hw122.2.2.2

def k0_off367 (k0_t1 : Fin k0_t1_loop.trips) : Fin 2 → Nat :=
  let c7_1630 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1629 : BitVec 32 := 2#32
  let v3374 : BitVec 32 := Scalar.addi v2300 c2_i32_1629
  let v3375 : Index := Scalar.indexCast v3374
  ![7, v3375.toNat]
def k0_off368 (k0_t1 : Fin k0_t1_loop.trips) : Fin 2 → Nat :=
  let c7_1633 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c2_i32_1631 : BitVec 32 := 2#32
  let v3377 : BitVec 32 := Scalar.addi v2300 c2_i32_1631
  let c1_i32_1632 : BitVec 32 := 1#32
  let v3378 : BitVec 32 := Scalar.addi v3377 c1_i32_1632
  let v3379 : Index := Scalar.indexCast v3378
  ![7, v3379.toNat]
def k0_mult245 (v3376 : BitVec 32) : BitVec 32 :=
  v3376

def k0_mult246 (v3376 : BitVec 32) : BitVec 32 :=
  let c2_i32_1634 : BitVec 32 := 2#32
  let v3382 : BitVec 32 := Scalar.addi v3376 c2_i32_1634
  v3382
def k0_mult247 (v3380 : BitVec 32) : BitVec 32 :=
  v3380

def k0_mult248 (v3380 : BitVec 32) : BitVec 32 :=
  let c2_i32_1635 : BitVec 32 := 2#32
  let v3385 : BitVec 32 := Scalar.addi v3380 c2_i32_1635
  v3385
def k0_off369 (v3376 : BitVec 32) : Fin 2 → Nat :=
  let v3381 : BitVec 32 := v3376
  let v3387 : Index := Scalar.indexCast v3381
  let c0_1636 : Index := 0#32
  ![v3387.toNat, 0]
def k0_off370 (v3376 : BitVec 32) : Fin 2 → Nat :=
  let c2_i32_1634 : BitVec 32 := 2#32
  let v3382 : BitVec 32 := Scalar.addi v3376 c2_i32_1634
  let v3383 : BitVec 32 := v3382
  let v3393 : Index := Scalar.indexCast v3383
  let c0_1639 : Index := 0#32
  ![v3393.toNat, 0]

def k0_chk123 (v3376 : BitVec 32) : Prop :=
  (2 ∣ (k0_mult245 v3376).toNat) ∧
  (2 ∣ (k0_mult246 v3376).toNat) ∧
  (∀ a, (k0_off369 v3376) a + S2x128.size a ≤ S106256x128.size a) ∧
  (∀ a, (k0_off370 v3376) a + S2x128.size a ≤ S106256x128.size a)
theorem k0_mult245_dvd : ∀ (v3376 : BitVec 32) (k0_hw123 : k0_chk123 v3376), 2 ∣ (k0_mult245 v3376).toNat := fun v3376 k0_hw123 => k0_hw123.1
theorem k0_mult246_dvd : ∀ (v3376 : BitVec 32) (k0_hw123 : k0_chk123 v3376), 2 ∣ (k0_mult246 v3376).toNat := fun v3376 k0_hw123 => k0_hw123.2.1
theorem k0_off369_inb : ∀ (v3376 : BitVec 32) (k0_hw123 : k0_chk123 v3376), ∀ a, (k0_off369 v3376) a + S2x128.size a ≤ S106256x128.size a := fun v3376 k0_hw123 => k0_hw123.2.2.1
theorem k0_off370_inb : ∀ (v3376 : BitVec 32) (k0_hw123 : k0_chk123 v3376), ∀ a, (k0_off370 v3376) a + S2x128.size a ≤ S106256x128.size a := fun v3376 k0_hw123 => k0_hw123.2.2.2

def k0_off371 (v3380 : BitVec 32) : Fin 2 → Nat :=
  let v3384 : BitVec 32 := v3380
  let v3399 : Index := Scalar.indexCast v3384
  let c0_1642 : Index := 0#32
  ![v3399.toNat, 0]
def k0_off372 (v3380 : BitVec 32) : Fin 2 → Nat :=
  let c2_i32_1635 : BitVec 32 := 2#32
  let v3385 : BitVec 32 := Scalar.addi v3380 c2_i32_1635
  let v3386 : BitVec 32 := v3385
  let v3405 : Index := Scalar.indexCast v3386
  let c0_1645 : Index := 0#32
  ![v3405.toNat, 0]

def k0_chk124 (v3380 : BitVec 32) : Prop :=
  (2 ∣ (k0_mult247 v3380).toNat) ∧
  (2 ∣ (k0_mult248 v3380).toNat) ∧
  (∀ a, (k0_off371 v3380) a + S2x128.size a ≤ S106256x128.size a) ∧
  (∀ a, (k0_off372 v3380) a + S2x128.size a ≤ S106256x128.size a)
theorem k0_mult247_dvd : ∀ (v3380 : BitVec 32) (k0_hw124 : k0_chk124 v3380), 2 ∣ (k0_mult247 v3380).toNat := fun v3380 k0_hw124 => k0_hw124.1
theorem k0_mult248_dvd : ∀ (v3380 : BitVec 32) (k0_hw124 : k0_chk124 v3380), 2 ∣ (k0_mult248 v3380).toNat := fun v3380 k0_hw124 => k0_hw124.2.1
theorem k0_off371_inb : ∀ (v3380 : BitVec 32) (k0_hw124 : k0_chk124 v3380), ∀ a, (k0_off371 v3380) a + S2x128.size a ≤ S106256x128.size a := fun v3380 k0_hw124 => k0_hw124.2.2.1
theorem k0_off372_inb : ∀ (v3380 : BitVec 32) (k0_hw124 : k0_chk124 v3380), ∀ a, (k0_off372 v3380) a + S2x128.size a ≤ S106256x128.size a := fun v3380 k0_hw124 => k0_hw124.2.2.2

def k0_off373 (k0_t1 : Fin k0_t1_loop.trips) : Fin 2 → Nat :=
  let c7_1649 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1648 : BitVec 32 := 4#32
  let v3411 : BitVec 32 := Scalar.addi v2300 c4_i32_1648
  let v3412 : Index := Scalar.indexCast v3411
  ![7, v3412.toNat]
def k0_off374 (k0_t1 : Fin k0_t1_loop.trips) : Fin 2 → Nat :=
  let c7_1652 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c4_i32_1650 : BitVec 32 := 4#32
  let v3414 : BitVec 32 := Scalar.addi v2300 c4_i32_1650
  let c1_i32_1651 : BitVec 32 := 1#32
  let v3415 : BitVec 32 := Scalar.addi v3414 c1_i32_1651
  let v3416 : Index := Scalar.indexCast v3415
  ![7, v3416.toNat]
def k0_mult249 (v3413 : BitVec 32) : BitVec 32 :=
  v3413

def k0_mult250 (v3413 : BitVec 32) : BitVec 32 :=
  let c2_i32_1653 : BitVec 32 := 2#32
  let v3419 : BitVec 32 := Scalar.addi v3413 c2_i32_1653
  v3419
def k0_mult251 (v3417 : BitVec 32) : BitVec 32 :=
  v3417

def k0_mult252 (v3417 : BitVec 32) : BitVec 32 :=
  let c2_i32_1654 : BitVec 32 := 2#32
  let v3422 : BitVec 32 := Scalar.addi v3417 c2_i32_1654
  v3422
def k0_off375 (v3413 : BitVec 32) : Fin 2 → Nat :=
  let v3418 : BitVec 32 := v3413
  let v3424 : Index := Scalar.indexCast v3418
  let c0_1655 : Index := 0#32
  ![v3424.toNat, 0]
def k0_off376 (v3413 : BitVec 32) : Fin 2 → Nat :=
  let c2_i32_1653 : BitVec 32 := 2#32
  let v3419 : BitVec 32 := Scalar.addi v3413 c2_i32_1653
  let v3420 : BitVec 32 := v3419
  let v3430 : Index := Scalar.indexCast v3420
  let c0_1658 : Index := 0#32
  ![v3430.toNat, 0]

def k0_chk125 (v3413 : BitVec 32) : Prop :=
  (2 ∣ (k0_mult249 v3413).toNat) ∧
  (2 ∣ (k0_mult250 v3413).toNat) ∧
  (∀ a, (k0_off375 v3413) a + S2x128.size a ≤ S106256x128.size a) ∧
  (∀ a, (k0_off376 v3413) a + S2x128.size a ≤ S106256x128.size a)
theorem k0_mult249_dvd : ∀ (v3413 : BitVec 32) (k0_hw125 : k0_chk125 v3413), 2 ∣ (k0_mult249 v3413).toNat := fun v3413 k0_hw125 => k0_hw125.1
theorem k0_mult250_dvd : ∀ (v3413 : BitVec 32) (k0_hw125 : k0_chk125 v3413), 2 ∣ (k0_mult250 v3413).toNat := fun v3413 k0_hw125 => k0_hw125.2.1
theorem k0_off375_inb : ∀ (v3413 : BitVec 32) (k0_hw125 : k0_chk125 v3413), ∀ a, (k0_off375 v3413) a + S2x128.size a ≤ S106256x128.size a := fun v3413 k0_hw125 => k0_hw125.2.2.1
theorem k0_off376_inb : ∀ (v3413 : BitVec 32) (k0_hw125 : k0_chk125 v3413), ∀ a, (k0_off376 v3413) a + S2x128.size a ≤ S106256x128.size a := fun v3413 k0_hw125 => k0_hw125.2.2.2

def k0_off377 (v3417 : BitVec 32) : Fin 2 → Nat :=
  let v3421 : BitVec 32 := v3417
  let v3436 : Index := Scalar.indexCast v3421
  let c0_1661 : Index := 0#32
  ![v3436.toNat, 0]
def k0_off378 (v3417 : BitVec 32) : Fin 2 → Nat :=
  let c2_i32_1654 : BitVec 32 := 2#32
  let v3422 : BitVec 32 := Scalar.addi v3417 c2_i32_1654
  let v3423 : BitVec 32 := v3422
  let v3442 : Index := Scalar.indexCast v3423
  let c0_1664 : Index := 0#32
  ![v3442.toNat, 0]

def k0_chk126 (v3417 : BitVec 32) : Prop :=
  (2 ∣ (k0_mult251 v3417).toNat) ∧
  (2 ∣ (k0_mult252 v3417).toNat) ∧
  (∀ a, (k0_off377 v3417) a + S2x128.size a ≤ S106256x128.size a) ∧
  (∀ a, (k0_off378 v3417) a + S2x128.size a ≤ S106256x128.size a)
theorem k0_mult251_dvd : ∀ (v3417 : BitVec 32) (k0_hw126 : k0_chk126 v3417), 2 ∣ (k0_mult251 v3417).toNat := fun v3417 k0_hw126 => k0_hw126.1
theorem k0_mult252_dvd : ∀ (v3417 : BitVec 32) (k0_hw126 : k0_chk126 v3417), 2 ∣ (k0_mult252 v3417).toNat := fun v3417 k0_hw126 => k0_hw126.2.1
theorem k0_off377_inb : ∀ (v3417 : BitVec 32) (k0_hw126 : k0_chk126 v3417), ∀ a, (k0_off377 v3417) a + S2x128.size a ≤ S106256x128.size a := fun v3417 k0_hw126 => k0_hw126.2.2.1
theorem k0_off378_inb : ∀ (v3417 : BitVec 32) (k0_hw126 : k0_chk126 v3417), ∀ a, (k0_off378 v3417) a + S2x128.size a ≤ S106256x128.size a := fun v3417 k0_hw126 => k0_hw126.2.2.2

def k0_off379 (k0_t1 : Fin k0_t1_loop.trips) : Fin 2 → Nat :=
  let c7_1668 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1667 : BitVec 32 := 6#32
  let v3448 : BitVec 32 := Scalar.addi v2300 c6_i32_1667
  let v3449 : Index := Scalar.indexCast v3448
  ![7, v3449.toNat]
def k0_off380 (k0_t1 : Fin k0_t1_loop.trips) : Fin 2 → Nat :=
  let c7_1671 : Index := 7#32
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1076 : BitVec 32 := 1#32
  let v2299 : BitVec 32 := Scalar.addi v1113 c1_i32_1076
  let c8_i32_1077 : BitVec 32 := 8#32
  let v2300 : BitVec 32 := Scalar.muli v2299 c8_i32_1077
  let c6_i32_1669 : BitVec 32 := 6#32
  let v3451 : BitVec 32 := Scalar.addi v2300 c6_i32_1669
  let c1_i32_1670 : BitVec 32 := 1#32
  let v3452 : BitVec 32 := Scalar.addi v3451 c1_i32_1670
  let v3453 : Index := Scalar.indexCast v3452
  ![7, v3453.toNat]
def k0_mult253 (v3450 : BitVec 32) : BitVec 32 :=
  v3450

def k0_mult254 (v3450 : BitVec 32) : BitVec 32 :=
  let c2_i32_1672 : BitVec 32 := 2#32
  let v3456 : BitVec 32 := Scalar.addi v3450 c2_i32_1672
  v3456
def k0_mult255 (v3454 : BitVec 32) : BitVec 32 :=
  v3454

def k0_mult256 (v3454 : BitVec 32) : BitVec 32 :=
  let c2_i32_1673 : BitVec 32 := 2#32
  let v3459 : BitVec 32 := Scalar.addi v3454 c2_i32_1673
  v3459
def k0_off381 (v3450 : BitVec 32) : Fin 2 → Nat :=
  let v3455 : BitVec 32 := v3450
  let v3461 : Index := Scalar.indexCast v3455
  let c0_1674 : Index := 0#32
  ![v3461.toNat, 0]
def k0_off382 (v3450 : BitVec 32) : Fin 2 → Nat :=
  let c2_i32_1672 : BitVec 32 := 2#32
  let v3456 : BitVec 32 := Scalar.addi v3450 c2_i32_1672
  let v3457 : BitVec 32 := v3456
  let v3467 : Index := Scalar.indexCast v3457
  let c0_1677 : Index := 0#32
  ![v3467.toNat, 0]

def k0_chk127 (v3450 : BitVec 32) : Prop :=
  (2 ∣ (k0_mult253 v3450).toNat) ∧
  (2 ∣ (k0_mult254 v3450).toNat) ∧
  (∀ a, (k0_off381 v3450) a + S2x128.size a ≤ S106256x128.size a) ∧
  (∀ a, (k0_off382 v3450) a + S2x128.size a ≤ S106256x128.size a)
theorem k0_mult253_dvd : ∀ (v3450 : BitVec 32) (k0_hw127 : k0_chk127 v3450), 2 ∣ (k0_mult253 v3450).toNat := fun v3450 k0_hw127 => k0_hw127.1
theorem k0_mult254_dvd : ∀ (v3450 : BitVec 32) (k0_hw127 : k0_chk127 v3450), 2 ∣ (k0_mult254 v3450).toNat := fun v3450 k0_hw127 => k0_hw127.2.1
theorem k0_off381_inb : ∀ (v3450 : BitVec 32) (k0_hw127 : k0_chk127 v3450), ∀ a, (k0_off381 v3450) a + S2x128.size a ≤ S106256x128.size a := fun v3450 k0_hw127 => k0_hw127.2.2.1
theorem k0_off382_inb : ∀ (v3450 : BitVec 32) (k0_hw127 : k0_chk127 v3450), ∀ a, (k0_off382 v3450) a + S2x128.size a ≤ S106256x128.size a := fun v3450 k0_hw127 => k0_hw127.2.2.2

def k0_off383 (v3454 : BitVec 32) : Fin 2 → Nat :=
  let v3458 : BitVec 32 := v3454
  let v3473 : Index := Scalar.indexCast v3458
  let c0_1680 : Index := 0#32
  ![v3473.toNat, 0]
def k0_off384 (v3454 : BitVec 32) : Fin 2 → Nat :=
  let c2_i32_1673 : BitVec 32 := 2#32
  let v3459 : BitVec 32 := Scalar.addi v3454 c2_i32_1673
  let v3460 : BitVec 32 := v3459
  let v3479 : Index := Scalar.indexCast v3460
  let c0_1683 : Index := 0#32
  ![v3479.toNat, 0]

def k0_chk128 (v3454 : BitVec 32) : Prop :=
  (2 ∣ (k0_mult255 v3454).toNat) ∧
  (2 ∣ (k0_mult256 v3454).toNat) ∧
  (∀ a, (k0_off383 v3454) a + S2x128.size a ≤ S106256x128.size a) ∧
  (∀ a, (k0_off384 v3454) a + S2x128.size a ≤ S106256x128.size a)
theorem k0_mult255_dvd : ∀ (v3454 : BitVec 32) (k0_hw128 : k0_chk128 v3454), 2 ∣ (k0_mult255 v3454).toNat := fun v3454 k0_hw128 => k0_hw128.1
theorem k0_mult256_dvd : ∀ (v3454 : BitVec 32) (k0_hw128 : k0_chk128 v3454), 2 ∣ (k0_mult256 v3454).toNat := fun v3454 k0_hw128 => k0_hw128.2.1
theorem k0_off383_inb : ∀ (v3454 : BitVec 32) (k0_hw128 : k0_chk128 v3454), ∀ a, (k0_off383 v3454) a + S2x128.size a ≤ S106256x128.size a := fun v3454 k0_hw128 => k0_hw128.2.2.1
theorem k0_off384_inb : ∀ (v3454 : BitVec 32) (k0_hw128 : k0_chk128 v3454), ∀ a, (k0_off384 v3454) a + S2x128.size a ≤ S106256x128.size a := fun v3454 k0_hw128 => k0_hw128.2.2.2

def k0_off385 (k0_t1 : Fin k0_t1_loop.trips) : Fin 3 → Nat :=
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let v3485 : Index := Scalar.indexCast v1113
  let c0_1686 : Index := 0#32
  let c0_1687 : Index := 0#32
  ![v3485.toNat, 0, 0]
def k0_off386 (k0_t1 : Fin k0_t1_loop.trips) : Fin 3 → Nat :=
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let v3500 : Index := Scalar.indexCast v1113
  let c0_1692 : Index := 0#32
  let c0_1693 : Index := 0#32
  ![v3500.toNat, 0, 0]
def k0_off387 (k0_t1 : Fin k0_t1_loop.trips) : Fin 3 → Nat :=
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1694 : BitVec 32 := 1#32
  let v3504 : BitVec 32 := Scalar.addi v1113 c1_i32_1694
  let v3505 : Index := Scalar.indexCast v3504
  let c0_1695 : Index := 0#32
  let c0_1696 : Index := 0#32
  ![v3505.toNat, 0, 0]
def k0_off388 (k0_t1 : Fin k0_t1_loop.trips) : Fin 3 → Nat :=
  let c2_i32_469 : BitVec 32 := 2#32
  let c0_i32_20 : BitVec 32 := 0#32
  let c1_i32_21 : BitVec 32 := 1#32
  let arg7 : BitVec 32 := Scf.iv c0_i32_20 c1_i32_21 k0_t1
  let v1113 : BitVec 32 := Scalar.muli c2_i32_469 arg7
  let c1_i32_1694 : BitVec 32 := 1#32
  let v3504 : BitVec 32 := Scalar.addi v1113 c1_i32_1694
  let v3520 : Index := Scalar.indexCast v3504
  let c0_1701 : Index := 0#32
  let c0_1702 : Index := 0#32
  ![v3520.toNat, 0, 0]
def k0_mult257 (v72 : BitVec 32) : BitVec 32 :=
  v72

def k0_mult258 (v72 : BitVec 32) : BitVec 32 :=
  let c2_i32_24 : BitVec 32 := 2#32
  let v75 : BitVec 32 := Scalar.addi v72 c2_i32_24
  v75
def k0_mult259 (v73 : BitVec 32) : BitVec 32 :=
  v73

def k0_mult260 (v73 : BitVec 32) : BitVec 32 :=
  let c2_i32_25 : BitVec 32 := 2#32
  let v78 : BitVec 32 := Scalar.addi v73 c2_i32_25
  v78
def k0_off389 (v72 : BitVec 32) : Fin 2 → Nat :=
  let v74 : BitVec 32 := v72
  let v80 : Index := Scalar.indexCast v74
  let c0_26 : Index := 0#32
  ![v80.toNat, 0]
def k0_off390 (v72 : BitVec 32) : Fin 2 → Nat :=
  let c2_i32_24 : BitVec 32 := 2#32
  let v75 : BitVec 32 := Scalar.addi v72 c2_i32_24
  let v76 : BitVec 32 := v75
  let v86 : Index := Scalar.indexCast v76
  let c0_29 : Index := 0#32
  ![v86.toNat, 0]

def k0_chk129 (v72 : BitVec 32) : Prop :=
  (2 ∣ (k0_mult257 v72).toNat) ∧
  (2 ∣ (k0_mult258 v72).toNat) ∧
  (∀ a, (k0_off389 v72) a + S2x128.size a ≤ S106256x128.size a) ∧
  (∀ a, (k0_off390 v72) a + S2x128.size a ≤ S106256x128.size a)
theorem k0_mult257_dvd : ∀ (v72 : BitVec 32) (k0_hw129 : k0_chk129 v72), 2 ∣ (k0_mult257 v72).toNat := fun v72 k0_hw129 => k0_hw129.1
theorem k0_mult258_dvd : ∀ (v72 : BitVec 32) (k0_hw129 : k0_chk129 v72), 2 ∣ (k0_mult258 v72).toNat := fun v72 k0_hw129 => k0_hw129.2.1
theorem k0_off389_inb : ∀ (v72 : BitVec 32) (k0_hw129 : k0_chk129 v72), ∀ a, (k0_off389 v72) a + S2x128.size a ≤ S106256x128.size a := fun v72 k0_hw129 => k0_hw129.2.2.1
theorem k0_off390_inb : ∀ (v72 : BitVec 32) (k0_hw129 : k0_chk129 v72), ∀ a, (k0_off390 v72) a + S2x128.size a ≤ S106256x128.size a := fun v72 k0_hw129 => k0_hw129.2.2.2

def k0_off391 (v73 : BitVec 32) : Fin 2 → Nat :=
  let v77 : BitVec 32 := v73
  let v92 : Index := Scalar.indexCast v77
  let c0_31 : Index := 0#32
  ![v92.toNat, 0]
def k0_off392 (v73 : BitVec 32) : Fin 2 → Nat :=
  let c2_i32_25 : BitVec 32 := 2#32
  let v78 : BitVec 32 := Scalar.addi v73 c2_i32_25
  let v79 : BitVec 32 := v78
  let v98 : Index := Scalar.indexCast v79
  let c0_33 : Index := 0#32
  ![v98.toNat, 0]

def k0_chk130 (v73 : BitVec 32) : Prop :=
  (2 ∣ (k0_mult259 v73).toNat) ∧
  (2 ∣ (k0_mult260 v73).toNat) ∧
  (∀ a, (k0_off391 v73) a + S2x128.size a ≤ S106256x128.size a) ∧
  (∀ a, (k0_off392 v73) a + S2x128.size a ≤ S106256x128.size a)
theorem k0_mult259_dvd : ∀ (v73 : BitVec 32) (k0_hw130 : k0_chk130 v73), 2 ∣ (k0_mult259 v73).toNat := fun v73 k0_hw130 => k0_hw130.1
theorem k0_mult260_dvd : ∀ (v73 : BitVec 32) (k0_hw130 : k0_chk130 v73), 2 ∣ (k0_mult260 v73).toNat := fun v73 k0_hw130 => k0_hw130.2.1
theorem k0_off391_inb : ∀ (v73 : BitVec 32) (k0_hw130 : k0_chk130 v73), ∀ a, (k0_off391 v73) a + S2x128.size a ≤ S106256x128.size a := fun v73 k0_hw130 => k0_hw130.2.2.1
theorem k0_off392_inb : ∀ (v73 : BitVec 32) (k0_hw130 : k0_chk130 v73), ∀ a, (k0_off392 v73) a + S2x128.size a ≤ S106256x128.size a := fun v73 k0_hw130 => k0_hw130.2.2.2

def k0_mult261 (v104 : BitVec 32) : BitVec 32 :=
  v104

def k0_mult262 (v104 : BitVec 32) : BitVec 32 :=
  let c2_i32_37 : BitVec 32 := 2#32
  let v107 : BitVec 32 := Scalar.addi v104 c2_i32_37
  v107
def k0_mult263 (v105 : BitVec 32) : BitVec 32 :=
  v105

def k0_mult264 (v105 : BitVec 32) : BitVec 32 :=
  let c2_i32_38 : BitVec 32 := 2#32
  let v110 : BitVec 32 := Scalar.addi v105 c2_i32_38
  v110
def k0_off393 (v104 : BitVec 32) : Fin 2 → Nat :=
  let v106 : BitVec 32 := v104
  let v112 : Index := Scalar.indexCast v106
  let c0_39 : Index := 0#32
  ![v112.toNat, 0]
def k0_off394 (v104 : BitVec 32) : Fin 2 → Nat :=
  let c2_i32_37 : BitVec 32 := 2#32
  let v107 : BitVec 32 := Scalar.addi v104 c2_i32_37
  let v108 : BitVec 32 := v107
  let v118 : Index := Scalar.indexCast v108
  let c0_41 : Index := 0#32
  ![v118.toNat, 0]

def k0_chk131 (v104 : BitVec 32) : Prop :=
  (2 ∣ (k0_mult261 v104).toNat) ∧
  (2 ∣ (k0_mult262 v104).toNat) ∧
  (∀ a, (k0_off393 v104) a + S2x128.size a ≤ S106256x128.size a) ∧
  (∀ a, (k0_off394 v104) a + S2x128.size a ≤ S106256x128.size a)
theorem k0_mult261_dvd : ∀ (v104 : BitVec 32) (k0_hw131 : k0_chk131 v104), 2 ∣ (k0_mult261 v104).toNat := fun v104 k0_hw131 => k0_hw131.1
theorem k0_mult262_dvd : ∀ (v104 : BitVec 32) (k0_hw131 : k0_chk131 v104), 2 ∣ (k0_mult262 v104).toNat := fun v104 k0_hw131 => k0_hw131.2.1
theorem k0_off393_inb : ∀ (v104 : BitVec 32) (k0_hw131 : k0_chk131 v104), ∀ a, (k0_off393 v104) a + S2x128.size a ≤ S106256x128.size a := fun v104 k0_hw131 => k0_hw131.2.2.1
theorem k0_off394_inb : ∀ (v104 : BitVec 32) (k0_hw131 : k0_chk131 v104), ∀ a, (k0_off394 v104) a + S2x128.size a ≤ S106256x128.size a := fun v104 k0_hw131 => k0_hw131.2.2.2

def k0_off395 (v105 : BitVec 32) : Fin 2 → Nat :=
  let v109 : BitVec 32 := v105
  let v124 : Index := Scalar.indexCast v109
  let c0_43 : Index := 0#32
  ![v124.toNat, 0]
def k0_off396 (v105 : BitVec 32) : Fin 2 → Nat :=
  let c2_i32_38 : BitVec 32 := 2#32
  let v110 : BitVec 32 := Scalar.addi v105 c2_i32_38
  let v111 : BitVec 32 := v110
  let v130 : Index := Scalar.indexCast v111
  let c0_45 : Index := 0#32
  ![v130.toNat, 0]

def k0_chk132 (v105 : BitVec 32) : Prop :=
  (2 ∣ (k0_mult263 v105).toNat) ∧
  (2 ∣ (k0_mult264 v105).toNat) ∧
  (∀ a, (k0_off395 v105) a + S2x128.size a ≤ S106256x128.size a) ∧
  (∀ a, (k0_off396 v105) a + S2x128.size a ≤ S106256x128.size a)
theorem k0_mult263_dvd : ∀ (v105 : BitVec 32) (k0_hw132 : k0_chk132 v105), 2 ∣ (k0_mult263 v105).toNat := fun v105 k0_hw132 => k0_hw132.1
theorem k0_mult264_dvd : ∀ (v105 : BitVec 32) (k0_hw132 : k0_chk132 v105), 2 ∣ (k0_mult264 v105).toNat := fun v105 k0_hw132 => k0_hw132.2.1
theorem k0_off395_inb : ∀ (v105 : BitVec 32) (k0_hw132 : k0_chk132 v105), ∀ a, (k0_off395 v105) a + S2x128.size a ≤ S106256x128.size a := fun v105 k0_hw132 => k0_hw132.2.2.1
theorem k0_off396_inb : ∀ (v105 : BitVec 32) (k0_hw132 : k0_chk132 v105), ∀ a, (k0_off396 v105) a + S2x128.size a ≤ S106256x128.size a := fun v105 k0_hw132 => k0_hw132.2.2.2

def k0_mult265 (v136 : BitVec 32) : BitVec 32 :=
  v136

def k0_mult266 (v136 : BitVec 32) : BitVec 32 :=
  let c2_i32_49 : BitVec 32 := 2#32
  let v139 : BitVec 32 := Scalar.addi v136 c2_i32_49
  v139
def k0_mult267 (v137 : BitVec 32) : BitVec 32 :=
  v137

def k0_mult268 (v137 : BitVec 32) : BitVec 32 :=
  let c2_i32_50 : BitVec 32 := 2#32
  let v142 : BitVec 32 := Scalar.addi v137 c2_i32_50
  v142
def k0_off397 (v136 : BitVec 32) : Fin 2 → Nat :=
  let v138 : BitVec 32 := v136
  let v144 : Index := Scalar.indexCast v138
  let c0_51 : Index := 0#32
  ![v144.toNat, 0]
def k0_off398 (v136 : BitVec 32) : Fin 2 → Nat :=
  let c2_i32_49 : BitVec 32 := 2#32
  let v139 : BitVec 32 := Scalar.addi v136 c2_i32_49
  let v140 : BitVec 32 := v139
  let v150 : Index := Scalar.indexCast v140
  let c0_53 : Index := 0#32
  ![v150.toNat, 0]

def k0_chk133 (v136 : BitVec 32) : Prop :=
  (2 ∣ (k0_mult265 v136).toNat) ∧
  (2 ∣ (k0_mult266 v136).toNat) ∧
  (∀ a, (k0_off397 v136) a + S2x128.size a ≤ S106256x128.size a) ∧
  (∀ a, (k0_off398 v136) a + S2x128.size a ≤ S106256x128.size a)
theorem k0_mult265_dvd : ∀ (v136 : BitVec 32) (k0_hw133 : k0_chk133 v136), 2 ∣ (k0_mult265 v136).toNat := fun v136 k0_hw133 => k0_hw133.1
theorem k0_mult266_dvd : ∀ (v136 : BitVec 32) (k0_hw133 : k0_chk133 v136), 2 ∣ (k0_mult266 v136).toNat := fun v136 k0_hw133 => k0_hw133.2.1
theorem k0_off397_inb : ∀ (v136 : BitVec 32) (k0_hw133 : k0_chk133 v136), ∀ a, (k0_off397 v136) a + S2x128.size a ≤ S106256x128.size a := fun v136 k0_hw133 => k0_hw133.2.2.1
theorem k0_off398_inb : ∀ (v136 : BitVec 32) (k0_hw133 : k0_chk133 v136), ∀ a, (k0_off398 v136) a + S2x128.size a ≤ S106256x128.size a := fun v136 k0_hw133 => k0_hw133.2.2.2

def k0_off399 (v137 : BitVec 32) : Fin 2 → Nat :=
  let v141 : BitVec 32 := v137
  let v156 : Index := Scalar.indexCast v141
  let c0_55 : Index := 0#32
  ![v156.toNat, 0]
def k0_off400 (v137 : BitVec 32) : Fin 2 → Nat :=
  let c2_i32_50 : BitVec 32 := 2#32
  let v142 : BitVec 32 := Scalar.addi v137 c2_i32_50
  let v143 : BitVec 32 := v142
  let v162 : Index := Scalar.indexCast v143
  let c0_57 : Index := 0#32
  ![v162.toNat, 0]

def k0_chk134 (v137 : BitVec 32) : Prop :=
  (2 ∣ (k0_mult267 v137).toNat) ∧
  (2 ∣ (k0_mult268 v137).toNat) ∧
  (∀ a, (k0_off399 v137) a + S2x128.size a ≤ S106256x128.size a) ∧
  (∀ a, (k0_off400 v137) a + S2x128.size a ≤ S106256x128.size a)
theorem k0_mult267_dvd : ∀ (v137 : BitVec 32) (k0_hw134 : k0_chk134 v137), 2 ∣ (k0_mult267 v137).toNat := fun v137 k0_hw134 => k0_hw134.1
theorem k0_mult268_dvd : ∀ (v137 : BitVec 32) (k0_hw134 : k0_chk134 v137), 2 ∣ (k0_mult268 v137).toNat := fun v137 k0_hw134 => k0_hw134.2.1
theorem k0_off399_inb : ∀ (v137 : BitVec 32) (k0_hw134 : k0_chk134 v137), ∀ a, (k0_off399 v137) a + S2x128.size a ≤ S106256x128.size a := fun v137 k0_hw134 => k0_hw134.2.2.1
theorem k0_off400_inb : ∀ (v137 : BitVec 32) (k0_hw134 : k0_chk134 v137), ∀ a, (k0_off400 v137) a + S2x128.size a ≤ S106256x128.size a := fun v137 k0_hw134 => k0_hw134.2.2.2

def k0_mult269 (v168 : BitVec 32) : BitVec 32 :=
  v168

def k0_mult270 (v168 : BitVec 32) : BitVec 32 :=
  let c2_i32_61 : BitVec 32 := 2#32
  let v171 : BitVec 32 := Scalar.addi v168 c2_i32_61
  v171
def k0_mult271 (v169 : BitVec 32) : BitVec 32 :=
  v169

def k0_mult272 (v169 : BitVec 32) : BitVec 32 :=
  let c2_i32_62 : BitVec 32 := 2#32
  let v174 : BitVec 32 := Scalar.addi v169 c2_i32_62
  v174
def k0_off401 (v168 : BitVec 32) : Fin 2 → Nat :=
  let v170 : BitVec 32 := v168
  let v176 : Index := Scalar.indexCast v170
  let c0_63 : Index := 0#32
  ![v176.toNat, 0]
def k0_off402 (v168 : BitVec 32) : Fin 2 → Nat :=
  let c2_i32_61 : BitVec 32 := 2#32
  let v171 : BitVec 32 := Scalar.addi v168 c2_i32_61
  let v172 : BitVec 32 := v171
  let v182 : Index := Scalar.indexCast v172
  let c0_65 : Index := 0#32
  ![v182.toNat, 0]

def k0_chk135 (v168 : BitVec 32) : Prop :=
  (2 ∣ (k0_mult269 v168).toNat) ∧
  (2 ∣ (k0_mult270 v168).toNat) ∧
  (∀ a, (k0_off401 v168) a + S2x128.size a ≤ S106256x128.size a) ∧
  (∀ a, (k0_off402 v168) a + S2x128.size a ≤ S106256x128.size a)
theorem k0_mult269_dvd : ∀ (v168 : BitVec 32) (k0_hw135 : k0_chk135 v168), 2 ∣ (k0_mult269 v168).toNat := fun v168 k0_hw135 => k0_hw135.1
theorem k0_mult270_dvd : ∀ (v168 : BitVec 32) (k0_hw135 : k0_chk135 v168), 2 ∣ (k0_mult270 v168).toNat := fun v168 k0_hw135 => k0_hw135.2.1
theorem k0_off401_inb : ∀ (v168 : BitVec 32) (k0_hw135 : k0_chk135 v168), ∀ a, (k0_off401 v168) a + S2x128.size a ≤ S106256x128.size a := fun v168 k0_hw135 => k0_hw135.2.2.1
theorem k0_off402_inb : ∀ (v168 : BitVec 32) (k0_hw135 : k0_chk135 v168), ∀ a, (k0_off402 v168) a + S2x128.size a ≤ S106256x128.size a := fun v168 k0_hw135 => k0_hw135.2.2.2

def k0_off403 (v169 : BitVec 32) : Fin 2 → Nat :=
  let v173 : BitVec 32 := v169
  let v188 : Index := Scalar.indexCast v173
  let c0_67 : Index := 0#32
  ![v188.toNat, 0]
def k0_off404 (v169 : BitVec 32) : Fin 2 → Nat :=
  let c2_i32_62 : BitVec 32 := 2#32
  let v174 : BitVec 32 := Scalar.addi v169 c2_i32_62
  let v175 : BitVec 32 := v174
  let v194 : Index := Scalar.indexCast v175
  let c0_69 : Index := 0#32
  ![v194.toNat, 0]

def k0_chk136 (v169 : BitVec 32) : Prop :=
  (2 ∣ (k0_mult271 v169).toNat) ∧
  (2 ∣ (k0_mult272 v169).toNat) ∧
  (∀ a, (k0_off403 v169) a + S2x128.size a ≤ S106256x128.size a) ∧
  (∀ a, (k0_off404 v169) a + S2x128.size a ≤ S106256x128.size a)
theorem k0_mult271_dvd : ∀ (v169 : BitVec 32) (k0_hw136 : k0_chk136 v169), 2 ∣ (k0_mult271 v169).toNat := fun v169 k0_hw136 => k0_hw136.1
theorem k0_mult272_dvd : ∀ (v169 : BitVec 32) (k0_hw136 : k0_chk136 v169), 2 ∣ (k0_mult272 v169).toNat := fun v169 k0_hw136 => k0_hw136.2.1
theorem k0_off403_inb : ∀ (v169 : BitVec 32) (k0_hw136 : k0_chk136 v169), ∀ a, (k0_off403 v169) a + S2x128.size a ≤ S106256x128.size a := fun v169 k0_hw136 => k0_hw136.2.2.1
theorem k0_off404_inb : ∀ (v169 : BitVec 32) (k0_hw136 : k0_chk136 v169), ∀ a, (k0_off404 v169) a + S2x128.size a ≤ S106256x128.size a := fun v169 k0_hw136 => k0_hw136.2.2.2

def k0_mult273 (v200 : BitVec 32) : BitVec 32 :=
  v200

def k0_mult274 (v200 : BitVec 32) : BitVec 32 :=
  let c2_i32_74 : BitVec 32 := 2#32
  let v203 : BitVec 32 := Scalar.addi v200 c2_i32_74
  v203
def k0_mult275 (v201 : BitVec 32) : BitVec 32 :=
  v201

def k0_mult276 (v201 : BitVec 32) : BitVec 32 :=
  let c2_i32_75 : BitVec 32 := 2#32
  let v206 : BitVec 32 := Scalar.addi v201 c2_i32_75
  v206
def k0_off405 (v200 : BitVec 32) : Fin 2 → Nat :=
  let v202 : BitVec 32 := v200
  let v208 : Index := Scalar.indexCast v202
  let c0_76 : Index := 0#32
  ![v208.toNat, 0]
def k0_off406 (v200 : BitVec 32) : Fin 2 → Nat :=
  let c2_i32_74 : BitVec 32 := 2#32
  let v203 : BitVec 32 := Scalar.addi v200 c2_i32_74
  let v204 : BitVec 32 := v203
  let v214 : Index := Scalar.indexCast v204
  let c0_78 : Index := 0#32
  ![v214.toNat, 0]

def k0_chk137 (v200 : BitVec 32) : Prop :=
  (2 ∣ (k0_mult273 v200).toNat) ∧
  (2 ∣ (k0_mult274 v200).toNat) ∧
  (∀ a, (k0_off405 v200) a + S2x128.size a ≤ S106256x128.size a) ∧
  (∀ a, (k0_off406 v200) a + S2x128.size a ≤ S106256x128.size a)
theorem k0_mult273_dvd : ∀ (v200 : BitVec 32) (k0_hw137 : k0_chk137 v200), 2 ∣ (k0_mult273 v200).toNat := fun v200 k0_hw137 => k0_hw137.1
theorem k0_mult274_dvd : ∀ (v200 : BitVec 32) (k0_hw137 : k0_chk137 v200), 2 ∣ (k0_mult274 v200).toNat := fun v200 k0_hw137 => k0_hw137.2.1
theorem k0_off405_inb : ∀ (v200 : BitVec 32) (k0_hw137 : k0_chk137 v200), ∀ a, (k0_off405 v200) a + S2x128.size a ≤ S106256x128.size a := fun v200 k0_hw137 => k0_hw137.2.2.1
theorem k0_off406_inb : ∀ (v200 : BitVec 32) (k0_hw137 : k0_chk137 v200), ∀ a, (k0_off406 v200) a + S2x128.size a ≤ S106256x128.size a := fun v200 k0_hw137 => k0_hw137.2.2.2

def k0_off407 (v201 : BitVec 32) : Fin 2 → Nat :=
  let v205 : BitVec 32 := v201
  let v220 : Index := Scalar.indexCast v205
  let c0_80 : Index := 0#32
  ![v220.toNat, 0]
def k0_off408 (v201 : BitVec 32) : Fin 2 → Nat :=
  let c2_i32_75 : BitVec 32 := 2#32
  let v206 : BitVec 32 := Scalar.addi v201 c2_i32_75
  let v207 : BitVec 32 := v206
  let v226 : Index := Scalar.indexCast v207
  let c0_82 : Index := 0#32
  ![v226.toNat, 0]

def k0_chk138 (v201 : BitVec 32) : Prop :=
  (2 ∣ (k0_mult275 v201).toNat) ∧
  (2 ∣ (k0_mult276 v201).toNat) ∧
  (∀ a, (k0_off407 v201) a + S2x128.size a ≤ S106256x128.size a) ∧
  (∀ a, (k0_off408 v201) a + S2x128.size a ≤ S106256x128.size a)
theorem k0_mult275_dvd : ∀ (v201 : BitVec 32) (k0_hw138 : k0_chk138 v201), 2 ∣ (k0_mult275 v201).toNat := fun v201 k0_hw138 => k0_hw138.1
theorem k0_mult276_dvd : ∀ (v201 : BitVec 32) (k0_hw138 : k0_chk138 v201), 2 ∣ (k0_mult276 v201).toNat := fun v201 k0_hw138 => k0_hw138.2.1
theorem k0_off407_inb : ∀ (v201 : BitVec 32) (k0_hw138 : k0_chk138 v201), ∀ a, (k0_off407 v201) a + S2x128.size a ≤ S106256x128.size a := fun v201 k0_hw138 => k0_hw138.2.2.1
theorem k0_off408_inb : ∀ (v201 : BitVec 32) (k0_hw138 : k0_chk138 v201), ∀ a, (k0_off408 v201) a + S2x128.size a ≤ S106256x128.size a := fun v201 k0_hw138 => k0_hw138.2.2.2

def k0_mult277 (v232 : BitVec 32) : BitVec 32 :=
  v232

def k0_mult278 (v232 : BitVec 32) : BitVec 32 :=
  let c2_i32_88 : BitVec 32 := 2#32
  let v235 : BitVec 32 := Scalar.addi v232 c2_i32_88
  v235
def k0_mult279 (v233 : BitVec 32) : BitVec 32 :=
  v233

def k0_mult280 (v233 : BitVec 32) : BitVec 32 :=
  let c2_i32_89 : BitVec 32 := 2#32
  let v238 : BitVec 32 := Scalar.addi v233 c2_i32_89
  v238
def k0_off409 (v232 : BitVec 32) : Fin 2 → Nat :=
  let v234 : BitVec 32 := v232
  let v240 : Index := Scalar.indexCast v234
  let c0_90 : Index := 0#32
  ![v240.toNat, 0]
def k0_off410 (v232 : BitVec 32) : Fin 2 → Nat :=
  let c2_i32_88 : BitVec 32 := 2#32
  let v235 : BitVec 32 := Scalar.addi v232 c2_i32_88
  let v236 : BitVec 32 := v235
  let v246 : Index := Scalar.indexCast v236
  let c0_92 : Index := 0#32
  ![v246.toNat, 0]

def k0_chk139 (v232 : BitVec 32) : Prop :=
  (2 ∣ (k0_mult277 v232).toNat) ∧
  (2 ∣ (k0_mult278 v232).toNat) ∧
  (∀ a, (k0_off409 v232) a + S2x128.size a ≤ S106256x128.size a) ∧
  (∀ a, (k0_off410 v232) a + S2x128.size a ≤ S106256x128.size a)
theorem k0_mult277_dvd : ∀ (v232 : BitVec 32) (k0_hw139 : k0_chk139 v232), 2 ∣ (k0_mult277 v232).toNat := fun v232 k0_hw139 => k0_hw139.1
theorem k0_mult278_dvd : ∀ (v232 : BitVec 32) (k0_hw139 : k0_chk139 v232), 2 ∣ (k0_mult278 v232).toNat := fun v232 k0_hw139 => k0_hw139.2.1
theorem k0_off409_inb : ∀ (v232 : BitVec 32) (k0_hw139 : k0_chk139 v232), ∀ a, (k0_off409 v232) a + S2x128.size a ≤ S106256x128.size a := fun v232 k0_hw139 => k0_hw139.2.2.1
theorem k0_off410_inb : ∀ (v232 : BitVec 32) (k0_hw139 : k0_chk139 v232), ∀ a, (k0_off410 v232) a + S2x128.size a ≤ S106256x128.size a := fun v232 k0_hw139 => k0_hw139.2.2.2

def k0_off411 (v233 : BitVec 32) : Fin 2 → Nat :=
  let v237 : BitVec 32 := v233
  let v252 : Index := Scalar.indexCast v237
  let c0_94 : Index := 0#32
  ![v252.toNat, 0]
def k0_off412 (v233 : BitVec 32) : Fin 2 → Nat :=
  let c2_i32_89 : BitVec 32 := 2#32
  let v238 : BitVec 32 := Scalar.addi v233 c2_i32_89
  let v239 : BitVec 32 := v238
  let v258 : Index := Scalar.indexCast v239
  let c0_96 : Index := 0#32
  ![v258.toNat, 0]

def k0_chk140 (v233 : BitVec 32) : Prop :=
  (2 ∣ (k0_mult279 v233).toNat) ∧
  (2 ∣ (k0_mult280 v233).toNat) ∧
  (∀ a, (k0_off411 v233) a + S2x128.size a ≤ S106256x128.size a) ∧
  (∀ a, (k0_off412 v233) a + S2x128.size a ≤ S106256x128.size a)
theorem k0_mult279_dvd : ∀ (v233 : BitVec 32) (k0_hw140 : k0_chk140 v233), 2 ∣ (k0_mult279 v233).toNat := fun v233 k0_hw140 => k0_hw140.1
theorem k0_mult280_dvd : ∀ (v233 : BitVec 32) (k0_hw140 : k0_chk140 v233), 2 ∣ (k0_mult280 v233).toNat := fun v233 k0_hw140 => k0_hw140.2.1
theorem k0_off411_inb : ∀ (v233 : BitVec 32) (k0_hw140 : k0_chk140 v233), ∀ a, (k0_off411 v233) a + S2x128.size a ≤ S106256x128.size a := fun v233 k0_hw140 => k0_hw140.2.2.1
theorem k0_off412_inb : ∀ (v233 : BitVec 32) (k0_hw140 : k0_chk140 v233), ∀ a, (k0_off412 v233) a + S2x128.size a ≤ S106256x128.size a := fun v233 k0_hw140 => k0_hw140.2.2.2

def k0_mult281 (v264 : BitVec 32) : BitVec 32 :=
  v264

def k0_mult282 (v264 : BitVec 32) : BitVec 32 :=
  let c2_i32_102 : BitVec 32 := 2#32
  let v267 : BitVec 32 := Scalar.addi v264 c2_i32_102
  v267
def k0_mult283 (v265 : BitVec 32) : BitVec 32 :=
  v265

def k0_mult284 (v265 : BitVec 32) : BitVec 32 :=
  let c2_i32_103 : BitVec 32 := 2#32
  let v270 : BitVec 32 := Scalar.addi v265 c2_i32_103
  v270
def k0_off413 (v264 : BitVec 32) : Fin 2 → Nat :=
  let v266 : BitVec 32 := v264
  let v272 : Index := Scalar.indexCast v266
  let c0_104 : Index := 0#32
  ![v272.toNat, 0]
def k0_off414 (v264 : BitVec 32) : Fin 2 → Nat :=
  let c2_i32_102 : BitVec 32 := 2#32
  let v267 : BitVec 32 := Scalar.addi v264 c2_i32_102
  let v268 : BitVec 32 := v267
  let v278 : Index := Scalar.indexCast v268
  let c0_106 : Index := 0#32
  ![v278.toNat, 0]

def k0_chk141 (v264 : BitVec 32) : Prop :=
  (2 ∣ (k0_mult281 v264).toNat) ∧
  (2 ∣ (k0_mult282 v264).toNat) ∧
  (∀ a, (k0_off413 v264) a + S2x128.size a ≤ S106256x128.size a) ∧
  (∀ a, (k0_off414 v264) a + S2x128.size a ≤ S106256x128.size a)
theorem k0_mult281_dvd : ∀ (v264 : BitVec 32) (k0_hw141 : k0_chk141 v264), 2 ∣ (k0_mult281 v264).toNat := fun v264 k0_hw141 => k0_hw141.1
theorem k0_mult282_dvd : ∀ (v264 : BitVec 32) (k0_hw141 : k0_chk141 v264), 2 ∣ (k0_mult282 v264).toNat := fun v264 k0_hw141 => k0_hw141.2.1
theorem k0_off413_inb : ∀ (v264 : BitVec 32) (k0_hw141 : k0_chk141 v264), ∀ a, (k0_off413 v264) a + S2x128.size a ≤ S106256x128.size a := fun v264 k0_hw141 => k0_hw141.2.2.1
theorem k0_off414_inb : ∀ (v264 : BitVec 32) (k0_hw141 : k0_chk141 v264), ∀ a, (k0_off414 v264) a + S2x128.size a ≤ S106256x128.size a := fun v264 k0_hw141 => k0_hw141.2.2.2

def k0_off415 (v265 : BitVec 32) : Fin 2 → Nat :=
  let v269 : BitVec 32 := v265
  let v284 : Index := Scalar.indexCast v269
  let c0_108 : Index := 0#32
  ![v284.toNat, 0]
def k0_off416 (v265 : BitVec 32) : Fin 2 → Nat :=
  let c2_i32_103 : BitVec 32 := 2#32
  let v270 : BitVec 32 := Scalar.addi v265 c2_i32_103
  let v271 : BitVec 32 := v270
  let v290 : Index := Scalar.indexCast v271
  let c0_110 : Index := 0#32
  ![v290.toNat, 0]

def k0_chk142 (v265 : BitVec 32) : Prop :=
  (2 ∣ (k0_mult283 v265).toNat) ∧
  (2 ∣ (k0_mult284 v265).toNat) ∧
  (∀ a, (k0_off415 v265) a + S2x128.size a ≤ S106256x128.size a) ∧
  (∀ a, (k0_off416 v265) a + S2x128.size a ≤ S106256x128.size a)
theorem k0_mult283_dvd : ∀ (v265 : BitVec 32) (k0_hw142 : k0_chk142 v265), 2 ∣ (k0_mult283 v265).toNat := fun v265 k0_hw142 => k0_hw142.1
theorem k0_mult284_dvd : ∀ (v265 : BitVec 32) (k0_hw142 : k0_chk142 v265), 2 ∣ (k0_mult284 v265).toNat := fun v265 k0_hw142 => k0_hw142.2.1
theorem k0_off415_inb : ∀ (v265 : BitVec 32) (k0_hw142 : k0_chk142 v265), ∀ a, (k0_off415 v265) a + S2x128.size a ≤ S106256x128.size a := fun v265 k0_hw142 => k0_hw142.2.2.1
theorem k0_off416_inb : ∀ (v265 : BitVec 32) (k0_hw142 : k0_chk142 v265), ∀ a, (k0_off416 v265) a + S2x128.size a ≤ S106256x128.size a := fun v265 k0_hw142 => k0_hw142.2.2.2

def k0_mult285 (v296 : BitVec 32) : BitVec 32 :=
  v296

def k0_mult286 (v296 : BitVec 32) : BitVec 32 :=
  let c2_i32_116 : BitVec 32 := 2#32
  let v299 : BitVec 32 := Scalar.addi v296 c2_i32_116
  v299
def k0_mult287 (v297 : BitVec 32) : BitVec 32 :=
  v297

def k0_mult288 (v297 : BitVec 32) : BitVec 32 :=
  let c2_i32_117 : BitVec 32 := 2#32
  let v302 : BitVec 32 := Scalar.addi v297 c2_i32_117
  v302
def k0_off417 (v296 : BitVec 32) : Fin 2 → Nat :=
  let v298 : BitVec 32 := v296
  let v304 : Index := Scalar.indexCast v298
  let c0_118 : Index := 0#32
  ![v304.toNat, 0]
def k0_off418 (v296 : BitVec 32) : Fin 2 → Nat :=
  let c2_i32_116 : BitVec 32 := 2#32
  let v299 : BitVec 32 := Scalar.addi v296 c2_i32_116
  let v300 : BitVec 32 := v299
  let v310 : Index := Scalar.indexCast v300
  let c0_120 : Index := 0#32
  ![v310.toNat, 0]

def k0_chk143 (v296 : BitVec 32) : Prop :=
  (2 ∣ (k0_mult285 v296).toNat) ∧
  (2 ∣ (k0_mult286 v296).toNat) ∧
  (∀ a, (k0_off417 v296) a + S2x128.size a ≤ S106256x128.size a) ∧
  (∀ a, (k0_off418 v296) a + S2x128.size a ≤ S106256x128.size a)
theorem k0_mult285_dvd : ∀ (v296 : BitVec 32) (k0_hw143 : k0_chk143 v296), 2 ∣ (k0_mult285 v296).toNat := fun v296 k0_hw143 => k0_hw143.1
theorem k0_mult286_dvd : ∀ (v296 : BitVec 32) (k0_hw143 : k0_chk143 v296), 2 ∣ (k0_mult286 v296).toNat := fun v296 k0_hw143 => k0_hw143.2.1
theorem k0_off417_inb : ∀ (v296 : BitVec 32) (k0_hw143 : k0_chk143 v296), ∀ a, (k0_off417 v296) a + S2x128.size a ≤ S106256x128.size a := fun v296 k0_hw143 => k0_hw143.2.2.1
theorem k0_off418_inb : ∀ (v296 : BitVec 32) (k0_hw143 : k0_chk143 v296), ∀ a, (k0_off418 v296) a + S2x128.size a ≤ S106256x128.size a := fun v296 k0_hw143 => k0_hw143.2.2.2

def k0_off419 (v297 : BitVec 32) : Fin 2 → Nat :=
  let v301 : BitVec 32 := v297
  let v316 : Index := Scalar.indexCast v301
  let c0_122 : Index := 0#32
  ![v316.toNat, 0]
def k0_off420 (v297 : BitVec 32) : Fin 2 → Nat :=
  let c2_i32_117 : BitVec 32 := 2#32
  let v302 : BitVec 32 := Scalar.addi v297 c2_i32_117
  let v303 : BitVec 32 := v302
  let v322 : Index := Scalar.indexCast v303
  let c0_124 : Index := 0#32
  ![v322.toNat, 0]

def k0_chk144 (v297 : BitVec 32) : Prop :=
  (2 ∣ (k0_mult287 v297).toNat) ∧
  (2 ∣ (k0_mult288 v297).toNat) ∧
  (∀ a, (k0_off419 v297) a + S2x128.size a ≤ S106256x128.size a) ∧
  (∀ a, (k0_off420 v297) a + S2x128.size a ≤ S106256x128.size a)
theorem k0_mult287_dvd : ∀ (v297 : BitVec 32) (k0_hw144 : k0_chk144 v297), 2 ∣ (k0_mult287 v297).toNat := fun v297 k0_hw144 => k0_hw144.1
theorem k0_mult288_dvd : ∀ (v297 : BitVec 32) (k0_hw144 : k0_chk144 v297), 2 ∣ (k0_mult288 v297).toNat := fun v297 k0_hw144 => k0_hw144.2.1
theorem k0_off419_inb : ∀ (v297 : BitVec 32) (k0_hw144 : k0_chk144 v297), ∀ a, (k0_off419 v297) a + S2x128.size a ≤ S106256x128.size a := fun v297 k0_hw144 => k0_hw144.2.2.1
theorem k0_off420_inb : ∀ (v297 : BitVec 32) (k0_hw144 : k0_chk144 v297), ∀ a, (k0_off420 v297) a + S2x128.size a ≤ S106256x128.size a := fun v297 k0_hw144 => k0_hw144.2.2.2

def k0_mult289 (v328 : BitVec 32) : BitVec 32 :=
  v328

def k0_mult290 (v328 : BitVec 32) : BitVec 32 :=
  let c2_i32_130 : BitVec 32 := 2#32
  let v331 : BitVec 32 := Scalar.addi v328 c2_i32_130
  v331
def k0_mult291 (v329 : BitVec 32) : BitVec 32 :=
  v329

def k0_mult292 (v329 : BitVec 32) : BitVec 32 :=
  let c2_i32_131 : BitVec 32 := 2#32
  let v334 : BitVec 32 := Scalar.addi v329 c2_i32_131
  v334
def k0_off421 (v328 : BitVec 32) : Fin 2 → Nat :=
  let v330 : BitVec 32 := v328
  let v336 : Index := Scalar.indexCast v330
  let c0_132 : Index := 0#32
  ![v336.toNat, 0]
def k0_off422 (v328 : BitVec 32) : Fin 2 → Nat :=
  let c2_i32_130 : BitVec 32 := 2#32
  let v331 : BitVec 32 := Scalar.addi v328 c2_i32_130
  let v332 : BitVec 32 := v331
  let v342 : Index := Scalar.indexCast v332
  let c0_134 : Index := 0#32
  ![v342.toNat, 0]

def k0_chk145 (v328 : BitVec 32) : Prop :=
  (2 ∣ (k0_mult289 v328).toNat) ∧
  (2 ∣ (k0_mult290 v328).toNat) ∧
  (∀ a, (k0_off421 v328) a + S2x128.size a ≤ S106256x128.size a) ∧
  (∀ a, (k0_off422 v328) a + S2x128.size a ≤ S106256x128.size a)
theorem k0_mult289_dvd : ∀ (v328 : BitVec 32) (k0_hw145 : k0_chk145 v328), 2 ∣ (k0_mult289 v328).toNat := fun v328 k0_hw145 => k0_hw145.1
theorem k0_mult290_dvd : ∀ (v328 : BitVec 32) (k0_hw145 : k0_chk145 v328), 2 ∣ (k0_mult290 v328).toNat := fun v328 k0_hw145 => k0_hw145.2.1
theorem k0_off421_inb : ∀ (v328 : BitVec 32) (k0_hw145 : k0_chk145 v328), ∀ a, (k0_off421 v328) a + S2x128.size a ≤ S106256x128.size a := fun v328 k0_hw145 => k0_hw145.2.2.1
theorem k0_off422_inb : ∀ (v328 : BitVec 32) (k0_hw145 : k0_chk145 v328), ∀ a, (k0_off422 v328) a + S2x128.size a ≤ S106256x128.size a := fun v328 k0_hw145 => k0_hw145.2.2.2

def k0_off423 (v329 : BitVec 32) : Fin 2 → Nat :=
  let v333 : BitVec 32 := v329
  let v348 : Index := Scalar.indexCast v333
  let c0_136 : Index := 0#32
  ![v348.toNat, 0]
def k0_off424 (v329 : BitVec 32) : Fin 2 → Nat :=
  let c2_i32_131 : BitVec 32 := 2#32
  let v334 : BitVec 32 := Scalar.addi v329 c2_i32_131
  let v335 : BitVec 32 := v334
  let v354 : Index := Scalar.indexCast v335
  let c0_138 : Index := 0#32
  ![v354.toNat, 0]

def k0_chk146 (v329 : BitVec 32) : Prop :=
  (2 ∣ (k0_mult291 v329).toNat) ∧
  (2 ∣ (k0_mult292 v329).toNat) ∧
  (∀ a, (k0_off423 v329) a + S2x128.size a ≤ S106256x128.size a) ∧
  (∀ a, (k0_off424 v329) a + S2x128.size a ≤ S106256x128.size a)
theorem k0_mult291_dvd : ∀ (v329 : BitVec 32) (k0_hw146 : k0_chk146 v329), 2 ∣ (k0_mult291 v329).toNat := fun v329 k0_hw146 => k0_hw146.1
theorem k0_mult292_dvd : ∀ (v329 : BitVec 32) (k0_hw146 : k0_chk146 v329), 2 ∣ (k0_mult292 v329).toNat := fun v329 k0_hw146 => k0_hw146.2.1
theorem k0_off423_inb : ∀ (v329 : BitVec 32) (k0_hw146 : k0_chk146 v329), ∀ a, (k0_off423 v329) a + S2x128.size a ≤ S106256x128.size a := fun v329 k0_hw146 => k0_hw146.2.2.1
theorem k0_off424_inb : ∀ (v329 : BitVec 32) (k0_hw146 : k0_chk146 v329), ∀ a, (k0_off424 v329) a + S2x128.size a ≤ S106256x128.size a := fun v329 k0_hw146 => k0_hw146.2.2.2

def k0_mult293 (v360 : BitVec 32) : BitVec 32 :=
  v360

def k0_mult294 (v360 : BitVec 32) : BitVec 32 :=
  let c2_i32_144 : BitVec 32 := 2#32
  let v363 : BitVec 32 := Scalar.addi v360 c2_i32_144
  v363
def k0_mult295 (v361 : BitVec 32) : BitVec 32 :=
  v361

def k0_mult296 (v361 : BitVec 32) : BitVec 32 :=
  let c2_i32_145 : BitVec 32 := 2#32
  let v366 : BitVec 32 := Scalar.addi v361 c2_i32_145
  v366
def k0_off425 (v360 : BitVec 32) : Fin 2 → Nat :=
  let v362 : BitVec 32 := v360
  let v368 : Index := Scalar.indexCast v362
  let c0_146 : Index := 0#32
  ![v368.toNat, 0]
def k0_off426 (v360 : BitVec 32) : Fin 2 → Nat :=
  let c2_i32_144 : BitVec 32 := 2#32
  let v363 : BitVec 32 := Scalar.addi v360 c2_i32_144
  let v364 : BitVec 32 := v363
  let v374 : Index := Scalar.indexCast v364
  let c0_148 : Index := 0#32
  ![v374.toNat, 0]

def k0_chk147 (v360 : BitVec 32) : Prop :=
  (2 ∣ (k0_mult293 v360).toNat) ∧
  (2 ∣ (k0_mult294 v360).toNat) ∧
  (∀ a, (k0_off425 v360) a + S2x128.size a ≤ S106256x128.size a) ∧
  (∀ a, (k0_off426 v360) a + S2x128.size a ≤ S106256x128.size a)
theorem k0_mult293_dvd : ∀ (v360 : BitVec 32) (k0_hw147 : k0_chk147 v360), 2 ∣ (k0_mult293 v360).toNat := fun v360 k0_hw147 => k0_hw147.1
theorem k0_mult294_dvd : ∀ (v360 : BitVec 32) (k0_hw147 : k0_chk147 v360), 2 ∣ (k0_mult294 v360).toNat := fun v360 k0_hw147 => k0_hw147.2.1
theorem k0_off425_inb : ∀ (v360 : BitVec 32) (k0_hw147 : k0_chk147 v360), ∀ a, (k0_off425 v360) a + S2x128.size a ≤ S106256x128.size a := fun v360 k0_hw147 => k0_hw147.2.2.1
theorem k0_off426_inb : ∀ (v360 : BitVec 32) (k0_hw147 : k0_chk147 v360), ∀ a, (k0_off426 v360) a + S2x128.size a ≤ S106256x128.size a := fun v360 k0_hw147 => k0_hw147.2.2.2

def k0_off427 (v361 : BitVec 32) : Fin 2 → Nat :=
  let v365 : BitVec 32 := v361
  let v380 : Index := Scalar.indexCast v365
  let c0_150 : Index := 0#32
  ![v380.toNat, 0]
def k0_off428 (v361 : BitVec 32) : Fin 2 → Nat :=
  let c2_i32_145 : BitVec 32 := 2#32
  let v366 : BitVec 32 := Scalar.addi v361 c2_i32_145
  let v367 : BitVec 32 := v366
  let v386 : Index := Scalar.indexCast v367
  let c0_152 : Index := 0#32
  ![v386.toNat, 0]

def k0_chk148 (v361 : BitVec 32) : Prop :=
  (2 ∣ (k0_mult295 v361).toNat) ∧
  (2 ∣ (k0_mult296 v361).toNat) ∧
  (∀ a, (k0_off427 v361) a + S2x128.size a ≤ S106256x128.size a) ∧
  (∀ a, (k0_off428 v361) a + S2x128.size a ≤ S106256x128.size a)
theorem k0_mult295_dvd : ∀ (v361 : BitVec 32) (k0_hw148 : k0_chk148 v361), 2 ∣ (k0_mult295 v361).toNat := fun v361 k0_hw148 => k0_hw148.1
theorem k0_mult296_dvd : ∀ (v361 : BitVec 32) (k0_hw148 : k0_chk148 v361), 2 ∣ (k0_mult296 v361).toNat := fun v361 k0_hw148 => k0_hw148.2.1
theorem k0_off427_inb : ∀ (v361 : BitVec 32) (k0_hw148 : k0_chk148 v361), ∀ a, (k0_off427 v361) a + S2x128.size a ≤ S106256x128.size a := fun v361 k0_hw148 => k0_hw148.2.2.1
theorem k0_off428_inb : ∀ (v361 : BitVec 32) (k0_hw148 : k0_chk148 v361), ∀ a, (k0_off428 v361) a + S2x128.size a ≤ S106256x128.size a := fun v361 k0_hw148 => k0_hw148.2.2.2

def k0_mult297 (v392 : BitVec 32) : BitVec 32 :=
  v392

def k0_mult298 (v392 : BitVec 32) : BitVec 32 :=
  let c2_i32_158 : BitVec 32 := 2#32
  let v395 : BitVec 32 := Scalar.addi v392 c2_i32_158
  v395
def k0_mult299 (v393 : BitVec 32) : BitVec 32 :=
  v393

def k0_mult300 (v393 : BitVec 32) : BitVec 32 :=
  let c2_i32_159 : BitVec 32 := 2#32
  let v398 : BitVec 32 := Scalar.addi v393 c2_i32_159
  v398
def k0_off429 (v392 : BitVec 32) : Fin 2 → Nat :=
  let v394 : BitVec 32 := v392
  let v400 : Index := Scalar.indexCast v394
  let c0_160 : Index := 0#32
  ![v400.toNat, 0]
def k0_off430 (v392 : BitVec 32) : Fin 2 → Nat :=
  let c2_i32_158 : BitVec 32 := 2#32
  let v395 : BitVec 32 := Scalar.addi v392 c2_i32_158
  let v396 : BitVec 32 := v395
  let v406 : Index := Scalar.indexCast v396
  let c0_162 : Index := 0#32
  ![v406.toNat, 0]

def k0_chk149 (v392 : BitVec 32) : Prop :=
  (2 ∣ (k0_mult297 v392).toNat) ∧
  (2 ∣ (k0_mult298 v392).toNat) ∧
  (∀ a, (k0_off429 v392) a + S2x128.size a ≤ S106256x128.size a) ∧
  (∀ a, (k0_off430 v392) a + S2x128.size a ≤ S106256x128.size a)
theorem k0_mult297_dvd : ∀ (v392 : BitVec 32) (k0_hw149 : k0_chk149 v392), 2 ∣ (k0_mult297 v392).toNat := fun v392 k0_hw149 => k0_hw149.1
theorem k0_mult298_dvd : ∀ (v392 : BitVec 32) (k0_hw149 : k0_chk149 v392), 2 ∣ (k0_mult298 v392).toNat := fun v392 k0_hw149 => k0_hw149.2.1
theorem k0_off429_inb : ∀ (v392 : BitVec 32) (k0_hw149 : k0_chk149 v392), ∀ a, (k0_off429 v392) a + S2x128.size a ≤ S106256x128.size a := fun v392 k0_hw149 => k0_hw149.2.2.1
theorem k0_off430_inb : ∀ (v392 : BitVec 32) (k0_hw149 : k0_chk149 v392), ∀ a, (k0_off430 v392) a + S2x128.size a ≤ S106256x128.size a := fun v392 k0_hw149 => k0_hw149.2.2.2

def k0_off431 (v393 : BitVec 32) : Fin 2 → Nat :=
  let v397 : BitVec 32 := v393
  let v412 : Index := Scalar.indexCast v397
  let c0_164 : Index := 0#32
  ![v412.toNat, 0]
def k0_off432 (v393 : BitVec 32) : Fin 2 → Nat :=
  let c2_i32_159 : BitVec 32 := 2#32
  let v398 : BitVec 32 := Scalar.addi v393 c2_i32_159
  let v399 : BitVec 32 := v398
  let v418 : Index := Scalar.indexCast v399
  let c0_166 : Index := 0#32
  ![v418.toNat, 0]

def k0_chk150 (v393 : BitVec 32) : Prop :=
  (2 ∣ (k0_mult299 v393).toNat) ∧
  (2 ∣ (k0_mult300 v393).toNat) ∧
  (∀ a, (k0_off431 v393) a + S2x128.size a ≤ S106256x128.size a) ∧
  (∀ a, (k0_off432 v393) a + S2x128.size a ≤ S106256x128.size a)
theorem k0_mult299_dvd : ∀ (v393 : BitVec 32) (k0_hw150 : k0_chk150 v393), 2 ∣ (k0_mult299 v393).toNat := fun v393 k0_hw150 => k0_hw150.1
theorem k0_mult300_dvd : ∀ (v393 : BitVec 32) (k0_hw150 : k0_chk150 v393), 2 ∣ (k0_mult300 v393).toNat := fun v393 k0_hw150 => k0_hw150.2.1
theorem k0_off431_inb : ∀ (v393 : BitVec 32) (k0_hw150 : k0_chk150 v393), ∀ a, (k0_off431 v393) a + S2x128.size a ≤ S106256x128.size a := fun v393 k0_hw150 => k0_hw150.2.2.1
theorem k0_off432_inb : ∀ (v393 : BitVec 32) (k0_hw150 : k0_chk150 v393), ∀ a, (k0_off432 v393) a + S2x128.size a ≤ S106256x128.size a := fun v393 k0_hw150 => k0_hw150.2.2.2

def k0_mult301 (v424 : BitVec 32) : BitVec 32 :=
  v424

def k0_mult302 (v424 : BitVec 32) : BitVec 32 :=
  let c2_i32_172 : BitVec 32 := 2#32
  let v427 : BitVec 32 := Scalar.addi v424 c2_i32_172
  v427
def k0_mult303 (v425 : BitVec 32) : BitVec 32 :=
  v425

def k0_mult304 (v425 : BitVec 32) : BitVec 32 :=
  let c2_i32_173 : BitVec 32 := 2#32
  let v430 : BitVec 32 := Scalar.addi v425 c2_i32_173
  v430
def k0_off433 (v424 : BitVec 32) : Fin 2 → Nat :=
  let v426 : BitVec 32 := v424
  let v432 : Index := Scalar.indexCast v426
  let c0_174 : Index := 0#32
  ![v432.toNat, 0]
def k0_off434 (v424 : BitVec 32) : Fin 2 → Nat :=
  let c2_i32_172 : BitVec 32 := 2#32
  let v427 : BitVec 32 := Scalar.addi v424 c2_i32_172
  let v428 : BitVec 32 := v427
  let v438 : Index := Scalar.indexCast v428
  let c0_176 : Index := 0#32
  ![v438.toNat, 0]

def k0_chk151 (v424 : BitVec 32) : Prop :=
  (2 ∣ (k0_mult301 v424).toNat) ∧
  (2 ∣ (k0_mult302 v424).toNat) ∧
  (∀ a, (k0_off433 v424) a + S2x128.size a ≤ S106256x128.size a) ∧
  (∀ a, (k0_off434 v424) a + S2x128.size a ≤ S106256x128.size a)
theorem k0_mult301_dvd : ∀ (v424 : BitVec 32) (k0_hw151 : k0_chk151 v424), 2 ∣ (k0_mult301 v424).toNat := fun v424 k0_hw151 => k0_hw151.1
theorem k0_mult302_dvd : ∀ (v424 : BitVec 32) (k0_hw151 : k0_chk151 v424), 2 ∣ (k0_mult302 v424).toNat := fun v424 k0_hw151 => k0_hw151.2.1
theorem k0_off433_inb : ∀ (v424 : BitVec 32) (k0_hw151 : k0_chk151 v424), ∀ a, (k0_off433 v424) a + S2x128.size a ≤ S106256x128.size a := fun v424 k0_hw151 => k0_hw151.2.2.1
theorem k0_off434_inb : ∀ (v424 : BitVec 32) (k0_hw151 : k0_chk151 v424), ∀ a, (k0_off434 v424) a + S2x128.size a ≤ S106256x128.size a := fun v424 k0_hw151 => k0_hw151.2.2.2

def k0_off435 (v425 : BitVec 32) : Fin 2 → Nat :=
  let v429 : BitVec 32 := v425
  let v444 : Index := Scalar.indexCast v429
  let c0_178 : Index := 0#32
  ![v444.toNat, 0]
def k0_off436 (v425 : BitVec 32) : Fin 2 → Nat :=
  let c2_i32_173 : BitVec 32 := 2#32
  let v430 : BitVec 32 := Scalar.addi v425 c2_i32_173
  let v431 : BitVec 32 := v430
  let v450 : Index := Scalar.indexCast v431
  let c0_180 : Index := 0#32
  ![v450.toNat, 0]

def k0_chk152 (v425 : BitVec 32) : Prop :=
  (2 ∣ (k0_mult303 v425).toNat) ∧
  (2 ∣ (k0_mult304 v425).toNat) ∧
  (∀ a, (k0_off435 v425) a + S2x128.size a ≤ S106256x128.size a) ∧
  (∀ a, (k0_off436 v425) a + S2x128.size a ≤ S106256x128.size a)
theorem k0_mult303_dvd : ∀ (v425 : BitVec 32) (k0_hw152 : k0_chk152 v425), 2 ∣ (k0_mult303 v425).toNat := fun v425 k0_hw152 => k0_hw152.1
theorem k0_mult304_dvd : ∀ (v425 : BitVec 32) (k0_hw152 : k0_chk152 v425), 2 ∣ (k0_mult304 v425).toNat := fun v425 k0_hw152 => k0_hw152.2.1
theorem k0_off435_inb : ∀ (v425 : BitVec 32) (k0_hw152 : k0_chk152 v425), ∀ a, (k0_off435 v425) a + S2x128.size a ≤ S106256x128.size a := fun v425 k0_hw152 => k0_hw152.2.2.1
theorem k0_off436_inb : ∀ (v425 : BitVec 32) (k0_hw152 : k0_chk152 v425), ∀ a, (k0_off436 v425) a + S2x128.size a ≤ S106256x128.size a := fun v425 k0_hw152 => k0_hw152.2.2.2

def k0_mult305 (v456 : BitVec 32) : BitVec 32 :=
  v456

def k0_mult306 (v456 : BitVec 32) : BitVec 32 :=
  let c2_i32_185 : BitVec 32 := 2#32
  let v459 : BitVec 32 := Scalar.addi v456 c2_i32_185
  v459
def k0_mult307 (v457 : BitVec 32) : BitVec 32 :=
  v457

def k0_mult308 (v457 : BitVec 32) : BitVec 32 :=
  let c2_i32_186 : BitVec 32 := 2#32
  let v462 : BitVec 32 := Scalar.addi v457 c2_i32_186
  v462
def k0_off437 (v456 : BitVec 32) : Fin 2 → Nat :=
  let v458 : BitVec 32 := v456
  let v464 : Index := Scalar.indexCast v458
  let c0_187 : Index := 0#32
  ![v464.toNat, 0]
def k0_off438 (v456 : BitVec 32) : Fin 2 → Nat :=
  let c2_i32_185 : BitVec 32 := 2#32
  let v459 : BitVec 32 := Scalar.addi v456 c2_i32_185
  let v460 : BitVec 32 := v459
  let v470 : Index := Scalar.indexCast v460
  let c0_189 : Index := 0#32
  ![v470.toNat, 0]

def k0_chk153 (v456 : BitVec 32) : Prop :=
  (2 ∣ (k0_mult305 v456).toNat) ∧
  (2 ∣ (k0_mult306 v456).toNat) ∧
  (∀ a, (k0_off437 v456) a + S2x128.size a ≤ S106256x128.size a) ∧
  (∀ a, (k0_off438 v456) a + S2x128.size a ≤ S106256x128.size a)
theorem k0_mult305_dvd : ∀ (v456 : BitVec 32) (k0_hw153 : k0_chk153 v456), 2 ∣ (k0_mult305 v456).toNat := fun v456 k0_hw153 => k0_hw153.1
theorem k0_mult306_dvd : ∀ (v456 : BitVec 32) (k0_hw153 : k0_chk153 v456), 2 ∣ (k0_mult306 v456).toNat := fun v456 k0_hw153 => k0_hw153.2.1
theorem k0_off437_inb : ∀ (v456 : BitVec 32) (k0_hw153 : k0_chk153 v456), ∀ a, (k0_off437 v456) a + S2x128.size a ≤ S106256x128.size a := fun v456 k0_hw153 => k0_hw153.2.2.1
theorem k0_off438_inb : ∀ (v456 : BitVec 32) (k0_hw153 : k0_chk153 v456), ∀ a, (k0_off438 v456) a + S2x128.size a ≤ S106256x128.size a := fun v456 k0_hw153 => k0_hw153.2.2.2

def k0_off439 (v457 : BitVec 32) : Fin 2 → Nat :=
  let v461 : BitVec 32 := v457
  let v476 : Index := Scalar.indexCast v461
  let c0_191 : Index := 0#32
  ![v476.toNat, 0]
def k0_off440 (v457 : BitVec 32) : Fin 2 → Nat :=
  let c2_i32_186 : BitVec 32 := 2#32
  let v462 : BitVec 32 := Scalar.addi v457 c2_i32_186
  let v463 : BitVec 32 := v462
  let v482 : Index := Scalar.indexCast v463
  let c0_193 : Index := 0#32
  ![v482.toNat, 0]

def k0_chk154 (v457 : BitVec 32) : Prop :=
  (2 ∣ (k0_mult307 v457).toNat) ∧
  (2 ∣ (k0_mult308 v457).toNat) ∧
  (∀ a, (k0_off439 v457) a + S2x128.size a ≤ S106256x128.size a) ∧
  (∀ a, (k0_off440 v457) a + S2x128.size a ≤ S106256x128.size a)
theorem k0_mult307_dvd : ∀ (v457 : BitVec 32) (k0_hw154 : k0_chk154 v457), 2 ∣ (k0_mult307 v457).toNat := fun v457 k0_hw154 => k0_hw154.1
theorem k0_mult308_dvd : ∀ (v457 : BitVec 32) (k0_hw154 : k0_chk154 v457), 2 ∣ (k0_mult308 v457).toNat := fun v457 k0_hw154 => k0_hw154.2.1
theorem k0_off439_inb : ∀ (v457 : BitVec 32) (k0_hw154 : k0_chk154 v457), ∀ a, (k0_off439 v457) a + S2x128.size a ≤ S106256x128.size a := fun v457 k0_hw154 => k0_hw154.2.2.1
theorem k0_off440_inb : ∀ (v457 : BitVec 32) (k0_hw154 : k0_chk154 v457), ∀ a, (k0_off440 v457) a + S2x128.size a ≤ S106256x128.size a := fun v457 k0_hw154 => k0_hw154.2.2.2

def k0_mult309 (v488 : BitVec 32) : BitVec 32 :=
  v488

def k0_mult310 (v488 : BitVec 32) : BitVec 32 :=
  let c2_i32_199 : BitVec 32 := 2#32
  let v491 : BitVec 32 := Scalar.addi v488 c2_i32_199
  v491
def k0_mult311 (v489 : BitVec 32) : BitVec 32 :=
  v489

def k0_mult312 (v489 : BitVec 32) : BitVec 32 :=
  let c2_i32_200 : BitVec 32 := 2#32
  let v494 : BitVec 32 := Scalar.addi v489 c2_i32_200
  v494
def k0_off441 (v488 : BitVec 32) : Fin 2 → Nat :=
  let v490 : BitVec 32 := v488
  let v496 : Index := Scalar.indexCast v490
  let c0_201 : Index := 0#32
  ![v496.toNat, 0]
def k0_off442 (v488 : BitVec 32) : Fin 2 → Nat :=
  let c2_i32_199 : BitVec 32 := 2#32
  let v491 : BitVec 32 := Scalar.addi v488 c2_i32_199
  let v492 : BitVec 32 := v491
  let v502 : Index := Scalar.indexCast v492
  let c0_203 : Index := 0#32
  ![v502.toNat, 0]

def k0_chk155 (v488 : BitVec 32) : Prop :=
  (2 ∣ (k0_mult309 v488).toNat) ∧
  (2 ∣ (k0_mult310 v488).toNat) ∧
  (∀ a, (k0_off441 v488) a + S2x128.size a ≤ S106256x128.size a) ∧
  (∀ a, (k0_off442 v488) a + S2x128.size a ≤ S106256x128.size a)
theorem k0_mult309_dvd : ∀ (v488 : BitVec 32) (k0_hw155 : k0_chk155 v488), 2 ∣ (k0_mult309 v488).toNat := fun v488 k0_hw155 => k0_hw155.1
theorem k0_mult310_dvd : ∀ (v488 : BitVec 32) (k0_hw155 : k0_chk155 v488), 2 ∣ (k0_mult310 v488).toNat := fun v488 k0_hw155 => k0_hw155.2.1
theorem k0_off441_inb : ∀ (v488 : BitVec 32) (k0_hw155 : k0_chk155 v488), ∀ a, (k0_off441 v488) a + S2x128.size a ≤ S106256x128.size a := fun v488 k0_hw155 => k0_hw155.2.2.1
theorem k0_off442_inb : ∀ (v488 : BitVec 32) (k0_hw155 : k0_chk155 v488), ∀ a, (k0_off442 v488) a + S2x128.size a ≤ S106256x128.size a := fun v488 k0_hw155 => k0_hw155.2.2.2

def k0_off443 (v489 : BitVec 32) : Fin 2 → Nat :=
  let v493 : BitVec 32 := v489
  let v508 : Index := Scalar.indexCast v493
  let c0_205 : Index := 0#32
  ![v508.toNat, 0]
def k0_off444 (v489 : BitVec 32) : Fin 2 → Nat :=
  let c2_i32_200 : BitVec 32 := 2#32
  let v494 : BitVec 32 := Scalar.addi v489 c2_i32_200
  let v495 : BitVec 32 := v494
  let v514 : Index := Scalar.indexCast v495
  let c0_207 : Index := 0#32
  ![v514.toNat, 0]

def k0_chk156 (v489 : BitVec 32) : Prop :=
  (2 ∣ (k0_mult311 v489).toNat) ∧
  (2 ∣ (k0_mult312 v489).toNat) ∧
  (∀ a, (k0_off443 v489) a + S2x128.size a ≤ S106256x128.size a) ∧
  (∀ a, (k0_off444 v489) a + S2x128.size a ≤ S106256x128.size a)
theorem k0_mult311_dvd : ∀ (v489 : BitVec 32) (k0_hw156 : k0_chk156 v489), 2 ∣ (k0_mult311 v489).toNat := fun v489 k0_hw156 => k0_hw156.1
theorem k0_mult312_dvd : ∀ (v489 : BitVec 32) (k0_hw156 : k0_chk156 v489), 2 ∣ (k0_mult312 v489).toNat := fun v489 k0_hw156 => k0_hw156.2.1
theorem k0_off443_inb : ∀ (v489 : BitVec 32) (k0_hw156 : k0_chk156 v489), ∀ a, (k0_off443 v489) a + S2x128.size a ≤ S106256x128.size a := fun v489 k0_hw156 => k0_hw156.2.2.1
theorem k0_off444_inb : ∀ (v489 : BitVec 32) (k0_hw156 : k0_chk156 v489), ∀ a, (k0_off444 v489) a + S2x128.size a ≤ S106256x128.size a := fun v489 k0_hw156 => k0_hw156.2.2.2

def k0_mult313 (v520 : BitVec 32) : BitVec 32 :=
  v520

def k0_mult314 (v520 : BitVec 32) : BitVec 32 :=
  let c2_i32_213 : BitVec 32 := 2#32
  let v523 : BitVec 32 := Scalar.addi v520 c2_i32_213
  v523
def k0_mult315 (v521 : BitVec 32) : BitVec 32 :=
  v521

def k0_mult316 (v521 : BitVec 32) : BitVec 32 :=
  let c2_i32_214 : BitVec 32 := 2#32
  let v526 : BitVec 32 := Scalar.addi v521 c2_i32_214
  v526
def k0_off445 (v520 : BitVec 32) : Fin 2 → Nat :=
  let v522 : BitVec 32 := v520
  let v528 : Index := Scalar.indexCast v522
  let c0_215 : Index := 0#32
  ![v528.toNat, 0]
def k0_off446 (v520 : BitVec 32) : Fin 2 → Nat :=
  let c2_i32_213 : BitVec 32 := 2#32
  let v523 : BitVec 32 := Scalar.addi v520 c2_i32_213
  let v524 : BitVec 32 := v523
  let v534 : Index := Scalar.indexCast v524
  let c0_217 : Index := 0#32
  ![v534.toNat, 0]

def k0_chk157 (v520 : BitVec 32) : Prop :=
  (2 ∣ (k0_mult313 v520).toNat) ∧
  (2 ∣ (k0_mult314 v520).toNat) ∧
  (∀ a, (k0_off445 v520) a + S2x128.size a ≤ S106256x128.size a) ∧
  (∀ a, (k0_off446 v520) a + S2x128.size a ≤ S106256x128.size a)
theorem k0_mult313_dvd : ∀ (v520 : BitVec 32) (k0_hw157 : k0_chk157 v520), 2 ∣ (k0_mult313 v520).toNat := fun v520 k0_hw157 => k0_hw157.1
theorem k0_mult314_dvd : ∀ (v520 : BitVec 32) (k0_hw157 : k0_chk157 v520), 2 ∣ (k0_mult314 v520).toNat := fun v520 k0_hw157 => k0_hw157.2.1
theorem k0_off445_inb : ∀ (v520 : BitVec 32) (k0_hw157 : k0_chk157 v520), ∀ a, (k0_off445 v520) a + S2x128.size a ≤ S106256x128.size a := fun v520 k0_hw157 => k0_hw157.2.2.1
theorem k0_off446_inb : ∀ (v520 : BitVec 32) (k0_hw157 : k0_chk157 v520), ∀ a, (k0_off446 v520) a + S2x128.size a ≤ S106256x128.size a := fun v520 k0_hw157 => k0_hw157.2.2.2

def k0_off447 (v521 : BitVec 32) : Fin 2 → Nat :=
  let v525 : BitVec 32 := v521
  let v540 : Index := Scalar.indexCast v525
  let c0_219 : Index := 0#32
  ![v540.toNat, 0]
def k0_off448 (v521 : BitVec 32) : Fin 2 → Nat :=
  let c2_i32_214 : BitVec 32 := 2#32
  let v526 : BitVec 32 := Scalar.addi v521 c2_i32_214
  let v527 : BitVec 32 := v526
  let v546 : Index := Scalar.indexCast v527
  let c0_221 : Index := 0#32
  ![v546.toNat, 0]

def k0_chk158 (v521 : BitVec 32) : Prop :=
  (2 ∣ (k0_mult315 v521).toNat) ∧
  (2 ∣ (k0_mult316 v521).toNat) ∧
  (∀ a, (k0_off447 v521) a + S2x128.size a ≤ S106256x128.size a) ∧
  (∀ a, (k0_off448 v521) a + S2x128.size a ≤ S106256x128.size a)
theorem k0_mult315_dvd : ∀ (v521 : BitVec 32) (k0_hw158 : k0_chk158 v521), 2 ∣ (k0_mult315 v521).toNat := fun v521 k0_hw158 => k0_hw158.1
theorem k0_mult316_dvd : ∀ (v521 : BitVec 32) (k0_hw158 : k0_chk158 v521), 2 ∣ (k0_mult316 v521).toNat := fun v521 k0_hw158 => k0_hw158.2.1
theorem k0_off447_inb : ∀ (v521 : BitVec 32) (k0_hw158 : k0_chk158 v521), ∀ a, (k0_off447 v521) a + S2x128.size a ≤ S106256x128.size a := fun v521 k0_hw158 => k0_hw158.2.2.1
theorem k0_off448_inb : ∀ (v521 : BitVec 32) (k0_hw158 : k0_chk158 v521), ∀ a, (k0_off448 v521) a + S2x128.size a ≤ S106256x128.size a := fun v521 k0_hw158 => k0_hw158.2.2.2

def k0_mult317 (v552 : BitVec 32) : BitVec 32 :=
  v552

def k0_mult318 (v552 : BitVec 32) : BitVec 32 :=
  let c2_i32_227 : BitVec 32 := 2#32
  let v555 : BitVec 32 := Scalar.addi v552 c2_i32_227
  v555
def k0_mult319 (v553 : BitVec 32) : BitVec 32 :=
  v553

def k0_mult320 (v553 : BitVec 32) : BitVec 32 :=
  let c2_i32_228 : BitVec 32 := 2#32
  let v558 : BitVec 32 := Scalar.addi v553 c2_i32_228
  v558
def k0_off449 (v552 : BitVec 32) : Fin 2 → Nat :=
  let v554 : BitVec 32 := v552
  let v560 : Index := Scalar.indexCast v554
  let c0_229 : Index := 0#32
  ![v560.toNat, 0]
def k0_off450 (v552 : BitVec 32) : Fin 2 → Nat :=
  let c2_i32_227 : BitVec 32 := 2#32
  let v555 : BitVec 32 := Scalar.addi v552 c2_i32_227
  let v556 : BitVec 32 := v555
  let v566 : Index := Scalar.indexCast v556
  let c0_231 : Index := 0#32
  ![v566.toNat, 0]

def k0_chk159 (v552 : BitVec 32) : Prop :=
  (2 ∣ (k0_mult317 v552).toNat) ∧
  (2 ∣ (k0_mult318 v552).toNat) ∧
  (∀ a, (k0_off449 v552) a + S2x128.size a ≤ S106256x128.size a) ∧
  (∀ a, (k0_off450 v552) a + S2x128.size a ≤ S106256x128.size a)
theorem k0_mult317_dvd : ∀ (v552 : BitVec 32) (k0_hw159 : k0_chk159 v552), 2 ∣ (k0_mult317 v552).toNat := fun v552 k0_hw159 => k0_hw159.1
theorem k0_mult318_dvd : ∀ (v552 : BitVec 32) (k0_hw159 : k0_chk159 v552), 2 ∣ (k0_mult318 v552).toNat := fun v552 k0_hw159 => k0_hw159.2.1
theorem k0_off449_inb : ∀ (v552 : BitVec 32) (k0_hw159 : k0_chk159 v552), ∀ a, (k0_off449 v552) a + S2x128.size a ≤ S106256x128.size a := fun v552 k0_hw159 => k0_hw159.2.2.1
theorem k0_off450_inb : ∀ (v552 : BitVec 32) (k0_hw159 : k0_chk159 v552), ∀ a, (k0_off450 v552) a + S2x128.size a ≤ S106256x128.size a := fun v552 k0_hw159 => k0_hw159.2.2.2

def k0_off451 (v553 : BitVec 32) : Fin 2 → Nat :=
  let v557 : BitVec 32 := v553
  let v572 : Index := Scalar.indexCast v557
  let c0_233 : Index := 0#32
  ![v572.toNat, 0]
def k0_off452 (v553 : BitVec 32) : Fin 2 → Nat :=
  let c2_i32_228 : BitVec 32 := 2#32
  let v558 : BitVec 32 := Scalar.addi v553 c2_i32_228
  let v559 : BitVec 32 := v558
  let v578 : Index := Scalar.indexCast v559
  let c0_235 : Index := 0#32
  ![v578.toNat, 0]

def k0_chk160 (v553 : BitVec 32) : Prop :=
  (2 ∣ (k0_mult319 v553).toNat) ∧
  (2 ∣ (k0_mult320 v553).toNat) ∧
  (∀ a, (k0_off451 v553) a + S2x128.size a ≤ S106256x128.size a) ∧
  (∀ a, (k0_off452 v553) a + S2x128.size a ≤ S106256x128.size a)
theorem k0_mult319_dvd : ∀ (v553 : BitVec 32) (k0_hw160 : k0_chk160 v553), 2 ∣ (k0_mult319 v553).toNat := fun v553 k0_hw160 => k0_hw160.1
theorem k0_mult320_dvd : ∀ (v553 : BitVec 32) (k0_hw160 : k0_chk160 v553), 2 ∣ (k0_mult320 v553).toNat := fun v553 k0_hw160 => k0_hw160.2.1
theorem k0_off451_inb : ∀ (v553 : BitVec 32) (k0_hw160 : k0_chk160 v553), ∀ a, (k0_off451 v553) a + S2x128.size a ≤ S106256x128.size a := fun v553 k0_hw160 => k0_hw160.2.2.1
theorem k0_off452_inb : ∀ (v553 : BitVec 32) (k0_hw160 : k0_chk160 v553), ∀ a, (k0_off452 v553) a + S2x128.size a ≤ S106256x128.size a := fun v553 k0_hw160 => k0_hw160.2.2.2

def k0_mult321 (v584 : BitVec 32) : BitVec 32 :=
  v584

def k0_mult322 (v584 : BitVec 32) : BitVec 32 :=
  let c2_i32_241 : BitVec 32 := 2#32
  let v587 : BitVec 32 := Scalar.addi v584 c2_i32_241
  v587
def k0_mult323 (v585 : BitVec 32) : BitVec 32 :=
  v585

def k0_mult324 (v585 : BitVec 32) : BitVec 32 :=
  let c2_i32_242 : BitVec 32 := 2#32
  let v590 : BitVec 32 := Scalar.addi v585 c2_i32_242
  v590
def k0_off453 (v584 : BitVec 32) : Fin 2 → Nat :=
  let v586 : BitVec 32 := v584
  let v592 : Index := Scalar.indexCast v586
  let c0_243 : Index := 0#32
  ![v592.toNat, 0]
def k0_off454 (v584 : BitVec 32) : Fin 2 → Nat :=
  let c2_i32_241 : BitVec 32 := 2#32
  let v587 : BitVec 32 := Scalar.addi v584 c2_i32_241
  let v588 : BitVec 32 := v587
  let v598 : Index := Scalar.indexCast v588
  let c0_245 : Index := 0#32
  ![v598.toNat, 0]

def k0_chk161 (v584 : BitVec 32) : Prop :=
  (2 ∣ (k0_mult321 v584).toNat) ∧
  (2 ∣ (k0_mult322 v584).toNat) ∧
  (∀ a, (k0_off453 v584) a + S2x128.size a ≤ S106256x128.size a) ∧
  (∀ a, (k0_off454 v584) a + S2x128.size a ≤ S106256x128.size a)
theorem k0_mult321_dvd : ∀ (v584 : BitVec 32) (k0_hw161 : k0_chk161 v584), 2 ∣ (k0_mult321 v584).toNat := fun v584 k0_hw161 => k0_hw161.1
theorem k0_mult322_dvd : ∀ (v584 : BitVec 32) (k0_hw161 : k0_chk161 v584), 2 ∣ (k0_mult322 v584).toNat := fun v584 k0_hw161 => k0_hw161.2.1
theorem k0_off453_inb : ∀ (v584 : BitVec 32) (k0_hw161 : k0_chk161 v584), ∀ a, (k0_off453 v584) a + S2x128.size a ≤ S106256x128.size a := fun v584 k0_hw161 => k0_hw161.2.2.1
theorem k0_off454_inb : ∀ (v584 : BitVec 32) (k0_hw161 : k0_chk161 v584), ∀ a, (k0_off454 v584) a + S2x128.size a ≤ S106256x128.size a := fun v584 k0_hw161 => k0_hw161.2.2.2

def k0_off455 (v585 : BitVec 32) : Fin 2 → Nat :=
  let v589 : BitVec 32 := v585
  let v604 : Index := Scalar.indexCast v589
  let c0_247 : Index := 0#32
  ![v604.toNat, 0]
def k0_off456 (v585 : BitVec 32) : Fin 2 → Nat :=
  let c2_i32_242 : BitVec 32 := 2#32
  let v590 : BitVec 32 := Scalar.addi v585 c2_i32_242
  let v591 : BitVec 32 := v590
  let v610 : Index := Scalar.indexCast v591
  let c0_249 : Index := 0#32
  ![v610.toNat, 0]

def k0_chk162 (v585 : BitVec 32) : Prop :=
  (2 ∣ (k0_mult323 v585).toNat) ∧
  (2 ∣ (k0_mult324 v585).toNat) ∧
  (∀ a, (k0_off455 v585) a + S2x128.size a ≤ S106256x128.size a) ∧
  (∀ a, (k0_off456 v585) a + S2x128.size a ≤ S106256x128.size a)
theorem k0_mult323_dvd : ∀ (v585 : BitVec 32) (k0_hw162 : k0_chk162 v585), 2 ∣ (k0_mult323 v585).toNat := fun v585 k0_hw162 => k0_hw162.1
theorem k0_mult324_dvd : ∀ (v585 : BitVec 32) (k0_hw162 : k0_chk162 v585), 2 ∣ (k0_mult324 v585).toNat := fun v585 k0_hw162 => k0_hw162.2.1
theorem k0_off455_inb : ∀ (v585 : BitVec 32) (k0_hw162 : k0_chk162 v585), ∀ a, (k0_off455 v585) a + S2x128.size a ≤ S106256x128.size a := fun v585 k0_hw162 => k0_hw162.2.2.1
theorem k0_off456_inb : ∀ (v585 : BitVec 32) (k0_hw162 : k0_chk162 v585), ∀ a, (k0_off456 v585) a + S2x128.size a ≤ S106256x128.size a := fun v585 k0_hw162 => k0_hw162.2.2.2

def k0_mult325 (v616 : BitVec 32) : BitVec 32 :=
  v616

def k0_mult326 (v616 : BitVec 32) : BitVec 32 :=
  let c2_i32_255 : BitVec 32 := 2#32
  let v619 : BitVec 32 := Scalar.addi v616 c2_i32_255
  v619
def k0_mult327 (v617 : BitVec 32) : BitVec 32 :=
  v617

def k0_mult328 (v617 : BitVec 32) : BitVec 32 :=
  let c2_i32_256 : BitVec 32 := 2#32
  let v622 : BitVec 32 := Scalar.addi v617 c2_i32_256
  v622
def k0_off457 (v616 : BitVec 32) : Fin 2 → Nat :=
  let v618 : BitVec 32 := v616
  let v624 : Index := Scalar.indexCast v618
  let c0_257 : Index := 0#32
  ![v624.toNat, 0]
def k0_off458 (v616 : BitVec 32) : Fin 2 → Nat :=
  let c2_i32_255 : BitVec 32 := 2#32
  let v619 : BitVec 32 := Scalar.addi v616 c2_i32_255
  let v620 : BitVec 32 := v619
  let v630 : Index := Scalar.indexCast v620
  let c0_259 : Index := 0#32
  ![v630.toNat, 0]

def k0_chk163 (v616 : BitVec 32) : Prop :=
  (2 ∣ (k0_mult325 v616).toNat) ∧
  (2 ∣ (k0_mult326 v616).toNat) ∧
  (∀ a, (k0_off457 v616) a + S2x128.size a ≤ S106256x128.size a) ∧
  (∀ a, (k0_off458 v616) a + S2x128.size a ≤ S106256x128.size a)
theorem k0_mult325_dvd : ∀ (v616 : BitVec 32) (k0_hw163 : k0_chk163 v616), 2 ∣ (k0_mult325 v616).toNat := fun v616 k0_hw163 => k0_hw163.1
theorem k0_mult326_dvd : ∀ (v616 : BitVec 32) (k0_hw163 : k0_chk163 v616), 2 ∣ (k0_mult326 v616).toNat := fun v616 k0_hw163 => k0_hw163.2.1
theorem k0_off457_inb : ∀ (v616 : BitVec 32) (k0_hw163 : k0_chk163 v616), ∀ a, (k0_off457 v616) a + S2x128.size a ≤ S106256x128.size a := fun v616 k0_hw163 => k0_hw163.2.2.1
theorem k0_off458_inb : ∀ (v616 : BitVec 32) (k0_hw163 : k0_chk163 v616), ∀ a, (k0_off458 v616) a + S2x128.size a ≤ S106256x128.size a := fun v616 k0_hw163 => k0_hw163.2.2.2

def k0_off459 (v617 : BitVec 32) : Fin 2 → Nat :=
  let v621 : BitVec 32 := v617
  let v636 : Index := Scalar.indexCast v621
  let c0_261 : Index := 0#32
  ![v636.toNat, 0]
def k0_off460 (v617 : BitVec 32) : Fin 2 → Nat :=
  let c2_i32_256 : BitVec 32 := 2#32
  let v622 : BitVec 32 := Scalar.addi v617 c2_i32_256
  let v623 : BitVec 32 := v622
  let v642 : Index := Scalar.indexCast v623
  let c0_263 : Index := 0#32
  ![v642.toNat, 0]

def k0_chk164 (v617 : BitVec 32) : Prop :=
  (2 ∣ (k0_mult327 v617).toNat) ∧
  (2 ∣ (k0_mult328 v617).toNat) ∧
  (∀ a, (k0_off459 v617) a + S2x128.size a ≤ S106256x128.size a) ∧
  (∀ a, (k0_off460 v617) a + S2x128.size a ≤ S106256x128.size a)
theorem k0_mult327_dvd : ∀ (v617 : BitVec 32) (k0_hw164 : k0_chk164 v617), 2 ∣ (k0_mult327 v617).toNat := fun v617 k0_hw164 => k0_hw164.1
theorem k0_mult328_dvd : ∀ (v617 : BitVec 32) (k0_hw164 : k0_chk164 v617), 2 ∣ (k0_mult328 v617).toNat := fun v617 k0_hw164 => k0_hw164.2.1
theorem k0_off459_inb : ∀ (v617 : BitVec 32) (k0_hw164 : k0_chk164 v617), ∀ a, (k0_off459 v617) a + S2x128.size a ≤ S106256x128.size a := fun v617 k0_hw164 => k0_hw164.2.2.1
theorem k0_off460_inb : ∀ (v617 : BitVec 32) (k0_hw164 : k0_chk164 v617), ∀ a, (k0_off460 v617) a + S2x128.size a ≤ S106256x128.size a := fun v617 k0_hw164 => k0_hw164.2.2.2

def k0_mult329 (v648 : BitVec 32) : BitVec 32 :=
  v648

def k0_mult330 (v648 : BitVec 32) : BitVec 32 :=
  let c2_i32_269 : BitVec 32 := 2#32
  let v651 : BitVec 32 := Scalar.addi v648 c2_i32_269
  v651
def k0_mult331 (v649 : BitVec 32) : BitVec 32 :=
  v649

def k0_mult332 (v649 : BitVec 32) : BitVec 32 :=
  let c2_i32_270 : BitVec 32 := 2#32
  let v654 : BitVec 32 := Scalar.addi v649 c2_i32_270
  v654
def k0_off461 (v648 : BitVec 32) : Fin 2 → Nat :=
  let v650 : BitVec 32 := v648
  let v656 : Index := Scalar.indexCast v650
  let c0_271 : Index := 0#32
  ![v656.toNat, 0]
def k0_off462 (v648 : BitVec 32) : Fin 2 → Nat :=
  let c2_i32_269 : BitVec 32 := 2#32
  let v651 : BitVec 32 := Scalar.addi v648 c2_i32_269
  let v652 : BitVec 32 := v651
  let v662 : Index := Scalar.indexCast v652
  let c0_273 : Index := 0#32
  ![v662.toNat, 0]

def k0_chk165 (v648 : BitVec 32) : Prop :=
  (2 ∣ (k0_mult329 v648).toNat) ∧
  (2 ∣ (k0_mult330 v648).toNat) ∧
  (∀ a, (k0_off461 v648) a + S2x128.size a ≤ S106256x128.size a) ∧
  (∀ a, (k0_off462 v648) a + S2x128.size a ≤ S106256x128.size a)
theorem k0_mult329_dvd : ∀ (v648 : BitVec 32) (k0_hw165 : k0_chk165 v648), 2 ∣ (k0_mult329 v648).toNat := fun v648 k0_hw165 => k0_hw165.1
theorem k0_mult330_dvd : ∀ (v648 : BitVec 32) (k0_hw165 : k0_chk165 v648), 2 ∣ (k0_mult330 v648).toNat := fun v648 k0_hw165 => k0_hw165.2.1
theorem k0_off461_inb : ∀ (v648 : BitVec 32) (k0_hw165 : k0_chk165 v648), ∀ a, (k0_off461 v648) a + S2x128.size a ≤ S106256x128.size a := fun v648 k0_hw165 => k0_hw165.2.2.1
theorem k0_off462_inb : ∀ (v648 : BitVec 32) (k0_hw165 : k0_chk165 v648), ∀ a, (k0_off462 v648) a + S2x128.size a ≤ S106256x128.size a := fun v648 k0_hw165 => k0_hw165.2.2.2

def k0_off463 (v649 : BitVec 32) : Fin 2 → Nat :=
  let v653 : BitVec 32 := v649
  let v668 : Index := Scalar.indexCast v653
  let c0_275 : Index := 0#32
  ![v668.toNat, 0]
def k0_off464 (v649 : BitVec 32) : Fin 2 → Nat :=
  let c2_i32_270 : BitVec 32 := 2#32
  let v654 : BitVec 32 := Scalar.addi v649 c2_i32_270
  let v655 : BitVec 32 := v654
  let v674 : Index := Scalar.indexCast v655
  let c0_277 : Index := 0#32
  ![v674.toNat, 0]

def k0_chk166 (v649 : BitVec 32) : Prop :=
  (2 ∣ (k0_mult331 v649).toNat) ∧
  (2 ∣ (k0_mult332 v649).toNat) ∧
  (∀ a, (k0_off463 v649) a + S2x128.size a ≤ S106256x128.size a) ∧
  (∀ a, (k0_off464 v649) a + S2x128.size a ≤ S106256x128.size a)
theorem k0_mult331_dvd : ∀ (v649 : BitVec 32) (k0_hw166 : k0_chk166 v649), 2 ∣ (k0_mult331 v649).toNat := fun v649 k0_hw166 => k0_hw166.1
theorem k0_mult332_dvd : ∀ (v649 : BitVec 32) (k0_hw166 : k0_chk166 v649), 2 ∣ (k0_mult332 v649).toNat := fun v649 k0_hw166 => k0_hw166.2.1
theorem k0_off463_inb : ∀ (v649 : BitVec 32) (k0_hw166 : k0_chk166 v649), ∀ a, (k0_off463 v649) a + S2x128.size a ≤ S106256x128.size a := fun v649 k0_hw166 => k0_hw166.2.2.1
theorem k0_off464_inb : ∀ (v649 : BitVec 32) (k0_hw166 : k0_chk166 v649), ∀ a, (k0_off464 v649) a + S2x128.size a ≤ S106256x128.size a := fun v649 k0_hw166 => k0_hw166.2.2.2

def k0_mult333 (v680 : BitVec 32) : BitVec 32 :=
  v680

def k0_mult334 (v680 : BitVec 32) : BitVec 32 :=
  let c2_i32_283 : BitVec 32 := 2#32
  let v683 : BitVec 32 := Scalar.addi v680 c2_i32_283
  v683
def k0_mult335 (v681 : BitVec 32) : BitVec 32 :=
  v681

def k0_mult336 (v681 : BitVec 32) : BitVec 32 :=
  let c2_i32_284 : BitVec 32 := 2#32
  let v686 : BitVec 32 := Scalar.addi v681 c2_i32_284
  v686
def k0_off465 (v680 : BitVec 32) : Fin 2 → Nat :=
  let v682 : BitVec 32 := v680
  let v688 : Index := Scalar.indexCast v682
  let c0_285 : Index := 0#32
  ![v688.toNat, 0]
def k0_off466 (v680 : BitVec 32) : Fin 2 → Nat :=
  let c2_i32_283 : BitVec 32 := 2#32
  let v683 : BitVec 32 := Scalar.addi v680 c2_i32_283
  let v684 : BitVec 32 := v683
  let v694 : Index := Scalar.indexCast v684
  let c0_287 : Index := 0#32
  ![v694.toNat, 0]

def k0_chk167 (v680 : BitVec 32) : Prop :=
  (2 ∣ (k0_mult333 v680).toNat) ∧
  (2 ∣ (k0_mult334 v680).toNat) ∧
  (∀ a, (k0_off465 v680) a + S2x128.size a ≤ S106256x128.size a) ∧
  (∀ a, (k0_off466 v680) a + S2x128.size a ≤ S106256x128.size a)
theorem k0_mult333_dvd : ∀ (v680 : BitVec 32) (k0_hw167 : k0_chk167 v680), 2 ∣ (k0_mult333 v680).toNat := fun v680 k0_hw167 => k0_hw167.1
theorem k0_mult334_dvd : ∀ (v680 : BitVec 32) (k0_hw167 : k0_chk167 v680), 2 ∣ (k0_mult334 v680).toNat := fun v680 k0_hw167 => k0_hw167.2.1
theorem k0_off465_inb : ∀ (v680 : BitVec 32) (k0_hw167 : k0_chk167 v680), ∀ a, (k0_off465 v680) a + S2x128.size a ≤ S106256x128.size a := fun v680 k0_hw167 => k0_hw167.2.2.1
theorem k0_off466_inb : ∀ (v680 : BitVec 32) (k0_hw167 : k0_chk167 v680), ∀ a, (k0_off466 v680) a + S2x128.size a ≤ S106256x128.size a := fun v680 k0_hw167 => k0_hw167.2.2.2

def k0_off467 (v681 : BitVec 32) : Fin 2 → Nat :=
  let v685 : BitVec 32 := v681
  let v700 : Index := Scalar.indexCast v685
  let c0_289 : Index := 0#32
  ![v700.toNat, 0]
def k0_off468 (v681 : BitVec 32) : Fin 2 → Nat :=
  let c2_i32_284 : BitVec 32 := 2#32
  let v686 : BitVec 32 := Scalar.addi v681 c2_i32_284
  let v687 : BitVec 32 := v686
  let v706 : Index := Scalar.indexCast v687
  let c0_291 : Index := 0#32
  ![v706.toNat, 0]

def k0_chk168 (v681 : BitVec 32) : Prop :=
  (2 ∣ (k0_mult335 v681).toNat) ∧
  (2 ∣ (k0_mult336 v681).toNat) ∧
  (∀ a, (k0_off467 v681) a + S2x128.size a ≤ S106256x128.size a) ∧
  (∀ a, (k0_off468 v681) a + S2x128.size a ≤ S106256x128.size a)
theorem k0_mult335_dvd : ∀ (v681 : BitVec 32) (k0_hw168 : k0_chk168 v681), 2 ∣ (k0_mult335 v681).toNat := fun v681 k0_hw168 => k0_hw168.1
theorem k0_mult336_dvd : ∀ (v681 : BitVec 32) (k0_hw168 : k0_chk168 v681), 2 ∣ (k0_mult336 v681).toNat := fun v681 k0_hw168 => k0_hw168.2.1
theorem k0_off467_inb : ∀ (v681 : BitVec 32) (k0_hw168 : k0_chk168 v681), ∀ a, (k0_off467 v681) a + S2x128.size a ≤ S106256x128.size a := fun v681 k0_hw168 => k0_hw168.2.2.1
theorem k0_off468_inb : ∀ (v681 : BitVec 32) (k0_hw168 : k0_chk168 v681), ∀ a, (k0_off468 v681) a + S2x128.size a ≤ S106256x128.size a := fun v681 k0_hw168 => k0_hw168.2.2.2

def k0_mult337 (v712 : BitVec 32) : BitVec 32 :=
  v712

def k0_mult338 (v712 : BitVec 32) : BitVec 32 :=
  let c2_i32_296 : BitVec 32 := 2#32
  let v715 : BitVec 32 := Scalar.addi v712 c2_i32_296
  v715
def k0_mult339 (v713 : BitVec 32) : BitVec 32 :=
  v713

def k0_mult340 (v713 : BitVec 32) : BitVec 32 :=
  let c2_i32_297 : BitVec 32 := 2#32
  let v718 : BitVec 32 := Scalar.addi v713 c2_i32_297
  v718
def k0_off469 (v712 : BitVec 32) : Fin 2 → Nat :=
  let v714 : BitVec 32 := v712
  let v720 : Index := Scalar.indexCast v714
  let c0_298 : Index := 0#32
  ![v720.toNat, 0]
def k0_off470 (v712 : BitVec 32) : Fin 2 → Nat :=
  let c2_i32_296 : BitVec 32 := 2#32
  let v715 : BitVec 32 := Scalar.addi v712 c2_i32_296
  let v716 : BitVec 32 := v715
  let v726 : Index := Scalar.indexCast v716
  let c0_300 : Index := 0#32
  ![v726.toNat, 0]

def k0_chk169 (v712 : BitVec 32) : Prop :=
  (2 ∣ (k0_mult337 v712).toNat) ∧
  (2 ∣ (k0_mult338 v712).toNat) ∧
  (∀ a, (k0_off469 v712) a + S2x128.size a ≤ S106256x128.size a) ∧
  (∀ a, (k0_off470 v712) a + S2x128.size a ≤ S106256x128.size a)
theorem k0_mult337_dvd : ∀ (v712 : BitVec 32) (k0_hw169 : k0_chk169 v712), 2 ∣ (k0_mult337 v712).toNat := fun v712 k0_hw169 => k0_hw169.1
theorem k0_mult338_dvd : ∀ (v712 : BitVec 32) (k0_hw169 : k0_chk169 v712), 2 ∣ (k0_mult338 v712).toNat := fun v712 k0_hw169 => k0_hw169.2.1
theorem k0_off469_inb : ∀ (v712 : BitVec 32) (k0_hw169 : k0_chk169 v712), ∀ a, (k0_off469 v712) a + S2x128.size a ≤ S106256x128.size a := fun v712 k0_hw169 => k0_hw169.2.2.1
theorem k0_off470_inb : ∀ (v712 : BitVec 32) (k0_hw169 : k0_chk169 v712), ∀ a, (k0_off470 v712) a + S2x128.size a ≤ S106256x128.size a := fun v712 k0_hw169 => k0_hw169.2.2.2

def k0_off471 (v713 : BitVec 32) : Fin 2 → Nat :=
  let v717 : BitVec 32 := v713
  let v732 : Index := Scalar.indexCast v717
  let c0_302 : Index := 0#32
  ![v732.toNat, 0]
def k0_off472 (v713 : BitVec 32) : Fin 2 → Nat :=
  let c2_i32_297 : BitVec 32 := 2#32
  let v718 : BitVec 32 := Scalar.addi v713 c2_i32_297
  let v719 : BitVec 32 := v718
  let v738 : Index := Scalar.indexCast v719
  let c0_304 : Index := 0#32
  ![v738.toNat, 0]

def k0_chk170 (v713 : BitVec 32) : Prop :=
  (2 ∣ (k0_mult339 v713).toNat) ∧
  (2 ∣ (k0_mult340 v713).toNat) ∧
  (∀ a, (k0_off471 v713) a + S2x128.size a ≤ S106256x128.size a) ∧
  (∀ a, (k0_off472 v713) a + S2x128.size a ≤ S106256x128.size a)
theorem k0_mult339_dvd : ∀ (v713 : BitVec 32) (k0_hw170 : k0_chk170 v713), 2 ∣ (k0_mult339 v713).toNat := fun v713 k0_hw170 => k0_hw170.1
theorem k0_mult340_dvd : ∀ (v713 : BitVec 32) (k0_hw170 : k0_chk170 v713), 2 ∣ (k0_mult340 v713).toNat := fun v713 k0_hw170 => k0_hw170.2.1
theorem k0_off471_inb : ∀ (v713 : BitVec 32) (k0_hw170 : k0_chk170 v713), ∀ a, (k0_off471 v713) a + S2x128.size a ≤ S106256x128.size a := fun v713 k0_hw170 => k0_hw170.2.2.1
theorem k0_off472_inb : ∀ (v713 : BitVec 32) (k0_hw170 : k0_chk170 v713), ∀ a, (k0_off472 v713) a + S2x128.size a ≤ S106256x128.size a := fun v713 k0_hw170 => k0_hw170.2.2.2

def k0_mult341 (v744 : BitVec 32) : BitVec 32 :=
  v744

def k0_mult342 (v744 : BitVec 32) : BitVec 32 :=
  let c2_i32_310 : BitVec 32 := 2#32
  let v747 : BitVec 32 := Scalar.addi v744 c2_i32_310
  v747
def k0_mult343 (v745 : BitVec 32) : BitVec 32 :=
  v745

def k0_mult344 (v745 : BitVec 32) : BitVec 32 :=
  let c2_i32_311 : BitVec 32 := 2#32
  let v750 : BitVec 32 := Scalar.addi v745 c2_i32_311
  v750
def k0_off473 (v744 : BitVec 32) : Fin 2 → Nat :=
  let v746 : BitVec 32 := v744
  let v752 : Index := Scalar.indexCast v746
  let c0_312 : Index := 0#32
  ![v752.toNat, 0]
def k0_off474 (v744 : BitVec 32) : Fin 2 → Nat :=
  let c2_i32_310 : BitVec 32 := 2#32
  let v747 : BitVec 32 := Scalar.addi v744 c2_i32_310
  let v748 : BitVec 32 := v747
  let v758 : Index := Scalar.indexCast v748
  let c0_314 : Index := 0#32
  ![v758.toNat, 0]

def k0_chk171 (v744 : BitVec 32) : Prop :=
  (2 ∣ (k0_mult341 v744).toNat) ∧
  (2 ∣ (k0_mult342 v744).toNat) ∧
  (∀ a, (k0_off473 v744) a + S2x128.size a ≤ S106256x128.size a) ∧
  (∀ a, (k0_off474 v744) a + S2x128.size a ≤ S106256x128.size a)
theorem k0_mult341_dvd : ∀ (v744 : BitVec 32) (k0_hw171 : k0_chk171 v744), 2 ∣ (k0_mult341 v744).toNat := fun v744 k0_hw171 => k0_hw171.1
theorem k0_mult342_dvd : ∀ (v744 : BitVec 32) (k0_hw171 : k0_chk171 v744), 2 ∣ (k0_mult342 v744).toNat := fun v744 k0_hw171 => k0_hw171.2.1
theorem k0_off473_inb : ∀ (v744 : BitVec 32) (k0_hw171 : k0_chk171 v744), ∀ a, (k0_off473 v744) a + S2x128.size a ≤ S106256x128.size a := fun v744 k0_hw171 => k0_hw171.2.2.1
theorem k0_off474_inb : ∀ (v744 : BitVec 32) (k0_hw171 : k0_chk171 v744), ∀ a, (k0_off474 v744) a + S2x128.size a ≤ S106256x128.size a := fun v744 k0_hw171 => k0_hw171.2.2.2

def k0_off475 (v745 : BitVec 32) : Fin 2 → Nat :=
  let v749 : BitVec 32 := v745
  let v764 : Index := Scalar.indexCast v749
  let c0_316 : Index := 0#32
  ![v764.toNat, 0]
def k0_off476 (v745 : BitVec 32) : Fin 2 → Nat :=
  let c2_i32_311 : BitVec 32 := 2#32
  let v750 : BitVec 32 := Scalar.addi v745 c2_i32_311
  let v751 : BitVec 32 := v750
  let v770 : Index := Scalar.indexCast v751
  let c0_318 : Index := 0#32
  ![v770.toNat, 0]

def k0_chk172 (v745 : BitVec 32) : Prop :=
  (2 ∣ (k0_mult343 v745).toNat) ∧
  (2 ∣ (k0_mult344 v745).toNat) ∧
  (∀ a, (k0_off475 v745) a + S2x128.size a ≤ S106256x128.size a) ∧
  (∀ a, (k0_off476 v745) a + S2x128.size a ≤ S106256x128.size a)
theorem k0_mult343_dvd : ∀ (v745 : BitVec 32) (k0_hw172 : k0_chk172 v745), 2 ∣ (k0_mult343 v745).toNat := fun v745 k0_hw172 => k0_hw172.1
theorem k0_mult344_dvd : ∀ (v745 : BitVec 32) (k0_hw172 : k0_chk172 v745), 2 ∣ (k0_mult344 v745).toNat := fun v745 k0_hw172 => k0_hw172.2.1
theorem k0_off475_inb : ∀ (v745 : BitVec 32) (k0_hw172 : k0_chk172 v745), ∀ a, (k0_off475 v745) a + S2x128.size a ≤ S106256x128.size a := fun v745 k0_hw172 => k0_hw172.2.2.1
theorem k0_off476_inb : ∀ (v745 : BitVec 32) (k0_hw172 : k0_chk172 v745), ∀ a, (k0_off476 v745) a + S2x128.size a ≤ S106256x128.size a := fun v745 k0_hw172 => k0_hw172.2.2.2

def k0_mult345 (v776 : BitVec 32) : BitVec 32 :=
  v776

def k0_mult346 (v776 : BitVec 32) : BitVec 32 :=
  let c2_i32_324 : BitVec 32 := 2#32
  let v779 : BitVec 32 := Scalar.addi v776 c2_i32_324
  v779
def k0_mult347 (v777 : BitVec 32) : BitVec 32 :=
  v777

def k0_mult348 (v777 : BitVec 32) : BitVec 32 :=
  let c2_i32_325 : BitVec 32 := 2#32
  let v782 : BitVec 32 := Scalar.addi v777 c2_i32_325
  v782
def k0_off477 (v776 : BitVec 32) : Fin 2 → Nat :=
  let v778 : BitVec 32 := v776
  let v784 : Index := Scalar.indexCast v778
  let c0_326 : Index := 0#32
  ![v784.toNat, 0]
def k0_off478 (v776 : BitVec 32) : Fin 2 → Nat :=
  let c2_i32_324 : BitVec 32 := 2#32
  let v779 : BitVec 32 := Scalar.addi v776 c2_i32_324
  let v780 : BitVec 32 := v779
  let v790 : Index := Scalar.indexCast v780
  let c0_328 : Index := 0#32
  ![v790.toNat, 0]

def k0_chk173 (v776 : BitVec 32) : Prop :=
  (2 ∣ (k0_mult345 v776).toNat) ∧
  (2 ∣ (k0_mult346 v776).toNat) ∧
  (∀ a, (k0_off477 v776) a + S2x128.size a ≤ S106256x128.size a) ∧
  (∀ a, (k0_off478 v776) a + S2x128.size a ≤ S106256x128.size a)
theorem k0_mult345_dvd : ∀ (v776 : BitVec 32) (k0_hw173 : k0_chk173 v776), 2 ∣ (k0_mult345 v776).toNat := fun v776 k0_hw173 => k0_hw173.1
theorem k0_mult346_dvd : ∀ (v776 : BitVec 32) (k0_hw173 : k0_chk173 v776), 2 ∣ (k0_mult346 v776).toNat := fun v776 k0_hw173 => k0_hw173.2.1
theorem k0_off477_inb : ∀ (v776 : BitVec 32) (k0_hw173 : k0_chk173 v776), ∀ a, (k0_off477 v776) a + S2x128.size a ≤ S106256x128.size a := fun v776 k0_hw173 => k0_hw173.2.2.1
theorem k0_off478_inb : ∀ (v776 : BitVec 32) (k0_hw173 : k0_chk173 v776), ∀ a, (k0_off478 v776) a + S2x128.size a ≤ S106256x128.size a := fun v776 k0_hw173 => k0_hw173.2.2.2

def k0_off479 (v777 : BitVec 32) : Fin 2 → Nat :=
  let v781 : BitVec 32 := v777
  let v796 : Index := Scalar.indexCast v781
  let c0_330 : Index := 0#32
  ![v796.toNat, 0]
def k0_off480 (v777 : BitVec 32) : Fin 2 → Nat :=
  let c2_i32_325 : BitVec 32 := 2#32
  let v782 : BitVec 32 := Scalar.addi v777 c2_i32_325
  let v783 : BitVec 32 := v782
  let v802 : Index := Scalar.indexCast v783
  let c0_332 : Index := 0#32
  ![v802.toNat, 0]

def k0_chk174 (v777 : BitVec 32) : Prop :=
  (2 ∣ (k0_mult347 v777).toNat) ∧
  (2 ∣ (k0_mult348 v777).toNat) ∧
  (∀ a, (k0_off479 v777) a + S2x128.size a ≤ S106256x128.size a) ∧
  (∀ a, (k0_off480 v777) a + S2x128.size a ≤ S106256x128.size a)
theorem k0_mult347_dvd : ∀ (v777 : BitVec 32) (k0_hw174 : k0_chk174 v777), 2 ∣ (k0_mult347 v777).toNat := fun v777 k0_hw174 => k0_hw174.1
theorem k0_mult348_dvd : ∀ (v777 : BitVec 32) (k0_hw174 : k0_chk174 v777), 2 ∣ (k0_mult348 v777).toNat := fun v777 k0_hw174 => k0_hw174.2.1
theorem k0_off479_inb : ∀ (v777 : BitVec 32) (k0_hw174 : k0_chk174 v777), ∀ a, (k0_off479 v777) a + S2x128.size a ≤ S106256x128.size a := fun v777 k0_hw174 => k0_hw174.2.2.1
theorem k0_off480_inb : ∀ (v777 : BitVec 32) (k0_hw174 : k0_chk174 v777), ∀ a, (k0_off480 v777) a + S2x128.size a ≤ S106256x128.size a := fun v777 k0_hw174 => k0_hw174.2.2.2

def k0_mult349 (v808 : BitVec 32) : BitVec 32 :=
  v808

def k0_mult350 (v808 : BitVec 32) : BitVec 32 :=
  let c2_i32_338 : BitVec 32 := 2#32
  let v811 : BitVec 32 := Scalar.addi v808 c2_i32_338
  v811
def k0_mult351 (v809 : BitVec 32) : BitVec 32 :=
  v809

def k0_mult352 (v809 : BitVec 32) : BitVec 32 :=
  let c2_i32_339 : BitVec 32 := 2#32
  let v814 : BitVec 32 := Scalar.addi v809 c2_i32_339
  v814
def k0_off481 (v808 : BitVec 32) : Fin 2 → Nat :=
  let v810 : BitVec 32 := v808
  let v816 : Index := Scalar.indexCast v810
  let c0_340 : Index := 0#32
  ![v816.toNat, 0]
def k0_off482 (v808 : BitVec 32) : Fin 2 → Nat :=
  let c2_i32_338 : BitVec 32 := 2#32
  let v811 : BitVec 32 := Scalar.addi v808 c2_i32_338
  let v812 : BitVec 32 := v811
  let v822 : Index := Scalar.indexCast v812
  let c0_342 : Index := 0#32
  ![v822.toNat, 0]

def k0_chk175 (v808 : BitVec 32) : Prop :=
  (2 ∣ (k0_mult349 v808).toNat) ∧
  (2 ∣ (k0_mult350 v808).toNat) ∧
  (∀ a, (k0_off481 v808) a + S2x128.size a ≤ S106256x128.size a) ∧
  (∀ a, (k0_off482 v808) a + S2x128.size a ≤ S106256x128.size a)
theorem k0_mult349_dvd : ∀ (v808 : BitVec 32) (k0_hw175 : k0_chk175 v808), 2 ∣ (k0_mult349 v808).toNat := fun v808 k0_hw175 => k0_hw175.1
theorem k0_mult350_dvd : ∀ (v808 : BitVec 32) (k0_hw175 : k0_chk175 v808), 2 ∣ (k0_mult350 v808).toNat := fun v808 k0_hw175 => k0_hw175.2.1
theorem k0_off481_inb : ∀ (v808 : BitVec 32) (k0_hw175 : k0_chk175 v808), ∀ a, (k0_off481 v808) a + S2x128.size a ≤ S106256x128.size a := fun v808 k0_hw175 => k0_hw175.2.2.1
theorem k0_off482_inb : ∀ (v808 : BitVec 32) (k0_hw175 : k0_chk175 v808), ∀ a, (k0_off482 v808) a + S2x128.size a ≤ S106256x128.size a := fun v808 k0_hw175 => k0_hw175.2.2.2

def k0_off483 (v809 : BitVec 32) : Fin 2 → Nat :=
  let v813 : BitVec 32 := v809
  let v828 : Index := Scalar.indexCast v813
  let c0_344 : Index := 0#32
  ![v828.toNat, 0]
def k0_off484 (v809 : BitVec 32) : Fin 2 → Nat :=
  let c2_i32_339 : BitVec 32 := 2#32
  let v814 : BitVec 32 := Scalar.addi v809 c2_i32_339
  let v815 : BitVec 32 := v814
  let v834 : Index := Scalar.indexCast v815
  let c0_346 : Index := 0#32
  ![v834.toNat, 0]

def k0_chk176 (v809 : BitVec 32) : Prop :=
  (2 ∣ (k0_mult351 v809).toNat) ∧
  (2 ∣ (k0_mult352 v809).toNat) ∧
  (∀ a, (k0_off483 v809) a + S2x128.size a ≤ S106256x128.size a) ∧
  (∀ a, (k0_off484 v809) a + S2x128.size a ≤ S106256x128.size a)
theorem k0_mult351_dvd : ∀ (v809 : BitVec 32) (k0_hw176 : k0_chk176 v809), 2 ∣ (k0_mult351 v809).toNat := fun v809 k0_hw176 => k0_hw176.1
theorem k0_mult352_dvd : ∀ (v809 : BitVec 32) (k0_hw176 : k0_chk176 v809), 2 ∣ (k0_mult352 v809).toNat := fun v809 k0_hw176 => k0_hw176.2.1
theorem k0_off483_inb : ∀ (v809 : BitVec 32) (k0_hw176 : k0_chk176 v809), ∀ a, (k0_off483 v809) a + S2x128.size a ≤ S106256x128.size a := fun v809 k0_hw176 => k0_hw176.2.2.1
theorem k0_off484_inb : ∀ (v809 : BitVec 32) (k0_hw176 : k0_chk176 v809), ∀ a, (k0_off484 v809) a + S2x128.size a ≤ S106256x128.size a := fun v809 k0_hw176 => k0_hw176.2.2.2

def k0_mult353 (v840 : BitVec 32) : BitVec 32 :=
  v840

def k0_mult354 (v840 : BitVec 32) : BitVec 32 :=
  let c2_i32_352 : BitVec 32 := 2#32
  let v843 : BitVec 32 := Scalar.addi v840 c2_i32_352
  v843
def k0_mult355 (v841 : BitVec 32) : BitVec 32 :=
  v841

def k0_mult356 (v841 : BitVec 32) : BitVec 32 :=
  let c2_i32_353 : BitVec 32 := 2#32
  let v846 : BitVec 32 := Scalar.addi v841 c2_i32_353
  v846
def k0_off485 (v840 : BitVec 32) : Fin 2 → Nat :=
  let v842 : BitVec 32 := v840
  let v848 : Index := Scalar.indexCast v842
  let c0_354 : Index := 0#32
  ![v848.toNat, 0]
def k0_off486 (v840 : BitVec 32) : Fin 2 → Nat :=
  let c2_i32_352 : BitVec 32 := 2#32
  let v843 : BitVec 32 := Scalar.addi v840 c2_i32_352
  let v844 : BitVec 32 := v843
  let v854 : Index := Scalar.indexCast v844
  let c0_356 : Index := 0#32
  ![v854.toNat, 0]

def k0_chk177 (v840 : BitVec 32) : Prop :=
  (2 ∣ (k0_mult353 v840).toNat) ∧
  (2 ∣ (k0_mult354 v840).toNat) ∧
  (∀ a, (k0_off485 v840) a + S2x128.size a ≤ S106256x128.size a) ∧
  (∀ a, (k0_off486 v840) a + S2x128.size a ≤ S106256x128.size a)
theorem k0_mult353_dvd : ∀ (v840 : BitVec 32) (k0_hw177 : k0_chk177 v840), 2 ∣ (k0_mult353 v840).toNat := fun v840 k0_hw177 => k0_hw177.1
theorem k0_mult354_dvd : ∀ (v840 : BitVec 32) (k0_hw177 : k0_chk177 v840), 2 ∣ (k0_mult354 v840).toNat := fun v840 k0_hw177 => k0_hw177.2.1
theorem k0_off485_inb : ∀ (v840 : BitVec 32) (k0_hw177 : k0_chk177 v840), ∀ a, (k0_off485 v840) a + S2x128.size a ≤ S106256x128.size a := fun v840 k0_hw177 => k0_hw177.2.2.1
theorem k0_off486_inb : ∀ (v840 : BitVec 32) (k0_hw177 : k0_chk177 v840), ∀ a, (k0_off486 v840) a + S2x128.size a ≤ S106256x128.size a := fun v840 k0_hw177 => k0_hw177.2.2.2

def k0_off487 (v841 : BitVec 32) : Fin 2 → Nat :=
  let v845 : BitVec 32 := v841
  let v860 : Index := Scalar.indexCast v845
  let c0_358 : Index := 0#32
  ![v860.toNat, 0]
def k0_off488 (v841 : BitVec 32) : Fin 2 → Nat :=
  let c2_i32_353 : BitVec 32 := 2#32
  let v846 : BitVec 32 := Scalar.addi v841 c2_i32_353
  let v847 : BitVec 32 := v846
  let v866 : Index := Scalar.indexCast v847
  let c0_360 : Index := 0#32
  ![v866.toNat, 0]

def k0_chk178 (v841 : BitVec 32) : Prop :=
  (2 ∣ (k0_mult355 v841).toNat) ∧
  (2 ∣ (k0_mult356 v841).toNat) ∧
  (∀ a, (k0_off487 v841) a + S2x128.size a ≤ S106256x128.size a) ∧
  (∀ a, (k0_off488 v841) a + S2x128.size a ≤ S106256x128.size a)
theorem k0_mult355_dvd : ∀ (v841 : BitVec 32) (k0_hw178 : k0_chk178 v841), 2 ∣ (k0_mult355 v841).toNat := fun v841 k0_hw178 => k0_hw178.1
theorem k0_mult356_dvd : ∀ (v841 : BitVec 32) (k0_hw178 : k0_chk178 v841), 2 ∣ (k0_mult356 v841).toNat := fun v841 k0_hw178 => k0_hw178.2.1
theorem k0_off487_inb : ∀ (v841 : BitVec 32) (k0_hw178 : k0_chk178 v841), ∀ a, (k0_off487 v841) a + S2x128.size a ≤ S106256x128.size a := fun v841 k0_hw178 => k0_hw178.2.2.1
theorem k0_off488_inb : ∀ (v841 : BitVec 32) (k0_hw178 : k0_chk178 v841), ∀ a, (k0_off488 v841) a + S2x128.size a ≤ S106256x128.size a := fun v841 k0_hw178 => k0_hw178.2.2.2

def k0_mult357 (v872 : BitVec 32) : BitVec 32 :=
  v872

def k0_mult358 (v872 : BitVec 32) : BitVec 32 :=
  let c2_i32_366 : BitVec 32 := 2#32
  let v875 : BitVec 32 := Scalar.addi v872 c2_i32_366
  v875
def k0_mult359 (v873 : BitVec 32) : BitVec 32 :=
  v873

def k0_mult360 (v873 : BitVec 32) : BitVec 32 :=
  let c2_i32_367 : BitVec 32 := 2#32
  let v878 : BitVec 32 := Scalar.addi v873 c2_i32_367
  v878
def k0_off489 (v872 : BitVec 32) : Fin 2 → Nat :=
  let v874 : BitVec 32 := v872
  let v880 : Index := Scalar.indexCast v874
  let c0_368 : Index := 0#32
  ![v880.toNat, 0]
def k0_off490 (v872 : BitVec 32) : Fin 2 → Nat :=
  let c2_i32_366 : BitVec 32 := 2#32
  let v875 : BitVec 32 := Scalar.addi v872 c2_i32_366
  let v876 : BitVec 32 := v875
  let v886 : Index := Scalar.indexCast v876
  let c0_370 : Index := 0#32
  ![v886.toNat, 0]

def k0_chk179 (v872 : BitVec 32) : Prop :=
  (2 ∣ (k0_mult357 v872).toNat) ∧
  (2 ∣ (k0_mult358 v872).toNat) ∧
  (∀ a, (k0_off489 v872) a + S2x128.size a ≤ S106256x128.size a) ∧
  (∀ a, (k0_off490 v872) a + S2x128.size a ≤ S106256x128.size a)
theorem k0_mult357_dvd : ∀ (v872 : BitVec 32) (k0_hw179 : k0_chk179 v872), 2 ∣ (k0_mult357 v872).toNat := fun v872 k0_hw179 => k0_hw179.1
theorem k0_mult358_dvd : ∀ (v872 : BitVec 32) (k0_hw179 : k0_chk179 v872), 2 ∣ (k0_mult358 v872).toNat := fun v872 k0_hw179 => k0_hw179.2.1
theorem k0_off489_inb : ∀ (v872 : BitVec 32) (k0_hw179 : k0_chk179 v872), ∀ a, (k0_off489 v872) a + S2x128.size a ≤ S106256x128.size a := fun v872 k0_hw179 => k0_hw179.2.2.1
theorem k0_off490_inb : ∀ (v872 : BitVec 32) (k0_hw179 : k0_chk179 v872), ∀ a, (k0_off490 v872) a + S2x128.size a ≤ S106256x128.size a := fun v872 k0_hw179 => k0_hw179.2.2.2

def k0_off491 (v873 : BitVec 32) : Fin 2 → Nat :=
  let v877 : BitVec 32 := v873
  let v892 : Index := Scalar.indexCast v877
  let c0_372 : Index := 0#32
  ![v892.toNat, 0]
def k0_off492 (v873 : BitVec 32) : Fin 2 → Nat :=
  let c2_i32_367 : BitVec 32 := 2#32
  let v878 : BitVec 32 := Scalar.addi v873 c2_i32_367
  let v879 : BitVec 32 := v878
  let v898 : Index := Scalar.indexCast v879
  let c0_374 : Index := 0#32
  ![v898.toNat, 0]

def k0_chk180 (v873 : BitVec 32) : Prop :=
  (2 ∣ (k0_mult359 v873).toNat) ∧
  (2 ∣ (k0_mult360 v873).toNat) ∧
  (∀ a, (k0_off491 v873) a + S2x128.size a ≤ S106256x128.size a) ∧
  (∀ a, (k0_off492 v873) a + S2x128.size a ≤ S106256x128.size a)
theorem k0_mult359_dvd : ∀ (v873 : BitVec 32) (k0_hw180 : k0_chk180 v873), 2 ∣ (k0_mult359 v873).toNat := fun v873 k0_hw180 => k0_hw180.1
theorem k0_mult360_dvd : ∀ (v873 : BitVec 32) (k0_hw180 : k0_chk180 v873), 2 ∣ (k0_mult360 v873).toNat := fun v873 k0_hw180 => k0_hw180.2.1
theorem k0_off491_inb : ∀ (v873 : BitVec 32) (k0_hw180 : k0_chk180 v873), ∀ a, (k0_off491 v873) a + S2x128.size a ≤ S106256x128.size a := fun v873 k0_hw180 => k0_hw180.2.2.1
theorem k0_off492_inb : ∀ (v873 : BitVec 32) (k0_hw180 : k0_chk180 v873), ∀ a, (k0_off492 v873) a + S2x128.size a ≤ S106256x128.size a := fun v873 k0_hw180 => k0_hw180.2.2.2

def k0_mult361 (v904 : BitVec 32) : BitVec 32 :=
  v904

def k0_mult362 (v904 : BitVec 32) : BitVec 32 :=
  let c2_i32_380 : BitVec 32 := 2#32
  let v907 : BitVec 32 := Scalar.addi v904 c2_i32_380
  v907
def k0_mult363 (v905 : BitVec 32) : BitVec 32 :=
  v905

def k0_mult364 (v905 : BitVec 32) : BitVec 32 :=
  let c2_i32_381 : BitVec 32 := 2#32
  let v910 : BitVec 32 := Scalar.addi v905 c2_i32_381
  v910
def k0_off493 (v904 : BitVec 32) : Fin 2 → Nat :=
  let v906 : BitVec 32 := v904
  let v912 : Index := Scalar.indexCast v906
  let c0_382 : Index := 0#32
  ![v912.toNat, 0]
def k0_off494 (v904 : BitVec 32) : Fin 2 → Nat :=
  let c2_i32_380 : BitVec 32 := 2#32
  let v907 : BitVec 32 := Scalar.addi v904 c2_i32_380
  let v908 : BitVec 32 := v907
  let v918 : Index := Scalar.indexCast v908
  let c0_384 : Index := 0#32
  ![v918.toNat, 0]

def k0_chk181 (v904 : BitVec 32) : Prop :=
  (2 ∣ (k0_mult361 v904).toNat) ∧
  (2 ∣ (k0_mult362 v904).toNat) ∧
  (∀ a, (k0_off493 v904) a + S2x128.size a ≤ S106256x128.size a) ∧
  (∀ a, (k0_off494 v904) a + S2x128.size a ≤ S106256x128.size a)
theorem k0_mult361_dvd : ∀ (v904 : BitVec 32) (k0_hw181 : k0_chk181 v904), 2 ∣ (k0_mult361 v904).toNat := fun v904 k0_hw181 => k0_hw181.1
theorem k0_mult362_dvd : ∀ (v904 : BitVec 32) (k0_hw181 : k0_chk181 v904), 2 ∣ (k0_mult362 v904).toNat := fun v904 k0_hw181 => k0_hw181.2.1
theorem k0_off493_inb : ∀ (v904 : BitVec 32) (k0_hw181 : k0_chk181 v904), ∀ a, (k0_off493 v904) a + S2x128.size a ≤ S106256x128.size a := fun v904 k0_hw181 => k0_hw181.2.2.1
theorem k0_off494_inb : ∀ (v904 : BitVec 32) (k0_hw181 : k0_chk181 v904), ∀ a, (k0_off494 v904) a + S2x128.size a ≤ S106256x128.size a := fun v904 k0_hw181 => k0_hw181.2.2.2

def k0_off495 (v905 : BitVec 32) : Fin 2 → Nat :=
  let v909 : BitVec 32 := v905
  let v924 : Index := Scalar.indexCast v909
  let c0_386 : Index := 0#32
  ![v924.toNat, 0]
def k0_off496 (v905 : BitVec 32) : Fin 2 → Nat :=
  let c2_i32_381 : BitVec 32 := 2#32
  let v910 : BitVec 32 := Scalar.addi v905 c2_i32_381
  let v911 : BitVec 32 := v910
  let v930 : Index := Scalar.indexCast v911
  let c0_388 : Index := 0#32
  ![v930.toNat, 0]

def k0_chk182 (v905 : BitVec 32) : Prop :=
  (2 ∣ (k0_mult363 v905).toNat) ∧
  (2 ∣ (k0_mult364 v905).toNat) ∧
  (∀ a, (k0_off495 v905) a + S2x128.size a ≤ S106256x128.size a) ∧
  (∀ a, (k0_off496 v905) a + S2x128.size a ≤ S106256x128.size a)
theorem k0_mult363_dvd : ∀ (v905 : BitVec 32) (k0_hw182 : k0_chk182 v905), 2 ∣ (k0_mult363 v905).toNat := fun v905 k0_hw182 => k0_hw182.1
theorem k0_mult364_dvd : ∀ (v905 : BitVec 32) (k0_hw182 : k0_chk182 v905), 2 ∣ (k0_mult364 v905).toNat := fun v905 k0_hw182 => k0_hw182.2.1
theorem k0_off495_inb : ∀ (v905 : BitVec 32) (k0_hw182 : k0_chk182 v905), ∀ a, (k0_off495 v905) a + S2x128.size a ≤ S106256x128.size a := fun v905 k0_hw182 => k0_hw182.2.2.1
theorem k0_off496_inb : ∀ (v905 : BitVec 32) (k0_hw182 : k0_chk182 v905), ∀ a, (k0_off496 v905) a + S2x128.size a ≤ S106256x128.size a := fun v905 k0_hw182 => k0_hw182.2.2.2

def k0_mult365 (v936 : BitVec 32) : BitVec 32 :=
  v936

def k0_mult366 (v936 : BitVec 32) : BitVec 32 :=
  let c2_i32_394 : BitVec 32 := 2#32
  let v939 : BitVec 32 := Scalar.addi v936 c2_i32_394
  v939
def k0_mult367 (v937 : BitVec 32) : BitVec 32 :=
  v937

def k0_mult368 (v937 : BitVec 32) : BitVec 32 :=
  let c2_i32_395 : BitVec 32 := 2#32
  let v942 : BitVec 32 := Scalar.addi v937 c2_i32_395
  v942
def k0_off497 (v936 : BitVec 32) : Fin 2 → Nat :=
  let v938 : BitVec 32 := v936
  let v944 : Index := Scalar.indexCast v938
  let c0_396 : Index := 0#32
  ![v944.toNat, 0]
def k0_off498 (v936 : BitVec 32) : Fin 2 → Nat :=
  let c2_i32_394 : BitVec 32 := 2#32
  let v939 : BitVec 32 := Scalar.addi v936 c2_i32_394
  let v940 : BitVec 32 := v939
  let v950 : Index := Scalar.indexCast v940
  let c0_398 : Index := 0#32
  ![v950.toNat, 0]

def k0_chk183 (v936 : BitVec 32) : Prop :=
  (2 ∣ (k0_mult365 v936).toNat) ∧
  (2 ∣ (k0_mult366 v936).toNat) ∧
  (∀ a, (k0_off497 v936) a + S2x128.size a ≤ S106256x128.size a) ∧
  (∀ a, (k0_off498 v936) a + S2x128.size a ≤ S106256x128.size a)
theorem k0_mult365_dvd : ∀ (v936 : BitVec 32) (k0_hw183 : k0_chk183 v936), 2 ∣ (k0_mult365 v936).toNat := fun v936 k0_hw183 => k0_hw183.1
theorem k0_mult366_dvd : ∀ (v936 : BitVec 32) (k0_hw183 : k0_chk183 v936), 2 ∣ (k0_mult366 v936).toNat := fun v936 k0_hw183 => k0_hw183.2.1
theorem k0_off497_inb : ∀ (v936 : BitVec 32) (k0_hw183 : k0_chk183 v936), ∀ a, (k0_off497 v936) a + S2x128.size a ≤ S106256x128.size a := fun v936 k0_hw183 => k0_hw183.2.2.1
theorem k0_off498_inb : ∀ (v936 : BitVec 32) (k0_hw183 : k0_chk183 v936), ∀ a, (k0_off498 v936) a + S2x128.size a ≤ S106256x128.size a := fun v936 k0_hw183 => k0_hw183.2.2.2

def k0_off499 (v937 : BitVec 32) : Fin 2 → Nat :=
  let v941 : BitVec 32 := v937
  let v956 : Index := Scalar.indexCast v941
  let c0_400 : Index := 0#32
  ![v956.toNat, 0]
def k0_off500 (v937 : BitVec 32) : Fin 2 → Nat :=
  let c2_i32_395 : BitVec 32 := 2#32
  let v942 : BitVec 32 := Scalar.addi v937 c2_i32_395
  let v943 : BitVec 32 := v942
  let v962 : Index := Scalar.indexCast v943
  let c0_402 : Index := 0#32
  ![v962.toNat, 0]

def k0_chk184 (v937 : BitVec 32) : Prop :=
  (2 ∣ (k0_mult367 v937).toNat) ∧
  (2 ∣ (k0_mult368 v937).toNat) ∧
  (∀ a, (k0_off499 v937) a + S2x128.size a ≤ S106256x128.size a) ∧
  (∀ a, (k0_off500 v937) a + S2x128.size a ≤ S106256x128.size a)
theorem k0_mult367_dvd : ∀ (v937 : BitVec 32) (k0_hw184 : k0_chk184 v937), 2 ∣ (k0_mult367 v937).toNat := fun v937 k0_hw184 => k0_hw184.1
theorem k0_mult368_dvd : ∀ (v937 : BitVec 32) (k0_hw184 : k0_chk184 v937), 2 ∣ (k0_mult368 v937).toNat := fun v937 k0_hw184 => k0_hw184.2.1
theorem k0_off499_inb : ∀ (v937 : BitVec 32) (k0_hw184 : k0_chk184 v937), ∀ a, (k0_off499 v937) a + S2x128.size a ≤ S106256x128.size a := fun v937 k0_hw184 => k0_hw184.2.2.1
theorem k0_off500_inb : ∀ (v937 : BitVec 32) (k0_hw184 : k0_chk184 v937), ∀ a, (k0_off500 v937) a + S2x128.size a ≤ S106256x128.size a := fun v937 k0_hw184 => k0_hw184.2.2.2

def k0_mult369 (v968 : BitVec 32) : BitVec 32 :=
  v968

def k0_mult370 (v968 : BitVec 32) : BitVec 32 :=
  let c2_i32_407 : BitVec 32 := 2#32
  let v971 : BitVec 32 := Scalar.addi v968 c2_i32_407
  v971
def k0_mult371 (v969 : BitVec 32) : BitVec 32 :=
  v969

def k0_mult372 (v969 : BitVec 32) : BitVec 32 :=
  let c2_i32_408 : BitVec 32 := 2#32
  let v974 : BitVec 32 := Scalar.addi v969 c2_i32_408
  v974
def k0_off501 (v968 : BitVec 32) : Fin 2 → Nat :=
  let v970 : BitVec 32 := v968
  let v976 : Index := Scalar.indexCast v970
  let c0_409 : Index := 0#32
  ![v976.toNat, 0]
def k0_off502 (v968 : BitVec 32) : Fin 2 → Nat :=
  let c2_i32_407 : BitVec 32 := 2#32
  let v971 : BitVec 32 := Scalar.addi v968 c2_i32_407
  let v972 : BitVec 32 := v971
  let v982 : Index := Scalar.indexCast v972
  let c0_411 : Index := 0#32
  ![v982.toNat, 0]

def k0_chk185 (v968 : BitVec 32) : Prop :=
  (2 ∣ (k0_mult369 v968).toNat) ∧
  (2 ∣ (k0_mult370 v968).toNat) ∧
  (∀ a, (k0_off501 v968) a + S2x128.size a ≤ S106256x128.size a) ∧
  (∀ a, (k0_off502 v968) a + S2x128.size a ≤ S106256x128.size a)
theorem k0_mult369_dvd : ∀ (v968 : BitVec 32) (k0_hw185 : k0_chk185 v968), 2 ∣ (k0_mult369 v968).toNat := fun v968 k0_hw185 => k0_hw185.1
theorem k0_mult370_dvd : ∀ (v968 : BitVec 32) (k0_hw185 : k0_chk185 v968), 2 ∣ (k0_mult370 v968).toNat := fun v968 k0_hw185 => k0_hw185.2.1
theorem k0_off501_inb : ∀ (v968 : BitVec 32) (k0_hw185 : k0_chk185 v968), ∀ a, (k0_off501 v968) a + S2x128.size a ≤ S106256x128.size a := fun v968 k0_hw185 => k0_hw185.2.2.1
theorem k0_off502_inb : ∀ (v968 : BitVec 32) (k0_hw185 : k0_chk185 v968), ∀ a, (k0_off502 v968) a + S2x128.size a ≤ S106256x128.size a := fun v968 k0_hw185 => k0_hw185.2.2.2

def k0_off503 (v969 : BitVec 32) : Fin 2 → Nat :=
  let v973 : BitVec 32 := v969
  let v988 : Index := Scalar.indexCast v973
  let c0_413 : Index := 0#32
  ![v988.toNat, 0]
def k0_off504 (v969 : BitVec 32) : Fin 2 → Nat :=
  let c2_i32_408 : BitVec 32 := 2#32
  let v974 : BitVec 32 := Scalar.addi v969 c2_i32_408
  let v975 : BitVec 32 := v974
  let v994 : Index := Scalar.indexCast v975
  let c0_415 : Index := 0#32
  ![v994.toNat, 0]

def k0_chk186 (v969 : BitVec 32) : Prop :=
  (2 ∣ (k0_mult371 v969).toNat) ∧
  (2 ∣ (k0_mult372 v969).toNat) ∧
  (∀ a, (k0_off503 v969) a + S2x128.size a ≤ S106256x128.size a) ∧
  (∀ a, (k0_off504 v969) a + S2x128.size a ≤ S106256x128.size a)
theorem k0_mult371_dvd : ∀ (v969 : BitVec 32) (k0_hw186 : k0_chk186 v969), 2 ∣ (k0_mult371 v969).toNat := fun v969 k0_hw186 => k0_hw186.1
theorem k0_mult372_dvd : ∀ (v969 : BitVec 32) (k0_hw186 : k0_chk186 v969), 2 ∣ (k0_mult372 v969).toNat := fun v969 k0_hw186 => k0_hw186.2.1
theorem k0_off503_inb : ∀ (v969 : BitVec 32) (k0_hw186 : k0_chk186 v969), ∀ a, (k0_off503 v969) a + S2x128.size a ≤ S106256x128.size a := fun v969 k0_hw186 => k0_hw186.2.2.1
theorem k0_off504_inb : ∀ (v969 : BitVec 32) (k0_hw186 : k0_chk186 v969), ∀ a, (k0_off504 v969) a + S2x128.size a ≤ S106256x128.size a := fun v969 k0_hw186 => k0_hw186.2.2.2

def k0_mult373 (v1000 : BitVec 32) : BitVec 32 :=
  v1000

def k0_mult374 (v1000 : BitVec 32) : BitVec 32 :=
  let c2_i32_421 : BitVec 32 := 2#32
  let v1003 : BitVec 32 := Scalar.addi v1000 c2_i32_421
  v1003
def k0_mult375 (v1001 : BitVec 32) : BitVec 32 :=
  v1001

def k0_mult376 (v1001 : BitVec 32) : BitVec 32 :=
  let c2_i32_422 : BitVec 32 := 2#32
  let v1006 : BitVec 32 := Scalar.addi v1001 c2_i32_422
  v1006
def k0_off505 (v1000 : BitVec 32) : Fin 2 → Nat :=
  let v1002 : BitVec 32 := v1000
  let v1008 : Index := Scalar.indexCast v1002
  let c0_423 : Index := 0#32
  ![v1008.toNat, 0]
def k0_off506 (v1000 : BitVec 32) : Fin 2 → Nat :=
  let c2_i32_421 : BitVec 32 := 2#32
  let v1003 : BitVec 32 := Scalar.addi v1000 c2_i32_421
  let v1004 : BitVec 32 := v1003
  let v1014 : Index := Scalar.indexCast v1004
  let c0_425 : Index := 0#32
  ![v1014.toNat, 0]

def k0_chk187 (v1000 : BitVec 32) : Prop :=
  (2 ∣ (k0_mult373 v1000).toNat) ∧
  (2 ∣ (k0_mult374 v1000).toNat) ∧
  (∀ a, (k0_off505 v1000) a + S2x128.size a ≤ S106256x128.size a) ∧
  (∀ a, (k0_off506 v1000) a + S2x128.size a ≤ S106256x128.size a)
theorem k0_mult373_dvd : ∀ (v1000 : BitVec 32) (k0_hw187 : k0_chk187 v1000), 2 ∣ (k0_mult373 v1000).toNat := fun v1000 k0_hw187 => k0_hw187.1
theorem k0_mult374_dvd : ∀ (v1000 : BitVec 32) (k0_hw187 : k0_chk187 v1000), 2 ∣ (k0_mult374 v1000).toNat := fun v1000 k0_hw187 => k0_hw187.2.1
theorem k0_off505_inb : ∀ (v1000 : BitVec 32) (k0_hw187 : k0_chk187 v1000), ∀ a, (k0_off505 v1000) a + S2x128.size a ≤ S106256x128.size a := fun v1000 k0_hw187 => k0_hw187.2.2.1
theorem k0_off506_inb : ∀ (v1000 : BitVec 32) (k0_hw187 : k0_chk187 v1000), ∀ a, (k0_off506 v1000) a + S2x128.size a ≤ S106256x128.size a := fun v1000 k0_hw187 => k0_hw187.2.2.2

def k0_off507 (v1001 : BitVec 32) : Fin 2 → Nat :=
  let v1005 : BitVec 32 := v1001
  let v1020 : Index := Scalar.indexCast v1005
  let c0_427 : Index := 0#32
  ![v1020.toNat, 0]
def k0_off508 (v1001 : BitVec 32) : Fin 2 → Nat :=
  let c2_i32_422 : BitVec 32 := 2#32
  let v1006 : BitVec 32 := Scalar.addi v1001 c2_i32_422
  let v1007 : BitVec 32 := v1006
  let v1026 : Index := Scalar.indexCast v1007
  let c0_429 : Index := 0#32
  ![v1026.toNat, 0]

def k0_chk188 (v1001 : BitVec 32) : Prop :=
  (2 ∣ (k0_mult375 v1001).toNat) ∧
  (2 ∣ (k0_mult376 v1001).toNat) ∧
  (∀ a, (k0_off507 v1001) a + S2x128.size a ≤ S106256x128.size a) ∧
  (∀ a, (k0_off508 v1001) a + S2x128.size a ≤ S106256x128.size a)
theorem k0_mult375_dvd : ∀ (v1001 : BitVec 32) (k0_hw188 : k0_chk188 v1001), 2 ∣ (k0_mult375 v1001).toNat := fun v1001 k0_hw188 => k0_hw188.1
theorem k0_mult376_dvd : ∀ (v1001 : BitVec 32) (k0_hw188 : k0_chk188 v1001), 2 ∣ (k0_mult376 v1001).toNat := fun v1001 k0_hw188 => k0_hw188.2.1
theorem k0_off507_inb : ∀ (v1001 : BitVec 32) (k0_hw188 : k0_chk188 v1001), ∀ a, (k0_off507 v1001) a + S2x128.size a ≤ S106256x128.size a := fun v1001 k0_hw188 => k0_hw188.2.2.1
theorem k0_off508_inb : ∀ (v1001 : BitVec 32) (k0_hw188 : k0_chk188 v1001), ∀ a, (k0_off508 v1001) a + S2x128.size a ≤ S106256x128.size a := fun v1001 k0_hw188 => k0_hw188.2.2.2

def k0_mult377 (v1032 : BitVec 32) : BitVec 32 :=
  v1032

def k0_mult378 (v1032 : BitVec 32) : BitVec 32 :=
  let c2_i32_435 : BitVec 32 := 2#32
  let v1035 : BitVec 32 := Scalar.addi v1032 c2_i32_435
  v1035
def k0_mult379 (v1033 : BitVec 32) : BitVec 32 :=
  v1033

def k0_mult380 (v1033 : BitVec 32) : BitVec 32 :=
  let c2_i32_436 : BitVec 32 := 2#32
  let v1038 : BitVec 32 := Scalar.addi v1033 c2_i32_436
  v1038
def k0_off509 (v1032 : BitVec 32) : Fin 2 → Nat :=
  let v1034 : BitVec 32 := v1032
  let v1040 : Index := Scalar.indexCast v1034
  let c0_437 : Index := 0#32
  ![v1040.toNat, 0]
def k0_off510 (v1032 : BitVec 32) : Fin 2 → Nat :=
  let c2_i32_435 : BitVec 32 := 2#32
  let v1035 : BitVec 32 := Scalar.addi v1032 c2_i32_435
  let v1036 : BitVec 32 := v1035
  let v1046 : Index := Scalar.indexCast v1036
  let c0_439 : Index := 0#32
  ![v1046.toNat, 0]

def k0_chk189 (v1032 : BitVec 32) : Prop :=
  (2 ∣ (k0_mult377 v1032).toNat) ∧
  (2 ∣ (k0_mult378 v1032).toNat) ∧
  (∀ a, (k0_off509 v1032) a + S2x128.size a ≤ S106256x128.size a) ∧
  (∀ a, (k0_off510 v1032) a + S2x128.size a ≤ S106256x128.size a)
theorem k0_mult377_dvd : ∀ (v1032 : BitVec 32) (k0_hw189 : k0_chk189 v1032), 2 ∣ (k0_mult377 v1032).toNat := fun v1032 k0_hw189 => k0_hw189.1
theorem k0_mult378_dvd : ∀ (v1032 : BitVec 32) (k0_hw189 : k0_chk189 v1032), 2 ∣ (k0_mult378 v1032).toNat := fun v1032 k0_hw189 => k0_hw189.2.1
theorem k0_off509_inb : ∀ (v1032 : BitVec 32) (k0_hw189 : k0_chk189 v1032), ∀ a, (k0_off509 v1032) a + S2x128.size a ≤ S106256x128.size a := fun v1032 k0_hw189 => k0_hw189.2.2.1
theorem k0_off510_inb : ∀ (v1032 : BitVec 32) (k0_hw189 : k0_chk189 v1032), ∀ a, (k0_off510 v1032) a + S2x128.size a ≤ S106256x128.size a := fun v1032 k0_hw189 => k0_hw189.2.2.2

def k0_off511 (v1033 : BitVec 32) : Fin 2 → Nat :=
  let v1037 : BitVec 32 := v1033
  let v1052 : Index := Scalar.indexCast v1037
  let c0_441 : Index := 0#32
  ![v1052.toNat, 0]
def k0_off512 (v1033 : BitVec 32) : Fin 2 → Nat :=
  let c2_i32_436 : BitVec 32 := 2#32
  let v1038 : BitVec 32 := Scalar.addi v1033 c2_i32_436
  let v1039 : BitVec 32 := v1038
  let v1058 : Index := Scalar.indexCast v1039
  let c0_443 : Index := 0#32
  ![v1058.toNat, 0]

def k0_chk190 (v1033 : BitVec 32) : Prop :=
  (2 ∣ (k0_mult379 v1033).toNat) ∧
  (2 ∣ (k0_mult380 v1033).toNat) ∧
  (∀ a, (k0_off511 v1033) a + S2x128.size a ≤ S106256x128.size a) ∧
  (∀ a, (k0_off512 v1033) a + S2x128.size a ≤ S106256x128.size a)
theorem k0_mult379_dvd : ∀ (v1033 : BitVec 32) (k0_hw190 : k0_chk190 v1033), 2 ∣ (k0_mult379 v1033).toNat := fun v1033 k0_hw190 => k0_hw190.1
theorem k0_mult380_dvd : ∀ (v1033 : BitVec 32) (k0_hw190 : k0_chk190 v1033), 2 ∣ (k0_mult380 v1033).toNat := fun v1033 k0_hw190 => k0_hw190.2.1
theorem k0_off511_inb : ∀ (v1033 : BitVec 32) (k0_hw190 : k0_chk190 v1033), ∀ a, (k0_off511 v1033) a + S2x128.size a ≤ S106256x128.size a := fun v1033 k0_hw190 => k0_hw190.2.2.1
theorem k0_off512_inb : ∀ (v1033 : BitVec 32) (k0_hw190 : k0_chk190 v1033), ∀ a, (k0_off512 v1033) a + S2x128.size a ≤ S106256x128.size a := fun v1033 k0_hw190 => k0_hw190.2.2.2

def k0_mult381 (v1064 : BitVec 32) : BitVec 32 :=
  v1064

def k0_mult382 (v1064 : BitVec 32) : BitVec 32 :=
  let c2_i32_449 : BitVec 32 := 2#32
  let v1067 : BitVec 32 := Scalar.addi v1064 c2_i32_449
  v1067
def k0_mult383 (v1065 : BitVec 32) : BitVec 32 :=
  v1065

def k0_mult384 (v1065 : BitVec 32) : BitVec 32 :=
  let c2_i32_450 : BitVec 32 := 2#32
  let v1070 : BitVec 32 := Scalar.addi v1065 c2_i32_450
  v1070
def k0_off513 (v1064 : BitVec 32) : Fin 2 → Nat :=
  let v1066 : BitVec 32 := v1064
  let v1072 : Index := Scalar.indexCast v1066
  let c0_451 : Index := 0#32
  ![v1072.toNat, 0]
def k0_off514 (v1064 : BitVec 32) : Fin 2 → Nat :=
  let c2_i32_449 : BitVec 32 := 2#32
  let v1067 : BitVec 32 := Scalar.addi v1064 c2_i32_449
  let v1068 : BitVec 32 := v1067
  let v1078 : Index := Scalar.indexCast v1068
  let c0_453 : Index := 0#32
  ![v1078.toNat, 0]

def k0_chk191 (v1064 : BitVec 32) : Prop :=
  (2 ∣ (k0_mult381 v1064).toNat) ∧
  (2 ∣ (k0_mult382 v1064).toNat) ∧
  (∀ a, (k0_off513 v1064) a + S2x128.size a ≤ S106256x128.size a) ∧
  (∀ a, (k0_off514 v1064) a + S2x128.size a ≤ S106256x128.size a)
theorem k0_mult381_dvd : ∀ (v1064 : BitVec 32) (k0_hw191 : k0_chk191 v1064), 2 ∣ (k0_mult381 v1064).toNat := fun v1064 k0_hw191 => k0_hw191.1
theorem k0_mult382_dvd : ∀ (v1064 : BitVec 32) (k0_hw191 : k0_chk191 v1064), 2 ∣ (k0_mult382 v1064).toNat := fun v1064 k0_hw191 => k0_hw191.2.1
theorem k0_off513_inb : ∀ (v1064 : BitVec 32) (k0_hw191 : k0_chk191 v1064), ∀ a, (k0_off513 v1064) a + S2x128.size a ≤ S106256x128.size a := fun v1064 k0_hw191 => k0_hw191.2.2.1
theorem k0_off514_inb : ∀ (v1064 : BitVec 32) (k0_hw191 : k0_chk191 v1064), ∀ a, (k0_off514 v1064) a + S2x128.size a ≤ S106256x128.size a := fun v1064 k0_hw191 => k0_hw191.2.2.2

def k0_off515 (v1065 : BitVec 32) : Fin 2 → Nat :=
  let v1069 : BitVec 32 := v1065
  let v1084 : Index := Scalar.indexCast v1069
  let c0_455 : Index := 0#32
  ![v1084.toNat, 0]
def k0_off516 (v1065 : BitVec 32) : Fin 2 → Nat :=
  let c2_i32_450 : BitVec 32 := 2#32
  let v1070 : BitVec 32 := Scalar.addi v1065 c2_i32_450
  let v1071 : BitVec 32 := v1070
  let v1090 : Index := Scalar.indexCast v1071
  let c0_457 : Index := 0#32
  ![v1090.toNat, 0]

def k0_chk192 (v1065 : BitVec 32) : Prop :=
  (2 ∣ (k0_mult383 v1065).toNat) ∧
  (2 ∣ (k0_mult384 v1065).toNat) ∧
  (∀ a, (k0_off515 v1065) a + S2x128.size a ≤ S106256x128.size a) ∧
  (∀ a, (k0_off516 v1065) a + S2x128.size a ≤ S106256x128.size a)
theorem k0_mult383_dvd : ∀ (v1065 : BitVec 32) (k0_hw192 : k0_chk192 v1065), 2 ∣ (k0_mult383 v1065).toNat := fun v1065 k0_hw192 => k0_hw192.1
theorem k0_mult384_dvd : ∀ (v1065 : BitVec 32) (k0_hw192 : k0_chk192 v1065), 2 ∣ (k0_mult384 v1065).toNat := fun v1065 k0_hw192 => k0_hw192.2.1
theorem k0_off515_inb : ∀ (v1065 : BitVec 32) (k0_hw192 : k0_chk192 v1065), ∀ a, (k0_off515 v1065) a + S2x128.size a ≤ S106256x128.size a := fun v1065 k0_hw192 => k0_hw192.2.2.1
theorem k0_off516_inb : ∀ (v1065 : BitVec 32) (k0_hw192 : k0_chk192 v1065), ∀ a, (k0_off516 v1065) a + S2x128.size a ≤ S106256x128.size a := fun v1065 k0_hw192 => k0_hw192.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .smem S8x392 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S49x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S106256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S49x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S53125x256 : Shape := ⟨2, ![53125, 256]⟩
abbrev S1000x392 : Shape := ⟨2, ![1000, 392]⟩
abbrev S1000x49x16 : Shape := ⟨3, ![1000, 49, 16]⟩
abbrev S1000x49x8x1 : Shape := ⟨4, ![1000, 49, 8, 1]⟩
abbrev S2 : Shape := ⟨1, ![2]⟩
abbrev S1x1x1x2 : Shape := ⟨4, ![1, 1, 1, 2]⟩
abbrev S1000x49x8x2 : Shape := ⟨4, ![1000, 49, 8, 2]⟩
abbrev S_ : Shape := ⟨0, ![]⟩
abbrev S1000x49x16x1 : Shape := ⟨4, ![1000, 49, 16, 1]⟩
abbrev S1000x49x16x256 : Shape := ⟨4, ![1000, 49, 16, 256]⟩
abbrev S1000x49x256 : Shape := ⟨3, ![1000, 49, 256]⟩
abbrev S49x1000x256 : Shape := ⟨3, ![49, 1000, 256]⟩
abbrev S49x1008x256 : Shape := ⟨3, ![49, 1008, 256]⟩

abbrev nBuf : Space → Nat
  | .hbm => 28
  | .vmem => 0
  | .smem => 0
  | _ => 0

abbrev bufTy : (tb : Table) → Fin (tcTables nBuf tb) → BufTy
  | .hbm, ⟨0, _⟩ => ⟨S53125x256, .f32⟩
  | .hbm, ⟨1, _⟩ => ⟨S1000x392, .i32⟩
  | .hbm, ⟨2, _⟩ => ⟨S1000x49x16, .f32⟩
  | .hbm, ⟨3, _⟩ => ⟨S1000x49x8x1, .i32⟩
  | .hbm, ⟨4, _⟩ => ⟨S2, .i32⟩
  | .hbm, ⟨5, _⟩ => ⟨S1x1x1x2, .i32⟩
  | .hbm, ⟨6, _⟩ => ⟨S1000x49x8x2, .i32⟩
  | .hbm, ⟨7, _⟩ => ⟨S1000x49x8x2, .i32⟩
  | .hbm, ⟨8, _⟩ => ⟨S1000x49x8x2, .i32⟩
  | .hbm, ⟨9, _⟩ => ⟨S1000x49x16, .i32⟩
  | .hbm, ⟨10, _⟩ => ⟨S_, .i32⟩
  | .hbm, ⟨11, _⟩ => ⟨S1000x49x16, .i32⟩
  | .hbm, ⟨12, _⟩ => ⟨S1000x49x16, .i1⟩
  | .hbm, ⟨13, _⟩ => ⟨S_, .i32⟩
  | .hbm, ⟨14, _⟩ => ⟨S1000x49x16, .i32⟩
  | .hbm, ⟨15, _⟩ => ⟨S1000x49x16, .i32⟩
  | .hbm, ⟨16, _⟩ => ⟨S1000x49x16, .i32⟩
  | .hbm, ⟨17, _⟩ => ⟨S1000x49x16x1, .i32⟩
  | .hbm, ⟨18, _⟩ => ⟨S1000x49x16x256, .f32⟩
  | .hbm, ⟨19, _⟩ => ⟨S1000x49x16x1, .f32⟩
  | .hbm, ⟨20, _⟩ => ⟨S1000x49x16x256, .f32⟩
  | .hbm, ⟨21, _⟩ => ⟨S1000x49x16x256, .f32⟩
  | .hbm, ⟨22, _⟩ => ⟨S_, .f32⟩
  | .hbm, ⟨23, _⟩ => ⟨S1000x49x256, .f32⟩
  | .hbm, ⟨24, _⟩ => ⟨S49x1000x256, .f32⟩
  | .hbm, ⟨25, _⟩ => ⟨S_, .i32⟩
  | .hbm, ⟨26, _⟩ => ⟨S_, .f32⟩
  | .hbm, ⟨27, _⟩ => ⟨S49x1008x256, .f32⟩
  | _, _ => ⟨S53125x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Block.lean ====
/-
  What one grid point of the fully connected call leaves in its buffers.

  The grid walks the 49 pooling bins.  The first point clears the accumulator and adds the first product, every later
  point adds one more product to it, and the last point also turns the finished accumulator into the head's block.
  Here the contents found by the generated runs are read back as the printed payloads of the whole blocks.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Head

open Cert.KernelIdeal Cert.KernelIdeal.Gen

variable {F : FTy → Type} [FloatOps F] [Named F]

/-- The load offsets of a two-axis block are all zero. -/
theorem zero2 : (![0, 0] : Fin 2 → Nat) = fun _ => 0 := funext fun a => by fin_cases a <;> rfl

/-- The load offsets of a three-axis block are all zero. -/
theorem zero3 : (![0, 0, 0] : Fin 3 → Nat) = fun _ => 0 := funext fun a => by fin_cases a <;> rfl

section Cases

variable (c : Dev nD) (i : grid0.Coords)
  (a1 : Memref sig .tc .vmem S1x1008x256 .f32) (h1 : a1.IsWhole) (a2 : Memref sig .tc .vmem S256x1024 .f32) (h2 : a2.IsWhole)
  (a3 : Memref sig .tc .vmem S1x1024 .f32) (h3 : a3.IsWhole) (a4 : Memref sig .tc .vmem S1024x1024 .f32) (h4 : a4.IsWhole)
  (a5 : Memref sig .tc .vmem S1x1024 .f32) (h5 : a5.IsWhole) (a6 : Memref sig .tc .vmem S1024x512 .f32) (h6 : a6.IsWhole)
  (a7 : Memref sig .tc .vmem S1x512 .f32) (h7 : a7.IsWhole) (a8 : Memref sig .tc .vmem S1008x512 .f32) (h8 : a8.IsWhole)
  (a9 : Memref sig .tc .vmem S1008x1024 .f32) (h9 : a9.IsWhole)
  (x0 : Vec F S1x1008x256 .f32) (x1 : Vec F S256x1024 .f32) (x2 : Vec F S1x1024 .f32) (x3 : Vec F S1024x1024 .f32)
  (x4 : Vec F S1x1024 .f32) (x5 : Vec F S1024x512 .f32) (x6 : Vec F S1x512 .f32) (xs : Vec F S1008x1024 .f32)

/-- The first point leaves the first product, added to the zero block, in the accumulator. -/
theorem acc_first (hc0 : cond0_0 i) (hc1 : ¬cond0_1 i) :
    sout0_A_0 c i a1 h1 a2 h2 a3 h3 a4 h4 a5 h5 a6 h6 a7 h7 a8 h8 a9 h9 hc0 hc1 x0 x1 x2 x3 x4 x5 x6
      = k0_pay2 k0_pay1 x0 x1 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5 x6)]
  unfold kernelRun0_A
  dsimp only
  sl_unfold_words
  rw [View.canon_cons_unit_zero (S := S1008x1024) zero2, View.readCov_unit_zero (S := S1008x1024) _ zero2]
  simp only [View.readAt_eq_ld, h1.read_unread, h2.read_unread, View.ld_unit_zero (S := S1x1008x256) zero3,
    View.ld_unit_zero (S := S256x1024) zero2]

/-- A middle point adds its product to what the accumulator held. -/
theorem acc_middle (hc0 : ¬cond0_0 i) (hc1 : ¬cond0_1 i) :
    sout0_B_0 c i a1 h1 a2 h2 a3 h3 a4 h4 a5 h5 a6 h6 a7 h7 a8 h8 a9 h9 hc0 hc1 x0 x1 x2 x3 x4 x5 x6 xs
      = k0_pay2 xs x0 x1 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 x6 xs)]
  unfold kernelRun0_B
  dsimp only
  sl_unfold_words
  rw [View.canon_unit_zero (S := S1008x1024) zero2]
  simp only [View.readAt_eq_ld, h1.read_unread, h2.read_unread, h9.read_unread, View.ld_unit_zero (S := S1x1008x256) zero3,
    View.ld_unit_zero (S := S256x1024) zero2, View.ld_unit_zero (S := S1008x1024) zero2]

/-- The last point adds its product and stores the head of the finished accumulator. -/
theorem out_last (hc0 : ¬cond0_0 i) (hc1 : cond0_1 i) :
    out0_C_7 c i a1 h1 a2 h2 a3 h3 a4 h4 a5 h5 a6 h6 a7 h7 a8 h8 a9 h9 hc0 hc1 x0 x1 x2 x3 x4 x5 x6 xs
      = k0_pay3 (k0_pay2 xs x0 x1) x2 x3 x4 x5 x6 := by
  unfold out0_C_7
  rw [View.read_writes_eq_canon _ _ _ (cover0_C_7 c i a1 h1 a2 h2 a3 h3 a4 h4 a5 h5 a6 h6 a7 h7 a8 h8 a9 h9 hc0 hc1 x0 x1 x2 x3 x4 x5 x6 xs)]
  unfold kernelRun0_C
  dsimp only
  sl_unfold_words
  rw [View.canon_unit_zero (S := S1008x512) zero2, View.readCov_unit_zero (S := S1008x1024) _ zero2]
  simp only [View.readAt_eq_ld, h1.read_unread, h2.read_unread, h3.read_unread, h4.read_unread, h5.read_unread, h6.read_unread,
    h7.read_unread, h9.read_unread, View.ld_unit_zero (S := S1x1008x256) zero3,
    View.ld_unit_zero (S := S256x1024) zero2, View.ld_unit_zero (S := S1008x1024) zero2, View.ld_unit_zero (S := S1x1024) zero2,
    View.ld_unit_zero (S := S1024x1024) zero2, View.ld_unit_zero (S := S1024x512) zero2, View.ld_unit_zero (S := S1x512) zero2]

end Cases

end Cert.KernelIdeal.Head
-- ==== Proof.Array.lean ====
/-
  What the fully connected call leaves in its result array.

  The accumulator after point `n` is the running sum of the products of the first `n + 1` bins (`running`); the one block
  written back, after the last point, is the head of the complete sum, and that block is the whole result array.
-/
module

public import proofs.«01_k».proof.Proof.Block
public import Idealize.ShloMosaic.Lib.StableHlo.Run
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Head

open Cert.KernelIdeal Cert.KernelIdeal.Gen

variable {F : FTy → Type} [FloatOps F] [Named F]
variable (m : (ℓ : Loc nD τ sig) → Buf (Elt F) ℓ) (ρ : Dev nD → PrngReg)

/-- The accumulator after point `n`: the products of the bins `0 … n`, added in order. -/
def running (c : Dev nD) : (n : ℕ) → n < cfg0.N → Vec F S1008x1024 .f32
  | 0, h => k0_pay2 k0_pay1 (iblk m c 0 ⟨0, h⟩) (iblk m c 1 ⟨0, h⟩)
  | n + 1, h => k0_pay2 (running c n (Nat.lt_of_succ_lt h)) (iblk m c 0 ⟨n + 1, h⟩) (iblk m c 1 ⟨n + 1, h⟩)

/-- The first point's accumulator. -/
theorem scratch_first (c : Dev nD) (t : Fin cfg0.N) (h0 : t.val % 49 = 0) (h1 : ¬t.val % 49 = 48) :
    (outsAt0 m c t.val t.isLt).2 = k0_pay2 k0_pay1 (iblk m c 0 t) (iblk m c 1 t) := by
  rw [outsAt0_A m c t h0 h1]
  dsimp only
  rw [acc_first]

/-- A middle point's accumulator, from the point before. -/
theorem scratch_middle (c : Dev nD) (t : Fin cfg0.N) (h0 : ¬t.val % 49 = 0) (h1 : ¬t.val % 49 = 48) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h0 h1]
  dsimp only
  rw [acc_middle]

/-- The last point's output, from the accumulator of the point before. -/
theorem staged_at (c : Dev nD) (t : Fin cfg0.N) (h0 : ¬t.val % 49 = 0) (h1 : t.val % 49 = 48) :
    (outsAt0 m c t.val t.isLt).1
      = k0_pay3 (k0_pay2 (outsAt0 m c (t.val - 1) (Nat.lt_of_le_of_lt (Nat.sub_le _ _) t.isLt)).2 (iblk m c 0 t) (iblk m c 1 t))
          (iblk m c 2 t) (iblk m c 3 t) (iblk m c 4 t) (iblk m c 5 t) (iblk m c 6 t) := by
  rw [outsAt0_C m c t h0 h1]
  dsimp only
  rw [out_last]

/-- Before the last point, the carried scratch is the running sum. -/
theorem scratch_eq (c : Dev nD) : ∀ (n : ℕ) (h : n < cfg0.N), n < 48 → (outsAt0 m c n h).2 = running m c n h
  | 0, h, _ => scratch_first m c ⟨0, h⟩ rfl (by dsimp only; omega)
  | n + 1, h, hn => by
    have h0 : ¬(⟨n + 1, h⟩ : Fin cfg0.N).val % 49 = 0 := by dsimp only; omega
    have h1 : ¬(⟨n + 1, h⟩ : Fin cfg0.N).val % 49 = 48 := by dsimp only; omega
    refine (scratch_middle m c ⟨n + 1, h⟩ h0 h1).trans ?_
    show k0_pay2 (outsAt0 m c n _).2 _ _ = k0_pay2 (running m c n _) _ _
    rw [scratch_eq c n _ (by omega)]

/-- The last grid point. -/
abbrev last : Fin cfg0.N := ⟨48, by rw [show cfg0.N = 49 from N_0]; decide⟩

/-- The result array: the head of the complete sum. -/
def result (c : Dev nD) : Vec F S1008x512 .f32 :=
  k0_pay3 (running m c 48 last.isLt) (iblk m c 2 last) (iblk m c 3 last) (iblk m c 4 last) (iblk m c 5 last) (iblk m c 6 last)

/-- The last point leaves it in the output's staging buffer. -/
theorem staged_last (c : Dev nD) : (outsAt0 m c 48 last.isLt).1 = result m c := by
  refine (staged_at m c last (by decide) (by decide)).trans ?_
  show k0_pay3 (k0_pay2 (outsAt0 m c 47 _).2 _ _) _ _ _ _ _ = _
  rw [scratch_eq m c 47 _ (by omega)]
  rfl

/-- The one write-back writes it: the block read at zero offsets is the array. -/
theorem flushed_eq (c : Dev nD) (t : Fin cfg0.N) (hf : (cfg0.win 7).flush t = true) :
    (dats m 0 c).flushed 7 t = ((cfg0.win 7).blk t).view.read (Elt F) (result m c) := by
  have hN : cfg0.N = 49 := N_0
  have h3 : t.val = 48 := by have := (flush0_7 t).mp hf; have := t.isLt; omega
  obtain rfl : t = last := Fin.ext h3
  show (cfg0.win 7).cut (grid0.coords last) ((dats m 0 c).after 7 last) = _
  rw [after0_7, staged_last]
  have hz' : (fun a => win0_7.index last a * main_v12.ty.shape.size a) = fun _ => 0 := funext fun a => by fin_cases a <;> decide
  exact (Memref.read_access_unit_zero (Elt F) main_v12 hz' (fun a => by rw [congrFun hz' a]; simp) (result m c)).symm

/-- The result array ends holding it. -/
theorem final (c : Dev nD) : (dats m 0 c).arrAt 7 cfg0.N = result m c :=
  (dats m 0 c).arrAt_eq_of_cover 7 (result m c) (flushed_eq m c) fun i =>
    ⟨last, (flush0_7 last).mpr rfl, by
      show i ∈ ((View.whole main_v12).slice (win0_7.rect last)).set
      rw [View.set_slice_whole, Rect.mem_set_unit]
      intro a
      have h0 : (i 0 : Nat) < 1008 := (i 0).isLt
      have h1 : (i 1 : Nat) < 512 := (i 1).isLt
      match a with
      | ⟨0, _⟩ => show win0_7.index last 0 * win0_7.size 0 ≤ (i 0 : Nat) ∧ (i 0 : Nat) < win0_7.index last 0 * win0_7.size 0 + win0_7.xsize (grid0.coords last) 0
                  rw [show win0_7.index last 0 * win0_7.size 0 = 0 from by decide +kernel, show win0_7.xsize (grid0.coords last) 0 = 1008 from by decide +kernel]; omega
      | ⟨1, _⟩ => show win0_7.index last 1 * win0_7.size 1 ≤ (i 1 : Nat) ∧ (i 1 : Nat) < win0_7.index last 1 * win0_7.size 1 + win0_7.xsize (grid0.coords last) 1
                  rw [show win0_7.index last 1 * win0_7.size 1 = 0 from by decide +kernel, show win0_7.xsize (grid0.coords last) 1 = 512 from by decide +kernel]; omega⟩

/-! ## The blocks, read in their arrays -/

/-- The grid has one axis: a point's coordinate is its number. -/
theorem coord0 (t : Fin cfg0.N) : (grid0.coords t 0).val = t.val := by
  have h : (grid0.coords t 0).val = t.val / 1 % 49 := Pipeline.Grid.coords_val t 0 (by decide) rfl
  rw [h, Nat.div_one]
  exact Nat.mod_eq_of_lt (Nat.lt_of_lt_of_eq t.isLt N_0)

/-- The bin number a point's index maps give. -/
theorem bin_index (t : Fin cfg0.N) : win0_0.index t 0 = t.val ∧ win0_1.index t 0 = t.val := by
  have h : (BitVec.ofNat 32 (grid0.coords t 0).val).toNat = t.val := by
    rw [coord0]
    have := Nat.lt_of_lt_of_eq t.isLt N_0
    rw [BitVec.toNat_ofNat, Nat.mod_eq_of_lt (by omega)]
  exact ⟨h, h⟩

/-- The pooled block of point `t` is bin `t` of the pooled array. -/
theorem block_pooled (c : Dev nD) (t : Fin cfg0.N) (r : Fin 1008) (k : Fin 256) :
    (iblk m c 0 t : Vec F S1x1008x256 .f32) (ix3 0 r k)
      = (m ((c : Thread nD τ).loc main_arg0) : Vec F S49x1008x256 .f32) (ix3 ⟨t.val, Nat.lt_of_lt_of_eq t.isLt N_0⟩ r k) := by
  rw [← V_main_arg0 m c]
  unfold iblk
  rw [View.read_apply]
  show V m c main_arg0 _ = V m c main_arg0 _
  congr 1
  funext a
  apply Fin.ext
  match a with
  | ⟨0, _⟩ => show win0_0.index t 0 * 1 + 1 * 0 = t.val; rw [(bin_index t).1]; omega
  | ⟨1, _⟩ => show 0 * 1008 + 1 * r.val = r.val; omega
  | ⟨2, _⟩ => show 0 * 256 + 1 * k.val = k.val; omega

/-- The weight block of point `t` is rows `256 t … 256 t + 255` of the laid-out weight. -/
theorem block_weight (c : Dev nD) (t : Fin cfg0.N) (k : Fin 256) (q : Fin 1024) :
    (iblk m c 1 t : Vec F S256x1024 .f32) (ix2 k q)
      = (V m c main_v2 : Vec F S12544x1024 .f32)
          (ix2 ⟨t.val * 256 + k.val, by have := Nat.lt_of_lt_of_eq t.isLt N_0; omega⟩ q) := by
  unfold iblk
  rw [View.read_apply]
  show V m c main_v2 _ = V m c main_v2 _
  congr 1
  funext a
  apply Fin.ext
  match a with
  | ⟨0, _⟩ => show win0_1.index t 0 * 256 + 1 * k.val = t.val * 256 + k.val; rw [(bin_index t).2]; omega
  | ⟨1, _⟩ => show 0 * 1024 + 1 * q.val = q.val; omega

/-- The first bias block is the whole row. -/
theorem block_b1 (c : Dev nD) (t : Fin cfg0.N) : (iblk m c 2 t : Vec F S1x1024 .f32) = V m c main_v10 := by
  funext j; unfold iblk; rw [View.read_apply]
  show V m c main_v10 _ = V m c main_v10 _
  congr 1; funext a; apply Fin.ext
  match a with
  | ⟨0, _⟩ => show 0 * 1 + 1 * (j 0).val = (j 0).val; omega
  | ⟨1, _⟩ => show 0 * 1024 + 1 * (j 1).val = (j 1).val; omega

/-- The second weight block is the whole array. -/
theorem block_w2 (c : Dev nD) (t : Fin cfg0.N) : (iblk m c 3 t : Vec F S1024x1024 .f32) = V m c main_arg4 := by
  funext j; unfold iblk; rw [View.read_apply]
  show V m c main_arg4 _ = V m c main_arg4 _
  congr 1; funext a; apply Fin.ext
  match a with
  | ⟨0, _⟩ => show 0 * 1024 + 1 * (j 0).val = (j 0).val; omega
  | ⟨1, _⟩ => show 0 * 1024 + 1 * (j 1).val = (j 1).val; omega

/-- The second bias block is the whole row. -/
theorem block_b2 (c : Dev nD) (t : Fin cfg0.N) : (iblk m c 4 t : Vec F S1x1024 .f32) = V m c main_v11 := by
  funext j; unfold iblk; rw [View.read_apply]
  show V m c main_v11 _ = V m c main_v11 _
  congr 1; funext a; apply Fin.ext
  match a with
  | ⟨0, _⟩ => show 0 * 1 + 1 * (j 0).val = (j 0).val; omega
  | ⟨1, _⟩ => show 0 * 1024 + 1 * (j 1).val = (j 1).val; omega

/-- The heads' weight block is the whole array. -/
theorem block_wh (c : Dev nD) (t : Fin cfg0.N) : (iblk m c 5 t : Vec F S1024x512 .f32) = V m c main_v5 := by
  funext j; unfold iblk; rw [View.read_apply]
  show V m c main_v5 _ = V m c main_v5 _
  congr 1; funext a; apply Fin.ext
  match a with
  | ⟨0, _⟩ => show 0 * 1024 + 1 * (j 0).val = (j 0).val; omega
  | ⟨1, _⟩ => show 0 * 512 + 1 * (j 1).val = (j 1).val; omega

/-- The heads' bias block is the whole row. -/
theorem block_bh (c : Dev nD) (t : Fin cfg0.N) : (iblk m c 6 t : Vec F S1x512 .f32) = V m c main_v9 := by
  funext j; unfold iblk; rw [View.read_apply]
  show V m c main_v9 _ = V m c main_v9 _
  congr 1; funext a; apply Fin.ext
  match a with
  | ⟨0, _⟩ => show 0 * 1 + 1 * (j 0).val = (j 0).val; omega
  | ⟨1, _⟩ => show 0 * 512 + 1 * (j 1).val = (j 1).val; omega

/-! ## The layout the host hands to the call -/

/-- The weight laid out by bin: the row-major split of its rows, transposed. -/
theorem V_weight (c : Dev nD) : (V m c main_v2 : Vec F S12544x1024 .f32)
    = shapeCast S12544x1024 (transpose S49x256x1024 [1, 0, 2] (shapeCast S256x49x1024 (m ((c : Thread nD τ).loc main_arg2))
        shapeCasts_S12544x1024_S256x49x1024) transposes_S256x49x1024_S49x256x1024_1_0_2) shapeCasts_S49x256x1024_S12544x1024 := by
  show StableHlo.after _ _ _ = _
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The first bias as a row. -/
theorem V_b1 (c : Dev nD) : (V m c main_v10 : Vec F S1x1024 .f32)
    = shapeCast S1x1024 (m ((c : Thread nD τ).loc main_arg3)) shapeCasts_S1024_S1x1024 := by
  show StableHlo.after _ _ _ = _
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The second bias as a row. -/
theorem V_b2 (c : Dev nD) : (V m c main_v11 : Vec F S1x1024 .f32)
    = shapeCast S1x1024 (m ((c : Thread nD τ).loc main_arg5)) shapeCasts_S1024_S1x1024 := by
  show StableHlo.after _ _ _ = _
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The heads' weights side by side: the class columns padded to 128, the box columns padded to 384. -/
theorem V_wh (c : Dev nD) : (V m c main_v5 : Vec F S1024x512 .f32)
    = concatenate S1024x512 1
        [⟨S1024x128, pad S1024x128 ![0, 0] ![0, 47] ![0, 0] (m ((c : Thread nD τ).loc main_arg6)) (sitofp .f32 (constantI S_ 32 0#32)) pads_S1024x81_S1024x128_000_0470 h_S_⟩,
         ⟨S1024x384, pad S1024x384 ![0, 0] ![0, 60] ![0, 0] (m ((c : Thread nD τ).loc main_arg8)) (sitofp .f32 (constantI S_ 32 0#32)) pads_S1024x324_S1024x384_000_0600 h_S_⟩]
        concatenates_S1024x128_S1024x384_S1024x512_d1 := by
  show StableHlo.after _ _ _ = _
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The heads' biases side by side, as a row. -/
theorem V_bh (c : Dev nD) : (V m c main_v9 : Vec F S1x512 .f32)
    = shapeCast S1x512 (concatenate S512 0
        [⟨S128, pad S128 ![0] ![47] ![0] (m ((c : Thread nD τ).loc main_arg7)) (sitofp .f32 (constantI S_ 32 0#32)) pads_S81_S128_0470 h_S_⟩,
         ⟨S384, pad S384 ![0] ![60] ![0] (m ((c : Thread nD τ).loc main_arg9)) (sitofp .f32 (constantI S_ 32 0#32)) pads_S324_S384_0600 h_S_⟩]
        concatenates_S128_S384_S512_d0) shapeCasts_S512_S1x512 := by
  show StableHlo.after _ _ _ = _
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-! ## The results after the call -/

/-- The valuation at which the lines after the call start reads the call's array as `result`. -/
theorem exit_result (c : Dev nD) :
    Pipeline.withArrays (cfgs 0).spec c (V0 m c) (fun w => (dats m 0 c).arrAt w (cfgs 0).N) (Proc.devRef .tc main_v12) = result m c :=
  (Pipeline.withArrays_arr spec0 launch0.win.arr_inj c (V0 m c) (fun w => (dats m 0 c).arrAt w (cfgs 0).N) 7).trans (final m c)

/-- The class probabilities: the first 81 columns of the first 1000 rows. -/
theorem tail_cls (c : Dev nD) : Pipeline.afterTail₀ cfgs (dats m) 0 (V0 m) [hostOps1] c main_v14
    = shapeCast S1x1000x81 (extractStridedSlice S1000x81 ![0, 0] (result m c) slices_S1008x512_S1000x81_0_0) shapeCasts_S1000x81_S1x1000x81 := by
  rw [← exit_result]
  unfold Pipeline.afterTail₀
  simp only [hostOps1, List.flatten_cons, List.flatten_nil, List.append_nil, List.cons_append, List.nil_append]
  after_results_simp
  rfl

/-- The box corrections: the 324 columns from column 128 on. -/
theorem tail_loc (c : Dev nD) : Pipeline.afterTail₀ cfgs (dats m) 0 (V0 m) [hostOps1] c main_v16
    = shapeCast S1x1000x324 (extractStridedSlice S1000x324 ![0, 128] (result m c) slices_S1008x512_S1000x324_0_128) shapeCasts_S1000x324_S1x1000x324 := by
  rw [← exit_result]
  unfold Pipeline.afterTail₀
  simp only [hostOps1, List.flatten_cons, List.flatten_nil, List.append_nil, List.cons_append, List.nil_append]
  after_results_simp
  rfl

/-- The boxes, with a leading axis of one. -/
theorem tail_rois (c : Dev nD) : Pipeline.afterTail₀ cfgs (dats m) 0 (V0 m) [hostOps1] c main_v17
    = shapeCast S1x1000x5 (m ((c : Thread nD τ).loc main_arg1)) shapeCasts_S1000x5_S1x1000x5 := by
  have e := (Pipeline.withArrays_of_ne spec0 c (V0 m c) (fun w => (dats m 0 c).arrAt w (cfgs 0).N) main_arg1
    (by exact (by decide : ∀ w, Pipeline.arrRef spec0 w ≠ main_arg1))).trans (V_main_arg1 m c)
  rw [← e]
  unfold Pipeline.afterTail₀
  simp only [hostOps1, List.flatten_cons, List.flatten_nil, List.append_nil, List.cons_append, List.nil_append]
  after_results_simp
  rfl

/-- The run, read: the three results, and the ten arguments unchanged. -/
theorem run : θ_run defs (onTc (τ := τ) (main (F := F))) ⟨m, fun _ => 0, ρ⟩ fun r => ∀ c : Dev nD,
      r.2.mem ((c.tc : Thread nD τ).loc main_v17) = shapeCast S1x1000x5 (m ((c : Thread nD τ).loc main_arg1)) shapeCasts_S1000x5_S1x1000x5
      ∧ r.2.mem ((c.tc : Thread nD τ).loc main_v14)
          = shapeCast S1x1000x81 (extractStridedSlice S1000x81 ![0, 0] (result m c) slices_S1008x512_S1000x81_0_0) shapeCasts_S1000x81_S1x1000x81
      ∧ r.2.mem ((c.tc : Thread nD τ).loc main_v16)
          = shapeCast S1x1000x324 (extractStridedSlice S1000x324 ![0, 128] (result m c) slices_S1008x512_S1000x324_0_128) shapeCasts_S1000x324_S1x1000x324 :=
  (θ_run defs _ _).mono (fun _ h c =>
      ⟨((h c).2 main_v17 (Pipeline.mem_restRefs_of main_v17 (by decide) (by decide))).trans (tail_rois m c),
       ((h c).2 main_v14 (Pipeline.mem_restRefs_of main_v14 (by decide) (by decide))).trans (tail_cls m c),
       ((h c).2 main_v16 (Pipeline.mem_restRefs_of main_v16 (by decide) (by decide))).trans (tail_loc m c)⟩)
    (run_main m ρ)

end Cert.KernelIdeal.Head
-- ==== Proof.Spec.lean ====
/-
  The mathematics of the box head, over the extended reals: dense layers, the rectifier, the softmax, and the two facts
  about sums and masks that the tiled program needs.
-/
module

public import Idealize.ShloMosaic.Lib.Pointwise

@[expose] public section

noncomputable section

open Idealize.ShloMosaic

namespace Cert.Spec

/-- One row of a dense layer: `x · w + b`. -/
def dense {k p : ℕ} (x : Fin k → EReal) (w : Fin k → Fin p → EReal) (b : Fin p → EReal) (q : Fin p) : EReal :=
  ∑ i, x i * w i q + b q

/-- One row of a dense layer behind the rectifier. -/
def denseRelu {k p : ℕ} (x : Fin k → EReal) (w : Fin k → Fin p → EReal) (b : Fin p → EReal) (q : Fin p) : EReal :=
  max (dense x w b q) 0

/-- The largest entry of a row (`⊥` of an empty one). -/
def rowMax {n : ℕ} (x : Fin n → EReal) : EReal := Finset.univ.fold max ⊥ x

/-- The softmax of a row, the largest entry subtracted first. -/
def softmax {n : ℕ} (x : Fin n → EReal) (l : Fin n) : EReal :=
  Ideal.div (Ideal.exp (x l - rowMax x)) (∑ k, Ideal.exp (x k - rowMax x))

/-- A box's pooled features in one row: channel by channel, the 49 bins of each. -/
def features (P : Fin 49 → Fin 256 → EReal) (i : Fin 12544) : EReal :=
  P ⟨i.val % 49, Nat.mod_lt _ (by decide)⟩ ⟨i.val / 49, by omega⟩

/-- A row of `n` entries among `N` lanes, the other lanes at `⊥`. -/
def masked {n : ℕ} (N : ℕ) (x : Fin n → EReal) (l : Fin N) : EReal := if h : l.val < n then x ⟨l.val, h⟩ else ⊥

/-- Summing by bins and then by channels is summing over the features in their own order. -/
theorem sum_bins (f : Fin 12544 → EReal) :
    ∑ t : Fin 49, ∑ k : Fin 256, f ⟨k.val * 49 + t.val, by omega⟩ = ∑ i, f i := by
  rw [Finset.sum_comm, ← Fintype.sum_prod_type', ← Equiv.sum_comp (finProdFinEquiv (m := 256) (n := 49))]
  refine Finset.sum_congr rfl fun p _ => congrArg f (Fin.ext ?_)
  show p.1.val * 49 + p.2.val = p.2.val + 49 * p.1.val
  omega

/-- The bins' products, summed bin by bin, are the product of the whole row of features. -/
theorem sum_features (P : Fin 49 → Fin 256 → EReal) (w : Fin 12544 → EReal) :
    ∑ t : Fin 49, ∑ k : Fin 256, P t k * w ⟨k.val * 49 + t.val, by omega⟩ = ∑ i, features P i * w i := by
  rw [← sum_bins]
  refine Finset.sum_congr rfl fun t _ => Finset.sum_congr rfl fun k _ => ?_
  have e1 : (⟨(k.val * 49 + t.val) % 49, Nat.mod_lt _ (by decide)⟩ : Fin 49) = t := Fin.ext (by dsimp only; omega)
  have e2 : (⟨(k.val * 49 + t.val) / 49, by omega⟩ : Fin 256) = k := Fin.ext (by dsimp only; omega)
  unfold features
  dsimp only
  rw [e1, e2]

/-- The largest entry of a row is its supremum. -/
theorem rowMax_eq_sup {n : ℕ} (x : Fin n → EReal) : rowMax x = Finset.univ.sup x := rfl

/-- Lanes at `⊥` do not change the largest entry. -/
theorem rowMax_masked {n N : ℕ} (h : n ≤ N) (x : Fin n → EReal) : rowMax (masked N x) = rowMax x := by
  rw [rowMax_eq_sup, rowMax_eq_sup]
  apply le_antisymm
  · refine Finset.sup_le fun l _ => ?_
    unfold masked
    split
    · exact Finset.le_sup (f := x) (Finset.mem_univ _)
    · exact bot_le
  · refine Finset.sup_le fun l _ => ?_
    have e : x l = masked N x ⟨l.val, by omega⟩ := by unfold masked; rw [dif_pos l.isLt]
    rw [e]
    exact Finset.le_sup (f := masked N x) (Finset.mem_univ _)

/-- Lanes at `⊥` add nothing to the sum of exponentials. -/
theorem sum_masked {n N : ℕ} (h : n ≤ N) (x : Fin n → EReal) (a : EReal) :
    ∑ k, Ideal.exp (masked N x k - a) = ∑ k, Ideal.exp (x k - a) := by
  obtain ⟨d, rfl⟩ := Nat.exists_eq_add_of_le h
  rw [Fin.sum_univ_add, Finset.sum_eq_zero (f := fun i => Ideal.exp (masked (n + d) x (Fin.natAdd n i) - a)), add_zero]
  · refine Finset.sum_congr rfl fun k _ => ?_
    unfold masked
    rw [dif_pos (show (Fin.castAdd d k).val < n from k.isLt)]
    rfl
  · intro k _
    unfold masked
    rw [dif_neg (by simp), EReal.bot_sub, Ideal.exp_bot]

/-- The softmax of a row with masked lanes is, on the row's own lanes, the softmax of the row. -/
theorem softmax_masked {n N : ℕ} (h : n ≤ N) (x : Fin n → EReal) (l : Fin n) :
    softmax (masked N x) ⟨l.val, by omega⟩ = softmax x l := by
  unfold softmax
  rw [rowMax_masked h, sum_masked h]
  have e : masked N x ⟨l.val, by omega⟩ = x l := by unfold masked; rw [dif_pos l.isLt]
  rw [e]

/-- The word `0xFF800000` is minus infinity. -/
theorem ofBits_bot : Ideal.ofBits .f32 0xFF800000#32 = (⊥ : EReal) := by
  simp [Ideal.ofBits, Ideal.ieee]

end Cert.Spec
-- ==== Proof.HeadValue.lean ====
/-
  The fully connected call at the idealization, entry by entry: the accumulator is the first layer's product, and the
  stored block holds the softmax of the class logits in its first 81 lanes and the box corrections from lane 128 on.
-/
module

public import proofs.«01_k».proof.Proof.Array
public import proofs.«01_k».proof.Proof.Spec

@[expose] public section

set_option maxRecDepth 8192

noncomputable section

open Idealize.ShloMosaic Idealize.ShloMosaic.TcCoe Idealize.SL.Sem

namespace Cert.KernelIdeal.Head

open Cert.KernelIdeal Cert.KernelIdeal.Gen Cert.Spec

/-- One point's accumulator, entry by entry. -/
theorem product_apply (acc : Vec Ideal S1008x1024 .f32) (x : Vec Ideal S1x1008x256 .f32) (w : Vec Ideal S256x1024 .f32)
    (r : Fin 1008) (q : Fin 1024) :
    k0_pay2 acc x w (ix2 r q) = acc (ix2 r q) + ∑ k : Fin 256, x (ix3 0 r k) * w (ix2 k q) := by
  pointwise [k0_pay2]

/-- The cleared accumulator. -/
theorem cleared_apply (r : Fin 1008) (q : Fin 1024) : (k0_pay1 (F := Ideal) : FVec Ideal S1008x1024 .f32) (ix2 r q) = 0 := by
  pointwise [k0_pay1]

/-- The laid-out weight: row `256 t + k` is row `49 k + t` of the given one. -/
theorem layout_apply (w : Vec Ideal S12544x1024 .f32) (t : Fin 49) (k : Fin 256) (q : Fin 1024) (h : t.val * 256 + k.val < 12544) :
    shapeCast S12544x1024 (transpose S49x256x1024 [1, 0, 2] (shapeCast S256x49x1024 w
        shapeCasts_S12544x1024_S256x49x1024) transposes_S256x49x1024_S49x256x1024_1_0_2) shapeCasts_S49x256x1024_S12544x1024
        (ix2 ⟨t.val * 256 + k.val, h⟩ q)
      = w (ix2 ⟨k.val * 49 + t.val, by omega⟩ q) := by
  pointwise

section Sum

variable (m : (ℓ : Loc nD τ sig) → Buf (Elt Ideal) ℓ) (c : Dev nD)

/-- Row `r` of the pooled array, by bin and channel. -/
def pooledRow (r : Fin 1008) (t : Fin 49) (k : Fin 256) : EReal :=
  (m ((c : Thread nD τ).loc main_arg0) : Vec Ideal S49x1008x256 .f32) (ix3 t r k)

/-- The first layer's weight. -/
def weight1 (i : Fin 12544) (q : Fin 1024) : EReal :=
  (m ((c : Thread nD τ).loc main_arg2) : Vec Ideal S12544x1024 .f32) (ix2 i q)

/-- What point `t` adds to the accumulator. -/
def binProduct (r : Fin 1008) (q : Fin 1024) (t : ℕ) : EReal :=
  if h : t < 49 then ∑ k : Fin 256, pooledRow m c r ⟨t, h⟩ k * weight1 m c ⟨k.val * 49 + t, by omega⟩ q else 0

/-- A point's step in the arrays' own order. -/
theorem step_apply (t : Fin cfg0.N) (acc : Vec Ideal S1008x1024 .f32) (r : Fin 1008) (q : Fin 1024) :
    k0_pay2 acc (iblk m c 0 t) (iblk m c 1 t) (ix2 r q) = acc (ix2 r q) + binProduct m c r q t.val := by
  have ht : t.val < 49 := Nat.lt_of_lt_of_eq t.isLt N_0
  refine (product_apply acc (iblk m c 0 t) (iblk m c 1 t) r q).trans (congrArg (acc (ix2 r q) + ·) ?_)
  unfold binProduct
  rw [dif_pos ht]
  refine Finset.sum_congr rfl fun k _ => ?_
  exact congrArg₂ (fun a b : EReal => a * b) (block_pooled m c t r k)
    ((block_weight m c t k q).trans ((congrFun (V_weight m c) _).trans (layout_apply _ ⟨t.val, ht⟩ k q _)))

/-- The running sum after point `n`, entry by entry. -/
theorem running_apply (r : Fin 1008) (q : Fin 1024) : ∀ (n : ℕ) (h : n < cfg0.N),
    running m c n h (ix2 r q) = ∑ t ∈ Finset.range (n + 1), binProduct m c r q t
  | 0, h => by
    rw [running, step_apply, cleared_apply, zero_add, Finset.sum_range_one]
  | n + 1, h => by
    rw [running, step_apply, running_apply r q n, Finset.sum_range_succ _ (n + 1)]

/-- The complete sum is the product of the box's features with the weight. -/
theorem complete_apply (r : Fin 1008) (q : Fin 1024) (h : 48 < cfg0.N) :
    running m c 48 h (ix2 r q) = ∑ i, features (pooledRow m c r) i * weight1 m c i q := by
  rw [running_apply, Finset.sum_range, ← sum_features (pooledRow m c r) (fun i => weight1 m c i q)]
  refine Finset.sum_congr rfl fun t _ => ?_
  unfold binProduct
  rw [dif_pos t.isLt]

end Sum

section Store

variable (acc : Vec Ideal S1008x1024 .f32) (b1 : Vec Ideal S1x1024 .f32) (w2 : Vec Ideal S1024x1024 .f32)
  (b2 : Vec Ideal S1x1024 .f32) (wh : Vec Ideal S1024x512 .f32) (bh : Vec Ideal S1x512 .f32)

/-- The second hidden layer of row `r`, from the accumulator. -/
def hidden2 (r : Fin 1008) : Fin 1024 → EReal :=
  denseRelu (fun q => max (acc (ix2 r q) + b1 (ix2 0 q)) 0) (fun p q => w2 (ix2 p q)) (fun q => b2 (ix2 0 q))

/-- Whether a lane is one of the first 81. -/
theorem lane_select {α : Type} (l : Fin 128) (a b : α) :
    Scalar.select (IntOp.cmpi .slt (BitVec.ofNat 32 l.val) 81#32) a b = if l.val < 81 then a else b := by
  have h : ∀ l : Fin 128, (IntOp.cmpi .slt (BitVec.ofNat 32 l.val) 81#32 = 1) ↔ l.val < 81 := by decide +kernel
  unfold Scalar.select
  by_cases hl : l.val < 81
  · rw [if_pos hl, if_pos ((h l).mpr hl)]
  · rw [if_neg hl, if_neg (fun e => hl ((h l).mp e))]

/-- The mask is minus infinity. -/
theorem mask_eq : Named.named (F := Ideal) (φ := .f32) κ "mask" 0xF149F2CA#32 = (⊥ : EReal) :=
  (IdealRules.named_const.statement κ "mask" .f32 0xF149F2CA#32 ⊥ rfl).2.2

/-- The lanes below 128 hold the softmax of the first 81 logits, the other lanes masked. -/
theorem stored_cls (r : Fin 1008) (l : Fin 81) :
    k0_pay3 acc b1 w2 b2 wh bh (ix2 r ⟨l.val, by omega⟩)
      = softmax (dense (hidden2 acc b1 w2 b2 r) (fun p (l : Fin 81) => wh (ix2 p ⟨l.val, by omega⟩)) (fun l => bh (ix2 0 ⟨l.val, by omega⟩))) l := by
  rw [← softmax_masked (N := 128) (by omega)]
  pointwise [k0_pay3]
  rw [dif_pos (show l.val < 128 by omega)]
  have e (x : Fin 128) : Scalar.select (IntOp.cmpi .slt (BitVec.ofNat 32 x.val) 81#32)
      (∑ p, max (∑ q, max (acc (ix2 r q) + b1 (ix2 0 q)) 0 * w2 (ix2 q p) + b2 (ix2 0 p)) 0 * wh (ix2 p ⟨x.val, by omega⟩)
        + bh (ix2 0 ⟨x.val, by omega⟩)) (Named.named (F := Ideal) (φ := .f32) κ "mask" 0xF149F2CA#32 : EReal)
      = masked 128 (dense (hidden2 acc b1 w2 b2 r) (fun p (l : Fin 81) => wh (ix2 p ⟨l.val, by omega⟩)) (fun l => bh (ix2 0 ⟨l.val, by omega⟩))) x := by
    rw [lane_select, mask_eq]
    unfold masked
    by_cases hx : x.val < 81
    · rw [if_pos hx, dif_pos hx]; rfl
    · rw [if_neg hx, dif_neg hx]
  rw [ofBits_bot]
  simp only [e]
  rw [e ⟨l.val, by omega⟩]
  rfl

/-- The lanes from 128 on hold the plain outputs. -/
theorem stored_loc (r : Fin 1008) (l : Fin 324) :
    k0_pay3 acc b1 w2 b2 wh bh (ix2 r ⟨l.val + 128, by omega⟩)
      = dense (hidden2 acc b1 w2 b2 r) (fun p (l : Fin 324) => wh (ix2 p ⟨l.val + 128, by omega⟩)) (fun l => bh (ix2 0 ⟨l.val + 128, by omega⟩)) l := by
  have e : (⟨128 + (l.val + 128 - 128), by omega⟩ : Fin 512) = ⟨l.val + 128, by omega⟩ := Fin.ext (by dsimp only; omega)
  pointwise [k0_pay3]
  rw [dif_neg (by omega)]
  simp only [e]
  rfl

end Store

end Cert.KernelIdeal.Head
-- ==== Proof.Layout.lean ====
/-
  The layout the host hands to the call, entry by entry: the biases as rows, and the two heads side by side, the class
  columns from lane 0 and the box columns from lane 128.
-/
module

public import proofs.«01_k».proof.Proof.HeadValue

@[expose] public section

set_option maxRecDepth 8192

noncomputable section

open Idealize.ShloMosaic Idealize.ShloMosaic.TcCoe Idealize.SL.Sem

namespace Cert.KernelIdeal.Head

open Cert.KernelIdeal Cert.KernelIdeal.Gen Cert.Spec

/-- A bias as a row. -/
theorem row_apply (b : FVec Ideal S1024 .f32) (q : Fin 1024) : shapeCast S1x1024 b shapeCasts_S1024_S1x1024 (ix2 0 q) = b (ix1 q) := by
  pointwise []

section Heads

variable (wc : FVec Ideal S1024x81 .f32) (wl : FVec Ideal S1024x324 .f32) (bc : FVec Ideal S81 .f32) (bl : FVec Ideal S324 .f32)
  (z : FVec Ideal S_ .f32)

/-- The two heads' weights, side by side. -/
def headWeight : FVec Ideal S1024x512 .f32 :=
  concatenate S1024x512 1
    [⟨S1024x128, pad S1024x128 ![0, 0] ![0, 47] ![0, 0] wc z pads_S1024x81_S1024x128_000_0470 h_S_⟩,
     ⟨S1024x384, pad S1024x384 ![0, 0] ![0, 60] ![0, 0] wl z pads_S1024x324_S1024x384_000_0600 h_S_⟩]
    concatenates_S1024x128_S1024x384_S1024x512_d1

/-- The two heads' biases, side by side in a row. -/
def headBias : FVec Ideal S1x512 .f32 :=
  shapeCast S1x512 (concatenate S512 0
    [⟨S128, pad S128 ![0] ![47] ![0] bc z pads_S81_S128_0470 h_S_⟩, ⟨S384, pad S384 ![0] ![60] ![0] bl z pads_S324_S384_0600 h_S_⟩]
    concatenates_S128_S384_S512_d0) shapeCasts_S512_S1x512

/-- The first 81 lanes are the class columns. -/
theorem headWeight_cls (p : Fin 1024) (l : Fin 81) : headWeight wc wl z (ix2 p ⟨l.val, by omega⟩) = wc (ix2 p l) := by
  pointwise [headWeight]
  rw [dif_pos (show l.val < 128 by omega)]

/-- The lanes from 128 on are the box columns. -/
theorem headWeight_loc (p : Fin 1024) (l : Fin 324) : headWeight wc wl z (ix2 p ⟨l.val + 128, by omega⟩) = wl (ix2 p l) := by
  pointwise [headWeight]
  have e : (⟨l.val + 128 - 128, by omega⟩ : Fin 324) = l := Fin.ext (by dsimp only; omega)
  rw [dif_neg (by omega), dif_pos (by omega), e]

/-- The first 81 lanes are the class biases. -/
theorem headBias_cls (l : Fin 81) : headBias bc bl z (ix2 0 ⟨l.val, by omega⟩) = bc (ix1 l) := by
  pointwise [headBias]
  rw [dif_pos (show l.val < 128 by omega)]

/-- The lanes from 128 on are the box biases. -/
theorem headBias_loc (l : Fin 324) : headBias bc bl z (ix2 0 ⟨l.val + 128, by omega⟩) = bl (ix1 l) := by
  pointwise [headBias]
  have e : (⟨l.val + 128 - 128, by omega⟩ : Fin 324) = l := Fin.ext (by dsimp only; omega)
  rw [dif_neg (by omega), dif_pos (by omega), e]

end Heads

end Cert.KernelIdeal.Head
-- ==== Proof.RefValue.lean ====
/-
  The reference, entry by entry: two dense layers behind the rectifier, then the softmax of the class logits and the box
  corrections.
-/
module

public import proofs.«01_k».proof.Proof.Gen.ReferenceIdeal.Run
public import proofs.«01_k».proof.Proof.Spec

@[expose] public section

set_option maxRecDepth 8192

noncomputable section

open Idealize.ShloMosaic Idealize.ShloMosaic.TcCoe Idealize.SL.Sem

namespace Cert.ReferenceIdeal.Head

open Cert.ReferenceIdeal Cert.ReferenceIdeal.Gen Cert.ReferenceIdeal.Value Cert.Spec

section Layers

variable (P : FVec Ideal S49x1008x256 .f32) (w1 : FVec Ideal S12544x1024 .f32) (b1 : FVec Ideal S1024 .f32)
  (w2 : FVec Ideal S1024x1024 .f32) (b2 : FVec Ideal S1024 .f32) (wc : FVec Ideal S1024x81 .f32) (bc : FVec Ideal S81 .f32)
  (wl : FVec Ideal S1024x324 .f32) (bl : FVec Ideal S324 .f32)

/-- The first hidden layer, as the program composes it. -/
def layer1 : FVec Ideal S1000x1024 .f32 :=
  maximumf (addf (Host.dotGeneral dot_S1000x12544_S12544x1024_S1000x1024_1_0_0_1_n_n none
      (shapeCast S1000x12544 (transpose S1000x256x49 [1, 2, 0] (extractStridedSlice S49x1000x256 ![0, 0, 0] P slices_S49x1008x256_S49x1000x256_0_0_0)
        transposes_S49x1000x256_S1000x256x49_1_2_0) shapeCasts_S1000x256x49_S1000x12544) w1)
      (broadcastInDim S1000x1024 ![0, 1] bcast_S1x1024_S1000x1024_0_1 (broadcastInDim S1x1024 ![1] bcast_S1024_S1x1024_1 b1)))
    (broadcastInDim S1000x1024 ![] bcast_S_S1000x1024 (constant S_ .f32 0x00000000#32))

/-- The second hidden layer, as the program composes it, from the first. -/
def layer2 (h : FVec Ideal S1000x1024 .f32) : FVec Ideal S1000x1024 .f32 :=
  maximumf (addf (Host.dotGeneral dot_S1000x1024_S1024x1024_S1000x1024_1_0_0_1_n_n none h w2)
      (broadcastInDim S1000x1024 ![0, 1] bcast_S1x1024_S1000x1024_0_1 (broadcastInDim S1x1024 ![1] bcast_S1024_S1x1024_1 b2)))
    (broadcastInDim S1000x1024 ![] bcast_S_S1000x1024 (constant S_ .f32 0x00000000#32))

/-- The class logits. -/
def logits (h : FVec Ideal S1000x1024 .f32) : FVec Ideal S1000x81 .f32 :=
  addf (Host.dotGeneral dot_S1000x1024_S1024x81_S1000x81_1_0_0_1_n_n none h wc)
    (broadcastInDim S1000x81 ![0, 1] bcast_S1x81_S1000x81_0_1 (broadcastInDim S1x81 ![1] bcast_S81_S1x81_1 bc))

/-- The box corrections. -/
def boxes (h : FVec Ideal S1000x1024 .f32) : FVec Ideal S1000x324 .f32 :=
  addf (Host.dotGeneral dot_S1000x1024_S1024x324_S1000x324_1_0_0_1_n_n none h wl)
    (broadcastInDim S1000x324 ![0, 1] bcast_S1x324_S1000x324_0_1 (broadcastInDim S1x324 ![1] bcast_S324_S1x324_1 bl))

/-- The exponentials of the logits, the row's largest subtracted. -/
def exps (x : FVec Ideal S1000x81 .f32) : FVec Ideal S1000x81 .f32 :=
  Host.exp (subf x (broadcastInDim S1000x81 ![0, 1] bcast_S1000x1_S1000x81_0_1 (broadcastInDim S1000x1 ![0] bcast_S1000_S1000x1_0
    (maximumf (broadcastInDim S1000 ![] bcast_S_S1000 (constant S_ .f32 0xFF800000#32))
      (Host.reduce FloatOps.maximumf x (constant S_ .f32 0xFF800000#32) reducesTo_S1000x81_S1000_d1 h_S_)))))

/-- The softmax, as the program composes it. -/
def probs (x : FVec Ideal S1000x81 .f32) : FVec Ideal S1000x81 .f32 :=
  Host.divf (exps x) (broadcastInDim S1000x81 ![0, 1] bcast_S1000x1_S1000x81_0_1 (broadcastInDim S1000x1 ![0] bcast_S1000_S1000x1_0
    (Host.reduceAdd (exps x) (constant S_ .f32 0x00000000#32) reducesTo_S1000x81_S1000_d1 h_S_)))

/-- The first hidden layer of a box is the dense layer of its features. -/
theorem layer1_apply (r : Fin 1000) (q : Fin 1024) :
    layer1 P w1 b1 (ix2 r q)
      = denseRelu (features fun t k => P (ix3 t ⟨r.val, by omega⟩ k)) (fun i q => w1 (ix2 i q)) (fun q => b1 (ix1 q)) q := by
  pointwise [layer1]
  rfl

/-- The second hidden layer of a box. -/
theorem layer2_apply (h : FVec Ideal S1000x1024 .f32) (r : Fin 1000) (q : Fin 1024) :
    layer2 w2 b2 h (ix2 r q) = denseRelu (fun i => h (ix2 r i)) (fun i q => w2 (ix2 i q)) (fun q => b2 (ix1 q)) q := by
  pointwise [layer2]
  rfl

/-- The class logits of a box. -/
theorem logits_apply (h : FVec Ideal S1000x1024 .f32) (r : Fin 1000) (l : Fin 81) :
    logits wc bc h (ix2 r l) = dense (fun i => h (ix2 r i)) (fun i q => wc (ix2 i q)) (fun q => bc (ix1 q)) l := by
  pointwise [logits]
  rfl

/-- The box corrections of a box. -/
theorem boxes_apply (h : FVec Ideal S1000x1024 .f32) (r : Fin 1000) (l : Fin 324) :
    boxes wl bl h (ix2 r l) = dense (fun i => h (ix2 r i)) (fun i q => wl (ix2 i q)) (fun q => bl (ix1 q)) l := by
  pointwise [boxes]
  rfl

/-- The exponentials of a box's logits. -/
theorem exps_apply (x : FVec Ideal S1000x81 .f32) (r : Fin 1000) (l : Fin 81) :
    exps x (ix2 r l) = Ideal.exp (x (ix2 r l) - rowMax fun l => x (ix2 r l)) := by
  pointwise [exps]
  rw [ofBits_bot, max_eq_right bot_le]
  rfl

/-- The softmax of a box's logits. -/
theorem probs_apply (x : FVec Ideal S1000x81 .f32) (r : Fin 1000) (l : Fin 81) :
    probs x (ix2 r l) = softmax (fun l => x (ix2 r l)) l := by
  pointwise [probs]
  simp only [exps_apply]
  rfl

end Layers

/-- What the reference computes from its arguments for a box: the second hidden layer. -/
def hidden (P : FVec Ideal S49x1008x256 .f32) (w1 : FVec Ideal S12544x1024 .f32) (b1 : FVec Ideal S1024 .f32)
    (w2 : FVec Ideal S1024x1024 .f32) (b2 : FVec Ideal S1024 .f32) (r : Fin 1000) : Fin 1024 → EReal :=
  denseRelu (denseRelu (features fun t k => P (ix3 t ⟨r.val, by omega⟩ k)) (fun i q => w1 (ix2 i q)) (fun q => b1 (ix1 q)))
    (fun i q => w2 (ix2 i q)) (fun q => b2 (ix1 q))

/-- The two layers of the program at a box are `hidden`. -/
theorem layers_apply (P : FVec Ideal S49x1008x256 .f32) (w1 : FVec Ideal S12544x1024 .f32) (b1 : FVec Ideal S1024 .f32)
    (w2 : FVec Ideal S1024x1024 .f32) (b2 : FVec Ideal S1024 .f32) (r : Fin 1000) (q : Fin 1024) :
    layer2 w2 b2 (layer1 P w1 b1) (ix2 r q) = hidden P w1 b1 w2 b2 r q := by
  rw [layer2_apply]
  simp only [layer1_apply]
  rfl

section Run

variable (m : (ℓ : Loc nD τ sig) → Buf (Elt Ideal) ℓ) (ρ : Dev nD → PrngReg) (c : Dev nD)

/-- The second hidden layer, from the arguments. -/
def layers : FVec Ideal S1000x1024 .f32 :=
  layer2 (m ((c.tc : Thread nD τ).loc main_arg4)) (m ((c.tc : Thread nD τ).loc main_arg5))
    (layer1 (m ((c.tc : Thread nD τ).loc main_arg0)) (m ((c.tc : Thread nD τ).loc main_arg2)) (m ((c.tc : Thread nD τ).loc main_arg3)))

/-- The class probabilities, from the arguments. -/
def refCls : FVec Ideal S1000x81 .f32 :=
  probs (logits (m ((c.tc : Thread nD τ).loc main_arg6)) (m ((c.tc : Thread nD τ).loc main_arg7)) (layers m c))

/-- The box corrections, from the arguments. -/
def refLoc : FVec Ideal S1000x324 .f32 :=
  boxes (m ((c.tc : Thread nD τ).loc main_arg8)) (m ((c.tc : Thread nD τ).loc main_arg9)) (layers m c)

/-- The reference's run, with its results named. -/
theorem run : θ_run defs (onTc (τ := τ) (main (F := Ideal))) ⟨m, fun _ => 0, ρ⟩ fun r => ∀ c : Dev nD,
      r.2.mem ((c.tc : Thread nD τ).loc main_v32) = shapeCast S1x1000x5 (m ((c.tc : Thread nD τ).loc main_arg1)) shapeCasts_S1000x5_S1x1000x5
      ∧ r.2.mem ((c.tc : Thread nD τ).loc main_v33) = shapeCast S1x1000x81 (refCls m c) shapeCasts_S1000x81_S1x1000x81
      ∧ r.2.mem ((c.tc : Thread nD τ).loc main_v34) = shapeCast S1x1000x324 (refLoc m c) shapeCasts_S1000x324_S1x1000x324 :=
  (θ_run defs _ _).mono (fun _ h c => ⟨(h c).1, (h c).2.1, (h c).2.2.1⟩) (Value.run m ρ)

end Run

end Cert.ReferenceIdeal.Head
-- ==== Proof.Equation.lean ====
/-
  The equation: the rows and lanes the kernel returns are the reference's entries, over the extended reals.
-/
module

public import proofs.«01_k».proof.Proof.Layout
public import proofs.«01_k».proof.Proof.RefValue

@[expose] public section

set_option maxRecDepth 8192

noncomputable section

open Idealize.ShloMosaic Idealize.ShloMosaic.TcCoe Idealize.SL.Sem

namespace Cert.KernelIdeal.Head

open Cert.KernelIdeal Cert.KernelIdeal.Gen Cert.Spec

section Rows

variable (P : FVec Ideal S49x1008x256 .f32) (w1 : FVec Ideal S12544x1024 .f32) (b1 : FVec Ideal S1024 .f32)
  (w2 : FVec Ideal S1024x1024 .f32) (b2 : FVec Ideal S1024 .f32) (wc : FVec Ideal S1024x81 .f32) (bc : FVec Ideal S81 .f32)
  (wl : FVec Ideal S1024x324 .f32) (bl : FVec Ideal S324 .f32)

/-- The second hidden layer of a box, from an accumulator that holds the complete product. -/
theorem hidden2_eq (acc : Vec Ideal S1008x1024 .f32) (r : Fin 1000)
    (h : ∀ q, acc (ix2 ⟨r.val, by omega⟩ q) = ∑ i, features (fun t k => P (ix3 t ⟨r.val, by omega⟩ k)) i * w1 (ix2 i q)) :
    hidden2 acc (shapeCast S1x1024 b1 shapeCasts_S1024_S1x1024) w2 (shapeCast S1x1024 b2 shapeCasts_S1024_S1x1024) ⟨r.val, by omega⟩
      = ReferenceIdeal.Head.hidden P w1 b1 w2 b2 r := by
  unfold hidden2 ReferenceIdeal.Head.hidden
  simp only [row_apply, h]
  rfl

/-- The class columns of the call's array. -/
theorem cls_slice (x : Vec Ideal S1008x512 .f32) (r : Fin 1000) (l : Fin 81) :
    extractStridedSlice S1000x81 ![0, 0] x slices_S1008x512_S1000x81_0_0 (ix2 r l) = x (ix2 ⟨r.val, by omega⟩ ⟨l.val, by omega⟩) := by
  pointwise []

/-- The box columns of the call's array. -/
theorem loc_slice (x : Vec Ideal S1008x512 .f32) (r : Fin 1000) (l : Fin 324) :
    extractStridedSlice S1000x324 ![0, 128] x slices_S1008x512_S1000x324_0_128 (ix2 r l) = x (ix2 ⟨r.val, by omega⟩ ⟨l.val + 128, by omega⟩) := by
  have e : (⟨128 + l.val, by omega⟩ : Fin 512) = ⟨l.val + 128, by omega⟩ := Fin.ext (Nat.add_comm _ _)
  rw [← e]
  pointwise []

end Rows

variable (m : (ℓ : Loc nD τ sig) → Buf (Elt Ideal) ℓ) (c : Dev nD)

/-- The array the call leaves, with what the host hands to it in place of the blocks. -/
theorem result_eq : result m c = k0_pay3 (running m c 48 last.isLt)
    (shapeCast S1x1024 (m ((c : Thread nD τ).loc main_arg3)) shapeCasts_S1024_S1x1024) (m ((c : Thread nD τ).loc main_arg4))
    (shapeCast S1x1024 (m ((c : Thread nD τ).loc main_arg5)) shapeCasts_S1024_S1x1024)
    (headWeight (m ((c : Thread nD τ).loc main_arg6)) (m ((c : Thread nD τ).loc main_arg8)) (sitofp .f32 (constantI S_ 32 0#32)))
    (headBias (m ((c : Thread nD τ).loc main_arg7)) (m ((c : Thread nD τ).loc main_arg9)) (sitofp .f32 (constantI S_ 32 0#32))) := by
  unfold result
  rw [block_b1, block_w2, block_b2, block_wh, block_bh, V_b1, V_b2, V_wh, V_bh, V_main_arg4 m c]
  rfl

/-- The accumulator's rows at the end. -/
theorem complete_row (r : Fin 1000) (q : Fin 1024) (h : 48 < cfg0.N) :
    running m c 48 h (ix2 ⟨r.val, by omega⟩ q)
      = ∑ i, features (fun t k => (m ((c : Thread nD τ).loc main_arg0) : FVec Ideal S49x1008x256 .f32) (ix3 t ⟨r.val, by omega⟩ k)) i
          * (m ((c : Thread nD τ).loc main_arg2) : FVec Ideal S12544x1024 .f32) (ix2 i q) :=
  complete_apply m c ⟨r.val, by omega⟩ q h

variable (m' : (ℓ : Loc ReferenceIdeal.nD ReferenceIdeal.τ ReferenceIdeal.sig) → Buf (Elt Ideal) ℓ)

/-- The two programs' arguments that the head reads agree on device `c`. -/
structure Agree : Prop where
  a0 : m' ((c.tc : Thread ReferenceIdeal.nD ReferenceIdeal.τ).loc ReferenceIdeal.main_arg0) = m ((c.tc : Thread nD τ).loc main_arg0)
  a2 : m' ((c.tc : Thread ReferenceIdeal.nD ReferenceIdeal.τ).loc ReferenceIdeal.main_arg2) = m ((c.tc : Thread nD τ).loc main_arg2)
  a3 : m' ((c.tc : Thread ReferenceIdeal.nD ReferenceIdeal.τ).loc ReferenceIdeal.main_arg3) = m ((c.tc : Thread nD τ).loc main_arg3)
  a4 : m' ((c.tc : Thread ReferenceIdeal.nD ReferenceIdeal.τ).loc ReferenceIdeal.main_arg4) = m ((c.tc : Thread nD τ).loc main_arg4)
  a5 : m' ((c.tc : Thread ReferenceIdeal.nD ReferenceIdeal.τ).loc ReferenceIdeal.main_arg5) = m ((c.tc : Thread nD τ).loc main_arg5)
  a6 : m' ((c.tc : Thread ReferenceIdeal.nD ReferenceIdeal.τ).loc ReferenceIdeal.main_arg6) = m ((c.tc : Thread nD τ).loc main_arg6)
  a7 : m' ((c.tc : Thread ReferenceIdeal.nD ReferenceIdeal.τ).loc ReferenceIdeal.main_arg7) = m ((c.tc : Thread nD τ).loc main_arg7)
  a8 : m' ((c.tc : Thread ReferenceIdeal.nD ReferenceIdeal.τ).loc ReferenceIdeal.main_arg8) = m ((c.tc : Thread nD τ).loc main_arg8)
  a9 : m' ((c.tc : Thread ReferenceIdeal.nD ReferenceIdeal.τ).loc ReferenceIdeal.main_arg9) = m ((c.tc : Thread nD τ).loc main_arg9)

/-- The class probabilities of the kernel are the reference's. -/
theorem cls_eq (h : Agree m c m') :
    extractStridedSlice S1000x81 ![0, 0] (result m c) slices_S1008x512_S1000x81_0_0 = ReferenceIdeal.Head.refCls m' c := by
  unfold ReferenceIdeal.Head.refCls ReferenceIdeal.Head.layers
  rw [h.a0, h.a2, h.a3, h.a4, h.a5, h.a6, h.a7, result_eq]
  funext j
  obtain ⟨r, l, rfl⟩ : ∃ (r : Fin 1000) (l : Fin 81), j = ix2 r l := ⟨j 0, j 1, eq_ix2 j⟩
  rw [ReferenceIdeal.Head.probs_apply]
  simp only [ReferenceIdeal.Head.logits_apply, ReferenceIdeal.Head.layers_apply]
  rw [← hidden2_eq _ _ _ _ _ _ r (fun q => complete_row m c r q last.isLt)]
  rw [cls_slice, stored_cls]
  simp only [headWeight_cls, headBias_cls]

/-- The box corrections of the kernel are the reference's. -/
theorem loc_eq (h : Agree m c m') :
    extractStridedSlice S1000x324 ![0, 128] (result m c) slices_S1008x512_S1000x324_0_128 = ReferenceIdeal.Head.refLoc m' c := by
  unfold ReferenceIdeal.Head.refLoc ReferenceIdeal.Head.layers
  rw [h.a0, h.a2, h.a3, h.a4, h.a5, h.a8, h.a9, result_eq]
  funext j
  obtain ⟨r, l, rfl⟩ : ∃ (r : Fin 1000) (l : Fin 324), j = ix2 r l := ⟨j 0, j 1, eq_ix2 j⟩
  rw [ReferenceIdeal.Head.boxes_apply]
  simp only [ReferenceIdeal.Head.layers_apply]
  rw [← hidden2_eq _ _ _ _ _ _ r (fun q => complete_row m c r q last.isLt)]
  rw [loc_slice, stored_loc]
  simp only [headWeight_loc, headBias_loc]

end Cert.KernelIdeal.Head
-- ==== Proof.Range.lean ====
/-
  The precondition read: every given row, as a natural number, is at most 53123, so that it and the next one are rows of the
  table of 53125.
-/
module

public import proofs.«01_k».proof.Proof.Gen.Pre_rows_in_table
public import Idealize.ShloMosaic.Lib.ReduceAll
public import Idealize.ShloMosaic.Lib.WordCmp

@[expose] public section

noncomputable section

namespace Cert.Pre_rows_in_table

open Idealize.ShloMosaic Cert.Pre_rows_in_table.Gen

variable {F : FTy → Type} [FloatOps F]

instance : Subsingleton S_.Idx := ⟨fun a b => funext fun i => i.elim0⟩

/-- A word that is at least 0 and at most 53123, read signed, is at most 53123 read unsigned. -/
theorem toNat_le (w : BitVec 32) (h0 : 0 ≤ w.toInt) (h1 : w.toInt ≤ 53123) : w.toNat ≤ 53123 := by
  have := w.isLt
  rw [BitVec.toInt_eq_toNat_cond] at h0 h1
  split at h0 <;> omega

/-- What the precondition says of every given row. -/
theorem rows_le (feats : FVec F S53125x256 .f32) (rows : IVec S1000x392 32) (wq : FVec F S1000x49x16 .f32)
    (h : fn feats rows wq = fun _ => 1) (i : S1000x392.Idx) : (rows i).toNat ≤ 53123 := by
  have e := congrFun h (Shape.Idx.first h_S_)
  unfold fn at e
  have e' := Host.reduce_andi_all _ _ _ _ _ e i
  obtain ⟨h0, h1⟩ := IntOp.andi_eq_one.1 e'
  exact toNat_le _ (IntOp.cmpi_sge.1 h0) (IntOp.cmpi_sle.1 h1)

end Cert.Pre_rows_in_table
-- ==== Proof.RoiTripIdeal.lean ====
/-
  One trip of the loop of the pooling call. A grid point owns the index words of eight boxes, their weights and the feature
  table; a trip fills the two scratch buffers with rows of the table, read where the words say, and writes two of the 49 bins
  of the block. The scratch buffers may hold anything at the start; the words must be in range (`Ok`).
-/
module

public import proofs.«01_k».proof.Proof.Gen.Kernel2Ideal.Skeleton
public import proofs.«01_k».proof.Proof.Gen.Kernel2Ideal.Frame
public import Idealize.ShloMosaic.Lib.Exec
public import Idealize.ShloMosaic.Lib.Claim

@[expose] public section

set_option maxRecDepth 16384

noncomputable section

namespace Cert.Kernel2Ideal.Roi

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word of the index table is even, and the four rows of the feature table from it on exist. -/
def Ok (w : BitVec 32) : Prop := 2 ∣ w.toNat ∧ w.toNat + 4 ≤ 106256

theorem add_two {w : BitVec 32} (h : Ok w) : (w + 2#32).toNat = w.toNat + 2 := by
  have := h.2
  rw [BitVec.toNat_add]
  exact Nat.mod_eq_of_lt (by simp only [BitVec.toNat_ofNat]; omega)

/-- A word in range meets every side condition the body states of it. -/
theorem checked {w : BitVec 32} (h : Ok w) :
    (2 ∣ w.toNat) ∧ (2 ∣ (w + 2#32).toNat) ∧
      (∀ a, (![w.toNat, 0] : Fin 2 → ℕ) a + S2x128.size a ≤ S106256x128.size a) ∧
      (∀ a, (![(w + 2#32).toNat, 0] : Fin 2 → ℕ) a + S2x128.size a ≤ S106256x128.size a) := by
  have h1 := h.1
  have h2 := h.2
  refine ⟨h.1, by rw [add_two h]; omega, fun a => ?_, fun a => ?_⟩
  · match a with
    | 0 => show w.toNat + 2 ≤ 106256; omega
    | 1 => exact le_refl 128
  · match a with
    | 0 => show (w + 2#32).toNat + 2 ≤ 106256; rw [add_two h]; omega
    | 1 => exact le_refl 128

/-- The six buffers of a point: the three it reads and the block it writes at given contents, the two scratch buffers at
    any. -/
abbrev Held (c : Dev nD) (arg1 : Memref sig .tc .smem S8x392 .i32) (arg2 : Memref sig .tc .vmem S49x1x512 .f32) (arg3 : Memref sig .tc .vmem S106256x128 .f32) (arg4 : Memref sig .tc .vmem S49x8x256 .f32) (arg5 : Memref sig .tc .vmem S256x128 .f32) (arg6 : Memref sig .tc .vmem S256x128 .f32)
    (X1 : BufTy.Contents (Elt F) arg1.view.ty) (X2 : BufTy.Contents (Elt F) arg2.view.ty) (X3 : BufTy.Contents (Elt F) arg3.view.ty) (f4 : BufTy.Contents (Elt F) arg4.view.ty) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg4.view.loc (c : Thread nD τ) ↦[arg4.view.set]{fullShare} f4)
    ∗ (∃ f5, arg5.view.loc (c : Thread nD τ) ↦[arg5.view.set]{fullShare} f5) ∗ (∃ f6, arg6.view.loc (c : Thread nD τ) ↦[arg6.view.set]{fullShare} f6))

set_option maxHeartbeats 4000000 in
/-- One trip of the loop, which fills the two scratch buffers and writes two bins of the block: the pieces it writes, with
    the proof that it does, whatever the block and the scratch buffers hold. -/
@[irreducible] def trip (𝒱 : Variants) (c : Dev nD) (bd : Option 𝒱.V) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole) (v0 : IVec S8x256 32) (v26 : IVec S8x256 1) (v44 : IVec S8x256 1) (X1 : BufTy.Contents (Elt F) arg1.view.ty) (X2 : BufTy.Contents (Elt F) arg2.view.ty) (X3 : BufTy.Contents (Elt F) arg3.view.ty)
    (hw : ∀ R j, Ok (arg1.view.readAt (Elt F) R X1 j)) (k : Fin k0_t1_loop.trips) :
    { L4 : List (View.Piece (Elt F) S49x8x256 .f32) // ∀ (E : Set ℕ) (f4 : BufTy.Contents (Elt F) arg4.view.ty),
      Held (F := F) c arg1 arg2 arg3 arg4 arg5 arg6 X1 X2 X3 f4
      ⊢ wp frame (wpE (defs₀ (F := F)) 𝒱 (c : Thread nD τ) bd) E (k0_t1_body (F := F) i arg1 harg1 arg2 harg2 arg3 harg3 arg4 harg4 arg5 harg5 arg6 harg6 v0 v26 v44 k PUnit.unit)
          (fun _ => Held (F := F) c arg1 arg2 arg3 arg4 arg5 arg6 X1 X2 X3 (arg4.view.writes (Elt F) f4 L4)) } := by
  have hk : k.val < 24 := Nat.lt_of_lt_of_le k.isLt k0_t1_abs.2.1
  refine ⟨?_, fun E f4 => ?run⟩
  case run =>
    unfold k0_t1_body
    iintro ⟨H1, H2, H3, H4, ⟨%f5, H5⟩, ⟨%f6, H6⟩⟩
    sl_exec (disch := exact checked (hw _ _))
    sl_step
    isplitl [H1]; · iexact H1
    isplitl [H2]; · iexact H2
    isplitl [H3]; · iexact H3
    isplitl [H4]; · iexact H4
    isplitl [H5]; · iexists _; iexact H5
    iexists _; iexact H6

end Cert.Kernel2Ideal.Roi

end
-- ==== Proof.RoiRunIdeal.lean ====
/-
  One grid point of the pooling call, as a run of its body: the loop's trips one after the other (`RoiTrip`), then the last
  of the 49 bins.
-/
module

public import proofs.«01_k».proof.Proof.RoiTripIdeal

@[expose] public section

set_option maxRecDepth 16384

noncomputable section

namespace Cert.Kernel2Ideal.Roi

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first `n` of the `N` trips write, the last first. -/
def before {α : Type} {N : ℕ} (f : Fin N → List α) : ℕ → List α
  | 0 => []
  | n + 1 => (if h : n < N then f ⟨n, h⟩ else []) ++ before f n

theorem before_succ {α : Type} {N : ℕ} (f : Fin N → List α) (k : Fin N) : before f (k.val + 1) = f k ++ before f k.val := by
  rw [before, dif_pos k.isLt]

/-- A piece is among what the trips write exactly when one of them writes it. -/
theorem mem_before {α : Type} {N : ℕ} (f : Fin N → List α) (n : ℕ) (x : α) :
    x ∈ before f n ↔ ∃ k : Fin N, k.val < n ∧ x ∈ f k := by
  induction n with
  | zero => simp [before]
  | succ n ih =>
    rw [before, List.mem_append, ih]
    constructor
    · rintro (h | ⟨k, hk, h⟩)
      · by_cases hn : n < N
        · rw [dif_pos hn] at h; exact ⟨⟨n, hn⟩, Nat.lt_succ_self n, h⟩
        · rw [dif_neg hn] at h; simp at h
      · exact ⟨k, Nat.lt_succ_of_lt hk, h⟩
    · rintro ⟨k, hk, h⟩
      rcases Nat.lt_succ_iff_lt_or_eq.mp hk with hk | rfl
      · exact .inr ⟨k, hk, h⟩
      · rw [dif_pos k.isLt]; exact .inl h

/-- The pieces the trips before trip `n` write into the block. -/
def written (𝒱 : Variants) (c : Dev nD) (bd : Option 𝒱.V) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole) (v0 : IVec S8x256 32) (v26 : IVec S8x256 1) (v44 : IVec S8x256 1) (X1 : BufTy.Contents (Elt F) arg1.view.ty) (X2 : BufTy.Contents (Elt F) arg2.view.ty) (X3 : BufTy.Contents (Elt F) arg3.view.ty)
    (hw : ∀ R j, Ok (arg1.view.readAt (Elt F) R X1 j)) (n : ℕ) : List (View.Piece (Elt F) S49x8x256 .f32) :=
  before (N := k0_t1_loop.trips) (fun k => (trip 𝒱 c bd i arg1 harg1 arg2 harg2 arg3 harg3 arg4 harg4 arg5 harg5 arg6 harg6 v0 v26 v44 X1 X2 X3 hw k).1) n

theorem written_succ (𝒱 : Variants) (c : Dev nD) (bd : Option 𝒱.V) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole) (v0 : IVec S8x256 32) (v26 : IVec S8x256 1) (v44 : IVec S8x256 1) (X1 : BufTy.Contents (Elt F) arg1.view.ty) (X2 : BufTy.Contents (Elt F) arg2.view.ty) (X3 : BufTy.Contents (Elt F) arg3.view.ty)
    (hw : ∀ R j, Ok (arg1.view.readAt (Elt F) R X1 j)) (k : Fin k0_t1_loop.trips) :
    (trip 𝒱 c bd i arg1 harg1 arg2 harg2 arg3 harg3 arg4 harg4 arg5 harg5 arg6 harg6 v0 v26 v44 X1 X2 X3 hw k).1 ++ written 𝒱 c bd i arg1 harg1 arg2 harg2 arg3 harg3 arg4 harg4 arg5 harg5 arg6 harg6 v0 v26 v44 X1 X2 X3 hw k.val
      = written 𝒱 c bd i arg1 harg1 arg2 harg2 arg3 harg3 arg4 harg4 arg5 harg5 arg6 harg6 v0 v26 v44 X1 X2 X3 hw (Nat.succ k.val) := by
  unfold written
  rw [Nat.succ_eq_add_one]
  conv_rhs => rw [before, dif_pos k.isLt]

theorem written_zero (𝒱 : Variants) (c : Dev nD) (bd : Option 𝒱.V) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole) (v0 : IVec S8x256 32) (v26 : IVec S8x256 1) (v44 : IVec S8x256 1) (X1 : BufTy.Contents (Elt F) arg1.view.ty) (X2 : BufTy.Contents (Elt F) arg2.view.ty) (X3 : BufTy.Contents (Elt F) arg3.view.ty)
    (hw : ∀ R j, Ok (arg1.view.readAt (Elt F) R X1 j)) :
    written 𝒱 c bd i arg1 harg1 arg2 harg2 arg3 harg3 arg4 harg4 arg5 harg5 arg6 harg6 v0 v26 v44 X1 X2 X3 hw 0 = [] := rfl

/-- A trip extends what the earlier ones wrote by its own pieces. -/
theorem trip_step (𝒱 : Variants) (c : Dev nD) (bd : Option 𝒱.V) (E : Set ℕ) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole) (v0 : IVec S8x256 32) (v26 : IVec S8x256 1) (v44 : IVec S8x256 1) (X1 : BufTy.Contents (Elt F) arg1.view.ty) (X2 : BufTy.Contents (Elt F) arg2.view.ty) (X3 : BufTy.Contents (Elt F) arg3.view.ty)
    (hw : ∀ R j, Ok (arg1.view.readAt (Elt F) R X1 j)) (G4 : BufTy.Contents (Elt F) arg4.view.ty) (k : Fin k0_t1_loop.trips) :
    Held (F := F) c arg1 arg2 arg3 arg4 arg5 arg6 X1 X2 X3 (arg4.view.writes (Elt F) G4 (written 𝒱 c bd i arg1 harg1 arg2 harg2 arg3 harg3 arg4 harg4 arg5 harg5 arg6 harg6 v0 v26 v44 X1 X2 X3 hw k.val))
      ⊢ wp frame (wpE (defs₀ (F := F)) 𝒱 (c : Thread nD τ) bd) E (k0_t1_body (F := F) i arg1 harg1 arg2 harg2 arg3 harg3 arg4 harg4 arg5 harg5 arg6 harg6 v0 v26 v44 k PUnit.unit)
          (fun _ => Held (F := F) c arg1 arg2 arg3 arg4 arg5 arg6 X1 X2 X3 (arg4.view.writes (Elt F) G4 (written 𝒱 c bd i arg1 harg1 arg2 harg2 arg3 harg3 arg4 harg4 arg5 harg5 arg6 harg6 v0 v26 v44 X1 X2 X3 hw (Nat.succ k.val)))) := by
  rw [← written_succ, View.writes_append]
  exact (trip 𝒱 c bd i arg1 harg1 arg2 harg2 arg3 harg3 arg4 harg4 arg5 harg5 arg6 harg6 v0 v26 v44 X1 X2 X3 hw k).2 E _

/-- The loop: before trip `k` the block holds what the earlier trips wrote over what the loop found there. -/
@[sl_loop, instance_reducible] def loop (𝒱 : Variants) (c : Dev nD) (bd : Option 𝒱.V) (E : Set ℕ) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole) (v0 : IVec S8x256 32) (v26 : IVec S8x256 1) (v44 : IVec S8x256 1) (X1 : BufTy.Contents (Elt F) arg1.view.ty) (X2 : BufTy.Contents (Elt F) arg2.view.ty) (X3 : BufTy.Contents (Elt F) arg3.view.ty) (G4 : BufTy.Contents (Elt F) arg4.view.ty)
    (hw : ∀ R j, Ok (arg1.view.readAt (Elt F) R X1 j)) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 v0 v26 v44) where
  inv k _ := iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3)
    ∗ (∃ f, (arg4.view.loc (c : Thread nD τ) ↦[arg4.view.set]{fullShare} f) ∗ ⌜f = arg4.view.writes (Elt F) G4 (written 𝒱 c bd i arg1 harg1 arg2 harg2 arg3 harg3 arg4 harg4 arg5 harg5 arg6 harg6 v0 v26 v44 X1 X2 X3 hw k)⌝)
    ∗ (∃ f5, arg5.view.loc (c : Thread nD τ) ↦[arg5.view.set]{fullShare} f5) ∗ (∃ f6, arg6.view.loc (c : Thread nD τ) ↦[arg6.view.set]{fullShare} f6))
  step k acc := by
    iintro ⟨H1, H2, H3, ⟨%f4, H4, %h4⟩, H5, H6⟩
    subst h4
    iapply (wp_wand_r Idealize.ShloMosaic.frame (wpE (defs₀ (F := F)) 𝒱 (c : Thread nD τ) bd) E)
    isplitl [H1 H2 H3 H4 H5 H6]
    · iapply (trip_step (F := F) 𝒱 c bd E i arg1 harg1 arg2 harg2 arg3 harg3 arg4 harg4 arg5 harg5 arg6 harg6 v0 v26 v44 X1 X2 X3 hw G4 k)
      isplitl [H1]; · iexact H1
      isplitl [H2]; · iexact H2
      isplitl [H3]; · iexact H3
      isplitl [H4]; · iexact H4
      isplitl [H5]; · iexact H5
      iexact H6
    · iintro %_ ⟨H1, H2, H3, H4, H5, H6⟩
      isplitl [H1]; · iexact H1
      isplitl [H2]; · iexact H2
      isplitl [H3]; · iexact H3
      isplitl [H4]
      · iexists _; isplitl [H4]; · iexact H4
        ipureintro; exact rfl
      isplitl [H5]; · iexact H5
      iexact H6

set_option maxHeartbeats 4000000 in
/-- The whole body at a point: the pieces it writes into the block, with the proof that it does. -/
def run (c : Dev nD) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole)
    (x1 : Vec F S8x392 .i32) (x2 : Vec F S49x1x512 .f32) (x3 : Vec F S106256x128 .f32) (hw : ∀ R j, Ok (arg1.view.readAt (Elt F) R (harg1.unread x1) j)) :
    { L4 : List (View.Piece (Elt F) S49x8x256 .f32) // ∀ (E : Set ℕ) (K : PUnit → sProp 𝕄),
      iprop(owns (c : Thread nD τ) arg1 fullShare x1 ∗ owns (c : Thread nD τ) arg2 fullShare x2 ∗ owns (c : Thread nD τ) arg3 fullShare x3
          ∗ (∃ d, owns (c : Thread nD τ) arg4 fullShare d) ∗ (∃ d, owns (c : Thread nD τ) arg5 fullShare d) ∗ (∃ d, owns (c : Thread nD τ) arg6 fullShare d)
          ∗ (iprop(owns (c : Thread nD τ) arg1 fullShare x1 ∗ owns (c : Thread nD τ) arg2 fullShare x2 ∗ owns (c : Thread nD τ) arg3 fullShare x3
              ∗ (∃ f, arg4.view.loc (c : Thread nD τ) ↦[arg4.view.set]{fullShare} arg4.view.writes (Elt F) f L4) ∗ (∃ d, owns (c : Thread nD τ) arg5 fullShare d) ∗ (∃ d, owns (c : Thread nD τ) arg6 fullShare d)) -∗ K ⟨⟩))
        ⊢ wp frame (wpE (defs₀ (F := F)) Variants.none c none) E (cc0_roi_align_gather i arg1 harg1 arg2 harg2 arg3 harg3 arg4 harg4 arg5 harg5 arg6 harg6) K } := by
  refine ⟨?_, fun E K => ?run⟩
  case run =>
    simp only [cc0_roi_align_gather_eq_skeleton]; unfold cc0_roi_align_gather_skel
    unfold owns
    iintro ⟨⟨%f1, %hf1, H1⟩, ⟨%f2, %hf2, H2⟩, ⟨%f3, %hf3, H3⟩, ⟨%d4, %f4, %hf4, H4⟩, ⟨%d5, %f5, %hf5, H5⟩, ⟨%d6, %f6, %hf6, H6⟩, Hk⟩
    obtain rfl := harg1.eq_unread hf1; obtain rfl := harg2.eq_unread hf2; obtain rfl := harg3.eq_unread hf3
    sl_exec (disch := first | exact hw | exact checked (hw _ _))
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; iexists _; isplitr
      on_goal 2 => iexact H5
      ipureintro; exact rfl
    iexists _; iexists _; isplitr
    on_goal 2 => iexact H6
    ipureintro; exact rfl

end Cert.Kernel2Ideal.Roi

end
-- ==== Proof.RoiFrameIdeal.lean ====
/-
  The launch of the pooling call: every point's block is covered by the pieces the body writes, so what a point leaves is
  known whatever the block held before; the scratch buffers carry nothing from point to point. The frame follows for
  index tables whose words are all in range (`Words`).
-/
module

public import proofs.«01_k».proof.Proof.RoiRunIdeal

@[expose] public section

set_option maxRecDepth 16384

noncomputable section

namespace Cert.Kernel2Ideal.Roi

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A piece of one bin: bin `n` of the block, at all eight boxes and all channels. -/
def IsBin (n : ℕ) (p : View.Piece (Elt F) S49x8x256 .f32) : Prop := ∀ y : S49x8x256.Idx, (y 0).val = n → y ∈ p.1.set

theorem isBin_unit {off : Fin 3 → ℕ} {inb} (n : ℕ) (h : off = ![n, 0, 0]) (v) :
    IsBin (F := F) n ⟨Rect.unit (s := S49x8x256) off ![1, 8, 256] inb, v⟩ := by
  subst h
  intro y hy
  have h1 : (y 1).val < 8 := (y 1).isLt
  have h2 : (y 2).val < 256 := (y 2).isLt
  show y ∈ (Rect.unit (s := S49x8x256) ![n, 0, 0] ![1, 8, 256] inb).set
  rw [Rect.mem_set_unit]
  intro a
  match a with
  | ⟨0, _⟩ => show n ≤ (y 0).val ∧ (y 0).val < n + 1; omega
  | ⟨1, _⟩ => show 0 ≤ (y 1).val ∧ (y 1).val < 0 + 8; omega
  | ⟨2, _⟩ => show 0 ≤ (y 2).val ∧ (y 2).val < 0 + 256; omega

/-- The loop makes 24 trips. -/
theorem trips_eq : k0_t1_loop.trips = 24 := by decide +kernel

section Point

variable (c : Dev nD) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole)

/-- A trip writes the bins `2 k` and `2 k + 1`. -/
theorem trip_bins (v0 : IVec S8x256 32) (v26 : IVec S8x256 1) (v44 : IVec S8x256 1) (X1 : BufTy.Contents (Elt F) arg1.view.ty) (X2 : BufTy.Contents (Elt F) arg2.view.ty) (X3 : BufTy.Contents (Elt F) arg3.view.ty)
    (hw : ∀ R j, Ok (arg1.view.readAt (Elt F) R X1 j)) (k : Fin k0_t1_loop.trips) :
    ∃ p q, (trip Variants.none c none i arg1 harg1 arg2 harg2 arg3 harg3 arg4 harg4 arg5 harg5 arg6 harg6 v0 v26 v44 X1 X2 X3 hw k).1 = [q, p]
      ∧ IsBin (2 * k.val) p ∧ IsBin (2 * k.val + 1) q := by
  unfold trip
  exact ⟨_, _, rfl, isBin_unit _ (k0_off386_eq k) _, isBin_unit _ (k0_off388_eq k) _⟩

variable (x1 : Vec F S8x392 .i32) (x2 : Vec F S49x1x512 .f32) (x3 : Vec F S106256x128 .f32) (hx : ∀ j, Ok (x1 j))

/-- What a point loads of its words is in range when the words are. -/
theorem words_ok {x1 : Vec F S8x392 .i32} (hx : ∀ j, Ok (x1 j)) (R : LoadRect S8x392) (j : R.shape.Idx) :
    Ok (arg1.view.readAt (Elt F) R (harg1.unread x1) j) := by
  rw [View.readAt_apply, harg1.read_unread]
  exact hx _

/-- The pieces a point writes. -/
def pieces : List (View.Piece (Elt F) S49x8x256 .f32) :=
  (run c i arg1 harg1 arg2 harg2 arg3 harg3 arg4 harg4 arg5 harg5 arg6 harg6 x1 x2 x3 (words_ok arg1 harg1 hx)).1

/-- They cover the block. -/
theorem pieces_cover (y : S49x8x256.Idx) :
    ∃ p ∈ pieces c i arg1 harg1 arg2 harg2 arg3 harg3 arg4 harg4 arg5 harg5 arg6 harg6 x1 x2 x3 hx, y ∈ p.1.set := by
  have h0 : (y 0).val < 49 := (y 0).isLt
  unfold pieces run
  dsimp only
  by_cases h : (y 0).val = 48
  · exact ⟨_, List.mem_cons_self, isBin_unit 48 rfl _ y h⟩
  · have hk : (y 0).val / 2 < k0_t1_loop.trips := by rw [trips_eq]; omega
    obtain ⟨p, q, e, hp, hq⟩ := trip_bins (F := F) c i arg1 harg1 arg2 harg2 arg3 harg3 arg4 harg4 arg5 harg5 arg6 harg6
      run.sl.v0 (cmpi CmpIPredicate.eq run.sl.v25 run.sl.v1) (cmpi CmpIPredicate.eq run.sl.v42 run.sl.v4) (harg1.unread x1) (harg2.unread x2)
      (harg3.unread x3) (words_ok arg1 harg1 hx) ⟨(y 0).val / 2, hk⟩
    have mem : ∀ r, r ∈ [q, p] → r ∈ written Variants.none c none i arg1 harg1 arg2 harg2 arg3 harg3 arg4 harg4 arg5 harg5 arg6 harg6
        run.sl.v0 (cmpi CmpIPredicate.eq run.sl.v25 run.sl.v1) (cmpi CmpIPredicate.eq run.sl.v42 run.sl.v4) (harg1.unread x1) (harg2.unread x2)
        (harg3.unread x3) (words_ok arg1 harg1 hx) (Scf.trips (0#32) (Scalar.addi 0#32 24#32) 1#32) := fun r hr => by
      unfold written
      rw [mem_before]
      exact ⟨⟨(y 0).val / 2, hk⟩, hk, by rw [e]; exact hr⟩
    by_cases h2 : (y 0).val = 2 * ((y 0).val / 2)
    · exact ⟨p, List.mem_cons_of_mem _ (mem p (by simp)), hp y h2⟩
    · exact ⟨q, List.mem_cons_of_mem _ (mem q (by simp)), hq y (by dsimp only; omega)⟩

/-- What a point leaves in its block. -/
def left : Vec F S49x8x256 .f32 :=
  View.canon (pieces c i arg1 harg1 arg2 harg2 arg3 harg3 arg4 harg4 arg5 harg5 arg6 harg6 x1 x2 x3 hx)

end Point

/-! ## The pipeline's proof data -/

variable (m : (ℓ : Loc nD τ sig) → Buf (Elt F) ℓ) (ρ : Dev nD → PrngReg)

/-- Every word of every block of the index table is in range. -/
def Words : Prop := ∀ (c : Dev nD) (t : Fin cfg0.N) (j : S8x392.Idx), Ok ((iblk m c 0 t : Vec F S8x392 .i32) j)

variable (hW : Words m)

/-- What point `t` leaves in the output's staging buffer. -/
def outAt (c : Dev nD) (t : Fin cfg0.N) : Vec F S49x8x256 .f32 :=
  left c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Memref.whole cc0_scratch0) (Memref.isWhole_whole _) (Memref.whole cc0_scratch1) (Memref.isWhole_whole _)
    (iblk m c 0 t) (iblk m c 1 t) (iblk m c 2 t) (hW c t)

/-- The proof data: the arrays as the region finds them; after a point each input's buffer at its block, the output's at
    `outAt`; the scratch buffers at anything throughout; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m hW c t
  Φ _ := Pipeline.ΦA spec0 c
  q _ := fullShare
  owed _ := 0

theorem A_eq (c : Dev nD) (w : Fin cfg0.W) : (dats m hW 0 c).A w = V m c (Pipeline.arrRef spec0 w) := by dsimp only [dats]

theorem after0_0 (c : Dev nD) (t : Fin cfg0.N) : (dats m hW 0 c).after 0 t = iblk m c 0 t := by dsimp only [dats]
theorem after0_1 (c : Dev nD) (t : Fin cfg0.N) : (dats m hW 0 c).after 1 t = iblk m c 1 t := by dsimp only [dats]
theorem after0_2 (c : Dev nD) (t : Fin cfg0.N) : (dats m hW 0 c).after 2 t = iblk m c 2 t := by dsimp only [dats]
theorem after0_3 (c : Dev nD) (t : Fin cfg0.N) : (dats m hW 0 c).after 3 t = outAt m hW c t := by dsimp only [dats]

/-- Each input's staging buffer holds its block when the body is called. -/
theorem before0_0 (c : Dev nD) (t : Fin cfg0.N) (d) : (dats m hW 0 c).before 0 t d = iblk m c 0 t :=
  before0_0_of m (dats m hW 0 c) (A_eq m hW c 0) (after0_0 m hW c) t d
theorem before0_1 (c : Dev nD) (t : Fin cfg0.N) (d) : (dats m hW 0 c).before 1 t d = iblk m c 1 t :=
  before0_1_of m (dats m hW 0 c) (A_eq m hW c 1) (after0_1 m hW c) t d
theorem before0_2 (c : Dev nD) (t : Fin cfg0.N) (d) : (dats m hW 0 c).before 2 t d = iblk m c 2 t :=
  before0_2_of m (dats m hW 0 c) (A_eq m hW c 2) (after0_2 m hW c) t d

/-- What the launch hands the region: the two scratch buffers at anything, and the generator register. -/
theorem handed_eq (c : Dev nD) : (Pipeline.ΦA spec0 c : sProp 𝕄)
    = iprop(iprop((∃ d, owns (c : Thread nD τ) (Memref.whole cc0_scratch0 : Memref sig .tc .vmem S256x128 .f32) fullShare d)
        ∗ (∃ d, owns (c : Thread nD τ) (Memref.whole cc0_scratch1 : Memref sig .tc .vmem S256x128 .f32) fullShare d)) ∗ (∃ r, prngReg c r)) := by
  unfold Pipeline.ΦA; rw [scopedRest0_eq]; simp only [owns_whole]

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl

/-- What the body is called with at point `t`, the windows one by one, -/
def bodyPre (c : Dev nD) (t : Fin cfg0.N) : sProp 𝕄 :=
  iprop((dats m hW 0 c).Φ t.castSucc ∗ (dats m hW 0 c).owesAt () t.castSucc
    ∗ (∃ d, owns (c : Thread nD τ) (st0_0 t) fullShare ((dats m hW 0 c).before 0 t d))
    ∗ (∃ d, owns (c : Thread nD τ) (st0_1 t) fullShare ((dats m hW 0 c).before 1 t d))
    ∗ (∃ d, owns (c : Thread nD τ) (st0_2 t) fullShare ((dats m hW 0 c).before 2 t d))
    ∗ (∃ d, owns (c : Thread nD τ) (st0_3 t) fullShare ((dats m hW 0 c).before 3 t d)))

/-- and what it returns. -/
def bodyPost (c : Dev nD) (t : Fin cfg0.N) : sProp 𝕄 :=
  iprop((dats m hW 0 c).Φ t.succ ∗ (dats m hW 0 c).owesAt () t.succ
    ∗ (dats m hW 0 c).leavesExact 0 t ∗ (dats m hW 0 c).leavesExact 1 t ∗ (dats m hW 0 c).leavesExact 2 t ∗ (dats m hW 0 c).leavesExact 3 t)

set_option maxHeartbeats 4000000 in
/-- The body at any point: its run applies, and what it writes covers its block. -/
theorem sound_body (c : Dev nD) (t : Fin cfg0.N) :
    bodyPre m hW c t ⊢ wp frame (wpE (defs₀ (F := F)) Variants.none c none) Set.univ (bodyAt0 t) (fun _ => bodyPost m hW c t) := by
  unfold bodyPre bodyPost bodyAt0
  simp only [before0_0, before0_1, before0_2]
  rw [show (dats m hW 0 c).owesAt () t.succ = (dats m hW 0 c).owesAt () t.castSucc from rfl]
  rw [show (dats m hW 0 c).Φ t.succ = Pipeline.ΦA spec0 c from rfl, show (dats m hW 0 c).Φ t.castSucc = Pipeline.ΦA spec0 c from rfl, handed_eq]
  rw [show (dats m hW 0 c).leavesExact 0 t = owns (c : Thread nD τ) (st0_0 t) fullShare ((dats m hW 0 c).after 0 t) from by
    unfold Dat.leavesExact; rw [live0 t], after0_0]
  rw [show (dats m hW 0 c).leavesExact 1 t = owns (c : Thread nD τ) (st0_1 t) fullShare ((dats m hW 0 c).after 1 t) from by
    unfold Dat.leavesExact; rw [live1 t], after0_1]
  rw [show (dats m hW 0 c).leavesExact 2 t = owns (c : Thread nD τ) (st0_2 t) fullShare ((dats m hW 0 c).after 2 t) from by
    unfold Dat.leavesExact; rw [live2 t], after0_2]
  rw [show (dats m hW 0 c).leavesExact 3 t = owns (c : Thread nD τ) (st0_3 t) fullShare ((dats m hW 0 c).after 3 t) from by
    unfold Dat.leavesExact; rw [live3 t], after0_3]
  iintro ⟨⟨⟨HS0, HS1⟩, Hg⟩, Ho, ⟨%d0, H0⟩, ⟨%d1, H1⟩, ⟨%d2, H2⟩, ⟨%d3, H3⟩⟩
  iapply ((run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
    _ (Memref.isWhole_whole _) _ (Memref.isWhole_whole _) (iblk m c 0 t) (iblk m c 1 t) (iblk m c 2 t) (words_ok _ _ (hW c t))).2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%f3, H3⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  unfold owns; iexists _; isplitr
  swap; · iexact H3
  ipureintro
  exact View.read_writes_eq_canon _ _ _ (pieces_cover (F := F) c (grid0.coords t) _ _ _ _ _ _ _ _ _ _ _ _ _ _ _ (hW c t))

/-- The body table's row at a point's slots is the body there. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m hW 0 c) (defs₀ (F := F)) Variants.none () Set.univ := fun t => by
  rw [bigSep_W0, bigSep_W0, defs₀_row]
  exact triple_restated (sound_body m hW c t) rfl .rfl fun _ => .rfl

/-! ## The run and the frame -/

include hW in
set_option backward.isDefEq.respectTransparency.types false in
set_option maxHeartbeats 800000 in
/-- The launch: every execution ends with every array as the proof data say, and every semaphore counter at zero. -/
theorem run_quiescent : θ_run defs (onTc (τ := τ) (main (F := F))) (s₀ m ρ)
    (fun r => Pipeline.FramePost cfgs (dats m hW) 0 (V m) r ∧ r.2.sem = fun _ => 0) :=
  Pipeline.θ_run_frame_track (Q' := _) cfgs (dats m hW) (0 : Fin 1) launch0 defs₀ Variants.none m ρ main
    (hbody := fun c => (body_obligation m hW c).loose) (hshare := fun c => (dats m hW 0 c).share_full fun _ => rfl)
    (howed := fun _ _ => rfl) (V := V m) (hmain := hmain m Variants.none) (hA := A_eq m hW)
    (hin := fun c => .rfl) (hout := fun c => .rfl)

include hW in
/-- The same without the counters. -/
theorem run_main : θ_run defs (onTc (τ := τ) (main (F := F))) (s₀ m ρ) (Pipeline.FramePost cfgs (dats m hW) 0 (V m)) :=
  (θ_run defs _ _).mono (fun _ h => h.1) (run_quiescent m ρ hW)

include hW in
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m hW) (A_eq m hW) (run_main m ρ hW)

include hW in
/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hW) ((θ_run defs _ _).mono (fun _ h => h.2) (run_quiescent m ρ hW))

end Cert.Kernel2Ideal.Roi

end
-- ==== Proof.RoiWordsIdeal.lean ====
/-
  The index words of the pooling call: twice the given row, and zero in the rows of padding. Rows that lie in the table
  give words in range.
-/
module

public import proofs.«01_k».proof.Proof.RoiFrameIdeal
public import proofs.«01_k».proof.Proof.Range
public import Idealize.ShloMosaic.Lib.StableHlo.Run
public import Idealize.ShloMosaic.Lib.Pointwise

@[expose] public section

set_option maxRecDepth 8192

noncomputable section

namespace Cert.Kernel2Ideal.Roi

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ)

/-- The given rows. -/
abbrev rows (c : Dev nD) : IVec S1000x392 32 := m ((c.tc : Thread nD τ).loc main_arg1)

/-- The grid has one axis: a point's coordinate is its number. -/
theorem coord0 (t : Fin cfg0.N) : (grid0.coords t 0).val = t.val := by
  have h : (grid0.coords t 0).val = t.val / 1 % 126 := Pipeline.Grid.coords_val t 0 (by decide) rfl
  rw [h, Nat.div_one]
  exact Nat.mod_eq_of_lt (Nat.lt_of_lt_of_eq t.isLt N_0)

/-- A point's coordinate as a word. -/
theorem word0 (t : Fin cfg0.N) : (BitVec.ofNat 32 (grid0.coords t 0).val).toNat = t.val := by
  rw [coord0]
  have := Nat.lt_of_lt_of_eq t.isLt N_0
  rw [BitVec.toNat_ofNat, Nat.mod_eq_of_lt (by omega)]

/-- The padded index words, as the host computes them. -/
theorem V_words (c : Dev nD) : (V m c main_v4 : IVec S1008x392 32)
    = pad S1008x392 ![0, 0] ![8, 0] ![0, 0] (muli (broadcastInDim S1000x392 ![] bcast_S_S1000x392 (constantI S_ 32 2#32)) (rows m c))
        (constantI S_ 32 0#32) pads_S1000x392_S1008x392_080_000 h_S_ := by
  show StableHlo.after _ _ _ = _
  simp only [hostOps0, hostOps0_1, hostOps0_2, hostOps0_3, hostOps0_4, hostOps0_5, hostOps0_6,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The same at an index. -/
theorem word_at (c : Dev nD) (r : Fin 1008) (n : Fin 392) :
    (V m c main_v4 : IVec S1008x392 32) (ix2 r n) = if h : r.val < 1000 then 2#32 * rows m c (ix2 ⟨r.val, h⟩ n) else 0#32 := by
  rw [V_words]
  pointwise
  rfl

/-- The words' block of point `t` is the rows `8 t … 8 t + 7` of the padded words. -/
theorem block_words (c : Dev nD) (t : Fin cfg0.N) (s : Fin 8) (n : Fin 392) :
    (iblk m c 0 t : Vec F S8x392 .i32) (ix2 s n)
      = (V m c main_v4 : IVec S1008x392 32) (ix2 ⟨8 * t.val + s.val, by have := Nat.lt_of_lt_of_eq t.isLt N_0; omega⟩ n) := by
  unfold iblk
  rw [View.read_apply]
  show V m c main_v4 _ = V m c main_v4 _
  congr 1
  funext a
  apply Fin.ext
  match a with
  | ⟨0, _⟩ => show (BitVec.ofNat 32 (grid0.coords t 0).val).toNat * 8 + 1 * s.val = 8 * t.val + s.val; rw [word0]; omega
  | ⟨1, _⟩ => show 0 * 392 + 1 * n.val = n.val; omega

/-- Twice a row of the table does not overflow. -/
theorem toNat_double (w : BitVec 32) (h : w.toNat ≤ 53123) : (2#32 * w).toNat = 2 * w.toNat := by
  rw [BitVec.toNat_mul]
  exact Nat.mod_eq_of_lt (by simp only [BitVec.toNat_ofNat]; omega)

/-- Rows of the table give words in range. -/
theorem words_of_rows (h : ∀ c r n, (rows m c (ix2 r n)).toNat ≤ 53123) : Words m := by
  intro c t j
  suffices H : ∀ (s : Fin 8) (n : Fin 392), Ok ((iblk m c 0 t : Vec F S8x392 .i32) (ix2 s n)) by
    rw [eq_ix2 j]
    exact H (j 0) (j 1)
  intro s n
  rw [block_words, word_at]
  split
  · rename_i hr
    have hle := h c ⟨8 * t.val + s.val, hr⟩ n
    have e := toNat_double _ hle
    unfold Ok
    rw [e]
    omega
  · exact ⟨⟨0, rfl⟩, by decide⟩

end Cert.Kernel2Ideal.Roi
-- ==== Proof.RoiGather.lean ====
/-
  What the scratch buffers of the pooling call hold: the table's rows named by the words of one bin.

  For each of eight boxes a bin owns eight words of the index table; a word names the first of four rows of the feature
  table, which are copied below one another, two at a time. So row `u` of the 256 gathered rows belongs to box `u / 32`,
  to its word `(u % 32) / 4`, and is the row `u % 4` after the one the word names.
-/
module

public import proofs.«01_k».proof.Proof.RoiRunIdeal
public import Idealize.ShloMosaic.Lib.Pipeline.Value
public import Idealize.ShloMosaic.Lib.Tactic
public import Idealize.ShloMosaic.Lib.Pointwise
public import Idealize.ShloMosaic.Lib.Pipeline.ValueKit.Tiles

@[expose] public section

set_option maxRecDepth 16384

noncomputable section

namespace Cert.Kernel2Ideal.Roi

open Cert.Kernel2Ideal Cert.Kernel2Ideal.Gen
open Idealize.ShloMosaic Idealize.ShloMosaic.TcCoe Idealize.ShloMosaic.Tactic
open Idealize.SL.Sem

variable {F : FTy → Type} [FloatOps F]

/-- The row of the feature table that is gathered as row `u` of bin `b`. -/
def rowAt (x1 : Vec F S8x392 .i32) (b : ℕ) (u : ℕ) : ℕ :=
  (x1 (ix2 (Fin.ofNat 8 (u / 32)) (Fin.ofNat 392 (8 * b + u % 32 / 4)))).toNat + u % 4

/-- The gathered rows of bin `b`. -/
def gathered (x1 : Vec F S8x392 .i32) (x3 : Vec F S106256x128 .f32) (b : ℕ) : Vec F S256x128 .f32 :=
  fun j => x3 (ix2 (Fin.ofNat 106256 (rowAt x1 b (j 0).val)) (j 1))

/-- Two rows copied from the row `w + 2 c` of the table to row `g` of the scratch buffer are gathered rows of bin `b`, `w`
    being the word at row `m` and column `n` of the index table. -/
theorem piece_core {arg1 : Memref sig .tc .smem S8x392 .i32} {arg3 : Memref sig .tc .vmem S106256x128 .f32}
    {X1 : BufTy.Contents (Elt F) arg1.view.ty} {X3 : BufTy.Contents (Elt F) arg3.view.ty}
    {off1 : Fin 2 → ℕ} {inb1} {hf} {off3 : Fin 2 → ℕ} {inb3} {offg : Fin 2 → ℕ} {inbg}
    (hw : ∀ R j, Ok (arg1.view.readAt (Elt F) R X1 j)) {m n g : ℕ} (b c : ℕ)
    (h1 : off1 = ![m, n]) (hg : offg = ![g, 0])
    (h3 : off3 = ![(arg1.view.readAt (Elt F) (Rect.unit (s := S8x392) off1 S1x1.size inb1).toLoadRect X1 (Shape.Idx.first hf)).toNat + 2 * c, 0])
    (hc : c < 2) (hm : m < 8) (hn : 8 * b ≤ n ∧ n < 8 * b + 8 ∧ n < 392) (hgn : g + 32 * b = 32 * m + 4 * n + 2 * c)
    (x : S2x128.Idx) :
    arg3.view.readAt (Elt F) (Rect.unit (s := S106256x128) off3 S2x128.size inb3).toLoadRect X3 x
      = gathered (arg1.view.read (Elt F) X1) (arg3.view.read (Elt F) X3) b
          ((Rect.unit (s := S256x128) offg S2x128.size inbg).emb x) := by
  have hok := hw (Rect.unit (s := S8x392) off1 S1x1.size inb1).toLoadRect (Shape.Idx.first hf)
  subst h1 hg
  rw [View.readAt_apply] at h3 hok
  rw [View.readAt_apply]
  have hx : (x 0).val < 2 := (x 0).isLt
  have hi : (Rect.unit (s := S8x392) ![m, n] S1x1.size inb1).toLoadRect.idx (Shape.Idx.first hf)
      = ix2 (Fin.ofNat 8 ((g + (x 0).val) / 32)) (Fin.ofNat 392 (8 * b + (g + (x 0).val) % 32 / 4)) := by
    funext a
    apply Fin.ext
    match a with
    | ⟨0, _⟩ => show m + 1 * 0 = (g + (x 0).val) / 32 % 8; omega
    | ⟨1, _⟩ => show n + 1 * 0 = (8 * b + (g + (x 0).val) % 32 / 4) % 392; omega
  rw [hi] at h3 hok
  have hlt := hok.2
  unfold gathered
  congr 1
  subst h3
  funext a
  apply Fin.ext
  match a with
  | ⟨0, _⟩ =>
    show (arg1.view.read (Elt F) X1 _).toNat + 2 * c + 1 * (x 0).val = rowAt (arg1.view.read (Elt F) X1) b (g + 1 * (x 0).val) % 106256
    unfold rowAt
    rw [Nat.one_mul]
    generalize (arg1.view.read (Elt F) X1 (ix2 (Fin.ofNat 8 ((g + (x 0).val) / 32))
      (Fin.ofNat 392 (8 * b + (g + (x 0).val) % 32 / 4)))).toNat = W at hlt ⊢
    omega
  | ⟨1, _⟩ => show 0 + 1 * (x 1).val = 0 + 1 * (x 1).val; rfl

/-- A piece of the scratch buffer holds gathered rows of bin `b`. -/
def Good (x1 : Vec F S8x392 .i32) (x3 : Vec F S106256x128 .f32) (b : ℕ) (p : View.Piece (Elt F) S256x128 .f32) : Prop :=
  ∀ x, p.2 x = gathered x1 x3 b (p.1.emb x)

variable {arg1 : Memref sig .tc .smem S8x392 .i32} {arg3 : Memref sig .tc .vmem S106256x128 .f32}
    {X1 : BufTy.Contents (Elt F) arg1.view.ty} {X3 : BufTy.Contents (Elt F) arg3.view.ty}

/-- Casting two rows to their own shape twice leaves them. -/
theorem twice {α : Type} (r : S2x128.Idx → α) (h1 h2 : S2x128.ShapeCasts S2x128) : shapeCast S2x128 (shapeCast S2x128 r h1) h2 = r := by
  rw [shapeCast_self, shapeCast_self]

/-- The rows a word names first. -/
theorem good_first {off1 : Fin 2 → ℕ} {inb1} {hf} {off3 : Fin 2 → ℕ} {inb3} {g : ℕ} {inbg} {v : S2x128.Idx → Elt F .f32}
    {hc1 hc2} {w : BitVec 32} {m n b : ℕ}
    (hw : ∀ R j, Ok (arg1.view.readAt (Elt F) R X1 j))
    (hv : v = shapeCast S2x128 (shapeCast S2x128 (arg3.view.readAt (Elt F) (Rect.unit (s := S106256x128) off3 S2x128.size inb3).toLoadRect X3) hc1) hc2)
    (h3 : off3 = ![w.toNat, 0])
    (hwd : w = arg1.view.readAt (Elt F) (Rect.unit (s := S8x392) off1 S1x1.size inb1).toLoadRect X1 (Shape.Idx.first hf))
    (h1 : off1 = ![m, n]) (hm : m < 8) (hn : 8 * b ≤ n ∧ n < 8 * b + 8 ∧ n < 392) (hgn : g + 32 * b = 32 * m + 4 * n) :
    Good (arg1.view.read (Elt F) X1) (arg3.view.read (Elt F) X3) b ⟨Rect.unit (s := S256x128) ![g, 0] S2x128.size inbg, v⟩ := by
  intro x
  subst hwd
  have hv' := hv.trans (twice (View.readAt (Elt F) arg3.view (Rect.unit (s := S106256x128) off3 S2x128.size inb3).toLoadRect X3) hc1 hc2)
  refine (congrFun hv' x).trans ?_
  exact piece_core (inbg := inbg) hw b 0 h1 rfl h3 (by decide) hm hn (by omega) x

/-- The rows a word names last. -/
theorem good_last {off1 : Fin 2 → ℕ} {inb1} {hf} {off3 : Fin 2 → ℕ} {inb3} {g : ℕ} {inbg} {v : S2x128.Idx → Elt F .f32}
    {hc1 hc2} {w : BitVec 32} {m n b : ℕ}
    (hw : ∀ R j, Ok (arg1.view.readAt (Elt F) R X1 j))
    (hv : v = shapeCast S2x128 (shapeCast S2x128 (arg3.view.readAt (Elt F) (Rect.unit (s := S106256x128) off3 S2x128.size inb3).toLoadRect X3) hc1) hc2)
    (h3 : off3 = ![(w + 2#32).toNat, 0])
    (hwd : w = arg1.view.readAt (Elt F) (Rect.unit (s := S8x392) off1 S1x1.size inb1).toLoadRect X1 (Shape.Idx.first hf))
    (h1 : off1 = ![m, n]) (hm : m < 8) (hn : 8 * b ≤ n ∧ n < 8 * b + 8 ∧ n < 392) (hgn : g + 32 * b = 32 * m + 4 * n + 2) :
    Good (arg1.view.read (Elt F) X1) (arg3.view.read (Elt F) X3) b ⟨Rect.unit (s := S256x128) ![g, 0] S2x128.size inbg, v⟩ := by
  intro x
  subst hwd
  have hv' := hv.trans (twice (View.readAt (Elt F) arg3.view (Rect.unit (s := S106256x128) off3 S2x128.size inb3).toLoadRect X3) hc1 hc2)
  refine (congrFun hv' x).trans ?_
  rw [add_two (hw _ _)] at h3
  exact piece_core (inbg := inbg) hw b 1 h1 rfl h3 (by decide) hm hn (by omega) x

/-- What a load of the whole scratch buffer sees, when its pieces are good and cover it. -/
theorem load_good {x1 : Vec F S8x392 .i32} {x3 : Vec F S106256x128 .f32} {b : ℕ} (arg : Memref sig .tc .vmem S256x128 .f32)
    {L : List (View.Piece (Elt F) S256x128 .f32)} (hL : ∀ p ∈ L, Good x1 x3 b p)
    (hcov : View.Piece.tiledL L S2x128.size = true) {inb} :
    arg.view.readCov L (Rect.unit (s := S256x128) ![0, 0] S256x128.size inb).toLoadRect = gathered x1 x3 b := by
  rw [View.readCov_eq_canon']
  funext j
  have hj : (Rect.unit (s := S256x128) ![0, 0] S256x128.size inb).toLoadRect.idx j = j := by
    funext a
    apply Fin.ext
    match a with
    | ⟨0, _⟩ => show 0 + 1 * (j 0).val = (j 0).val; omega
    | ⟨1, _⟩ => show 0 + 1 * (j 1).val = (j 1).val; omega
  rw [hj]
  refine View.canon_eq_of_allAt L j _ (View.cover_of_tiledL L S2x128.size hcov j) ?_
  intro p hp x hx
  rw [← hx]
  exact hL p hp x

end Cert.Kernel2Ideal.Roi
-- ==== Proof.RoiEven.lean ====
/-
  The rows gathered for the even bin of a trip.
-/
module

public import proofs.«01_k».proof.Proof.RoiGather

@[expose] public section

set_option maxRecDepth 16384

noncomputable section

namespace Cert.Kernel2Ideal.Roi

open Cert.Kernel2Ideal Cert.Kernel2Ideal.Gen
open Idealize.ShloMosaic Idealize.ShloMosaic.TcCoe Idealize.ShloMosaic.Tactic
open Idealize.SL.Sem

variable {F : FTy → Type} [FloatOps F]

variable {arg1 : Memref sig .tc .smem S8x392 .i32} {arg3 : Memref sig .tc .vmem S106256x128 .f32}
  {X1 : BufTy.Contents (Elt F) arg1.view.ty} {X3 : BufTy.Contents (Elt F) arg3.view.ty}
  (hw : ∀ R j, Ok (arg1.view.readAt (Elt F) R X1 j)) (k : Fin k0_t1_loop.trips)

include hw

set_option maxHeartbeats 4000000 in
/-- The first scratch buffer holds the rows of the bin `2 k` in trip `k`. -/
theorem trip_good5 : ∀ p ∈ trip.sl.H5_128 arg1 arg3 X1 X3 hw k,
    Good (arg1.view.read (Elt F) X1) (arg3.view.read (Elt F) X3) (2 * k.val) p := by
  have hk : k.val < 24 := k.isLt
  unfold trip.sl.H5_128
  iterate 64
    refine List.forall_mem_cons.2 ⟨good_last hw rfl rfl rfl ClosedOff.eq (by decide) (by omega) (by omega),
      List.forall_mem_cons.2 ⟨good_first hw rfl rfl rfl ClosedOff.eq (by decide) (by omega) (by omega), ?_⟩⟩
  exact fun _ h => absurd h List.not_mem_nil

end Cert.Kernel2Ideal.Roi
-- ==== Proof.RoiOdd.lean ====
/-
  The rows gathered for the odd bin of a trip.
-/
module

public import proofs.«01_k».proof.Proof.RoiGather

@[expose] public section

set_option maxRecDepth 16384

noncomputable section

namespace Cert.Kernel2Ideal.Roi

open Cert.Kernel2Ideal Cert.Kernel2Ideal.Gen
open Idealize.ShloMosaic Idealize.ShloMosaic.TcCoe Idealize.ShloMosaic.Tactic
open Idealize.SL.Sem

variable {F : FTy → Type} [FloatOps F]

variable {arg1 : Memref sig .tc .smem S8x392 .i32} {arg3 : Memref sig .tc .vmem S106256x128 .f32}
  {X1 : BufTy.Contents (Elt F) arg1.view.ty} {X3 : BufTy.Contents (Elt F) arg3.view.ty}
  (hw : ∀ R j, Ok (arg1.view.readAt (Elt F) R X1 j)) (k : Fin k0_t1_loop.trips)

include hw

set_option maxHeartbeats 4000000 in
/-- The second scratch buffer holds the rows of the bin `2 k + 1` in trip `k`. -/
theorem trip_good6 : ∀ p ∈ trip.sl.H6_128 arg1 arg3 X1 X3 hw k,
    Good (arg1.view.read (Elt F) X1) (arg3.view.read (Elt F) X3) (2 * k.val + 1) p := by
  have hk : k.val < 24 := k.isLt
  unfold trip.sl.H6_128
  iterate 64
    refine List.forall_mem_cons.2 ⟨good_last hw rfl rfl rfl ClosedOff.eq (by decide) (by omega) (by omega),
      List.forall_mem_cons.2 ⟨good_first hw rfl rfl rfl ClosedOff.eq (by decide) (by omega) (by omega), ?_⟩⟩
  exact fun _ h => absurd h List.not_mem_nil

end Cert.Kernel2Ideal.Roi
-- ==== Proof.RoiLast.lean ====
/-
  The rows gathered for the last bin of a block.
-/
module

public import proofs.«01_k».proof.Proof.RoiGather

@[expose] public section

set_option maxRecDepth 16384

noncomputable section

namespace Cert.Kernel2Ideal.Roi

open Cert.Kernel2Ideal Cert.Kernel2Ideal.Gen
open Idealize.ShloMosaic Idealize.ShloMosaic.TcCoe Idealize.ShloMosaic.Tactic
open Idealize.SL.Sem

variable {F : FTy → Type} [FloatOps F]

variable (arg1 : Memref sig .tc .smem S8x392 .i32) (harg1 : arg1.IsWhole) (arg3 : Memref sig .tc .vmem S106256x128 .f32)
  (harg3 : arg3.IsWhole) (x1 : Vec F S8x392 .i32) (x3 : Vec F S106256x128 .f32)
  (hw : ∀ R j, Ok (arg1.view.readAt (Elt F) R (harg1.unread x1) j))

include hw

set_option maxHeartbeats 4000000 in
/-- After the loop the first scratch buffer holds the rows of the last bin. -/
theorem last_good : ∀ p ∈ run.sl.H5_128 arg1 harg1 arg3 harg3 x1 x3 hw,
    Good (arg1.view.read (Elt F) (harg1.unread x1)) (arg3.view.read (Elt F) (harg3.unread x3)) 48 p := by
  unfold run.sl.H5_128
  iterate 64
    refine List.forall_mem_cons.2 ⟨good_last hw rfl rfl rfl rfl (by decide) (by omega) (by omega),
      List.forall_mem_cons.2 ⟨good_first hw rfl rfl rfl rfl (by decide) (by omega) (by omega), ?_⟩⟩
  exact fun _ h => absurd h List.not_mem_nil

end Cert.Kernel2Ideal.Roi
-- ==== Proof.RoiBlock.lean ====
/-
  What a grid point of the pooling call leaves in its block: bin by bin, the two products of the bin's weights with the rows
  its words name.
-/
module

public import proofs.«01_k».proof.Proof.RoiFrameIdeal
public import proofs.«01_k».proof.Proof.RoiEven
public import proofs.«01_k».proof.Proof.RoiOdd
public import proofs.«01_k».proof.Proof.RoiLast

@[expose] public section

set_option maxRecDepth 16384

noncomputable section

namespace Cert.Kernel2Ideal.Roi

open Cert.Kernel2Ideal Cert.Kernel2Ideal.Gen
open Idealize.ShloMosaic Idealize.ShloMosaic.TcCoe Idealize.ShloMosaic.Tactic
open Idealize.SL.Sem

variable {F : FTy → Type} [FloatOps F]

/-- The products of one bin's weights with gathered rows. -/
def binRows (w : Vec F S1x1x512 .f32) (g : Vec F S256x128 .f32) : FVec F S8x256 .f32 := k0_pay421 run.sl.r_2 run.sl.r_3 w g

/-- One bin's weights. -/
def binWeights (x2 : Vec F S49x1x512 .f32) (b : Fin 49) : Vec F S1x1x512 .f32 := fun j => x2 (ix3 b 0 (j 2))

/-- The block of a point, as a function of its words, its weights and the feature table. -/
def block (x1 : Vec F S8x392 .i32) (x2 : Vec F S49x1x512 .f32) (x3 : Vec F S106256x128 .f32) : Vec F S49x8x256 .f32 :=
  fun y => binRows (binWeights x2 (y 0)) (gathered x1 x3 (y 0).val) (ix2 (y 1) (y 2))

/-- A bin's products with a leading axis of one. -/
theorem one_bin {α : Type} (B : S8x256.Idx → α) (s : Fin 8) (l : Fin 256) :
    shapeCast S1x8x256 B shapeCasts_S8x256_S1x8x256 (ix3 0 s l) = B (ix2 s l) := by
  pointwise

/-- A piece at bin `n` that holds the bin's products holds the block's entries. -/
theorem bin_piece (arg2 : Memref sig .tc .vmem S49x1x512 .f32) (harg2 : arg2.IsWhole) (x1 : Vec F S8x392 .i32)
    (x2 : Vec F S49x1x512 .f32) (x3 : Vec F S106256x128 .f32) {off : Fin 3 → ℕ} {inb} {off2 : Fin 3 → ℕ} {inb2} {n : ℕ}
    {G : Vec F S256x128 .f32} {v : FVec F S1x8x256 .f32}
    (hoff : off = ![n, 0, 0]) (hoff2 : off2 = ![n, 0, 0]) (hn : n < 49) (hG : G = gathered x1 x3 n)
    (hv : v = shapeCast S1x8x256 (binRows (arg2.view.readAt (Elt F) (Rect.unit (s := S49x1x512) off2 S1x1x512.size inb2).toLoadRect
      (harg2.unread x2)) G) shapeCasts_S8x256_S1x8x256) (x : S1x8x256.Idx) :
    v x = block x1 x2 x3 ((Rect.unit (s := S49x8x256) off ![1, 8, 256] inb).emb x) := by
  subst hoff hoff2 hG hv
  have hx0 : (x 0).val < 1 := (x 0).isLt
  have hx1 : (x 1).val < 8 := (x 1).isLt
  have hx2 : (x 2).val < 256 := (x 2).isLt
  have e0 : ((Rect.unit (s := S49x8x256) ![n, 0, 0] ![1, 8, 256] inb).emb x 0).val = n := by
    show n + 1 * (x 0).val = n; omega
  have ew : arg2.view.readAt (Elt F) (Rect.unit (s := S49x1x512) ![n, 0, 0] S1x1x512.size inb2).toLoadRect (harg2.unread x2)
      = binWeights x2 ((Rect.unit (s := S49x8x256) ![n, 0, 0] ![1, 8, 256] inb).emb x 0) := by
    funext j
    have hj0 : (j 0).val < 1 := (j 0).isLt
    have hj1 : (j 1).val < 1 := (j 1).isLt
    rw [View.readAt_apply, harg2.read_unread]
    unfold binWeights
    congr 1
    funext a
    apply Fin.ext
    match a with
    | ⟨0, _⟩ => show n + 1 * (j 0).val = n + 1 * (x 0).val; omega
    | ⟨1, _⟩ => show 0 + 1 * (j 1).val = 0; omega
    | ⟨2, _⟩ => show 0 + 1 * (j 2).val = (j 2).val; omega
  unfold block
  rw [e0, ← ew]
  have ej : x = ix3 (0 : Fin 1) (x 1 : Fin 8) (x 2 : Fin 256) := by
    funext a
    apply Fin.ext
    match a with
    | ⟨0, _⟩ => show (x 0).val = 0; omega
    | ⟨1, _⟩ => rfl
    | ⟨2, _⟩ => rfl
  refine (congrArg (shapeCast S1x8x256 (binRows _ _) shapeCasts_S8x256_S1x8x256) ej).trans ((one_bin _ _ _).trans ?_)
  congr 1
  funext a
  apply Fin.ext
  match a with
  | ⟨0, _⟩ => show (x 1).val = 0 + 1 * (x 1).val; omega
  | ⟨1, _⟩ => show (x 2).val = 0 + 1 * (x 2).val; omega

/-- After the loop a load of the first scratch buffer sees the rows of the last bin. -/
theorem last_load (arg1 : Memref sig .tc .smem S8x392 .i32) (harg1 : arg1.IsWhole) (arg3 : Memref sig .tc .vmem S106256x128 .f32)
    (harg3 : arg3.IsWhole) (arg5 : Memref sig .tc .vmem S256x128 .f32) (x1 : Vec F S8x392 .i32) (x3 : Vec F S106256x128 .f32)
    (hw : ∀ R j, Ok (arg1.view.readAt (Elt F) R (harg1.unread x1) j)) :
    arg5.view.readCov (run.sl.H5_128 arg1 harg1 arg3 harg3 x1 x3 hw)
      (Rect.unit (s := S256x128) ![0, 0] S256x128.size inb_S256x128_S256x128_0_0).toLoadRect = gathered x1 x3 48 := by
  have h := load_good (inb := inb_S256x128_S256x128_0_0) arg5 (last_good arg1 harg1 arg3 harg3 x1 x3 hw) (by sl_kernel_rfl)
  rw [harg1.read_unread, harg3.read_unread] at h
  exact h

section Point

variable (c : Dev nD) (i : grid0.Coords) (arg1 : Memref sig .tc .smem S8x392 .i32) (harg1 : arg1.IsWhole) (arg2 : Memref sig .tc .vmem S49x1x512 .f32) (harg2 : arg2.IsWhole) (arg3 : Memref sig .tc .vmem S106256x128 .f32) (harg3 : arg3.IsWhole) (arg4 : Memref sig .tc .vmem S49x8x256 .f32) (harg4 : arg4.IsWhole) (arg5 : Memref sig .tc .vmem S256x128 .f32) (harg5 : arg5.IsWhole) (arg6 : Memref sig .tc .vmem S256x128 .f32) (harg6 : arg6.IsWhole)
  (x1 : Vec F S8x392 .i32) (x2 : Vec F S49x1x512 .f32) (x3 : Vec F S106256x128 .f32) (hx : ∀ j, Ok (x1 j))

/-- Every piece of a trip holds the block's entries. -/
theorem trip_pieces (hw : ∀ R j, Ok (arg1.view.readAt (Elt F) R (harg1.unread x1) j)) (k : Fin k0_t1_loop.trips) :
    ∀ p ∈ (trip Variants.none c none i arg1 harg1 arg2 harg2 arg3 harg3 arg4 harg4 arg5 harg5 arg6 harg6
        run.sl.v0 (cmpi .eq run.sl.v25 run.sl.v1) (cmpi .eq run.sl.v42 run.sl.v4) (harg1.unread x1) (harg2.unread x2) (harg3.unread x3) hw k).1,
      ∀ x, p.2 x = block x1 x2 x3 (p.1.emb x) := by
  have hk : k.val < 24 := k.isLt
  have h5 := load_good (inb := inb_S256x128_S256x128_0_0) arg5 (trip_good5 (arg3 := arg3) (X3 := harg3.unread x3) hw k) (by sl_kernel_rfl)
  have h6 := load_good (inb := inb_S256x128_S256x128_0_0) arg6 (trip_good6 (arg3 := arg3) (X3 := harg3.unread x3) hw k) (by sl_kernel_rfl)
  rw [harg1.read_unread, harg3.read_unread] at h5 h6
  unfold trip
  refine List.forall_mem_cons.2 ⟨fun x => ?_, List.forall_mem_cons.2 ⟨fun x => ?_, fun _ h => absurd h List.not_mem_nil⟩⟩
  · exact bin_piece (inb := k0_off388_inb k) arg2 harg2 x1 x2 x3 (k0_off388_eq k) (k0_off387_eq k) (by omega) h6 rfl x
  · exact bin_piece (inb := k0_off386_inb k) arg2 harg2 x1 x2 x3 (k0_off386_eq k) (k0_off385_eq k) (by omega) h5 rfl x

/-- Every piece of a point holds the block's entries. -/
theorem all_pieces : ∀ p ∈ pieces c i arg1 harg1 arg2 harg2 arg3 harg3 arg4 harg4 arg5 harg5 arg6 harg6 x1 x2 x3 hx,
      ∀ x, p.2 x = block x1 x2 x3 (p.1.emb x) := by
  have h5 := last_load arg1 harg1 arg3 harg3 arg5 x1 x3 (words_ok arg1 harg1 hx)
  unfold pieces run
  dsimp only
  refine List.forall_mem_cons.2 ⟨fun x => ?_, fun p hp => ?_⟩
  · exact bin_piece (inb := inb_S49x8x256_S1x8x256_48_0_0) arg2 harg2 x1 x2 x3 rfl rfl (by omega) h5 rfl x
  · unfold written at hp
    obtain ⟨k, _, hk⟩ := (mem_before _ _ _).mp hp
    exact trip_pieces c i arg1 harg1 arg2 harg2 arg3 harg3 arg4 harg4 arg5 harg5 arg6 harg6 x1 x2 x3 (words_ok arg1 harg1 hx) k p hk

/-- What a point leaves in its block. -/
theorem left_eq : left c i arg1 harg1 arg2 harg2 arg3 harg3 arg4 harg4 arg5 harg5 arg6 harg6 x1 x2 x3 hx = block x1 x2 x3 := by
  funext y
  unfold left
  refine View.canon_eq_of_allAt _ y _ (pieces_cover c i arg1 harg1 arg2 harg2 arg3 harg3 arg4 harg4 arg5 harg5 arg6 harg6 x1 x2 x3 hx y) ?_
  intro p hp x hxy
  rw [← hxy]
  exact all_pieces c i arg1 harg1 arg2 harg2 arg3 harg3 arg4 harg4 arg5 harg5 arg6 harg6 x1 x2 x3 hx p hp x

end Point

end Cert.Kernel2Ideal.Roi
-- ==== Proof.RoiArray.lean ====
/-
  What the pooling call leaves in its result array: every point writes its own block of eight boxes, and the blocks cover it.
-/
module

public import proofs.«01_k».proof.Proof.RoiWordsIdeal
public import proofs.«01_k».proof.Proof.RoiBlock
public import Idealize.ShloMosaic.Lib.Pipeline.ValueKit.Tiles

@[expose] public section

set_option maxRecDepth 8192

noncomputable section

namespace Cert.Kernel2Ideal.Roi

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg) (hW : Words m)

/-- The point that writes box `r`. -/
abbrev pointOf (r : ℕ) (h : r < 1008) : Fin cfg0.N := ⟨r / 8, by rw [show cfg0.N = 126 from N_0]; omega⟩

/-- The result array: box `r` in the block of point `r / 8`, at row `r % 8`. -/
def result (c : Dev nD) : Vec F S49x1008x256 .f32 := fun i =>
  block (iblk m c 0 (pointOf (i 1).val (i 1).isLt)) (iblk m c 1 (pointOf (i 1).val (i 1).isLt)) (iblk m c 2 (pointOf (i 1).val (i 1).isLt))
    (ix3 (i 0) ⟨(i 1).val % 8, Nat.mod_lt _ (by decide)⟩ (i 2))

/-- The result at an index of the block of point `t`. -/
theorem result_at (c : Dev nD) (t : Fin cfg0.N) (y : S49x8x256.Idx) (z : S49x1008x256.Idx) (h0 : (z 0).val = (y 0).val)
    (h1 : (z 1).val = 8 * t.val + (y 1).val) (h2 : (z 2).val = (y 2).val) :
    result m c z = block (iblk m c 0 t) (iblk m c 1 t) (iblk m c 2 t) y := by
  have hy1 : (y 1).val < 8 := (y 1).isLt
  have e : ∀ t' : Fin cfg0.N, t' = t → ∀ y' : S49x8x256.Idx, y' = y →
      block (iblk m c 0 t') (iblk m c 1 t') (iblk m c 2 t') y' = block (iblk m c 0 t) (iblk m c 1 t) (iblk m c 2 t) y := by
    rintro _ rfl _ rfl; rfl
  refine e _ (Fin.ext (by dsimp only; omega)) _ (funext fun a => Fin.ext ?_)
  match a with
  | ⟨0, _⟩ => exact h0
  | ⟨1, _⟩ => show (z 1).val % 8 = (y 1).val; omega
  | ⟨2, _⟩ => exact h2

/-- Where the block of point `t` begins: at box `8 t`. -/
theorem out_index (t : Fin cfg0.N) : win0_3.index t 0 = 0 ∧ win0_3.index t 1 = t.val ∧ win0_3.index t 2 = 0 := by
  exact ⟨rfl, word0 t, rfl⟩

/-- Every write-back writes its block of the result. -/
theorem flushed_eq (c : Dev nD) (t : Fin cfg0.N) (hf : (cfg0.win 3).flush t = true) :
    (dats m hW 0 c).flushed 3 t = ((cfg0.win 3).blk t).view.read (Elt F) (result m c) := by
  show (cfg0.win 3).cut (grid0.coords t) ((dats m hW 0 c).after 3 t) = _
  rw [after0_3]
  unfold outAt
  rw [left_eq]
  funext y
  rw [View.read_apply]
  have i0 : ((((cfg0.win 3).blk t).view.emb y) 0).val = (y 0).val := by
    show win0_3.index t 0 * 49 + 1 * (y 0).val = (y 0).val; rw [(out_index t).1]; omega
  have i1 : ((((cfg0.win 3).blk t).view.emb y) 1).val = 8 * t.val + (y 1).val := by
    show win0_3.index t 1 * 8 + 1 * (y 1).val = 8 * t.val + (y 1).val; rw [(out_index t).2.1]; omega
  have i2 : ((((cfg0.win 3).blk t).view.emb y) 2).val = (y 2).val := by
    show win0_3.index t 2 * 256 + 1 * (y 2).val = (y 2).val; rw [(out_index t).2.2]; omega
  exact (result_at m c t y _ i0 i1 i2).symm

/-- The result array ends holding it. -/
theorem final (c : Dev nD) : (dats m hW 0 c).arrAt 3 cfg0.N = result m c :=
  (dats m hW 0 c).arrAt_eq_of_cover 3 (result m c) (flushed_eq m hW c) fun i => by
    have h0 : (i 0 : Nat) < 49 := (i 0).isLt
    have h1 : (i 1 : Nat) < 1008 := (i 1).isLt
    have h2 : (i 2 : Nat) < 256 := (i 2).isLt
    refine ⟨pointOf (i 1).val h1, flush0_3 _, ?_⟩
    show i ∈ ((View.whole main_v20).slice (win0_3.rect (pointOf (i 1).val h1))).set
    rw [View.set_slice_whole, Rect.mem_set_unit]
    obtain ⟨e0, e1, e2⟩ := out_index (pointOf (i 1).val h1)
    intro a
    match a with
    | ⟨0, _⟩ => show win0_3.index _ 0 * 49 ≤ (i 0 : Nat) ∧ (i 0 : Nat) < win0_3.index _ 0 * 49 + 49
                rw [e0]; omega
    | ⟨1, _⟩ => show win0_3.index _ 1 * 8 ≤ (i 1 : Nat) ∧ (i 1 : Nat) < win0_3.index _ 1 * 8 + 8
                rw [e1]; dsimp only; omega
    | ⟨2, _⟩ => show win0_3.index _ 2 * 256 ≤ (i 2 : Nat) ∧ (i 2 : Nat) < win0_3.index _ 2 * 256 + 256
                rw [e2]; omega

/-- The weights' block of point `t` is rows `49 t … 49 t + 48` of the spread weights. -/
theorem block_weights (c : Dev nD) (t : Fin cfg0.N) (b : Fin 49) (l : Fin 512) :
    (iblk m c 1 t : Vec F S49x1x512 .f32) (ix3 b 0 l)
      = (V m c main_v19 : Vec F S6174x1x512 .f32) (ix3 ⟨49 * t.val + b.val, by have := Nat.lt_of_lt_of_eq t.isLt N_0; omega⟩ 0 l) := by
  unfold iblk
  rw [View.read_apply]
  show V m c main_v19 _ = V m c main_v19 _
  congr 1
  funext a
  apply Fin.ext
  match a with
  | ⟨0, _⟩ => show (BitVec.ofNat 32 (grid0.coords t 0).val).toNat * 49 + 1 * b.val = 49 * t.val + b.val; rw [word0]; omega
  | ⟨1, _⟩ => rfl
  | ⟨2, _⟩ => show 0 * 512 + 1 * l.val = l.val; omega

/-- The table's block is the whole table. -/
theorem block_table (c : Dev nD) (t : Fin cfg0.N) : (iblk m c 2 t : Vec F S106256x128 .f32) = V m c main_v3 := by
  funext j; unfold iblk; rw [View.read_apply]
  show V m c main_v3 _ = V m c main_v3 _
  congr 1; funext a; apply Fin.ext
  match a with
  | ⟨0, _⟩ => show 0 * 106256 + 1 * (j 0).val = (j 0).val; omega
  | ⟨1, _⟩ => show 0 * 128 + 1 * (j 1).val = (j 1).val; omega

include hW in
/-- The run, read: the result, whatever the memory, if the words are in range. -/
theorem leaves : θ_run defs (onTc (τ := τ) (main (F := F))) ⟨m, fun _ => 0, ρ⟩ fun r => ∀ c : Dev nD,
      r.2.mem ((c.tc : Thread nD τ).loc main_v20) = result m c :=
  (θ_run defs _ _).mono (fun _ h c => ((h c).1 3).trans (final m hW c)) (run_main m ρ hW)

end Cert.Kernel2Ideal.Roi
-- ==== Proof.RoiLayout.lean ====
/-
  The layout the host hands to the pooling call: the feature table with each row split in two, and the weights spread over
  lanes, a pair of lanes to a sample.
-/
module

public import proofs.«01_k».proof.Proof.RoiFrameIdeal
public import Idealize.ShloMosaic.Lib.StableHlo.Run
public import Idealize.ShloMosaic.Lib.Pointwise

@[expose] public section

set_option maxRecDepth 8192

noncomputable section

namespace Cert.Kernel2Ideal.Roi

open Cert.Kernel2Ideal Cert.Kernel2Ideal.Gen
open Idealize.ShloMosaic Idealize.ShloMosaic.TcCoe Idealize.SL.Sem

variable (m : (ℓ : Loc nD τ sig) → Buf (Elt Ideal) ℓ)

/-- The feature table. -/
abbrev feats (c : Dev nD) : FVec Ideal S53125x256 .f32 := m ((c.tc : Thread nD τ).loc main_arg0)

/-- The samples' weights. -/
abbrev weights (c : Dev nD) : FVec Ideal S1000x49x16 .f32 := m ((c.tc : Thread nD τ).loc main_arg2)

/-- The table of half rows, as the host computes it. -/
theorem V_table (c : Dev nD) : (V m c main_v3 : FVec Ideal S106256x128 .f32)
    = pad S106256x128 ![0, 0] ![6, 0] ![0, 0] (shapeCast S106250x128 (feats m c) shapeCasts_S53125x256_S106250x128)
        (sitofp .f32 (constantI S_ 32 0#32)) pads_S106250x128_S106256x128_060_000 h_S_ := by
  show StableHlo.after _ _ _ = _
  simp only [hostOps0, hostOps0_1, hostOps0_2, hostOps0_3, hostOps0_4, hostOps0_5, hostOps0_6,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- Half row `2 r + e` holds the channels `128 e … 128 e + 127` of row `r`. -/
theorem table_at (c : Dev nD) (r : Fin 53125) (e : Fin 2) (l : Fin 128) :
    (V m c main_v3 : FVec Ideal S106256x128 .f32) (ix2 ⟨2 * r.val + e.val, by omega⟩ l)
      = feats m c (ix2 r ⟨128 * e.val + l.val, by omega⟩) := by
  rw [V_table]
  pointwise
  have h : 2 * r.val + e.val < 106250 := by omega
  have ec : (⟨(2 * r.val + e.val) % 2 * 128 + l.val, by omega⟩ : Fin 256) = ⟨128 * e.val + l.val, by omega⟩ := Fin.ext (by dsimp only; omega)
  rw [dif_pos h, ec]

/-- The padded weights. -/
def padded (c : Dev nD) : FVec Ideal S1008x49x16 .f32 :=
  pad S1008x49x16 ![0, 0, 0] ![8, 0, 0] ![0, 0, 0] (weights m c) (sitofp .f32 (constantI S_ 32 0#32)) pads_S1000x49x16_S1008x49x16_080_000_000 h_S_

/-- The padded weights, eight boxes to a group, by bin. -/
def grouped (c : Dev nD) : FVec Ideal S126x49x128 .f32 :=
  shapeCast S126x49x128 (transpose S126x49x8x16 [0, 2, 1, 3] (shapeCast S126x8x49x16 (padded m c) shapeCasts_S1008x49x16_S126x8x49x16)
    transposes_S126x8x49x16_S126x49x8x16_0_2_1_3) shapeCasts_S126x49x8x16_S126x49x128

/-- Zeros of the same shape. -/
def zeros : FVec Ideal S126x49x128 .f32 := broadcastInDim S126x49x128 ![] bcast_S_S126x49x128 (constant S_ .f32 0x00000000#32)

/-- Two arrays interleaved along their last axis. -/
def interleaved (x y : FVec Ideal S126x49x128 .f32) : FVec Ideal S126x49x256 .f32 :=
  shapeCast S126x49x256 (concatenate S126x49x128x2 3
    [⟨S126x49x128x1, broadcastInDim S126x49x128x1 ![0, 1, 2] bcast_S126x49x128_S126x49x128x1_0_1_2 x⟩,
     ⟨S126x49x128x1, broadcastInDim S126x49x128x1 ![0, 1, 2] bcast_S126x49x128_S126x49x128x1_0_1_2 y⟩]
    concatenates_S126x49x128x1_S126x49x128x1_S126x49x128x2_d3) shapeCasts_S126x49x128x2_S126x49x256

/-- The spread weights, as the host computes them. -/
theorem V_weights (c : Dev nD) : (V m c main_v19 : FVec Ideal S6174x1x512 .f32)
    = shapeCast S6174x1x512 (concatenate S126x49x512 2
        [⟨S126x49x256, interleaved (grouped m c) zeros⟩, ⟨S126x49x256, interleaved zeros (grouped m c)⟩]
        concatenates_S126x49x256_S126x49x256_S126x49x512_d2) shapeCasts_S126x49x512_S6174x1x512 := by
  show StableHlo.after _ _ _ = _
  simp only [hostOps0, hostOps0_1, hostOps0_2, hostOps0_3, hostOps0_4, hostOps0_5, hostOps0_6,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The word zero, as a float, is zero. -/
theorem zero_word : FloatOps.sitofp (F := Ideal) .f32 (0#32) = (0 : EReal) := by
  show (((0#32 : BitVec 32).toInt : ℝ) : EReal) = 0
  simp

/-- A padded weight: the given one, or zero for a box of padding. -/
theorem padded_at (c : Dev nD) (r : Fin 1008) (b : Fin 49) (q : Fin 16) :
    padded m c (ix3 r b q) = if h : r.val < 1000 then weights m c (ix3 ⟨r.val, h⟩ b q) else 0 := by
  unfold padded
  pointwise
  simp only [zero_word]

/-- A grouped weight is a padded one. -/
theorem grouped_at (c : Dev nD) (t : Fin 126) (b : Fin 49) (s : Fin 8) (q : Fin 16) :
    grouped m c (ix3 t b ⟨16 * s.val + q.val, by omega⟩) = padded m c (ix3 ⟨8 * t.val + s.val, by omega⟩ b q) := by
  unfold grouped
  pointwise
  exact congrArg (fun r => padded m c (ix3 r b q)) (Fin.ext (by dsimp only; omega))

/-- The even lanes are the first array's. -/
theorem interleaved_even (x y : FVec Ideal S126x49x128 .f32) (t : Fin 126) (b : Fin 49) (l : Fin 128) :
    interleaved x y (ix3 t b ⟨2 * l.val, by omega⟩) = x (ix3 t b l) := by
  unfold interleaved
  pointwise
  exact dif_pos (by omega)

/-- The odd lanes are the second array's. -/
theorem interleaved_odd (x y : FVec Ideal S126x49x128 .f32) (t : Fin 126) (b : Fin 49) (l : Fin 128) :
    interleaved x y (ix3 t b ⟨2 * l.val + 1, by omega⟩) = y (ix3 t b l) := by
  unfold interleaved
  pointwise
  exact dif_neg (by omega)

/-- The first 256 lanes of a row of weights. -/
theorem weights_first (c : Dev nD) (t : Fin 126) (b : Fin 49) (l : Fin 256) :
    (V m c main_v19 : FVec Ideal S6174x1x512 .f32) (ix3 ⟨49 * t.val + b.val, by omega⟩ 0 ⟨l.val, by omega⟩)
      = interleaved (grouped m c) zeros (ix3 t b l) := by
  rw [V_weights]
  pointwise

/-- The last 256 lanes of a row of weights. -/
theorem weights_second (c : Dev nD) (t : Fin 126) (b : Fin 49) (l : Fin 256) :
    (V m c main_v19 : FVec Ideal S6174x1x512 .f32) (ix3 ⟨49 * t.val + b.val, by omega⟩ 0 ⟨256 + l.val, by omega⟩)
      = interleaved zeros (grouped m c) (ix3 t b l) := by
  rw [V_weights]
  pointwise

/-- Lane `32 s + 2 q` of the first half is the weight of sample `q` of box `s` of the group. -/
theorem weight_even (c : Dev nD) (t : Fin 126) (b : Fin 49) (s : Fin 8) (q : Fin 16) :
    (V m c main_v19 : FVec Ideal S6174x1x512 .f32) (ix3 ⟨49 * t.val + b.val, by omega⟩ 0 ⟨32 * s.val + 2 * q.val, by omega⟩)
      = padded m c (ix3 ⟨8 * t.val + s.val, by omega⟩ b q) := by
  rw [← grouped_at, ← interleaved_even (grouped m c) zeros, ← weights_first]
  exact congrArg (fun l => (V m c main_v19 : FVec Ideal S6174x1x512 .f32) (ix3 ⟨49 * t.val + b.val, by omega⟩ 0 l))
    (Fin.ext (by dsimp only; omega))

/-- Lane `32 s + 2 q + 1` of the second half is the same weight. -/
theorem weight_odd (c : Dev nD) (t : Fin 126) (b : Fin 49) (s : Fin 8) (q : Fin 16) :
    (V m c main_v19 : FVec Ideal S6174x1x512 .f32) (ix3 ⟨49 * t.val + b.val, by omega⟩ 0 ⟨256 + (32 * s.val + 2 * q.val + 1), by omega⟩)
      = padded m c (ix3 ⟨8 * t.val + s.val, by omega⟩ b q) := by
  rw [← grouped_at, ← interleaved_odd zeros (grouped m c), ← weights_second]
  exact congrArg (fun l => (V m c main_v19 : FVec Ideal S6174x1x512 .f32) (ix3 ⟨49 * t.val + b.val, by omega⟩ 0 l))
    (Fin.ext (by dsimp only; omega))

end Cert.Kernel2Ideal.Roi
-- ==== Proof.RoiBin.lean ====
/-
  One bin of a block: two products of the gathered rows, one per half of the channels. Of the 256 gathered rows a box keeps
  the 32 of its own, and of these the even ones for the first half of the channels, the odd ones for the second.
-/
module

public import proofs.«01_k».proof.Proof.RoiGather

@[expose] public section

set_option maxRecDepth 8192

noncomputable section

namespace Cert.Kernel2Ideal.Roi

open Cert.Kernel2Ideal Cert.Kernel2Ideal.Gen
open Idealize.ShloMosaic Idealize.ShloMosaic.TcCoe

/-- The lanes that box `s` keeps, of parity `e`. -/
def keeps (s : Fin 8) (u : Fin 256) (e : ℕ) : Prop := u.val / 32 = s.val ∧ u.val % 2 = e

instance (s : Fin 8) (u : Fin 256) (e : ℕ) : Decidable (keeps s u e) := by unfold keeps; infer_instance

/-- The even lanes of a box, as the body computes them. -/
theorem even_lanes : ∀ (s : Fin 8) (u : Fin 256),
    andi (cmpi .eq run.sl.v25 run.sl.v1) (cmpi .eq run.sl.v42 run.sl.v4) (ix2 s u) = 1#1 ↔ keeps s u 0 := by
  decide +kernel

/-- The odd lanes of a box, as the body computes them. -/
theorem odd_lanes : ∀ (s : Fin 8) (u : Fin 256),
    andi (cmpi .eq run.sl.v25 run.sl.v1) (cmpi .eq (select (andi (xori (cmpi .slt (remsi run.sl.v0 (broadcast S8x256 2#32)) (broadcast S8x256 0#32)) (broadcast S8x256 0#1)) (cmpi .ne (remsi run.sl.v0 (broadcast S8x256 2#32)) (broadcast S8x256 0#32))) (addi (remsi run.sl.v0 (broadcast S8x256 2#32)) (broadcast S8x256 2#32)) (remsi run.sl.v0 (broadcast S8x256 2#32))) (broadcast S8x256 1#32)) (ix2 s u) = 1#1 ↔ keeps s u 1 := by
  decide +kernel

/-- The word `0x3F800000` is one. -/
theorem ofBits_one : (FloatOps.ofBits (F := Ideal) FTy.f32 1065353216#32 : EReal) = 1 := by
  show Ideal.ofBits .f32 1065353216#32 = 1
  simp [Ideal.ofBits, Ideal.ieee]
  rw [← EReal.coe_mul, ← EReal.coe_one]
  exact congrArg _ (by norm_num)

/-- The word zero is zero. -/
theorem ofBits_zero : (FloatOps.ofBits (F := Ideal) FTy.f32 0#32 : EReal) = 0 := by
  show Ideal.ofBits .f32 0#32 = 0
  simp [Ideal.ofBits, Ideal.ieee]

/-- The mask of the even lanes. -/
theorem mask_even (s : Fin 8) (u : Fin 256) :
    (run.sl.r_2 (F := Ideal) : FVec Ideal S8x256 .f32) (ix2 s u) = if keeps s u 0 then (1 : EReal) else 0 := by
  have h := even_lanes s u
  show (if andi (cmpi .eq run.sl.v25 run.sl.v1) (cmpi .eq run.sl.v42 run.sl.v4) (ix2 s u) = 1#1 then _ else _) = _
  by_cases hk : keeps s u 0
  · rw [if_pos hk, if_pos (h.mpr hk)]; exact ofBits_one
  · rw [if_neg hk, if_neg (fun e => hk (h.mp e))]; exact ofBits_zero

/-- The mask of the odd lanes. -/
theorem mask_odd (s : Fin 8) (u : Fin 256) :
    (run.sl.r_3 (F := Ideal) : FVec Ideal S8x256 .f32) (ix2 s u) = if keeps s u 1 then (1 : EReal) else 0 := by
  have h := odd_lanes s u
  show (if andi (cmpi .eq run.sl.v25 run.sl.v1) (cmpi .eq (select (andi (xori (cmpi .slt (remsi run.sl.v0 (broadcast S8x256 2#32)) (broadcast S8x256 0#32)) (broadcast S8x256 0#1)) (cmpi .ne (remsi run.sl.v0 (broadcast S8x256 2#32)) (broadcast S8x256 0#32))) (addi (remsi run.sl.v0 (broadcast S8x256 2#32)) (broadcast S8x256 2#32)) (remsi run.sl.v0 (broadcast S8x256 2#32))) (broadcast S8x256 1#32)) (ix2 s u) = 1#1 then _ else _) = _
  by_cases hk : keeps s u 1
  · rw [if_pos hk, if_pos (h.mpr hk)]; exact ofBits_one
  · rw [if_neg hk, if_neg (fun e => hk (h.mp e))]; exact ofBits_zero

/-- A sum over the lanes a box keeps is a sum over its sixteen samples' corners. -/
theorem sum_kept (s : Fin 8) (e : Fin 2) (f g : Fin 256 → EReal) :
    ∑ u : Fin 256, f u * (if keeps s u e.val then (1 : EReal) else 0) * g u
      = ∑ q : Fin 16, f ⟨32 * s.val + 2 * q.val + e.val, by omega⟩ * g ⟨32 * s.val + 2 * q.val + e.val, by omega⟩ := by
  symm
  refine Finset.sum_of_injOn (fun q : Fin 16 => (⟨32 * s.val + 2 * q.val + e.val, by omega⟩ : Fin 256)) ?_ ?_ ?_ ?_
  · intro a _ b _ hab
    have h := congrArg Fin.val hab
    dsimp only at h
    exact Fin.ext (by omega)
  · intro a _
    exact Finset.mem_coe.mpr (Finset.mem_univ _)
  · intro u _ hu
    have hk : ¬ keeps s u e.val := by
      intro hk
      have h1 := hk.1
      have h2 := hk.2
      exact hu ⟨⟨u.val % 32 / 2, by omega⟩, Finset.mem_coe.mpr (Finset.mem_univ _), Fin.ext (by dsimp only; omega)⟩
    rw [if_neg hk, mul_zero, zero_mul]
  · intro q _
    have hk : keeps s ⟨32 * s.val + 2 * q.val + e.val, by omega⟩ e.val := ⟨by dsimp only; omega, by dsimp only; omega⟩
    rw [if_pos hk, mul_one]

section Products

variable (w : Vec Ideal S1x1x512 .f32) (g : Vec Ideal S256x128 .f32)

/-- The first half of the channels: the first 256 weights against the gathered rows, the box's even lanes kept. -/
theorem product_even (s : Fin 8) (l : Fin 128) :
    k0_pay421 (F := Ideal) run.sl.r_2 run.sl.r_3 w g (ix2 s ⟨l.val, by omega⟩)
      = ∑ u : Fin 256, w (ix3 0 0 ⟨u.val, by omega⟩) * (if keeps s u 0 then (1 : EReal) else 0) * g (ix2 u l) := by
  pointwise [k0_pay421]
  refine Finset.sum_congr rfl fun u _ => ?_
  exact congrArg (fun a : EReal => w (ix3 0 0 ⟨u.val, by omega⟩) * a * g (ix2 u l)) (mask_even s u)

/-- The second half of the channels: the last 256 weights, the box's odd lanes kept. -/
theorem product_odd (s : Fin 8) (l : Fin 128) :
    k0_pay421 (F := Ideal) run.sl.r_2 run.sl.r_3 w g (ix2 s ⟨128 + l.val, by omega⟩)
      = ∑ u : Fin 256, w (ix3 0 0 ⟨256 + u.val, by omega⟩) * (if keeps s u 1 then (1 : EReal) else 0) * g (ix2 u l) := by
  pointwise [k0_pay421]
  refine Finset.sum_congr rfl fun u _ => ?_
  exact congrArg (fun a : EReal => w (ix3 0 0 ⟨256 + u.val, by omega⟩) * a * g (ix2 u l)) (mask_odd s u)

end Products

end Cert.Kernel2Ideal.Roi
-- ==== Proof.RoiSpec.lean ====
/-
  The mathematics of the pooling: a bin of a box is a weighted sum of sixteen rows of the feature table.
-/
module

public import Idealize.ShloMosaic.Lib.Pointwise

@[expose] public section

noncomputable section

namespace Cert.Pool

open Idealize.ShloMosaic

/-- The row of the table that sample `q` of bin `b` reads: the bin's word `q / 2`, and the row after it for an odd `q`. -/
def sampleRow (row : Fin 392 → BitVec 32) (b : Fin 49) (q : Fin 16) : Fin 53125 :=
  Fin.ofNat 53125 ((row ⟨8 * b.val + q.val / 2, by omega⟩).toNat + q.val % 2)

/-- One channel of one bin of a box: the sixteen samples' rows, weighted. -/
def pooled (feats : Fin 53125 → Fin 256 → EReal) (row : Fin 392 → BitVec 32) (w : Fin 49 → Fin 16 → EReal) (b : Fin 49)
    (ch : Fin 256) : EReal := ∑ q : Fin 16, w b q * feats (sampleRow row b q) ch

end Cert.Pool
-- ==== Proof.RoiValue.lean ====
/-
  The pooling call's result, entry by entry: the weighted sum of the sixteen rows its bin reads, and zero in the rows of
  padding.
-/
module

public import proofs.«01_k».proof.Proof.RoiArray
public import proofs.«01_k».proof.Proof.RoiLayout
public import proofs.«01_k».proof.Proof.RoiBin
public import proofs.«01_k».proof.Proof.RoiSpec

@[expose] public section

set_option maxRecDepth 8192

noncomputable section

namespace Cert.Kernel2Ideal.Roi

open Cert.Kernel2Ideal Cert.Kernel2Ideal.Gen Cert.Pool
open Idealize.ShloMosaic Idealize.ShloMosaic.TcCoe Idealize.SL.Sem

variable (m : (ℓ : Loc nD τ sig) → Buf (Elt Ideal) ℓ) (c : Dev nD) (t : Fin cfg0.N)

theorem lt126 : t.val < 126 := Nat.lt_of_lt_of_eq t.isLt N_0

/-- A half row gathered for sample `q` of bin `b` of box `s` of the group: half `e` of the row the sample reads. -/
theorem gathered_at (hr : ∀ r n, (rows m c (ix2 r n)).toNat ≤ 53123) (b : Fin 49) (s : Fin 8) (q : Fin 16) (e : Fin 2) (l : Fin 128)
    (h : 8 * t.val + s.val < 1000) :
    gathered (iblk m c 0 t) (iblk m c 2 t) b.val (ix2 ⟨32 * s.val + 2 * q.val + e.val, by omega⟩ l)
      = feats m c (ix2 (sampleRow (fun n => rows m c (ix2 ⟨8 * t.val + s.val, h⟩ n)) b q) ⟨128 * e.val + l.val, by omega⟩) := by
  have hb := hr ⟨8 * t.val + s.val, h⟩ ⟨8 * b.val + q.val / 2, by omega⟩
  have es : Fin.ofNat 8 ((32 * s.val + 2 * q.val + e.val) / 32) = s := Fin.ext (by show _ % 8 = _; omega)
  have en : Fin.ofNat 392 (8 * b.val + (32 * s.val + 2 * q.val + e.val) % 32 / 4) = ⟨8 * b.val + q.val / 2, by omega⟩ :=
    Fin.ext (by show _ % 392 = _; dsimp only; omega)
  have ew : rowAt (iblk m c 0 t) b.val (32 * s.val + 2 * q.val + e.val)
      = 2 * ((rows m c (ix2 ⟨8 * t.val + s.val, h⟩ ⟨8 * b.val + q.val / 2, by omega⟩)).toNat + q.val % 2) + e.val := by
    unfold rowAt
    rw [es, en, block_words, word_at, dif_pos h, toNat_double _ hb]
    omega
  have hrow : (sampleRow (fun n => rows m c (ix2 ⟨8 * t.val + s.val, h⟩ n)) b q).val
      = (rows m c (ix2 ⟨8 * t.val + s.val, h⟩ ⟨8 * b.val + q.val / 2, by omega⟩)).toNat + q.val % 2 :=
    Nat.mod_eq_of_lt (show (rows m c (ix2 ⟨8 * t.val + s.val, h⟩ ⟨8 * b.val + q.val / 2, by omega⟩)).toNat + q.val % 2 < 53125 by omega)
  rw [← table_at]
  unfold gathered
  rw [block_table]
  refine congrArg (fun n => (V m c main_v3 : FVec Ideal S106256x128 .f32) (ix2 n l)) (Fin.ext ?_)
  show rowAt (iblk m c 0 t) b.val (32 * s.val + 2 * q.val + e.val) % 106256 = 2 * (sampleRow _ b q).val + e.val
  rw [hrow, ew]
  exact Nat.mod_eq_of_lt (by omega)

/-- One channel of one bin of box `s` of the group, in the block of point `t`. -/
theorem block_at (hr : ∀ r n, (rows m c (ix2 r n)).toNat ≤ 53123) (b : Fin 49) (s : Fin 8) (e : Fin 2) (l : Fin 128) :
    block (iblk m c 0 t) (iblk m c 1 t) (iblk m c 2 t) (ix3 b s ⟨128 * e.val + l.val, by omega⟩)
      = ∑ q : Fin 16, padded m c (ix3 ⟨8 * t.val + s.val, by have := lt126 t; omega⟩ b q)
          * gathered (iblk m c 0 t) (iblk m c 2 t) b.val (ix2 ⟨32 * s.val + 2 * q.val + e.val, by omega⟩ l) := by
  have ht := lt126 t
  match e with
  | ⟨0, _⟩ =>
    have el : (⟨128 * 0 + l.val, by omega⟩ : Fin 256) = ⟨l.val, by omega⟩ := Fin.ext (by dsimp only; omega)
    show binRows (binWeights (iblk m c 1 t) b) (gathered (iblk m c 0 t) (iblk m c 2 t) b.val) (ix2 s ⟨128 * 0 + l.val, by omega⟩) = _
    rw [el]
    unfold binRows
    rw [product_even]
    refine (sum_kept s 0 (fun u => binWeights (iblk m c 1 t) b (ix3 0 0 ⟨u.val, by omega⟩)) _).trans (Finset.sum_congr rfl fun q _ => ?_)
    refine congrArg (· * _) ?_
    show (iblk m c 1 t : Vec Ideal S49x1x512 .f32) (ix3 b 0 ⟨32 * s.val + 2 * q.val + 0, by omega⟩) = _
    rw [block_weights]
    exact weight_even m c ⟨t.val, ht⟩ b s q
  | ⟨1, _⟩ =>
    show binRows (binWeights (iblk m c 1 t) b) (gathered (iblk m c 0 t) (iblk m c 2 t) b.val) (ix2 s ⟨128 + l.val, by omega⟩) = _
    unfold binRows
    rw [product_odd]
    refine (sum_kept s 1 (fun u => binWeights (iblk m c 1 t) b (ix3 0 0 ⟨256 + u.val, by omega⟩)) _).trans (Finset.sum_congr rfl fun q _ => ?_)
    refine congrArg (· * _) ?_
    show (iblk m c 1 t : Vec Ideal S49x1x512 .f32) (ix3 b 0 ⟨256 + (32 * s.val + 2 * q.val + 1), by omega⟩) = _
    rw [block_weights]
    exact weight_odd m c ⟨t.val, ht⟩ b s q

/-- The result's entries: the weighted sums, and zero after the last box. -/
theorem result_value (hr : ∀ r n, (rows m c (ix2 r n)).toNat ≤ 53123) (b : Fin 49) (r : Fin 1008) (ch : Fin 256) :
    result m c (ix3 b r ch)
      = if h : r.val < 1000 then pooled (fun n l => feats m c (ix2 n l)) (fun n => rows m c (ix2 ⟨r.val, h⟩ n))
            (fun b q => weights m c (ix3 ⟨r.val, h⟩ b q)) b ch
        else 0 := by
  obtain ⟨t, s, ets⟩ : ∃ (t : Fin cfg0.N) (s : Fin 8), r.val = 8 * t.val + s.val :=
    ⟨pointOf r.val r.isLt, ⟨r.val % 8, by omega⟩, by dsimp only; omega⟩
  have ht := lt126 t
  have hlt : 8 * t.val + s.val < 1008 := by omega
  obtain rfl : r = ⟨8 * t.val + s.val, hlt⟩ := Fin.ext ets
  obtain ⟨e, l, rfl⟩ : ∃ (e : Fin 2) (l : Fin 128), ch = ⟨128 * e.val + l.val, by omega⟩ :=
    ⟨⟨ch.val / 128, by omega⟩, ⟨ch.val % 128, by omega⟩, Fin.ext (by dsimp only; omega)⟩
  rw [result_at m c t (ix3 b s ⟨128 * e.val + l.val, by omega⟩) _ rfl rfl rfl, block_at m c t hr]
  split
  · rename_i h
    unfold pooled
    refine Finset.sum_congr rfl fun q _ => ?_
    rw [padded_at, dif_pos h, gathered_at m c t hr b s q e l h]
  · rename_i h
    refine Finset.sum_eq_zero fun q _ => ?_
    rw [padded_at, dif_neg h]
    exact zero_mul _

end Cert.Kernel2Ideal.Roi
-- ==== Proof.RoiRef.lean ====
/-
  The reference of the pooling call, read entry by entry: the rows it gathers, the weighted sum over the sixteen samples, and
  the rows of zeros after the last box.
-/
module

public import proofs.«01_k».proof.Proof.Gen.Reference2Ideal
public import proofs.«01_k».proof.Proof.RoiSpec

@[expose] public section

set_option maxRecDepth 8192

noncomputable section

namespace Cert.Reference2Ideal.Roi

open Cert.Reference2Ideal Cert.Reference2Ideal.Gen Cert.Pool
open Idealize.ShloMosaic Idealize.ShloMosaic.TcCoe

/-- Every sample's row, before negative ones are shifted. -/
def rawRows (rows : IVec S1000x392 32) : IVec S1000x49x16 32 :=
  shapeCast S1000x49x16 (addi (broadcastInDim S1000x49x8x2 ![0, 1, 2, 3] bcast_S1000x49x8x1_S1000x49x8x2_0_1_2_3
      (shapeCast S1000x49x8x1 rows shapeCasts_S1000x392_S1000x49x8x1))
    (broadcastInDim S1000x49x8x2 ![0, 1, 2, 3] bcast_S1x1x1x2_S1000x49x8x2_0_1_2_3
      (broadcastInDim S1x1x1x2 ![3] bcast_S2_S1x1x1x2_3 (iotaInDim S2 32 0)))) shapeCasts_S1000x49x8x2_S1000x49x16

/-- Every sample's row, as the gather reads it. -/
def shiftedRows (rows : IVec S1000x392 32) : IVec S1000x49x16x1 32 :=
  broadcastInDim S1000x49x16x1 ![0, 1, 2] bcast_S1000x49x16_S1000x49x16x1_0_1_2
    (select (cmpi .slt (rawRows rows) (broadcastInDim S1000x49x16 ![] bcast_S_S1000x49x16 (constantI S_ 32 0#32)))
      (addi (rawRows rows) (broadcastInDim S1000x49x16 ![] bcast_S_S1000x49x16 (constantI S_ 32 53125#32))) (rawRows rows))

/-- The gathered rows. -/
def gathered (feats : FVec Ideal S53125x256 .f32) (rows : IVec S1000x392 32) : FVec Ideal S1000x49x16x256 .f32 :=
  Host.gather gather_S53125x256_S1000x49x16x1_S1000x49x16x256_3_0_n_n_0_3_1256 feats (shiftedRows rows)

/-- The weights, along the channels. -/
def spread (wq : FVec Ideal S1000x49x16 .f32) : FVec Ideal S1000x49x16x256 .f32 :=
  broadcastInDim S1000x49x16x256 ![0, 1, 2, 3] bcast_S1000x49x16x1_S1000x49x16x256_0_1_2_3
    (broadcastInDim S1000x49x16x1 ![0, 1, 2] bcast_S1000x49x16_S1000x49x16x1_0_1_2 wq)

/-- The reference's result. -/
def refPooled (feats : FVec Ideal S53125x256 .f32) (rows : IVec S1000x392 32) (wq : FVec Ideal S1000x49x16 .f32) :
    FVec Ideal S49x1008x256 .f32 :=
  pad S49x1008x256 ![0, 0, 0] ![0, 8, 0] ![0, 0, 0]
    (transpose S49x1000x256 [1, 0, 2] (Host.reduceAdd (mulf (spread wq) (gathered feats rows)) (constant S_ .f32 0x00000000#32)
      reducesTo_S1000x49x16x256_S1000x49x256_d2 h_S_) transposes_S1000x49x256_S49x1000x256_1_0_2)
    (sitofp .f32 (constantI S_ 32 0#32)) pads_S49x1000x256_S49x1008x256_000_080_000 h_S_

/-- A gathered entry: the row of its start index, read signed and clamped into the table. -/
theorem gather_row_at (x : FVec Ideal S53125x256 .f32) (idx : IVec S1000x49x16x1 32) (r : Fin 1000) (b : Fin 49) (q : Fin 16) (ch : Fin 256) :
    Host.gather gather_S53125x256_S1000x49x16x1_S1000x49x16x256_3_0_n_n_0_3_1256 x idx (ix4 r b q ch)
      = x (ix2 ⟨min (idx (ix4 r b q 0)).toInt.toNat 53124, by omega⟩ ch) := by
  unfold Host.gather
  refine congrArg x (funext fun a => Fin.ext ?_)
  set d := gather_S53125x256_S1000x49x16x1_S1000x49x16x256_3_0_n_n_0_3_1256 with hd
  show d.start (ix4 r b q ch) idx a + d.batchCoord (ix4 r b q ch) a + d.offCoord (ix4 r b q ch) a = _
  rw [d.batchCoord_eq_zero _ _ List.not_mem_nil]
  have h01 : a = 0 ∨ a = 1 := by
    match a with
    | ⟨0, _⟩ => exact Or.inl rfl
    | ⟨1, _⟩ => exact Or.inr rfl
  rcases h01 with rfl | rfl
  · rw [d.offCoord_eq_zero _ _ (fun h => ((d.mem_sKept _).mp h).1 (List.mem_singleton.mpr rfl))]
    unfold GatherDims.start
    rw [dif_pos (show (0 : Fin 2) ∈ d.startIndexMap from List.mem_singleton.mpr rfl)]
    have hsi : d.siIdx (ix4 r b q ch) ⟨List.idxOf (0 : Fin 2) d.startIndexMap, List.idxOf_lt_length_iff.2 (List.mem_singleton.mpr rfl)⟩
        = ix4 r b q 0 := by
      funext k
      refine Fin.ext ?_
      match k with
      | ⟨0, _⟩ => rfl
      | ⟨1, _⟩ => rfl
      | ⟨2, _⟩ => rfl
      | ⟨3, _⟩ => rfl
    rw [hsi]
    rfl
  · have h1 : (1 : Fin 2) ∉ d.startIndexMap := fun h => absurd (List.mem_singleton.1 h) (by decide)
    unfold GatherDims.start
    rw [dif_neg h1, Nat.zero_add]
    rfl

/-- A sample's row: its bin's word, and one more for an odd sample. -/
theorem rawRows_at (rows : IVec S1000x392 32) (r : Fin 1000) (b : Fin 49) (q : Fin 16) :
    rawRows rows (ix3 r b q) = rows (ix2 r ⟨8 * b.val + q.val / 2, by omega⟩) + BitVec.ofNat 32 (q.val % 2) := by
  unfold rawRows
  pointwise
  exact congrArg (fun n => rows (ix2 r n) + BitVec.ofNat 32 (q.val % 2)) (Fin.ext (by dsimp only; omega))

/-- The same as a number, for a word within the table. -/
theorem rawRows_toNat (rows : IVec S1000x392 32) (r : Fin 1000) (b : Fin 49) (q : Fin 16)
    (h : (rows (ix2 r ⟨8 * b.val + q.val / 2, by omega⟩)).toNat ≤ 53123) :
    (rawRows rows (ix3 r b q)).toNat = (rows (ix2 r ⟨8 * b.val + q.val / 2, by omega⟩)).toNat + q.val % 2 := by
  rw [rawRows_at, BitVec.toNat_add, BitVec.toNat_ofNat]
  omega

/-- A row that is not negative is not shifted. -/
theorem shiftedRows_at (rows : IVec S1000x392 32) (r : Fin 1000) (b : Fin 49) (q : Fin 16)
    (h : (rawRows rows (ix3 r b q)).toNat < 2 ^ 31) : shiftedRows rows (ix4 r b q 0) = rawRows rows (ix3 r b q) := by
  unfold shiftedRows
  pointwise
  refine if_neg fun e => ?_
  have e' := IntOp.cmpi_slt.1 e
  rw [BitVec.toInt_eq_toNat_cond, if_pos (by omega)] at e'
  have e0 : (0#32 : BitVec 32).toInt = 0 := rfl
  omega

/-- A gathered row, for a word within the table. -/
theorem gathered_at (feats : FVec Ideal S53125x256 .f32) (rows : IVec S1000x392 32) (r : Fin 1000) (b : Fin 49) (q : Fin 16) (ch : Fin 256)
    (h : ∀ n, (rows (ix2 r n)).toNat ≤ 53123) :
    gathered feats rows (ix4 r b q ch) = feats (ix2 (sampleRow (fun n => rows (ix2 r n)) b q) ch) := by
  have hn := rawRows_toNat rows r b q (h _)
  have hb := h ⟨8 * b.val + q.val / 2, by omega⟩
  unfold gathered
  rw [gather_row_at]
  refine congrArg (fun n => feats (ix2 n ch)) (Fin.ext ?_)
  have e := shiftedRows_at rows r b q (by omega)
  have ei : (rawRows rows (ix3 r b q)).toInt = ((rawRows rows (ix3 r b q)).toNat : ℤ) := by
    rw [BitVec.toInt_eq_toNat_cond, if_pos (by omega)]
  show min (shiftedRows rows (ix4 r b q 0)).toInt.toNat 53124 = ((rows (ix2 r ⟨8 * b.val + q.val / 2, _⟩)).toNat + q.val % 2) % 53125
  rw [e, ei, Int.toNat_natCast, hn]
  omega

/-- The word zero, as a float, is zero. -/
theorem zero_word : FloatOps.sitofp (F := Ideal) .f32 (0#32) = (0 : EReal) := by
  show (((0#32 : BitVec 32).toInt : ℝ) : EReal) = 0
  simp

/-- The reference's entries: the weighted sums, and zero after the last box. -/
theorem refPooled_at (feats : FVec Ideal S53125x256 .f32) (rows : IVec S1000x392 32) (wq : FVec Ideal S1000x49x16 .f32)
    (hr : ∀ r n, (rows (ix2 r n)).toNat ≤ 53123) (b : Fin 49) (r : Fin 1008) (ch : Fin 256) :
    refPooled feats rows wq (ix3 b r ch)
      = if h : r.val < 1000 then pooled (fun n l => feats (ix2 n l)) (fun n => rows (ix2 ⟨r.val, h⟩ n)) (fun b q => wq (ix3 ⟨r.val, h⟩ b q)) b ch
        else 0 := by
  unfold refPooled spread
  pointwise
  rw [zero_word]
  refine dite_congr rfl (fun h => ?_) fun _ => rfl
  unfold pooled
  refine Finset.sum_congr rfl fun q _ => ?_
  rw [gathered_at _ _ _ _ _ _ (hr _)]

end Cert.Reference2Ideal.Roi
-- ==== Proof.RoiEquation.lean ====
/-
  The equation of the pooling call: the array it leaves is the reference's, over the extended reals.
-/
module

public import proofs.«01_k».proof.Proof.RoiValue
public import proofs.«01_k».proof.Proof.RoiRef

@[expose] public section

set_option maxRecDepth 8192

noncomputable section

namespace Cert.Kernel2Ideal.Roi

open Cert.Kernel2Ideal Cert.Kernel2Ideal.Gen
open Idealize.ShloMosaic Idealize.ShloMosaic.TcCoe Idealize.SL.Sem

/-- For rows within the table, the call's array is the reference's result of the same arguments. -/
theorem result_eq (m : (ℓ : Loc nD τ sig) → Buf (Elt Ideal) ℓ) (c : Dev nD) (hr : ∀ r n, (rows m c (ix2 r n)).toNat ≤ 53123) :
    result m c = Cert.Reference2Ideal.Roi.refPooled (feats m c) (rows m c) (weights m c) := by
  funext j
  obtain ⟨b, r, ch, rfl⟩ : ∃ (b : Fin 49) (r : Fin 1008) (ch : Fin 256), j = ix3 b r ch := ⟨j 0, j 1, j 2, eq_ix3 j⟩
  rw [result_value m c hr, Cert.Reference2Ideal.Roi.refPooled_at _ _ _ hr]

end Cert.Kernel2Ideal.Roi
-- ==== Proof.lean ====
/-
  The proof of `Cert.Claim`, for the two calls of the program.

  The fully connected call: the frames of the three programs, the named constant, and the equality of the kernel's and the
  reference's results over the extended reals. The mathematics is in `Proof/Spec.lean` (the head on plain functions),
  `Proof/Block.lean`, `Proof/Array.lean` and `Proof/HeadValue.lean` (what the kernel's blocks, arrays and entries hold),
  `Proof/Layout.lean` (what the host hands to the call), `Proof/RefValue.lean` (what the reference computes) and
  `Proof/Equation.lean` (that the two agree).

  The pooling call: the body's run in `Proof/RoiTrip.lean`, `Proof/RoiRun.lean` and `Proof/RoiFrame.lean`, once at the bits and
  once over the extended reals; the precondition in `Proof/Range.lean` and `Proof/RoiWords.lean`; the rows it gathers in
  `Proof/RoiGather.lean`, `Proof/RoiEven.lean`, `Proof/RoiOdd.lean` and `Proof/RoiLast.lean`; one bin, one block, the array and
  its entries in `Proof/RoiBin.lean`, `Proof/RoiBlock.lean`, `Proof/RoiArray.lean` and `Proof/RoiValue.lean`, with the host's
  layout in `Proof/RoiLayout.lean`; the reference in `Proof/RoiRef.lean`; that the two agree in `Proof/RoiEquation.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.ReferenceIdeal.Run
public import proofs.«01_k».proof.Proof.Gen.Pre_rows_in_table
public import proofs.«01_k».proof.Proof.Equation
public import proofs.«01_k».proof.Proof.RoiFrame
public import proofs.«01_k».proof.Proof.RoiWords
public import proofs.«01_k».proof.Proof.RoiEquation
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged, and no semaphore counter moves. -/
theorem reference_frame : quiescent_ReferenceIdeal (hReferenceIdeal := Cert.ReferenceIdeal.Gen.facts) := fun m ρ _ =>
  (θ_run _ _ _).mono (fun r h => ⟨fun c => (h c).2.2.2, sem_eq_zero_of_no_sems (by decide) r.2⟩) (Cert.ReferenceIdeal.Value.run m ρ)

/-- From agreeing arguments the kernel's three results are the reference's. -/
theorem equal_results : algebraic_KernelIdeal_ReferenceIdeal (hKernelIdeal := Cert.KernelIdeal.Gen.facts)
    (hReferenceIdeal := Cert.ReferenceIdeal.Gen.facts) := fun m g m' g' _ hag =>
  ⟨_, _, _, (θ_run _ _ _).mono (fun _ h c => ⟨(h.1 c).1, (h.1 c).2.1, (h.1 c).2.2, h.2 c⟩)
      (θ_run_and (Cert.KernelIdeal.Head.run m g) (Cert.KernelIdeal.Gen.unchanged m g)),
    (θ_run _ _ _).mono (fun _ h c =>
      have ⟨a0, a1, a2, a3, a4, a5, a6, a7, a8, a9⟩ := hag c
      have ha : Cert.KernelIdeal.Head.Agree m c m' := ⟨a0, a2, a3, a4, a5, a6, a7, a8, a9⟩
      ⟨(h.1 c).1.trans (by rw [a1]), (h.1 c).2.1.trans (by rw [← Cert.KernelIdeal.Head.cls_eq m c m' ha]),
        (h.1 c).2.2.trans (by rw [← Cert.KernelIdeal.Head.loc_eq m c m' ha]), (h.2 c).2.2.2⟩)
      (θ_run_and (Cert.ReferenceIdeal.Head.run m' g') (Cert.ReferenceIdeal.Value.run m' g'))⟩

/-- Rows within the table give the pooling call words in range. -/
theorem words (m : (ℓ : Loc Kernel2.nD Kernel2.τ Kernel2.sig) → Buf (Elt Bits) ℓ)
    (h : Pre_Kernel2 (hPre_rows_in_table := Cert.Pre_rows_in_table.Gen.facts) m) : Cert.Kernel2.Roi.Words m :=
  Cert.Kernel2.Roi.words_of_rows m fun c r n => Cert.Pre_rows_in_table.rows_le _ _ _ (h c) (ix2 r n)

/-- The same, of the program read over the extended reals. -/
theorem rows_ideal (m : (ℓ : Loc Kernel2Ideal.nD Kernel2Ideal.τ Kernel2Ideal.sig) → Buf (Elt Ideal) ℓ)
    (h : Pre_Kernel2Ideal (hPre_rows_in_table := Cert.Pre_rows_in_table.Gen.facts) m) (c : Dev Kernel2Ideal.nD) (r : Fin 1000) (n : Fin 392) :
    (Cert.Kernel2Ideal.Roi.rows m c (ix2 r n)).toNat ≤ 53123 :=
  Cert.Pre_rows_in_table.rows_le _ _ _ (h c) (ix2 r n)

/-- The pooling call runs, leaves its arguments unchanged, and every semaphore counter ends at zero. -/
theorem pooling_frame : quiescent_Kernel2 (hKernel2 := Cert.Kernel2.Gen.facts) (hPre_rows_in_table := Cert.Pre_rows_in_table.Gen.facts) :=
  fun m ρ h => Cert.Kernel2.Roi.frame m ρ (words m h)

/-- The same, over the extended reals. -/
theorem pooling_frame_ideal : quiescent_Kernel2Ideal (hKernel2Ideal := Cert.Kernel2Ideal.Gen.facts)
    (hPre_rows_in_table := Cert.Pre_rows_in_table.Gen.facts) :=
  fun m ρ h => Cert.Kernel2Ideal.Roi.frame m ρ (Cert.Kernel2Ideal.Roi.words_of_rows m (rows_ideal m h))

/-- The pooling's reference runs, leaves its arguments unchanged, and no semaphore counter moves. -/
theorem pooling_reference_frame : quiescent_Reference2Ideal (hReference2Ideal := Cert.Reference2Ideal.Gen.facts)
    (hPre_rows_in_table := Cert.Pre_rows_in_table.Gen.facts) := fun m ρ _ =>
  (θ_run _ _ _).mono (fun r h => ⟨fun c => (h c).2, sem_eq_zero_of_no_sems (by decide) r.2⟩) (Cert.Reference2Ideal.Value.run m ρ)

/-- From agreeing arguments, the rows within the table, the pooled features of the call are the reference's. -/
theorem equal_pooled : algebraic_Kernel2Ideal_Reference2Ideal (hKernel2Ideal := Cert.Kernel2Ideal.Gen.facts)
    (hReference2Ideal := Cert.Reference2Ideal.Gen.facts) (hPre_rows_in_table := Cert.Pre_rows_in_table.Gen.facts) := fun m g m' g' hp hag =>
  have hW := Cert.Kernel2Ideal.Roi.words_of_rows m (rows_ideal m hp)
  ⟨fun c => Cert.Kernel2Ideal.Roi.result m c,
    (θ_run _ _ _).mono (fun _ h c => ⟨h.1 c, h.2 c⟩)
      (θ_run_and (Cert.Kernel2Ideal.Roi.leaves m g hW) (Cert.Kernel2Ideal.Roi.unchanged m g hW)),
    (θ_run _ _ _).mono (fun _ h c =>
      have ⟨a0, a1, a2⟩ := hag c
      ⟨(h c).1.trans (by rw [a0, a1, a2]; exact (Cert.Kernel2Ideal.Roi.result_eq m c (rows_ideal m hp c)).symm), (h c).2⟩)
      (Cert.Reference2Ideal.Value.run m' g')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_rows_in_table.Gen.facts,
  fun m ρ _ => Cert.Kernel.Gen.frame m ρ, fun m ρ _ => Cert.KernelIdeal.Gen.frame m ρ, reference_frame,
  pooling_frame, pooling_frame_ideal, pooling_reference_frame,
  IdealRules.named_const.statement Cert.KernelIdeal.κ "mask" .f32 0xF149F2CA#32 ⊥ rfl, equal_results,
  trivial, equal_pooled⟩

end Cert.Proof

end
